-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_packed [hPre_packed : Cert.Pre_packed.Facts] (m : (ℓ : Loc Cert.KernelIdeal.nD Cert.KernelIdeal.τ Cert.KernelIdeal.sig) → Buf (Elt Ideal) ℓ) : Prop :=
  ∀ c : Dev Cert.KernelIdeal.nD,
    (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_packed [hPre_packed : Cert.Pre_packed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite [hPre_finite : Cert.Pre_finite.Facts] (m : (ℓ : Loc Cert.PrepIdeal.nD Cert.PrepIdeal.τ Cert.PrepIdeal.sig) → Buf (Elt Ideal) ℓ) : Prop :=
  ∀ c : Dev Cert.PrepIdeal.nD,
    (Cert.Pre_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))) = (fun _ => 1#1)

def Pre_PrepReferenceIdeal (m : (ℓ : Loc Cert.PrepReferenceIdeal.nD Cert.PrepReferenceIdeal.τ Cert.PrepReferenceIdeal.sig) → Buf (Elt Ideal) ℓ) : Prop :=
  True

def Pre_PrepReferenceIdeal_finite [hPre_finite : Cert.Pre_finite.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_finite.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6))) = (fun _ => 1#1)

def Pre_Dec (m : (ℓ : Loc Cert.Dec.nD Cert.Dec.τ Cert.Dec.sig) → Buf (Elt Bits) ℓ) : Prop :=
  True

def Pre_DecIdeal (m : (ℓ : Loc Cert.DecIdeal.nD Cert.DecIdeal.τ Cert.DecIdeal.sig) → Buf (Elt Ideal) ℓ) : Prop :=
  True

def Pre_DecReferenceIdeal (m : (ℓ : Loc Cert.DecReferenceIdeal.nD Cert.DecReferenceIdeal.τ Cert.DecReferenceIdeal.sig) → Buf (Elt Ideal) ℓ) : Prop :=
  True

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_packed [hKernelIdeal : Cert.KernelIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_packed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_packed [hReferenceIdeal : Cert.ReferenceIdeal.Facts] [hPre_packed : Cert.Pre_packed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_packed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepIdeal_pre_finite [hPrepIdeal : Cert.PrepIdeal.Facts] [hPre_finite : Cert.Pre_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6))
      ∧ r.2.sem = fun _ => 0)

def quiescent_PrepReferenceIdeal_pre_finite [hPrepReferenceIdeal : Cert.PrepReferenceIdeal.Facts] [hPre_finite : Cert.Pre_finite.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal_finite m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6))
      ∧ r.2.sem = fun _ => 0)

def quiescent_Dec [hDec : Cert.Dec.Facts] : Prop :=
  ∀ (m : (ℓ : Loc Cert.Dec.nD Cert.Dec.τ Cert.Dec.sig) → Buf (Elt Bits) ℓ) (g : Dev Cert.Dec.nD → PrngReg), Pre_Dec m →
    θ_run (Cert.Dec.defs (F := Bits)) (onTc (τ := Cert.Dec.τ) (Cert.Dec.main (F := Bits))) ⟨m, fun _ => 0, g⟩ (fun r => (∀ c : Dev Cert.Dec.nD,
      r.2.mem ((c.tc : Thread Cert.Dec.nD Cert.Dec.τ).loc Cert.Dec.main_arg0) = m ((c.tc : Thread Cert.Dec.nD Cert.Dec.τ).loc Cert.Dec.main_arg0)
      ∧ r.2.mem ((c.tc : Thread Cert.Dec.nD Cert.Dec.τ).loc Cert.Dec.main_arg1) = m ((c.tc : Thread Cert.Dec.nD Cert.Dec.τ).loc Cert.Dec.main_arg1)
      ∧ r.2.mem ((c.tc : Thread Cert.Dec.nD Cert.Dec.τ).loc Cert.Dec.main_arg2) = m ((c.tc : Thread Cert.Dec.nD Cert.Dec.τ).loc Cert.Dec.main_arg2)
      ∧ r.2.mem ((c.tc : Thread Cert.Dec.nD Cert.Dec.τ).loc Cert.Dec.main_arg3) = m ((c.tc : Thread Cert.Dec.nD Cert.Dec.τ).loc Cert.Dec.main_arg3))
      ∧ r.2.sem = fun _ => 0)

def quiescent_DecIdeal [hDecIdeal : Cert.DecIdeal.Facts] : Prop :=
  ∀ (m : (ℓ : Loc Cert.DecIdeal.nD Cert.DecIdeal.τ Cert.DecIdeal.sig) → Buf (Elt Ideal) ℓ) (g : Dev Cert.DecIdeal.nD → PrngReg), Pre_DecIdeal m →
    θ_run (Cert.DecIdeal.defs (F := Ideal)) (onTc (τ := Cert.DecIdeal.τ) (Cert.DecIdeal.main (F := Ideal))) ⟨m, fun _ => 0, g⟩ (fun r => (∀ c : Dev Cert.DecIdeal.nD,
      r.2.mem ((c.tc : Thread Cert.DecIdeal.nD Cert.DecIdeal.τ).loc Cert.DecIdeal.main_arg0) = m ((c.tc : Thread Cert.DecIdeal.nD Cert.DecIdeal.τ).loc Cert.DecIdeal.main_arg0)
      ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
      ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
      ∧ r.2.mem ((c.tc : Thread Cert.DecIdeal.nD Cert.DecIdeal.τ).loc Cert.DecIdeal.main_arg3) = m ((c.tc : Thread Cert.DecIdeal.nD Cert.DecIdeal.τ).loc Cert.DecIdeal.main_arg3))
      ∧ r.2.sem = fun _ => 0)

def quiescent_DecReferenceIdeal [hDecReferenceIdeal : Cert.DecReferenceIdeal.Facts] : Prop :=
  ∀ (m : (ℓ : Loc Cert.DecReferenceIdeal.nD Cert.DecReferenceIdeal.τ Cert.DecReferenceIdeal.sig) → Buf (Elt Ideal) ℓ) (g : Dev Cert.DecReferenceIdeal.nD → PrngReg), Pre_DecReferenceIdeal m →
    θ_run (Cert.DecReferenceIdeal.defs (F := Ideal)) (onTc (τ := Cert.DecReferenceIdeal.τ) (Cert.DecReferenceIdeal.main (F := Ideal))) ⟨m, fun _ => 0, g⟩ (fun r => (∀ c : Dev Cert.DecReferenceIdeal.nD,
      r.2.mem ((c.tc : Thread Cert.DecReferenceIdeal.nD Cert.DecReferenceIdeal.τ).loc Cert.DecReferenceIdeal.main_arg0) = m ((c.tc : Thread Cert.DecReferenceIdeal.nD Cert.DecReferenceIdeal.τ).loc Cert.DecReferenceIdeal.main_arg0)
      ∧ r.2.mem ((c.tc : Thread Cert.DecReferenceIdeal.nD Cert.DecReferenceIdeal.τ).loc Cert.DecReferenceIdeal.main_arg1) = m ((c.tc : Thread Cert.DecReferenceIdeal.nD Cert.DecReferenceIdeal.τ).loc Cert.DecReferenceIdeal.main_arg1)
      ∧ r.2.mem ((c.tc : Thread Cert.DecReferenceIdeal.nD Cert.DecReferenceIdeal.τ).loc Cert.DecReferenceIdeal.main_arg2) = m ((c.tc : Thread Cert.DecReferenceIdeal.nD Cert.DecReferenceIdeal.τ).loc Cert.DecReferenceIdeal.main_arg2)
      ∧ r.2.mem ((c.tc : Thread Cert.DecReferenceIdeal.nD Cert.DecReferenceIdeal.τ).loc Cert.DecReferenceIdeal.main_arg3) = m ((c.tc : Thread Cert.DecReferenceIdeal.nD Cert.DecReferenceIdeal.τ).loc Cert.DecReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_packed [hKernelIdeal : Cert.KernelIdeal.Facts] [hReferenceIdeal : Cert.ReferenceIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_packed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v21) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v24)) (v1 : (c : Dev Cert.ProjIdeal.nD) → Buf (Elt Ideal) ((c.tc : Thread Cert.ProjIdeal.nD Cert.ProjIdeal.τ).loc Cert.ProjIdeal.main_v26)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v24) = v0 c
          ∧ r.2.mem ((c.tc : Thread Cert.ProjIdeal.nD Cert.ProjIdeal.τ).loc Cert.ProjIdeal.main_v26) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v37) = v0 c
          ∧ r.2.mem ((c.tc : Thread Cert.ProjReferenceIdeal.nD Cert.ProjReferenceIdeal.τ).loc Cert.ProjReferenceIdeal.main_v38) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Prep_PrepIdeal : Prop :=
  True

def algebraic_PrepIdeal_PrepReferenceIdeal_pre_finite [hPrepIdeal : Cert.PrepIdeal.Facts] [hPrepReferenceIdeal : Cert.PrepReferenceIdeal.Facts] [hPre_finite : Cert.Pre_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal_finite m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)
      ∧ m' ((c.tc : Thread Cert.PrepReferenceIdeal.nD Cert.PrepReferenceIdeal.τ).loc Cert.PrepReferenceIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v59_0)) (v1 : (c : Dev Cert.PrepIdeal.nD) → Buf (Elt Ideal) ((c.tc : Thread Cert.PrepIdeal.nD Cert.PrepIdeal.τ).loc Cert.PrepIdeal.main_v59_1)) (v2 : (c : Dev Cert.PrepIdeal.nD) → Buf (Elt Ideal) ((c.tc : Thread Cert.PrepIdeal.nD Cert.PrepIdeal.τ).loc Cert.PrepIdeal.main_v59_2)) (v3 : (c : Dev Cert.PrepIdeal.nD) → Buf (Elt Ideal) ((c.tc : Thread Cert.PrepIdeal.nD Cert.PrepIdeal.τ).loc Cert.PrepIdeal.main_v59_3)) (v4 : (c : Dev Cert.PrepIdeal.nD) → Buf (Elt Ideal) ((c.tc : Thread Cert.PrepIdeal.nD Cert.PrepIdeal.τ).loc Cert.PrepIdeal.main_v59_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v59_0) = v0 c
          ∧ r.2.mem ((c.tc : Thread Cert.PrepIdeal.nD Cert.PrepIdeal.τ).loc Cert.PrepIdeal.main_v59_1) = v1 c
          ∧ r.2.mem ((c.tc : Thread Cert.PrepIdeal.nD Cert.PrepIdeal.τ).loc Cert.PrepIdeal.main_v59_2) = v2 c
          ∧ r.2.mem ((c.tc : Thread Cert.PrepIdeal.nD Cert.PrepIdeal.τ).loc Cert.PrepIdeal.main_v59_3) = v3 c
          ∧ r.2.mem ((c.tc : Thread Cert.PrepIdeal.nD Cert.PrepIdeal.τ).loc Cert.PrepIdeal.main_v59_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v130) = v0 c
          ∧ r.2.mem ((c.tc : Thread Cert.PrepReferenceIdeal.nD Cert.PrepReferenceIdeal.τ).loc Cert.PrepReferenceIdeal.main_v131) = v1 c
          ∧ r.2.mem ((c.tc : Thread Cert.PrepReferenceIdeal.nD Cert.PrepReferenceIdeal.τ).loc Cert.PrepReferenceIdeal.main_v37) = v2 c
          ∧ r.2.mem ((c.tc : Thread Cert.PrepReferenceIdeal.nD Cert.PrepReferenceIdeal.τ).loc Cert.PrepReferenceIdeal.main_v134) = v3 c
          ∧ r.2.mem ((c.tc : Thread Cert.PrepReferenceIdeal.nD Cert.PrepReferenceIdeal.τ).loc Cert.PrepReferenceIdeal.main_v135) = v4 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6))

def preserves_Dec_DecIdeal : Prop :=
  True

def algebraic_DecIdeal_DecReferenceIdeal [hDecIdeal : Cert.DecIdeal.Facts] [hDecReferenceIdeal : Cert.DecReferenceIdeal.Facts] : Prop :=
  ∀ (m : (ℓ : Loc Cert.DecIdeal.nD Cert.DecIdeal.τ Cert.DecIdeal.sig) → Buf (Elt Ideal) ℓ) (g : Dev Cert.DecIdeal.nD → PrngReg)
    (m' : (ℓ : Loc Cert.DecReferenceIdeal.nD Cert.DecReferenceIdeal.τ Cert.DecReferenceIdeal.sig) → Buf (Elt Ideal) ℓ) (g' : Dev Cert.DecReferenceIdeal.nD → PrngReg), Pre_DecIdeal m →
    (∀ c : Dev Cert.DecIdeal.nD,
      m' ((c.tc : Thread Cert.DecReferenceIdeal.nD Cert.DecReferenceIdeal.τ).loc Cert.DecReferenceIdeal.main_arg0) = m ((c.tc : Thread Cert.DecIdeal.nD Cert.DecIdeal.τ).loc Cert.DecIdeal.main_arg0)
      ∧ m' ((c.tc : Thread Cert.DecReferenceIdeal.nD Cert.DecReferenceIdeal.τ).loc Cert.DecReferenceIdeal.main_arg1) = m ((c.tc : Thread Cert.DecIdeal.nD Cert.DecIdeal.τ).loc Cert.DecIdeal.main_arg1)
      ∧ m' ((c.tc : Thread Cert.DecReferenceIdeal.nD Cert.DecReferenceIdeal.τ).loc Cert.DecReferenceIdeal.main_arg2) = m ((c.tc : Thread Cert.DecIdeal.nD Cert.DecIdeal.τ).loc Cert.DecIdeal.main_arg2)
      ∧ m' ((c.tc : Thread Cert.DecReferenceIdeal.nD Cert.DecReferenceIdeal.τ).loc Cert.DecReferenceIdeal.main_arg3) = m ((c.tc : Thread Cert.DecIdeal.nD Cert.DecIdeal.τ).loc Cert.DecIdeal.main_arg3)) →
    ∃ (v0 : (c : Dev Cert.DecIdeal.nD) → Buf (Elt Ideal) ((c.tc : Thread Cert.DecIdeal.nD Cert.DecIdeal.τ).loc Cert.DecIdeal.main_v24)) (v1 : (c : Dev Cert.DecIdeal.nD) → Buf (Elt Ideal) ((c.tc : Thread Cert.DecIdeal.nD Cert.DecIdeal.τ).loc Cert.DecIdeal.main_v29)) (v2 : (c : Dev Cert.DecIdeal.nD) → Buf (Elt Ideal) ((c.tc : Thread Cert.DecIdeal.nD Cert.DecIdeal.τ).loc Cert.DecIdeal.main_v31)) (v3 : (c : Dev Cert.DecIdeal.nD) → Buf (Elt Ideal) ((c.tc : Thread Cert.DecIdeal.nD Cert.DecIdeal.τ).loc Cert.DecIdeal.main_v32)),
      θ_run (Cert.DecIdeal.defs (F := Ideal)) (onTc (τ := Cert.DecIdeal.τ) (Cert.DecIdeal.main (F := Ideal))) ⟨m, fun _ => 0, g⟩ (fun r => ∀ c : Dev Cert.DecIdeal.nD,
          r.2.mem ((c.tc : Thread Cert.DecIdeal.nD Cert.DecIdeal.τ).loc Cert.DecIdeal.main_v24) = v0 c
          ∧ r.2.mem ((c.tc : Thread Cert.DecIdeal.nD Cert.DecIdeal.τ).loc Cert.DecIdeal.main_v29) = v1 c
          ∧ r.2.mem ((c.tc : Thread Cert.DecIdeal.nD Cert.DecIdeal.τ).loc Cert.DecIdeal.main_v31) = v2 c
          ∧ r.2.mem ((c.tc : Thread Cert.DecIdeal.nD Cert.DecIdeal.τ).loc Cert.DecIdeal.main_v32) = v3 c
          ∧ r.2.mem ((c.tc : Thread Cert.DecIdeal.nD Cert.DecIdeal.τ).loc Cert.DecIdeal.main_arg0) = m ((c.tc : Thread Cert.DecIdeal.nD Cert.DecIdeal.τ).loc Cert.DecIdeal.main_arg0)
          ∧ r.2.mem ((c.tc : Thread Cert.DecIdeal.nD Cert.DecIdeal.τ).loc Cert.DecIdeal.main_arg1) = m ((c.tc : Thread Cert.DecIdeal.nD Cert.DecIdeal.τ).loc Cert.DecIdeal.main_arg1)
          ∧ r.2.mem ((c.tc : Thread Cert.DecIdeal.nD Cert.DecIdeal.τ).loc Cert.DecIdeal.main_arg2) = m ((c.tc : Thread Cert.DecIdeal.nD Cert.DecIdeal.τ).loc Cert.DecIdeal.main_arg2)
          ∧ r.2.mem ((c.tc : Thread Cert.DecIdeal.nD Cert.DecIdeal.τ).loc Cert.DecIdeal.main_arg3) = m ((c.tc : Thread Cert.DecIdeal.nD Cert.DecIdeal.τ).loc Cert.DecIdeal.main_arg3))
      ∧ θ_run (Cert.DecReferenceIdeal.defs (F := Ideal)) (onTc (τ := Cert.DecReferenceIdeal.τ) (Cert.DecReferenceIdeal.main (F := Ideal))) ⟨m', fun _ => 0, g'⟩ (fun r => ∀ c : Dev Cert.DecReferenceIdeal.nD,
          r.2.mem ((c.tc : Thread Cert.DecReferenceIdeal.nD Cert.DecReferenceIdeal.τ).loc Cert.DecReferenceIdeal.main_v36) = v0 c
          ∧ r.2.mem ((c.tc : Thread Cert.DecReferenceIdeal.nD Cert.DecReferenceIdeal.τ).loc Cert.DecReferenceIdeal.main_v38) = v1 c
          ∧ r.2.mem ((c.tc : Thread Cert.DecReferenceIdeal.nD Cert.DecReferenceIdeal.τ).loc Cert.DecReferenceIdeal.main_v40) = v2 c
          ∧ r.2.mem ((c.tc : Thread Cert.DecReferenceIdeal.nD Cert.DecReferenceIdeal.τ).loc Cert.DecReferenceIdeal.main_v41) = v3 c
          ∧ r.2.mem ((c.tc : Thread Cert.DecReferenceIdeal.nD Cert.DecReferenceIdeal.τ).loc Cert.DecReferenceIdeal.main_arg0) = m' ((c.tc : Thread Cert.DecReferenceIdeal.nD Cert.DecReferenceIdeal.τ).loc Cert.DecReferenceIdeal.main_arg0)
          ∧ r.2.mem ((c.tc : Thread Cert.DecReferenceIdeal.nD Cert.DecReferenceIdeal.τ).loc Cert.DecReferenceIdeal.main_arg1) = m' ((c.tc : Thread Cert.DecReferenceIdeal.nD Cert.DecReferenceIdeal.τ).loc Cert.DecReferenceIdeal.main_arg1)
          ∧ r.2.mem ((c.tc : Thread Cert.DecReferenceIdeal.nD Cert.DecReferenceIdeal.τ).loc Cert.DecReferenceIdeal.main_arg2) = m' ((c.tc : Thread Cert.DecReferenceIdeal.nD Cert.DecReferenceIdeal.τ).loc Cert.DecReferenceIdeal.main_arg2)
          ∧ r.2.mem ((c.tc : Thread Cert.DecReferenceIdeal.nD Cert.DecReferenceIdeal.τ).loc Cert.DecReferenceIdeal.main_arg3) = m' ((c.tc : Thread Cert.DecReferenceIdeal.nD Cert.DecReferenceIdeal.τ).loc Cert.DecReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hProj : Cert.Proj.Facts) (hProjIdeal : Cert.ProjIdeal.Facts) (hProjReferenceIdeal : Cert.ProjReferenceIdeal.Facts) (hPrep : Cert.Prep.Facts) (hPrepIdeal : Cert.PrepIdeal.Facts) (hPrepReferenceIdeal : Cert.PrepReferenceIdeal.Facts) (hDec : Cert.Dec.Facts) (hDecIdeal : Cert.DecIdeal.Facts) (hDecReferenceIdeal : Cert.DecReferenceIdeal.Facts) (hPre_tables : Cert.Pre_tables.Facts) (hPre_packed : Cert.Pre_packed.Facts) (hPre_finite : Cert.Pre_finite.Facts),
    quiescent_Kernel (hKernel := hKernel) (hPre_tables := hPre_tables)
    ∧ quiescent_KernelIdeal (hKernelIdeal := hKernelIdeal) (hPre_tables := hPre_tables)
    ∧ quiescent_KernelIdeal_pre_packed (hKernelIdeal := hKernelIdeal) (hPre_packed := hPre_packed)
    ∧ quiescent_ReferenceIdeal (hReferenceIdeal := hReferenceIdeal)
    ∧ quiescent_ReferenceIdeal_pre_packed (hReferenceIdeal := hReferenceIdeal) (hPre_packed := hPre_packed)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Prep (hPrep := hPrep)
    ∧ quiescent_PrepIdeal (hPrepIdeal := hPrepIdeal)
    ∧ quiescent_PrepIdeal_pre_finite (hPrepIdeal := hPrepIdeal) (hPre_finite := hPre_finite)
    ∧ quiescent_PrepReferenceIdeal (hPrepReferenceIdeal := hPrepReferenceIdeal)
    ∧ quiescent_PrepReferenceIdeal_pre_finite (hPrepReferenceIdeal := hPrepReferenceIdeal) (hPre_finite := hPre_finite)
    ∧ quiescent_Dec (hDec := hDec)
    ∧ quiescent_DecIdeal (hDecIdeal := hDecIdeal)
    ∧ quiescent_DecReferenceIdeal (hDecReferenceIdeal := hDecReferenceIdeal)
    ∧ preserves_Kernel_KernelIdeal
    ∧ algebraic_KernelIdeal_ReferenceIdeal_pre_packed (hKernelIdeal := hKernelIdeal) (hReferenceIdeal := hReferenceIdeal) (hPre_packed := hPre_packed)
    ∧ preserves_Ffn_FfnIdeal
    ∧ algebraic_FfnIdeal_FfnReferenceIdeal (hFfnIdeal := hFfnIdeal) (hFfnReferenceIdeal := hFfnReferenceIdeal)
    ∧ preserves_Proj_ProjIdeal
    ∧ algebraic_ProjIdeal_ProjReferenceIdeal (hProjIdeal := hProjIdeal) (hProjReferenceIdeal := hProjReferenceIdeal)
    ∧ preserves_Prep_PrepIdeal
    ∧ algebraic_PrepIdeal_PrepReferenceIdeal_pre_finite (hPrepIdeal := hPrepIdeal) (hPrepReferenceIdeal := hPrepReferenceIdeal) (hPre_finite := hPre_finite)
    ∧ preserves_Dec_DecIdeal
    ∧ algebraic_DecIdeal_DecReferenceIdeal (hDecIdeal := hDecIdeal) (hDecReferenceIdeal := hDecReferenceIdeal)
-- ==== Pre_finite.lean ====
abbrev S128x3712 : Shape := ⟨2, ![128, 3712]⟩
abbrev S64 : Shape := ⟨1, ![64]⟩
abbrev S4 : Shape := ⟨1, ![4]⟩
abbrev S128x512 : Shape := ⟨2, ![128, 512]⟩
abbrev S_ : Shape := ⟨0, ![]⟩

class Facts : Prop where
  slices_S128x3712_S128x512_0_0 : S128x3712.Slices ![0, 0] S128x512
  bcast_S_S128x512 : S_.BroadcastsInDim S128x512 (![] : Fin 0 → Fin S128x512.rank)
  reducesTo_S128x512_S_d0_1 : S128x512.ReducesTo [0, 1] S_
  h_S_ : 0 < S_.numel
  slices_S128x3712_S128x512_0_1792 : S128x3712.Slices ![0, 1792] S128x512

variable [Facts]

def fn {F : FTy → Type} [FloatOps F] (main_arg0 : FVec F S128x3712 .f32) (main_arg1 : FVec F S64 .f32) (main_arg2 : FVec F S64 .f32) (main_arg3 : FVec F S64 .f32) (main_arg4 : FVec F S64 .f32) (main_arg5 : FVec F S4 .f32) (main_arg6 : IVec S4 32) : IVec S_ 1 :=
  let main_v0 : FVec F S128x512 .f32 := (extractStridedSlice S128x512 ![0, 0] · slices_S128x3712_S128x512_0_0) main_arg0
  let main_v1 : FVec F S128x512 .f32 := Host.absf main_v0
  let main_cst : FVec F S_ .f32 := constant S_ .f32 0x7F800000#32
  let main_v2 : FVec F S128x512 .f32 := broadcastInDim S128x512 ![] bcast_S_S128x512 main_cst
  let main_v3 : IVec S128x512 1 := cmpf .olt main_v1 main_v2
  let main_c : IVec S_ 1 := constantI S_ 1 1#1
  let main_v4 : IVec S_ 1 := (fun x v => Host.reduce IntOp.andi x v reducesTo_S128x512_S_d0_1 h_S_) main_v3 main_c
  let main_v5 : FVec F S128x512 .f32 := (extractStridedSlice S128x512 ![0, 1792] · slices_S128x3712_S128x512_0_1792) main_arg0
  let main_v6 : FVec F S128x512 .f32 := Host.absf main_v5
  let main_cst_0 : FVec F S_ .f32 := constant S_ .f32 0x7F800000#32
  let main_v7 : FVec F S128x512 .f32 := broadcastInDim S128x512 ![] bcast_S_S128x512 main_cst_0
  let main_v8 : IVec S128x512 1 := cmpf .olt main_v6 main_v7
  let main_c_1 : IVec S_ 1 := constantI S_ 1 1#1
  let main_v9 : IVec S_ 1 := (fun x v => Host.reduce IntOp.andi x v reducesTo_S128x512_S_d0_1 h_S_) main_v8 main_c_1
  let main_v10 : IVec S_ 1 := andi main_v4 main_v9
  main_v10
-- ==== Pre_packed.lean ====
abbrev S136 : Shape := ⟨1, ![136]⟩
abbrev S16384x512 : Shape := ⟨2, ![16384, 512]⟩
abbrev S16384x4x128 : Shape := ⟨3, ![16384, 4, 128]⟩
abbrev S16384x4x1 : Shape := ⟨3, ![16384, 4, 1]⟩
abbrev S16384x4 : Shape := ⟨2, ![16384, 4]⟩
abbrev S_ : Shape := ⟨0, ![]⟩

class Facts : Prop where
  bitsLt_bf16_f32 : FTy.bits .bf16 < FTy.bits .f32
  shapeCasts_S16384x512_S16384x4x128 : S16384x512.ShapeCasts S16384x4x128
  slices_S16384x4x128_S16384x4x1_0_0_64 : S16384x4x128.Slices ![0, 0, 64] S16384x4x1
  shapeCasts_S16384x4x1_S16384x4 : S16384x4x1.ShapeCasts S16384x4
  reducesTo_S136_S_d0 : S136.ReducesTo [0] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16384x4 : S_.BroadcastsInDim S16384x4 (![] : Fin 0 → Fin S16384x4.rank)
  reducesTo_S16384x4_S_d0_1 : S16384x4.ReducesTo [0, 1] S_

variable [Facts]

noncomputable abbrev lit0 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit1 : Fin 136 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32 | 91 => 0#32 | 92 => 1#32 | 93 => 2#32 | 94 => 3#32 | 95 => 4#32
  | 96 => 5#32 | 97 => 6#32 | 98 => 7#32 | 99 => 8#32 | 100 => 9#32 | 101 => 10#32 | 102 => 11#32 | 103 => 12#32
  | 104 => 13#32 | 105 => 0#32 | 106 => 1#32 | 107 => 2#32 | 108 => 3#32 | 109 => 4#32 | 110 => 5#32 | 111 => 6#32
  | 112 => 7#32 | 113 => 8#32 | 114 => 9#32 | 115 => 10#32 | 116 => 11#32 | 117 => 12#32 | 118 => 13#32 | 119 => 14#32
  | 120 => 0#32 | 121 => 1#32 | 122 => 2#32 | 123 => 3#32 | 124 => 4#32 | 125 => 5#32 | 126 => 6#32 | 127 => 7#32
  | 128 => 8#32 | 129 => 9#32 | 130 => 10#32 | 131 => 11#32 | 132 => 12#32 | 133 => 13#32 | 134 => 14#32 | 135 => 15#32
  | _ => 0#32

def fn_part1 {F : FTy → Type} [FloatOps F] (main_v3 : FVec F S16384x4 .f32) (main_v14 : IVec S_ 1) (main_v16 : FVec F S16384x512 .f32) (main_cst_4 : FVec F S_ .f32) : IVec S_ 1 :=
  let main_v17 : FVec F S16384x512 .f32 := broadcastInDim S16384x512 ![] bcast_S_S16384x512 main_cst_4
  let main_v18 : IVec S16384x512 1 := cmpf .olt main_v16 main_v17
  let main_c_5 : IVec S_ 1 := constantI S_ 1 1#1
  let main_v19 : IVec S_ 1 := (fun x v => Host.reduce IntOp.andi x v reducesTo_S16384x512_S_d0_1 h_S_) main_v18 main_c_5
  let main_v20 : IVec S_ 1 := andi main_v14 main_v19
  let main_cst_6 : FVec F S_ .f32 := constant S_ .f32 0x3F800000#32
  let main_v21 : FVec F S16384x4 .f32 := broadcastInDim S16384x4 ![] bcast_S_S16384x4 main_cst_6
  let main_v22 : IVec S16384x4 1 := cmpf .oeq main_v3 main_v21
  let main_c_7 : IVec S_ 1 := constantI S_ 1 1#1
  let main_v23 : IVec S_ 1 := (fun x v => Host.reduce IntOp.andi x v reducesTo_S16384x4_S_d0_1 h_S_) main_v22 main_c_7
  let main_v24 : IVec S_ 1 := andi main_v20 main_v23
  main_v24

def fn {F : FTy → Type} [FloatOps F] (main_arg0 : IVec S136 32) (main_arg1 : IVec S136 32) (main_arg2 : FVec F S16384x512 .bf16) (main_arg3 : FVec F S16384x512 .bf16) (main_arg4 : FVec F S16384x512 .bf16) : IVec S_ 1 :=
  let main_c : IVec S136 32 := fun i => lit0 (S136.rowMajor i)
  let main_c_0 : IVec S136 32 := fun i => lit1 (S136.rowMajor i)
  let main_v0 : FVec F S16384x512 .f32 := (extf .f32 · bitsLt_bf16_f32) main_arg4
  let main_v1 : FVec F S16384x4x128 .f32 := shapeCast S16384x4x128 main_v0 shapeCasts_S16384x512_S16384x4x128
  let main_v2 : FVec F S16384x4x1 .f32 := (extractStridedSlice S16384x4x1 ![0, 0, 64] · slices_S16384x4x128_S16384x4x1_0_0_64) main_v1
  let main_v3 : FVec F S16384x4 .f32 := shapeCast S16384x4 main_v2 shapeCasts_S16384x4x1_S16384x4
  let main_v4 : IVec S136 1 := cmpi .eq main_arg0 main_c
  let main_c_1 : IVec S_ 1 := constantI S_ 1 1#1
  let main_v5 : IVec S_ 1 := (fun x v => Host.reduce IntOp.andi x v reducesTo_S136_S_d0 h_S_) main_v4 main_c_1
  let main_v6 : IVec S136 1 := cmpi .eq main_arg1 main_c_0
  let main_c_2 : IVec S_ 1 := constantI S_ 1 1#1
  let main_v7 : IVec S_ 1 := (fun x v => Host.reduce IntOp.andi x v reducesTo_S136_S_d0 h_S_) main_v6 main_c_2
  let main_v8 : IVec S_ 1 := andi main_v5 main_v7
  let main_v9 : FVec F S16384x512 .f32 := (extf .f32 · bitsLt_bf16_f32) main_arg2
  let main_v10 : FVec F S16384x512 .f32 := Host.absf main_v9
  let main_cst : FVec F S_ .f32 := constant S_ .f32 0x7F800000#32
  let main_v11 : FVec F S16384x512 .f32 := broadcastInDim S16384x512 ![] bcast_S_S16384x512 main_cst
  let main_v12 : IVec S16384x512 1 := cmpf .olt main_v10 main_v11
  let main_c_3 : IVec S_ 1 := constantI S_ 1 1#1
  let main_v13 : IVec S_ 1 := (fun x v => Host.reduce IntOp.andi x v reducesTo_S16384x512_S_d0_1 h_S_) main_v12 main_c_3
  let main_v14 : IVec S_ 1 := andi main_v8 main_v13
  let main_v15 : FVec F S16384x512 .f32 := (extf .f32 · bitsLt_bf16_f32) main_arg3
  let main_v16 : FVec F S16384x512 .f32 := Host.absf main_v15
  let main_cst_4 : FVec F S_ .f32 := constant S_ .f32 0x7F800000#32
  fn_part1 (F := F) main_v3 main_v14 main_v16 main_cst_4
-- ==== Pre_tables.lean ====
abbrev S136 : Shape := ⟨1, ![136]⟩
abbrev S16384x512 : Shape := ⟨2, ![16384, 512]⟩
abbrev S_ : Shape := ⟨0, ![]⟩

class Facts : Prop where
  reducesTo_S136_S_d0 : S136.ReducesTo [0] S_
  h_S_ : 0 < S_.numel

variable [Facts]

noncomputable abbrev lit0 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit1 : Fin 136 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32 | 91 => 0#32 | 92 => 1#32 | 93 => 2#32 | 94 => 3#32 | 95 => 4#32
  | 96 => 5#32 | 97 => 6#32 | 98 => 7#32 | 99 => 8#32 | 100 => 9#32 | 101 => 10#32 | 102 => 11#32 | 103 => 12#32
  | 104 => 13#32 | 105 => 0#32 | 106 => 1#32 | 107 => 2#32 | 108 => 3#32 | 109 => 4#32 | 110 => 5#32 | 111 => 6#32
  | 112 => 7#32 | 113 => 8#32 | 114 => 9#32 | 115 => 10#32 | 116 => 11#32 | 117 => 12#32 | 118 => 13#32 | 119 => 14#32
  | 120 => 0#32 | 121 => 1#32 | 122 => 2#32 | 123 => 3#32 | 124 => 4#32 | 125 => 5#32 | 126 => 6#32 | 127 => 7#32
  | 128 => 8#32 | 129 => 9#32 | 130 => 10#32 | 131 => 11#32 | 132 => 12#32 | 133 => 13#32 | 134 => 14#32 | 135 => 15#32
  | _ => 0#32

def fn {F : FTy → Type} [FloatOps F] (main_arg0 : IVec S136 32) (main_arg1 : IVec S136 32) (main_arg2 : FVec F S16384x512 .bf16) (main_arg3 : FVec F S16384x512 .bf16) (main_arg4 : FVec F S16384x512 .bf16) : IVec S_ 1 :=
  let main_c : IVec S136 32 := fun i => lit0 (S136.rowMajor i)
  let main_c_0 : IVec S136 32 := fun i => lit1 (S136.rowMajor i)
  let main_v0 : IVec S136 1 := cmpi .eq main_arg0 main_c
  let main_c_1 : IVec S_ 1 := constantI S_ 1 1#1
  let main_v1 : IVec S_ 1 := (fun x v => Host.reduce IntOp.andi x v reducesTo_S136_S_d0 h_S_) main_v0 main_c_1
  let main_v2 : IVec S136 1 := cmpi .eq main_arg1 main_c_0
  let main_c_2 : IVec S_ 1 := constantI S_ 1 1#1
  let main_v3 : IVec S_ 1 := (fun x v => Host.reduce IntOp.andi x v reducesTo_S136_S_d0 h_S_) main_v2 main_c_2
  let main_v4 : IVec S_ 1 := andi main_v1 main_v3
  main_v4
-- ==== Kernel.lean ====
abbrev S136 : Shape := ⟨1, ![136]⟩
abbrev S16384x512 : Shape := ⟨2, ![16384, 512]⟩
abbrev S16384x256 : Shape := ⟨2, ![16384, 256]⟩
abbrev S512x512 : Shape := ⟨2, ![512, 512]⟩
abbrev S1 : Shape := ⟨1, ![1]⟩
abbrev S512x256 : Shape := ⟨2, ![512, 256]⟩
abbrev S4x512x128 : Shape := ⟨3, ![4, 512, 128]⟩
abbrev S1x256x128 : Shape := ⟨3, ![1, 256, 128]⟩
abbrev S256x128 : Shape := ⟨2, ![256, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S256x64 : Shape := ⟨2, ![256, 64]⟩

abbrev nBuf : Space → Nat
  | .hbm => 4
  | .vmem => 10
  | .smem => 2
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x256, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S4x512x128, .f32⟩
  | .local _ .vmem, ⟨9, _⟩ => ⟨S4x512x128, .f32⟩
  | .local _ .smem, ⟨0, _⟩ => ⟨S136, .i32⟩
  | .local _ .smem, ⟨1, _⟩ => ⟨S136, .i32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 136], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_cond3 (v1 : BitVec 32) (v3 : BitVec 32) : BitVec 1 :=
  let c512_i32_1 : BitVec 32 := 512#32
  let v8 : BitVec 32 := Scalar.muli v3 c512_i32_1
  let c512_i32_2 : BitVec 32 := 512#32
  let v9 : BitVec 32 := Scalar.addi v8 c512_i32_2
  let c1_i32 : BitVec 32 := 1#32
  let v10 : BitVec 32 := Scalar.subi v9 c1_i32
  let c512_i32 : BitVec 32 := 512#32
  let v7 : BitVec 32 := Scalar.muli v1 c512_i32
  let v11 : BitVec 1 := Scalar.cmpi .sgt v10 v7
  let v15 : BitVec 32 := Scalar.extui v11
  let c0_i32_4 : BitVec 32 := 0#32
  let v16 : BitVec 1 := Scalar.cmpi .ne v15 c0_i32_4
  v16

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 1 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 1 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S136 : Shape := ⟨1, ![136]⟩
abbrev S16384x512 : Shape := ⟨2, ![16384, 512]⟩
abbrev S2x8192x4x128 : Shape := ⟨4, ![2, 8192, 4, 128]⟩
abbrev S2x4x8192x128 : Shape := ⟨4, ![2, 4, 8192, 128]⟩
abbrev S2x4x8192x64 : Shape := ⟨4, ![2, 4, 8192, 64]⟩
abbrev S8192 : Shape := ⟨1, ![8192]⟩
abbrev S2x4x8192x8192 : Shape := ⟨4, ![2, 4, 8192, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x4x8192 : Shape := ⟨3, ![2, 4, 8192]⟩
abbrev S2x4x8192x1 : Shape := ⟨4, ![2, 4, 8192, 1]⟩
abbrev S2x8192x4x64 : Shape := ⟨4, ![2, 8192, 4, 64]⟩
abbrev S16384x256 : Shape := ⟨2, ![16384, 256]⟩

abbrev nBuf : Space → Nat
  | .hbm => 44
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x512, .f32⟩
  | .hbm, ⟨6, _⟩ => ⟨S2x8192x4x128, .f32⟩
  | .hbm, ⟨7, _⟩ => ⟨S2x4x8192x128, .f32⟩
  | .hbm, ⟨8, _⟩ => ⟨S16384x512, .f32⟩
  | .hbm, ⟨9, _⟩ => ⟨S2x8192x4x128, .f32⟩
  | .hbm, ⟨10, _⟩ => ⟨S2x4x8192x128, .f32⟩
  | .hbm, ⟨11, _⟩ => ⟨S16384x512, .f32⟩
  | .hbm, ⟨12, _⟩ => ⟨S2x8192x4x128, .f32⟩
  | .hbm, ⟨13, _⟩ => ⟨S2x4x8192x128, .f32⟩
  | .hbm, ⟨14, _⟩ => ⟨S2x4x8192x64, .f32⟩
  | .hbm, ⟨15, _⟩ => ⟨S8192, .i32⟩
  | .hbm, ⟨16, _⟩ => ⟨S2x4x8192x8192, .f32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S2x4x8192x8192, .i1⟩
  | .hbm, ⟨25, _⟩ => ⟨S2x4x8192x8192, .f32⟩
  | .hbm, ⟨26, _⟩ => ⟨S2x4x8192x8192, .f32⟩
  | .hbm, ⟨27, _⟩ => ⟨S_, .f32⟩
  | .hbm, ⟨28, _⟩ => ⟨S2x4x8192, .f32⟩
  | .hbm, ⟨29, _⟩ => ⟨S_, .f32⟩
  | .hbm, ⟨30, _⟩ => ⟨S2x4x8192, .f32⟩
  | .hbm, ⟨31, _⟩ => ⟨S2x4x8192, .f32⟩
  | .hbm, ⟨32, _⟩ => ⟨S2x4x8192x1, .f32⟩
  | .hbm, ⟨33, _⟩ => ⟨S2x4x8192x8192, .f32⟩
  | .hbm, ⟨34, _⟩ => ⟨S2x4x8192x8192, .f32⟩
  | .hbm, ⟨35, _⟩ => ⟨S2x4x8192x8192, .f32⟩
  | .hbm, ⟨36, _⟩ => ⟨S_, .f32⟩
  | .hbm, ⟨37, _⟩ => ⟨S2x4x8192, .f32⟩
  | .hbm, ⟨38, _⟩ => ⟨S2x4x8192x1, .f32⟩
  | .hbm, ⟨39, _⟩ => ⟨S2x4x8192x8192, .f32⟩
  | .hbm, ⟨40, _⟩ => ⟨S2x4x8192x8192, .f32⟩
  | .hbm, ⟨41, _⟩ => ⟨S2x4x8192x64, .f32⟩
  | .hbm, ⟨42, _⟩ => ⟨S2x8192x4x64, .f32⟩
  | .hbm, ⟨43, _⟩ => ⟨S16384x256, .f32⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Ffn.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩

abbrev nBuf : Space → Nat
  | .hbm => 16
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024x1024, .bf16⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnReferenceIdeal.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S_, .f32⟩
  | .hbm, ⟨36, _⟩ => ⟨S16384x2816, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x1024, .f32⟩
  | .hbm, ⟨42, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x3604 : Shape := ⟨2, ![1024, 3604]⟩
abbrev S3604x1024 : Shape := ⟨2, ![3604, 1024]⟩
abbrev S256x1024 : Shape := ⟨2, ![256, 1024]⟩
abbrev S4x1024 : Shape := ⟨2, ![4, 1024]⟩
abbrev S768x1024 : Shape := ⟨2, ![768, 1024]⟩
abbrev S_ : Shape := ⟨0, ![]⟩
abbrev S108x1024 : Shape := ⟨2, ![108, 1024]⟩
abbrev S3600x1024 : Shape := ⟨2, ![3600, 1024]⟩
abbrev S112x1024 : Shape := ⟨2, ![112, 1024]⟩
abbrev S3712x1024 : Shape := ⟨2, ![3712, 1024]⟩
abbrev S1x1024 : Shape := ⟨2, ![1, 1024]⟩
abbrev S16384x3712 : Shape := ⟨2, ![16384, 3712]⟩
abbrev S512x1024 : Shape := ⟨2, ![512, 1024]⟩
abbrev S512x3712 : Shape := ⟨2, ![512, 3712]⟩
abbrev S512 : Shape := ⟨1, ![512]⟩
abbrev S512x1 : Shape := ⟨2, ![512, 1]⟩
abbrev S512x512 : Shape := ⟨2, ![512, 512]⟩
abbrev S128x1024 : Shape := ⟨2, ![128, 1024]⟩
abbrev S512x128 : Shape := ⟨2, ![512, 128]⟩
abbrev S2x8192x3712 : Shape := ⟨3, ![2, 8192, 3712]⟩
abbrev S2x3x768 : Shape := ⟨3, ![2, 3, 768]⟩

abbrev nBuf : Space → Nat
  | .hbm => 31
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3604, .f32⟩
  | .hbm, ⟨3, _⟩ => ⟨S3604x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S4x1024, .f32⟩
  | .hbm, ⟨8, _⟩ => ⟨S768x1024, .f32⟩
  | .hbm, ⟨9, _⟩ => ⟨S4x1024, .f32⟩
  | .hbm, ⟨10, _⟩ => ⟨S4x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S4x1024, .f32⟩
  | .hbm, ⟨19, _⟩ => ⟨S4x1024, .f32⟩
  | .hbm, ⟨20, _⟩ => ⟨S256x1024, .f32⟩
  | .hbm, ⟨21, _⟩ => ⟨S_, .f32⟩
  | .hbm, ⟨22, _⟩ => ⟨S108x1024, .f32⟩
  | .hbm, ⟨23, _⟩ => ⟨S3600x1024, .f32⟩
  | .hbm, ⟨24, _⟩ => ⟨S112x1024, .f32⟩
  | .hbm, ⟨25, _⟩ => ⟨S3712x1024, .f32⟩
  | .hbm, ⟨26, _⟩ => ⟨S3712x1024, .bf16⟩
  | .hbm, ⟨27, _⟩ => ⟨S1x1024, .f32⟩
  | .hbm, ⟨28, _⟩ => ⟨S16384x3712, .f32⟩
  | .hbm, ⟨29, _⟩ => ⟨S2x8192x3712, .f32⟩
  | .hbm, ⟨30, _⟩ => ⟨S2x3x768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3712x1024, .bf16⟩
  | .local _ .vmem, ⟨4, _⟩ => ⟨S512x3712, .f32⟩
  | .local _ .vmem, ⟨5, _⟩ => ⟨S512x3712, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3712x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3712 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjReferenceIdeal.lean ====
abbrev S16384x1024 : Shape := ⟨2, ![16384, 1024]⟩
abbrev S1024 : Shape := ⟨1, ![1024]⟩
abbrev S1024x3604 : Shape := ⟨2, ![1024, 3604]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3604 : Shape := ⟨2, ![16384, 3604]⟩
abbrev S16384x256 : Shape := ⟨2, ![16384, 256]⟩
abbrev S16384x4 : Shape := ⟨2, ![16384, 4]⟩
abbrev S16384x768 : Shape := ⟨2, ![16384, 768]⟩
abbrev S16384x108 : Shape := ⟨2, ![16384, 108]⟩
abbrev S2x8192x768 : Shape := ⟨3, ![2, 8192, 768]⟩
abbrev S2x3x768 : Shape := ⟨3, ![2, 3, 768]⟩
abbrev S2x8195x768 : Shape := ⟨3, ![2, 8195, 768]⟩
abbrev S16384x3600 : Shape := ⟨2, ![16384, 3600]⟩
abbrev S16384x112 : Shape := ⟨2, ![16384, 112]⟩
abbrev S16384x3712 : Shape := ⟨2, ![16384, 3712]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3604, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3604, .f32⟩
  | .hbm, ⟨20, _⟩ => ⟨S16384x256, .f32⟩
  | .hbm, ⟨21, _⟩ => ⟨S16384x256, .f32⟩
  | .hbm, ⟨22, _⟩ => ⟨S16384x256, .f32⟩
  | .hbm, ⟨23, _⟩ => ⟨S16384x4, .f32⟩
  | .hbm, ⟨24, _⟩ => ⟨S16384x768, .f32⟩
  | .hbm, ⟨25, _⟩ => ⟨S16384x4, .f32⟩
  | .hbm, ⟨26, _⟩ => ⟨S16384x4, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x4, .f32⟩
  | .hbm, ⟨35, _⟩ => ⟨S16384x4, .f32⟩
  | .hbm, ⟨36, _⟩ => ⟨S16384x256, .f32⟩
  | .hbm, ⟨37, _⟩ => ⟨S_, .f32⟩
  | .hbm, ⟨38, _⟩ => ⟨S16384x108, .f32⟩
  | .hbm, ⟨39, _⟩ => ⟨S2x8192x768, .f32⟩
  | .hbm, ⟨40, _⟩ => ⟨S_, .f32⟩
  | .hbm, ⟨41, _⟩ => ⟨S2x3x768, .f32⟩
  | .hbm, ⟨42, _⟩ => ⟨S2x8195x768, .f32⟩
  | .hbm, ⟨43, _⟩ => ⟨S16384x3600, .f32⟩
  | .hbm, ⟨44, _⟩ => ⟨S16384x112, .f32⟩
  | .hbm, ⟨45, _⟩ => ⟨S16384x3712, .f32⟩
  | .hbm, ⟨46, _⟩ => ⟨S2x3x768, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Prep.lean ====
abbrev S128x3712 : Shape := ⟨2, ![128, 3712]⟩
abbrev S64 : Shape := ⟨1, ![64]⟩
abbrev S4 : Shape := ⟨1, ![4]⟩
abbrev S32 : Shape := ⟨1, ![32]⟩
abbrev S_ : Shape := ⟨0, ![]⟩
abbrev S4x1 : Shape := ⟨2, ![4, 1]⟩
abbrev S1x32 : Shape := ⟨2, ![1, 32]⟩
abbrev S4x32 : Shape := ⟨2, ![4, 32]⟩
abbrev S4x64 : Shape := ⟨2, ![4, 64]⟩
abbrev S1x4x1x64 : Shape := ⟨4, ![1, 4, 1, 64]⟩
abbrev S1x4x4x64 : Shape := ⟨4, ![1, 4, 4, 64]⟩
abbrev S4x256 : Shape := ⟨2, ![4, 256]⟩
abbrev S1x64 : Shape := ⟨2, ![1, 64]⟩
abbrev S256 : Shape := ⟨1, ![256]⟩
abbrev S1x256 : Shape := ⟨2, ![1, 256]⟩
abbrev S1x128 : Shape := ⟨2, ![1, 128]⟩
abbrev S1 : Shape := ⟨1, ![1]⟩
abbrev S2 : Shape := ⟨1, ![2]⟩
abbrev S1x4x1x256 : Shape := ⟨4, ![1, 4, 1, 256]⟩
abbrev S32x4x1x256 : Shape := ⟨4, ![32, 4, 1, 256]⟩
abbrev S128x256 : Shape := ⟨2, ![128, 256]⟩
abbrev S256x1 : Shape := ⟨2, ![256, 1]⟩
abbrev S256x256 : Shape := ⟨2, ![256, 256]⟩
abbrev S128x128 : Shape := ⟨2, ![128, 128]⟩

abbrev nBuf : Space → Nat
  | .hbm => 110
  | .vmem => 18
  | .smem => 0
  | _ => 0

abbrev bufTy : (tb : Table) → Fin (tcTables nBuf tb) → BufTy
  | .hbm, ⟨0, _⟩ => ⟨S128x3712, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S4, .f32⟩
  | .hbm, ⟨6, _⟩ => ⟨S4, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S4, .f32⟩
  | .hbm, ⟨16, _⟩ => ⟨S4x1, .f32⟩
  | .hbm, ⟨17, _⟩ => ⟨S1x32, .f32⟩
  | .hbm, ⟨18, _⟩ => ⟨S4x32, .f32⟩
  | .hbm, ⟨19, _⟩ => ⟨S4x32, .f32⟩
  | .hbm, ⟨20, _⟩ => ⟨S4x32, .f32⟩
  | .hbm, ⟨21, _⟩ => ⟨S4x32, .f32⟩
  | .hbm, ⟨22, _⟩ => ⟨S4x32, .f32⟩
  | .hbm, ⟨23, _⟩ => ⟨S4x64, .f32⟩
  | .hbm, ⟨24, _⟩ => ⟨S4x32, .f32⟩
  | .hbm, ⟨25, _⟩ => ⟨S4x64, .f32⟩
  | .hbm, ⟨26, _⟩ => ⟨S1x4x1x64, .f32⟩
  | .hbm, ⟨27, _⟩ => ⟨S1x4x4x64, .f32⟩
  | .hbm, ⟨28, _⟩ => ⟨S4x256, .f32⟩
  | .hbm, ⟨29, _⟩ => ⟨S1x4x1x64, .f32⟩
  | .hbm, ⟨30, _⟩ => ⟨S1x4x4x64, .f32⟩
  | .hbm, ⟨31, _⟩ => ⟨S4x256, .f32⟩
  | .hbm, ⟨32, _⟩ => ⟨S1x64, .f32⟩
  | .hbm, ⟨33, _⟩ => ⟨S4x64, .f32⟩
  | .hbm, ⟨34, _⟩ => ⟨S256, .f32⟩
  | .hbm, ⟨35, _⟩ => ⟨S1x256, .f32⟩
  | .hbm, ⟨36, _⟩ => ⟨S1x64, .f32⟩
  | .hbm, ⟨37, _⟩ => ⟨S4x64, .f32⟩
  | .hbm, ⟨38, _⟩ => ⟨S256, .f32⟩
  | .hbm, ⟨39, _⟩ => ⟨S1x256, .f32⟩
  | .hbm, ⟨40, _⟩ => ⟨S1x64, .f32⟩
  | .hbm, ⟨41, _⟩ => ⟨S4x64, .f32⟩
  | .hbm, ⟨42, _⟩ => ⟨S256, .f32⟩
  | .hbm, ⟨43, _⟩ => ⟨S1x256, .f32⟩
  | .hbm, ⟨44, _⟩ => ⟨S1x64, .f32⟩
  | .hbm, ⟨45, _⟩ => ⟨S4x64, .f32⟩
  | .hbm, ⟨46, _⟩ => ⟨S256, .f32⟩
  | .hbm, ⟨47, _⟩ => ⟨S1x256, .f32⟩
  | .hbm, ⟨48, _⟩ => ⟨S_, .f32⟩
  | .hbm, ⟨49, _⟩ => ⟨S1x128, .f32⟩
  | .hbm, ⟨50, _⟩ => ⟨S_, .i32⟩
  | .hbm, ⟨51, _⟩ => ⟨S1, .i32⟩
  | .hbm, ⟨52, _⟩ => ⟨S_, .i32⟩
  | .hbm, ⟨53, _⟩ => ⟨S1, .i32⟩
  | .hbm, ⟨54, _⟩ => ⟨S2, .i32⟩
  | .hbm, ⟨55, _⟩ => ⟨S1x128, .f32⟩
  | .hbm, ⟨56, _⟩ => ⟨S1x4x1x256, .f32⟩
  | .hbm, ⟨57, _⟩ => ⟨S32x4x1x256, .f32⟩
  | .hbm, ⟨58, _⟩ => ⟨S128x256, .f32⟩
  | .hbm, ⟨59, _⟩ => ⟨S1x4x1x256, .f32⟩
  | .hbm, ⟨60, _⟩ => ⟨S32x4x1x256, .f32⟩
  | .hbm, ⟨61, _⟩ => ⟨S128x256, .f32⟩
  | .hbm, ⟨62, _⟩ => ⟨S256, .i32⟩
  | .hbm, ⟨63, _⟩ => ⟨S256x1, .i32⟩
  | .hbm, ⟨64, _⟩ => ⟨S_, .i32⟩
  | .hbm, ⟨65, _⟩ => ⟨S_, .i32⟩
  | .hbm, ⟨66, _⟩ => ⟨S256x1, .i32⟩
  | .hbm, ⟨67, _⟩ => ⟨S256x1, .i32⟩
  | .hbm, ⟨68, _⟩ => ⟨S256x1, .i32⟩
  | .hbm, ⟨69, _⟩ => ⟨S_, .i32⟩
  | .hbm, ⟨70, _⟩ => ⟨S256x1, .i32⟩
  | .hbm, ⟨71, _⟩ => ⟨S256x1, .i1⟩
  | .hbm, ⟨72, _⟩ => ⟨S256x1, .i32⟩
  | .hbm, ⟨73, _⟩ => ⟨S256x1, .i32⟩
  | .hbm, ⟨74, _⟩ => ⟨S_, .i32⟩
  | .hbm, ⟨75, _⟩ => ⟨S256x1, .i32⟩
  | .hbm, ⟨76, _⟩ => ⟨S256x1, .i1⟩
  | .hbm, ⟨77, _⟩ => ⟨S256x1, .i1⟩
  | .hbm, ⟨78, _⟩ => ⟨S_, .i32⟩
  | .hbm, ⟨79, _⟩ => ⟨S256x1, .i32⟩
  | .hbm, ⟨80, _⟩ => ⟨S256x1, .i32⟩
  | .hbm, ⟨81, _⟩ => ⟨S256x1, .i32⟩
  | .hbm, ⟨82, _⟩ => ⟨S1x256, .i32⟩
  | .hbm, ⟨83, _⟩ => ⟨S_, .i32⟩
  | .hbm, ⟨84, _⟩ => ⟨S_, .i32⟩
  | .hbm, ⟨85, _⟩ => ⟨S1x256, .i32⟩
  | .hbm, ⟨86, _⟩ => ⟨S1x256, .i32⟩
  | .hbm, ⟨87, _⟩ => ⟨S1x256, .i32⟩
  | .hbm, ⟨88, _⟩ => ⟨S_, .i32⟩
  | .hbm, ⟨89, _⟩ => ⟨S1x256, .i32⟩
  | .hbm, ⟨90, _⟩ => ⟨S1x256, .i1⟩
  | .hbm, ⟨91, _⟩ => ⟨S1x256, .i32⟩
  | .hbm, ⟨92, _⟩ => ⟨S1x256, .i32⟩
  | .hbm, ⟨93, _⟩ => ⟨S_, .i32⟩
  | .hbm, ⟨94, _⟩ => ⟨S1x256, .i32⟩
  | .hbm, ⟨95, _⟩ => ⟨S1x256, .i1⟩
  | .hbm, ⟨96, _⟩ => ⟨S1x256, .i1⟩
  | .hbm, ⟨97, _⟩ => ⟨S_, .i32⟩
  | .hbm, ⟨98, _⟩ => ⟨S1x256, .i32⟩
  | .hbm, ⟨99, _⟩ => ⟨S1x256, .i32⟩
  | .hbm, ⟨100, _⟩ => ⟨S1x256, .i32⟩
  | .hbm, ⟨101, _⟩ => ⟨S256x256, .i32⟩
  | .hbm, ⟨102, _⟩ => ⟨S256x256, .i32⟩
  | .hbm, ⟨103, _⟩ => ⟨S256x256, .i1⟩
  | .hbm, ⟨104, _⟩ => ⟨S256x256, .bf16⟩
  | .hbm, ⟨105, _⟩ => ⟨S128x256, .f32⟩
  | .hbm, ⟨106, _⟩ => ⟨S128x256, .f32⟩
  | .hbm, ⟨107, _⟩ => ⟨S128x128, .f32⟩
  | .hbm, ⟨108, _⟩ => ⟨S128x256, .f32⟩
  | .hbm, ⟨109, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x128, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x128, .f32⟩
  | .local _ .vmem, ⟨10, _⟩ => ⟨S128x256, .f32⟩
  | .local _ .vmem, ⟨11, _⟩ => ⟨S128x256, .f32⟩
  | .local _ .vmem, ⟨12, _⟩ => ⟨S256x256, .bf16⟩
  | .local _ .vmem, ⟨13, _⟩ => ⟨S128x256, .f32⟩
  | .local _ .vmem, ⟨14, _⟩ => ⟨S128x256, .f32⟩
  | .local _ .vmem, ⟨15, _⟩ => ⟨S128x128, .f32⟩
  | .local _ .vmem, ⟨16, _⟩ => ⟨S128x256, .f32⟩
  | .local _ .vmem, ⟨17, _⟩ => ⟨S128x256, .f32⟩
  | _, _ => ⟨S128x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_1 : Ref sig .tc := ⟨.hbm, 48, rfl⟩
abbrev main_v39 : Ref sig .tc := ⟨.hbm, 49, rfl⟩
abbrev main_c : Ref sig .tc := ⟨.hbm, 50, rfl⟩
abbrev main_v40 : Ref sig .tc := ⟨.hbm, 51, rfl⟩
abbrev main_c_2 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c_3 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_v8 : Ref sig .tc := ⟨.hbm, 73, rfl⟩
abbrev main_call0_c : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_c_0 : Ref sig .tc := ⟨.hbm, 78, rfl⟩
abbrev main_call0_v12 : Ref sig .tc := ⟨.hbm, 79, rfl⟩
abbrev main_call0_v13 : Ref sig .tc := ⟨.hbm, 80, rfl⟩
abbrev main_v52 : Ref sig .tc := ⟨.hbm, 81, rfl⟩
abbrev main_v53 : Ref sig .tc := ⟨.hbm, 82, rfl⟩
abbrev main_c_4 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_c : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_c_0 : Ref sig .tc := ⟨.hbm, 97, rfl⟩
abbrev main_call1_v12 : Ref sig .tc := ⟨.hbm, 98, rfl⟩
abbrev main_call1_v13 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59_0 : Ref sig .tc := ⟨.hbm, 105, rfl⟩
abbrev main_v59_1 : Ref sig .tc := ⟨.hbm, 106, rfl⟩
abbrev main_v59_2 : Ref sig .tc := ⟨.hbm, 107, rfl⟩
abbrev main_v59_3 : Ref sig .tc := ⟨.hbm, 108, rfl⟩
abbrev main_v59_4 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_3 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_4 (i : grid0.Coords) : Fin 2 → Nat :=
  let arg0 : BitVec 32 := BitVec.ofNat 32 (i 0).val
  let c0_i32 : BitVec 32 := 0#32
  let c28_i32 : BitVec 32 := 28#32
  let c0_i32_0 : BitVec 32 := 0#32
  ![c0_i32.toNat, c28_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== PrepReferenceIdeal.lean ====
abbrev S128x3712 : Shape := ⟨2, ![128, 3712]⟩
abbrev S64 : Shape := ⟨1, ![64]⟩
abbrev S4 : Shape := ⟨1, ![4]⟩
abbrev S128x256 : Shape := ⟨2, ![128, 256]⟩
abbrev S32x4x256 : Shape := ⟨3, ![32, 4, 256]⟩
abbrev S32x4x4x64 : Shape := ⟨4, ![32, 4, 4, 64]⟩
abbrev S_ : Shape := ⟨0, ![]⟩
abbrev S32x4x4 : Shape := ⟨3, ![32, 4, 4]⟩
abbrev S32x4x4x1 : Shape := ⟨4, ![32, 4, 4, 1]⟩
abbrev S1x1x1x64 : Shape := ⟨4, ![1, 1, 1, 64]⟩
abbrev S128x128 : Shape := ⟨2, ![128, 128]⟩
abbrev S128 : Shape := ⟨1, ![128]⟩
abbrev S1x128 : Shape := ⟨2, ![1, 128]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S1x4x1x32 : Shape := ⟨4, ![1, 4, 1, 32]⟩
abbrev S32x4x4x32 : Shape := ⟨4, ![32, 4, 4, 32]⟩

abbrev nBuf : Space → Nat
  | .hbm => 178
  | .vmem => 0
  | .smem => 0
  | _ => 0

abbrev hbmTy0_0 (i : Nat) : BufTy := match i % 128 with
  | 0 => ⟨S128x3712, .f32⟩
  | 1 => ⟨S64, .f32⟩
  | 2 => ⟨S64, .f32⟩
  | 3 => ⟨S64, .f32⟩
  | 4 => ⟨S64, .f32⟩
  | 5 => ⟨S4, .f32⟩
  | 6 => ⟨S4, .i32⟩
  | 7 => ⟨S128x256, .f32⟩
  | 8 => ⟨S32x4x256, .f32⟩
  | 9 => ⟨S32x4x4x64, .f32⟩
  | 10 => ⟨S32x4x4x64, .f32⟩
  | 11 => ⟨S_, .f32⟩
  | 12 => ⟨S32x4x4, .f32⟩
  | 13 => ⟨S32x4x4x1, .f32⟩
  | 14 => ⟨S_, .f32⟩
  | 15 => ⟨S32x4x4x1, .f32⟩
  | 16 => ⟨S32x4x4x1, .f32⟩
  | 17 => ⟨S_, .f32⟩
  | 18 => ⟨S32x4x4x1, .f32⟩
  | 19 => ⟨S32x4x4x1, .f32⟩
  | 20 => ⟨S32x4x4x1, .f32⟩
  | 21 => ⟨S32x4x4x64, .f32⟩
  | 22 => ⟨S32x4x4x64, .f32⟩
  | 23 => ⟨S1x1x1x64, .f32⟩
  | 24 => ⟨S32x4x4x64, .f32⟩
  | 25 => ⟨S32x4x4x64, .f32⟩
  | 26 => ⟨S128x256, .f32⟩
  | 27 => ⟨S32x4x256, .f32⟩
  | 28 => ⟨S32x4x4x64, .f32⟩
  | 29 => ⟨S32x4x4x64, .f32⟩
  | 30 => ⟨S_, .f32⟩
  | 31 => ⟨S32x4x4, .f32⟩
  | 32 => ⟨S32x4x4x1, .f32⟩
  | 33 => ⟨S_, .f32⟩
  | 34 => ⟨S32x4x4x1, .f32⟩
  | 35 => ⟨S32x4x4x1, .f32⟩
  | 36 => ⟨S_, .f32⟩
  | 37 => ⟨S32x4x4x1, .f32⟩
  | 38 => ⟨S32x4x4x1, .f32⟩
  | 39 => ⟨S32x4x4x1, .f32⟩
  | 40 => ⟨S32x4x4x64, .f32⟩
  | 41 => ⟨S32x4x4x64, .f32⟩
  | 42 => ⟨S1x1x1x64, .f32⟩
  | 43 => ⟨S32x4x4x64, .f32⟩
  | 44 => ⟨S32x4x4x64, .f32⟩
  | 45 => ⟨S128x128, .f32⟩
  | 46 => ⟨S_, .i32⟩
  | 47 => ⟨S_, .f32⟩
  | 48 => ⟨S128, .f32⟩
  | 49 => ⟨S1x128, .f32⟩
  | 50 => ⟨S128x128, .f32⟩
  | 51 => ⟨S128x128, .f32⟩
  | 52 => ⟨S128x128, .f32⟩
  | 53 => ⟨S_, .f32⟩
  | 54 => ⟨S128x128, .f32⟩
  | 55 => ⟨S128x128, .f32⟩
  | 56 => ⟨S128x128, .f32⟩
  | 57 => ⟨S128x128, .f32⟩
  | 58 => ⟨S128x128, .i1⟩
  | 59 => ⟨S128x128, .f32⟩
  | 60 => ⟨S128x128, .f32⟩
  | 61 => ⟨S128x128, .f32⟩
  | 62 => ⟨S128x128, .f32⟩
  | 63 => ⟨S128x128, .f32⟩
  | 64 => ⟨S128x128, .f32⟩
  | 65 => ⟨S128x128, .f32⟩
  | 66 => ⟨S128x128, .f32⟩
  | 67 => ⟨S128x128, .f32⟩
  | 68 => ⟨S128x256, .f32⟩
  | 69 => ⟨S32x4x256, .f32⟩
  | 70 => ⟨S32x4x4x64, .f32⟩
  | 71 => ⟨S32x4x4x64, .f32⟩
  | 72 => ⟨S_, .f32⟩
  | 73 => ⟨S32x4x4, .f32⟩
  | 74 => ⟨S32x4x4x1, .f32⟩
  | 75 => ⟨S_, .f32⟩
  | 76 => ⟨S32x4x4x1, .f32⟩
  | 77 => ⟨S32x4x4x1, .f32⟩
  | 78 => ⟨S_, .f32⟩
  | 79 => ⟨S32x4x4x1, .f32⟩
  | 80 => ⟨S32x4x4x1, .f32⟩
  | 81 => ⟨S32x4x4x1, .f32⟩
  | 82 => ⟨S32x4x4x64, .f32⟩
  | 83 => ⟨S32x4x4x64, .f32⟩
  | 84 => ⟨S1x1x1x64, .f32⟩
  | 85 => ⟨S32x4x4x64, .f32⟩
  | 86 => ⟨S32x4x4x64, .f32⟩
  | 87 => ⟨S32, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S4, .f32⟩
  | 96 => ⟨S4x1, .f32⟩
  | 97 => ⟨S1x32, .f32⟩
  | 98 => ⟨S4x32, .f32⟩
  | 99 => ⟨S4x32, .f32⟩
  | 100 => ⟨S4x32, .f32⟩
  | 101 => ⟨S4x32, .f32⟩
  | 102 => ⟨S1x4x1x32, .f32⟩
  | 103 => ⟨S4x32, .f32⟩
  | 104 => ⟨S1x4x1x32, .f32⟩
  | 105 => ⟨S32x4x4x32, .f32⟩
  | 106 => ⟨S32x4x4x32, .f32⟩
  | 107 => ⟨S32x4x4x32, .f32⟩
  | 108 => ⟨S32x4x4x32, .f32⟩
  | 109 => ⟨S32x4x4x32, .f32⟩
  | 110 => ⟨S32x4x4x32, .f32⟩
  | 111 => ⟨S32x4x4x32, .f32⟩
  | 112 => ⟨S32x4x4x32, .f32⟩
  | 113 => ⟨S32x4x4x32, .f32⟩
  | 114 => ⟨S32x4x4x32, .f32⟩
  | 115 => ⟨S32x4x4x32, .f32⟩
  | 116 => ⟨S32x4x4x32, .f32⟩
  | 117 => ⟨S32x4x4x64, .f32⟩
  | 118 => ⟨S128x256, .f32⟩
  | 119 => ⟨S32x4x256, .f32⟩
  | 120 => ⟨S32x4x4x64, .f32⟩
  | 121 => ⟨S32x4x4x64, .f32⟩
  | 122 => ⟨S_, .f32⟩
  | 123 => ⟨S32x4x4, .f32⟩
  | 124 => ⟨S32x4x4x1, .f32⟩
  | 125 => ⟨S_, .f32⟩
  | 126 => ⟨S32x4x4x1, .f32⟩
  | 127 => ⟨S32x4x4x1, .f32⟩
  | _ => ⟨S128x3712, .f32⟩

abbrev hbmTy0_1 (i : Nat) : BufTy := match i % 128 with
  | 0 => ⟨S_, .f32⟩
  | 1 => ⟨S32x4x4x1, .f32⟩
  | 2 => ⟨S32x4x4x1, .f32⟩
  | 3 => ⟨S32x4x4x1, .f32⟩
  | 4 => ⟨S32x4x4x64, .f32⟩
  | 5 => ⟨S32x4x4x64, .f32⟩
  | 6 => ⟨S1x1x1x64, .f32⟩
  | 7 => ⟨S32x4x4x64, .f32⟩
  | 8 => ⟨S32x4x4x64, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S4, .f32⟩
  | 18 => ⟨S4x1, .f32⟩
  | 19 => ⟨S1x32, .f32⟩
  | 20 => ⟨S4x32, .f32⟩
  | 21 => ⟨S4x32, .f32⟩
  | 22 => ⟨S4x32, .f32⟩
  | 23 => ⟨S4x32, .f32⟩
  | 24 => ⟨S1x4x1x32, .f32⟩
  | 25 => ⟨S4x32, .f32⟩
  | 26 => ⟨S1x4x1x32, .f32⟩
  | 27 => ⟨S32x4x4x32, .f32⟩
  | 28 => ⟨S32x4x4x32, .f32⟩
  | 29 => ⟨S32x4x4x32, .f32⟩
  | 30 => ⟨S32x4x4x32, .f32⟩
  | 31 => ⟨S32x4x4x32, .f32⟩
  | 32 => ⟨S32x4x4x32, .f32⟩
  | 33 => ⟨S32x4x4x32, .f32⟩
  | 34 => ⟨S32x4x4x32, .f32⟩
  | 35 => ⟨S32x4x4x32, .f32⟩
  | 36 => ⟨S32x4x4x32, .f32⟩
  | 37 => ⟨S32x4x4x32, .f32⟩
  | 38 => ⟨S32x4x4x32, .f32⟩
  | 39 => ⟨S32x4x4x64, .f32⟩
  | 40 => ⟨S_, .f32⟩
  | 41 => ⟨S32x4x4x64, .f32⟩
  | 42 => ⟨S32x4x4x64, .f32⟩
  | 43 => ⟨S128x256, .f32⟩
  | 44 => ⟨S128x256, .f32⟩
  | 45 => ⟨S_, .f32⟩
  | 46 => ⟨S32x4x4x64, .f32⟩
  | 47 => ⟨S32x4x4x64, .f32⟩
  | 48 => ⟨S128x256, .f32⟩
  | 49 => ⟨S128x256, .f32⟩
  | _ => ⟨S128x3712, .f32⟩

abbrev hbmTy (i : Nat) : BufTy := match i / 128 with
  | 0 => hbmTy0_0 i
  | 1 => hbmTy0_1 i
  | _ => ⟨S128x3712, .f32⟩

abbrev bufTy : (tb : Table) → Fin (tcTables nBuf tb) → BufTy
  | .hbm, ⟨i, _⟩ => hbmTy i
  | _, _ => ⟨S128x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_call0_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call1_v0 : Ref sig .tc := ⟨.hbm, 52, rfl⟩
abbrev main_call1_call0_cst : Ref sig .tc := ⟨.hbm, 53, rfl⟩
abbrev main_call1_call0_v0 : Ref sig .tc := ⟨.hbm, 54, rfl⟩
abbrev main_call1_call0_v1 : Ref sig .tc := ⟨.hbm, 55, rfl⟩
abbrev main_call1_call0_v2 : Ref sig .tc := ⟨.hbm, 56, rfl⟩
abbrev main_call1_call0_v3 : Ref sig .tc := ⟨.hbm, 57, rfl⟩
abbrev main_call1_call0_v4 : Ref sig .tc := ⟨.hbm, 58, rfl⟩
abbrev main_call1_call0_v5 : Ref sig .tc := ⟨.hbm, 59, rfl⟩
abbrev main_call1_call0_v6 : Ref sig .tc := ⟨.hbm, 60, rfl⟩
abbrev main_call1_call0_v7 : Ref sig .tc := ⟨.hbm, 61, rfl⟩
abbrev main_call1_call0_v8 : Ref sig .tc := ⟨.hbm, 62, rfl⟩
abbrev main_call1_call0_v9 : Ref sig .tc := ⟨.hbm, 63, rfl⟩
abbrev main_call1_call0_v10 : Ref sig .tc := ⟨.hbm, 64, rfl⟩
abbrev main_call1_call0_v11 : Ref sig .tc := ⟨.hbm, 65, rfl⟩
abbrev main_call1_v1 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_5 : Ref sig .tc := ⟨.hbm, 72, rfl⟩
abbrev main_v42 : Ref sig .tc := ⟨.hbm, 73, rfl⟩
abbrev main_v43 : Ref sig .tc := ⟨.hbm, 74, rfl⟩
abbrev main_cst_6 : Ref sig .tc := ⟨.hbm, 75, rfl⟩
abbrev main_v44 : Ref sig .tc := ⟨.hbm, 76, rfl⟩
abbrev main_v45 : Ref sig .tc := ⟨.hbm, 77, rfl⟩
abbrev main_cst_7 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_8 : Ref sig .tc := ⟨.hbm, 89, rfl⟩
abbrev main_v56 : Ref sig .tc := ⟨.hbm, 90, rfl⟩
abbrev main_v57 : Ref sig .tc := ⟨.hbm, 91, rfl⟩
abbrev main_cst_9 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_10 : Ref sig .tc := ⟨.hbm, 122, rfl⟩
abbrev main_v87 : Ref sig .tc := ⟨.hbm, 123, rfl⟩
abbrev main_v88 : Ref sig .tc := ⟨.hbm, 124, rfl⟩
abbrev main_cst_11 : Ref sig .tc := ⟨.hbm, 125, rfl⟩
abbrev main_v89 : Ref sig .tc := ⟨.hbm, 126, rfl⟩
abbrev main_v90 : Ref sig .tc := ⟨.hbm, 127, rfl⟩
abbrev main_cst_12 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_13 : Ref sig .tc := ⟨.hbm, 139, rfl⟩
abbrev main_v101 : Ref sig .tc := ⟨.hbm, 140, rfl⟩
abbrev main_v102 : Ref sig .tc := ⟨.hbm, 141, rfl⟩
abbrev main_cst_14 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_15 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_16 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩

abbrev nD : Nat := 1
abbrev τ : Topo := Topo.v7x

variable {F : FTy → Type} [FloatOps F]
-- ==== Dec.lean ====
abbrev S128x1024 : Shape := ⟨2, ![128, 1024]⟩
abbrev S1024 : Shape := ⟨1, ![1024]⟩
abbrev S1024x3604 : Shape := ⟨2, ![1024, 3604]⟩
abbrev S32x3x768 : Shape := ⟨3, ![32, 3, 768]⟩
abbrev S3604x1024 : Shape := ⟨2, ![3604, 1024]⟩
abbrev S256x1024 : Shape := ⟨2, ![256, 1024]⟩
abbrev S4x1024 : Shape := ⟨2, ![4, 1024]⟩
abbrev S768x1024 : Shape := ⟨2, ![768, 1024]⟩
abbrev S_ : Shape := ⟨0, ![]⟩
abbrev S108x1024 : Shape := ⟨2, ![108, 1024]⟩
abbrev S3600x1024 : Shape := ⟨2, ![3600, 1024]⟩
abbrev S112x1024 : Shape := ⟨2, ![112, 1024]⟩
abbrev S3712x1024 : Shape := ⟨2, ![3712, 1024]⟩
abbrev S1x1024 : Shape := ⟨2, ![1, 1024]⟩
abbrev S128x3712 : Shape := ⟨2, ![128, 3712]⟩
abbrev S128 : Shape := ⟨1, ![128]⟩
abbrev S128x1 : Shape := ⟨2, ![128, 1]⟩
abbrev S512x1024 : Shape := ⟨2, ![512, 1024]⟩
abbrev S128x512 : Shape := ⟨2, ![128, 512]⟩
abbrev S128x128 : Shape := ⟨2, ![128, 128]⟩
abbrev S32x4x3712 : Shape := ⟨3, ![32, 4, 3712]⟩
abbrev S32x4x768 : Shape := ⟨3, ![32, 4, 768]⟩
abbrev S32x7x768 : Shape := ⟨3, ![32, 7, 768]⟩
abbrev S128x256 : Shape := ⟨2, ![128, 256]⟩
abbrev S32x4x4x64 : Shape := ⟨4, ![32, 4, 4, 64]⟩

abbrev nBuf : Space → Nat
  | .hbm => 38
  | .vmem => 4
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3604, .f32⟩
  | .hbm, ⟨3, _⟩ => ⟨S32x3x768, .f32⟩
  | .hbm, ⟨4, _⟩ => ⟨S3604x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S4x1024, .f32⟩
  | .hbm, ⟨9, _⟩ => ⟨S768x1024, .f32⟩
  | .hbm, ⟨10, _⟩ => ⟨S4x1024, .f32⟩
  | .hbm, ⟨11, _⟩ => ⟨S4x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S4x1024, .f32⟩
  | .hbm, ⟨20, _⟩ => ⟨S4x1024, .f32⟩
  | .hbm, ⟨21, _⟩ => ⟨S256x1024, .f32⟩
  | .hbm, ⟨22, _⟩ => ⟨S_, .f32⟩
  | .hbm, ⟨23, _⟩ => ⟨S108x1024, .f32⟩
  | .hbm, ⟨24, _⟩ => ⟨S3600x1024, .f32⟩
  | .hbm, ⟨25, _⟩ => ⟨S112x1024, .f32⟩
  | .hbm, ⟨26, _⟩ => ⟨S3712x1024, .f32⟩
  | .hbm, ⟨27, _⟩ => ⟨S3712x1024, .bf16⟩
  | .hbm, ⟨28, _⟩ => ⟨S1x1024, .f32⟩
  | .hbm, ⟨29, _⟩ => ⟨S128x3712, .f32⟩
  | .hbm, ⟨30, _⟩ => ⟨S32x4x3712, .f32⟩
  | .hbm, ⟨31, _⟩ => ⟨S32x4x768, .f32⟩
  | .hbm, ⟨32, _⟩ => ⟨S32x7x768, .f32⟩
  | .hbm, ⟨33, _⟩ => ⟨S128x256, .f32⟩
  | .hbm, ⟨34, _⟩ => ⟨S32x4x4x64, .f32⟩
  | .hbm, ⟨35, _⟩ => ⟨S128x256, .f32⟩
  | .hbm, ⟨36, _⟩ => ⟨S32x4x4x64, .f32⟩
  | .hbm, ⟨37, _⟩ => ⟨S32x3x768, .f32⟩
  | .local _ .vmem, ⟨0, _⟩ => ⟨S128x1024, .f32⟩
  | .local _ .vmem, ⟨1, _⟩ => ⟨S1x1024, .f32⟩
  | .local _ .vmem, ⟨2, _⟩ => ⟨S3712x1024, .bf16⟩
  | .local _ .vmem, ⟨3, _⟩ => ⟨S128x3712, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3712x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3712 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== DecReferenceIdeal.lean ====
abbrev S128x1024 : Shape := ⟨2, ![128, 1024]⟩
abbrev S1024 : Shape := ⟨1, ![1024]⟩
abbrev S1024x3604 : Shape := ⟨2, ![1024, 3604]⟩
abbrev S32x3x768 : Shape := ⟨3, ![32, 3, 768]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x3604 : Shape := ⟨2, ![128, 3604]⟩
abbrev S128x256 : Shape := ⟨2, ![128, 256]⟩
abbrev S128x4 : Shape := ⟨2, ![128, 4]⟩
abbrev S128x768 : Shape := ⟨2, ![128, 768]⟩
abbrev S128x108 : Shape := ⟨2, ![128, 108]⟩
abbrev S32x4x768 : Shape := ⟨3, ![32, 4, 768]⟩
abbrev S32x7x768 : Shape := ⟨3, ![32, 7, 768]⟩
abbrev S128x3600 : Shape := ⟨2, ![128, 3600]⟩
abbrev S128x112 : Shape := ⟨2, ![128, 112]⟩
abbrev S128x3712 : Shape := ⟨2, ![128, 3712]⟩
abbrev S32x4x256 : Shape := ⟨3, ![32, 4, 256]⟩
abbrev S32x4x4x64 : Shape := ⟨4, ![32, 4, 4, 64]⟩

abbrev nBuf : Space → Nat
  | .hbm => 50
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x3604, .f32⟩
  | .hbm, ⟨3, _⟩ => ⟨S32x3x768, .f32⟩
  | .hbm, ⟨4, _⟩ => ⟨S128x1024, .f32⟩
  | .hbm, ⟨5, _⟩ => ⟨S_, .f32⟩
  | .hbm, ⟨6, _⟩ => ⟨S128, .f32⟩
  | .hbm, ⟨7, _⟩ => ⟨S128x1, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S128x1, .f32⟩
  | .hbm, ⟨15, _⟩ => ⟨S128x1024, .f32⟩
  | .hbm, ⟨16, _⟩ => ⟨S128x1024, .f32⟩
  | .hbm, ⟨17, _⟩ => ⟨S1x1024, .f32⟩
  | .hbm, ⟨18, _⟩ => ⟨S128x1024, .f32⟩
  | .hbm, ⟨19, _⟩ => ⟨S128x1024, .f32⟩
  | .hbm, ⟨20, _⟩ => ⟨S128x3604, .f32⟩
  | .hbm, ⟨21, _⟩ => ⟨S128x256, .f32⟩
  | .hbm, ⟨22, _⟩ => ⟨S128x256, .f32⟩
  | .hbm, ⟨23, _⟩ => ⟨S128x256, .f32⟩
  | .hbm, ⟨24, _⟩ => ⟨S128x4, .f32⟩
  | .hbm, ⟨25, _⟩ => ⟨S128x768, .f32⟩
  | .hbm, ⟨26, _⟩ => ⟨S128x4, .f32⟩
  | .hbm, ⟨27, _⟩ => ⟨S128x4, .f32⟩
  | .hbm, ⟨28, _⟩ => ⟨S128x256, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S128x256, .f32⟩
  | .hbm, ⟨35, _⟩ => ⟨S128x4, .f32⟩
  | .hbm, ⟨36, _⟩ => ⟨S128x4, .f32⟩
  | .hbm, ⟨37, _⟩ => ⟨S128x256, .f32⟩
  | .hbm, ⟨38, _⟩ => ⟨S_, .f32⟩
  | .hbm, ⟨39, _⟩ => ⟨S128x108, .f32⟩
  | .hbm, ⟨40, _⟩ => ⟨S32x4x768, .f32⟩
  | .hbm, ⟨41, _⟩ => ⟨S32x7x768, .f32⟩
  | .hbm, ⟨42, _⟩ => ⟨S128x3600, .f32⟩
  | .hbm, ⟨43, _⟩ => ⟨S128x112, .f32⟩
  | .hbm, ⟨44, _⟩ => ⟨S128x3712, .f32⟩
  | .hbm, ⟨45, _⟩ => ⟨S32x4x256, .f32⟩
  | .hbm, ⟨46, _⟩ => ⟨S32x4x4x64, .f32⟩
  | .hbm, ⟨47, _⟩ => ⟨S32x4x256, .f32⟩
  | .hbm, ⟨48, _⟩ => ⟨S32x4x4x64, .f32⟩
  | .hbm, ⟨49, _⟩ => ⟨S32x3x768, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== Proof.FfnChain.lean ====
/- The output projection and the feed-forward, one block of 512 rows: the kernel's steps as plain terms, and each at a
   position. -/
module

public import proofs.«01_k».proof.Proof.Gen.FfnIdeal.Value
public import Idealize.ShloMosaic.Lib.Pointwise
public import Idealize.ShloMosaic.Lib.Pipeline.CanonAppend
public import Idealize.ShloMosaic.Lib.Pipeline.ValueKit

@[expose] public section

set_option maxRecDepth 16384

noncomputable section

namespace Cert.FfnIdeal.Row

open Cert.FfnIdeal Cert.FfnIdeal.Gen
open Idealize.ShloMosaic Idealize.ShloMosaic.TcCoe Idealize.SL.Sem

/-- One chunk of 256 hidden columns added to the row block. -/
def chunkT (h : FVec Ideal S512x1024 .bf16) (wg wu : FVec Ideal S1024x256 .bf16) (y : FVec Ideal S512x1024 .f32)
    (wd : FVec Ideal S256x1024 .bf16) : FVec Ideal S512x1024 .f32 :=
  k0_pay20 h wg wu y wd

/-- The gated hidden value of a gate and an up projection. -/
def act (g u : EReal) : EReal := g * Ideal.div 1 (1 + Ideal.exp (-g)) * u

/-- One over the root of the mean square of a row. -/
def scale (x : Fin 1024 → EReal) : EReal :=
  Ideal.rsqrt (Ideal.div (∑ k, x k * x k) (Ideal.ofBits FTy.f32 0x44800000#32) + Ideal.ofBits FTy.f32 0x358637BD#32)

theorem chunkT_at (h : FVec Ideal S512x1024 .bf16) (wg wu : FVec Ideal S1024x256 .bf16) (y : FVec Ideal S512x1024 .f32)
    (wd : FVec Ideal S256x1024 .bf16) (r : Fin 512) (c : Fin 1024) :
    (chunkT h wg wu y wd (ix2 r c) : EReal)
      = (y (ix2 r c) : EReal) + ∑ f : Fin 256, act (∑ k : Fin 1024, (h (ix2 r k) : EReal) * wg (ix2 k f)) (∑ k : Fin 1024, (h (ix2 r k) : EReal) * wu (ix2 k f)) * wd (ix2 f c) := by
  pointwise [chunkT, k0_pay20]
  simp only [act, zero_sub]

theorem norm_at (x : FVec Ideal S512x1024 .f32) (v33 : FVec Ideal S512x1024 .f32) (g : FVec Ideal S1x1024 .f32) (r : Fin 512) (k : Fin 1024) :
    (k0_pay4 x v33 g (ix2 r k) : EReal) = (x (ix2 r k) : EReal) * v33 (ix2 r k) * g (ix2 0 k) := by
  pointwise [k0_pay4]

theorem scale_at (v0 : FVec Ideal S512x1024 .f32) (a b cc d : FVec Ideal S512x256 .f32) (w0 w1 w2 w3 : FVec Ideal S256x1024 .bf16) (r : Fin 512) (k : Fin 1024) :
    (k0_pay3 (F := Ideal) v0 a w0 b w1 cc w2 d w3 (ix2 r k) : EReal)
      = scale (fun k : Fin 1024 => k0_pay2 (F := Ideal) v0 a w0 b w1 cc w2 d w3 (ix2 r k)) := by
  unfold k0_pay3
  generalize k0_pay2 (F := Ideal) v0 a w0 b w1 cc w2 d w3 = x
  pointwise
  rfl

theorem x1_at (v0 : FVec Ideal S512x1024 .f32) (a b cc d : FVec Ideal S512x256 .f32) (w0 w1 w2 w3 : FVec Ideal S256x1024 .bf16) (r : Fin 512) (k : Fin 1024) :
    (k0_pay2 (F := Ideal) v0 a w0 b w1 cc w2 d w3 (ix2 r k) : EReal) = (v0 (ix2 r k) : EReal) + (∑ j : Fin 256, (a (ix2 r j) : EReal) * w0 (ix2 j k))
      + (∑ j : Fin 256, (b (ix2 r j) : EReal) * w1 (ix2 j k)) + (∑ j : Fin 256, (cc (ix2 r j) : EReal) * w2 (ix2 j k)) + (∑ j : Fin 256, (d (ix2 r j) : EReal) * w3 (ix2 j k)) := by
  pointwise [k0_pay2]

/-- A load through a whole argument reads the array it holds. -/
theorem load2_at {R C n c : ℕ} {e : EltTy} (v : Memref sig .tc .vmem (⟨2, ![R, C]⟩ : Shape) e) (hv : v.IsWhole) (x : (⟨2, ![R, C]⟩ : Shape).Idx → Elt Ideal e) (a b : ℕ)
    (i : ∀ ax : Fin 2, ![a, b] ax + ![n, c] ax ≤ ![R, C] ax) (p : Fin n) (q : Fin c) (hp : a + p < R) (hq : b + q < C) :
    View.readAt (Elt Ideal) v.view (Rect.unit (s := (⟨2, ![R, C]⟩ : Shape)) ![a, b] ![n, c] i).toLoadRect (hv.unread x) (ix2 p q) = x (ix2 (⟨a + p, hp⟩ : Fin R) (⟨b + q, hq⟩ : Fin C)) := by
  refine (congrFun (hv.read_unread x) _).trans (congrArg x (funext fun ax => Fin.ext ?_))
  fin_cases ax <;> simp [Rect.unit, Rect.toLoadRect, LoadRect.idx]

/-- A load of a whole argument from its start. -/
theorem load2_zero {R C : ℕ} {e : EltTy} (v : Memref sig .tc .vmem (⟨2, ![R, C]⟩ : Shape) e) (hv : v.IsWhole) (x : (⟨2, ![R, C]⟩ : Shape).Idx → Elt Ideal e)
    (i : ∀ ax : Fin 2, ![0, 0] ax + ![R, C] ax ≤ ![R, C] ax) :
    View.readAt (Elt Ideal) v.view (Rect.unit (s := (⟨2, ![R, C]⟩ : Shape)) ![0, 0] ![R, C] i).toLoadRect (hv.unread x) = x := by
  funext y
  refine (congrFun (hv.read_unread x) _).trans (congrArg x (funext fun ax => Fin.ext ?_))
  fin_cases ax <;> simp [Rect.unit, Rect.toLoadRect, LoadRect.idx]

theorem canon_whole (i) (p : S512x1024.Idx → Elt Ideal .f32) (L : List (View.Piece (Elt Ideal) S512x1024 .f32)) :
    View.canon (⟨Rect.unit (s := S512x1024) ![0, 0] S512x1024.size i, p⟩ :: L) = p :=
  View.canon_cons_unit_lit _ _ _ (by intro a; fin_cases a <;> rfl)

theorem cov_whole {κ : Kind} {sp : Space} (v : View sig κ sp S512x1024 .f32) (i i') (p : S512x1024.Idx → Elt Ideal .f32) (L : List (View.Piece (Elt Ideal) S512x1024 .f32)) :
    View.readCov (Val := Elt Ideal) v (⟨Rect.unit (s := S512x1024) ![0, 0] S512x1024.size i, p⟩ :: L) (Rect.unit (s := S512x1024) ![0, 0] ![512, 1024] i').toLoadRect = p := by
  rw [View.readCov_eq_canon', canon_whole]
  funext y
  refine congrArg p (funext fun ax => Fin.ext ?_)
  fin_cases ax <;> simp [Rect.unit, Rect.toLoadRect, LoadRect.idx]

end Cert.FfnIdeal.Row

end
-- ==== Proof.FfnBlock.lean ====
/- The output projection and the feed-forward, one block of 512 rows: what the kernel's whole body leaves in the block
   of the result. -/
module

public import proofs.«01_k».proof.Proof.FfnChain

@[expose] public section

set_option maxRecDepth 16384

noncomputable section

namespace Cert.FfnIdeal.Row

open Cert.FfnIdeal Cert.FfnIdeal.Gen
open Idealize.ShloMosaic Idealize.ShloMosaic.TcCoe Idealize.SL.Sem

/-- One hidden column's share of a result column. -/
def hidTerm (h : Fin 1024 → EReal) (wg wu : S1024x2816.Idx → EReal) (wd : S2816x1024.Idx → EReal) (c : Fin 1024) (f : Fin 2816) : EReal :=
  act (∑ k : Fin 1024, h k * wg (ix2 k f)) (∑ k : Fin 1024, h k * wu (ix2 k f)) * wd (ix2 f c)

/-- The share of 256 hidden columns from column `o` on. -/
def chunkRow (h : Fin 1024 → EReal) (wg wu : S1024x2816.Idx → EReal) (wd : S2816x1024.Idx → EReal) (o : ℕ) (ho : o + 256 ≤ 2816) (c : Fin 1024) : EReal :=
  ∑ f : Fin 256, hidTerm h wg wu wd c ⟨o + f, by omega⟩

theorem chunk_load (arg8 : Memref sig .tc .vmem S1024x2816 .bf16) (harg8 : arg8.IsWhole) (arg9 : Memref sig .tc .vmem S1024x2816 .bf16) (harg9 : arg9.IsWhole)
    (arg10 : Memref sig .tc .vmem S2816x1024 .bf16) (harg10 : arg10.IsWhole) (x7 x8 : S1024x2816.Idx → Elt Ideal .bf16) (x9 : S2816x1024.Idx → Elt Ideal .bf16)
    (h : FVec Ideal S512x1024 .bf16) (y : FVec Ideal S512x1024 .f32) (o : ℕ) (ho : o + 256 ≤ 2816) (i8 : ∀ ax : Fin 2, ![0, o] ax + ![1024, 256] ax ≤ ![1024, 2816] ax) (i10 : ∀ ax : Fin 2, ![o, 0] ax + ![256, 1024] ax ≤ ![2816, 1024] ax)
    (r : Fin 512) (c : Fin 1024) :
    (chunkT h (View.readAt (Elt Ideal) arg8.view (Rect.unit (s := S1024x2816) ![0, o] S1024x256.size i8).toLoadRect (harg8.unread x7))
      (View.readAt (Elt Ideal) arg9.view (Rect.unit (s := S1024x2816) ![0, o] S1024x256.size i8).toLoadRect (harg9.unread x8)) y
      (View.readAt (Elt Ideal) arg10.view (Rect.unit (s := S2816x1024) ![o, 0] S256x1024.size i10).toLoadRect (harg10.unread x9)) (ix2 r c) : EReal)
      = y (ix2 r c) + chunkRow (fun k => h (ix2 r k)) x7 x8 x9 o ho c := by
  rw [chunkT_at]
  refine congrArg (y (ix2 r c) + ·) (Finset.sum_congr rfl fun f _ => ?_)
  have hf := f.isLt
  have e8 : ∀ k : Fin 1024, View.readAt (Elt Ideal) arg8.view (Rect.unit (s := S1024x2816) ![0, o] S1024x256.size i8).toLoadRect (harg8.unread x7) (ix2 k f) = x7 (ix2 k ⟨o + f, by omega⟩) := fun k =>
    (load2_at arg8 harg8 x7 0 o i8 k f (by omega) (by omega)).trans (congrArg (fun z : Fin 1024 => x7 (ix2 z (⟨o + f, by omega⟩ : Fin 2816))) (Fin.ext (by simp)))
  have e9 : ∀ k : Fin 1024, View.readAt (Elt Ideal) arg9.view (Rect.unit (s := S1024x2816) ![0, o] S1024x256.size i8).toLoadRect (harg9.unread x8) (ix2 k f) = x8 (ix2 k ⟨o + f, by omega⟩) := fun k =>
    (load2_at arg9 harg9 x8 0 o i8 k f (by omega) (by omega)).trans (congrArg (fun z : Fin 1024 => x8 (ix2 z (⟨o + f, by omega⟩ : Fin 2816))) (Fin.ext (by simp)))
  have e10 : View.readAt (Elt Ideal) arg10.view (Rect.unit (s := S2816x1024) ![o, 0] S256x1024.size i10).toLoadRect (harg10.unread x9) (ix2 f c) = x9 (ix2 ⟨o + f, by omega⟩ c) :=
    (load2_at arg10 harg10 x9 o 0 i10 f c (by omega) (by omega)).trans (congrArg (fun z : Fin 1024 => x9 (ix2 (⟨o + f, by omega⟩ : Fin 2816) z)) (Fin.ext (by simp)))
  exact congrArg₂ (· * ·) (congrArg₂ act (Finset.sum_congr rfl fun k _ => congrArg (h (ix2 r k) * ·) (e8 k)) (Finset.sum_congr rfl fun k _ => congrArg (h (ix2 r k) * ·) (e9 k))) e10

/-- The row of the block after the first `n` chunks. -/
def upTo (x1 h : Fin 1024 → EReal) (wg wu : S1024x2816.Idx → EReal) (wd : S2816x1024.Idx → EReal) (c : Fin 1024) : ℕ → EReal
  | 0 => x1 c
  | n + 1 => upTo x1 h wg wu wd c n + (if hn : 256 * n + 256 ≤ 2816 then chunkRow h wg wu wd (256 * n) hn c else 0)

theorem upTo_step (x1 h : Fin 1024 → EReal) (wg wu : S1024x2816.Idx → EReal) (wd : S2816x1024.Idx → EReal) (c : Fin 1024) (n o : ℕ) (ho : o = 256 * n) (hn : o + 256 ≤ 2816) :
    upTo x1 h wg wu wd c (n + 1) = upTo x1 h wg wu wd c n + chunkRow h wg wu wd o hn c := by
  subst ho
  show _ + (if hn : 256 * n + 256 ≤ 2816 then chunkRow h wg wu wd (256 * n) hn c else 0) = _
  rw [dif_pos hn]

theorem upTo_all (x1 h : Fin 1024 → EReal) (wg wu : S1024x2816.Idx → EReal) (wd : S2816x1024.Idx → EReal) (c : Fin 1024) :
    upTo x1 h wg wu wd c 11 = x1 c + ∑ f : Fin 2816, hidTerm h wg wu wd c f := by
  have e : ∀ n, n ≤ 11 → upTo x1 h wg wu wd c n = x1 c + ∑ s ∈ Finset.range n, (if hs : 256 * s + 256 ≤ 2816 then chunkRow h wg wu wd (256 * s) hs c else 0) := by
    intro n
    induction n with
    | zero => intro _; simp [upTo]
    | succ n ih => intro hn; rw [Finset.sum_range_succ, ← add_assoc, ← ih (by omega)]; rfl
  rw [e 11 le_rfl, Finset.sum_range]
  refine congrArg (x1 c + ·) ?_
  refine Eq.trans (Finset.sum_congr rfl fun s _ => ?_) (Fin.sum_mul_add_congr (S := 11) (n := 256) (L := 2816) (F := fun s k => hidTerm h wg wu wd c ⟨s.val * 256 + k.val, by omega⟩) (f := hidTerm h wg wu wd c) (fun s k hl => rfl))
  have hs := s.isLt
  rw [dif_pos (by omega)]
  exact Finset.sum_congr rfl fun f _ => congrArg (hidTerm h wg wu wd c) (Fin.ext (by simp; omega))

theorem s1 (c : Dev nD) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x1024 .f32) (x0 : S512x1024.Idx → Elt Ideal .f32) (x1 : S512x256.Idx → Elt Ideal .f32) (x2 : S512x256.Idx → Elt Ideal .f32) (x3 : S512x256.Idx → Elt Ideal .f32) (x4 : S512x256.Idx → Elt Ideal .f32) (x5 : S1024x1024.Idx → Elt Ideal .bf16) (x6 : S1x1024.Idx → Elt Ideal .f32) (x7 : S1024x2816.Idx → Elt Ideal .bf16) (x8 : S1024x2816.Idx → Elt Ideal .bf16) (x9 : S2816x1024.Idx → Elt Ideal .bf16) (r : Fin 512) (q : Fin 1024) :
    (kernelRun0_A.sl.v57 c arg1 harg1 arg2 harg2 arg3 harg3 arg4 harg4 arg5 harg5 arg6 harg6 arg11 x0 x1 x2 x3 x4 x5 (ix2 r q) : EReal) = upTo (fun k => (kernelRun0_A.sl.r c arg1 harg1 arg2 harg2 arg3 harg3 arg4 harg4 arg5 harg5 arg6 harg6 x0 x1 x2 x3 x4 x5 (ix2 r k) : EReal)) (fun k => kernelRun0_A.sl.r_2 c arg1 harg1 arg2 harg2 arg3 harg3 arg4 harg4 arg5 harg5 arg6 harg6 arg7 harg7 x0 x1 x2 x3 x4 x5 x6 (ix2 r k)) x7 x8 x9 q 0 :=
  congrFun (cov_whole arg11.view _ _ (kernelRun0_A.sl.r c arg1 harg1 arg2 harg2 arg3 harg3 arg4 harg4 arg5 harg5 arg6 harg6 x0 x1 x2 x3 x4 x5) []) (ix2 r q)

theorem s2 (c : Dev nD) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x1024 .f32) (x0 : S512x1024.Idx → Elt Ideal .f32) (x1 : S512x256.Idx → Elt Ideal .f32) (x2 : S512x256.Idx → Elt Ideal .f32) (x3 : S512x256.Idx → Elt Ideal .f32) (x4 : S512x256.Idx → Elt Ideal .f32) (x5 : S1024x1024.Idx → Elt Ideal .bf16) (x6 : S1x1024.Idx → Elt Ideal .f32) (x7 : S1024x2816.Idx → Elt Ideal .bf16) (x8 : S1024x2816.Idx → Elt Ideal .bf16) (x9 : S2816x1024.Idx → Elt Ideal .bf16) (r : Fin 512) (q : Fin 1024) :
    (kernelRun0_A.sl.v80 c arg1 harg1 arg2 harg2 arg3 harg3 arg4 harg4 arg5 harg5 arg6 harg6 arg7 harg7 arg8 harg8 arg9 harg9 arg10 harg10 arg11 x0 x1 x2 x3 x4 x5 x6 x7 x8 x9 (ix2 r q) : EReal) = upTo (fun k => (kernelRun0_A.sl.r c arg1 harg1 arg2 harg2 arg3 harg3 arg4 harg4 arg5 harg5 arg6 harg6 x0 x1 x2 x3 x4 x5 (ix2 r k) : EReal)) (fun k => kernelRun0_A.sl.r_2 c arg1 harg1 arg2 harg2 arg3 harg3 arg4 harg4 arg5 harg5 arg6 harg6 arg7 harg7 x0 x1 x2 x3 x4 x5 x6 (ix2 r k)) x7 x8 x9 q 1 := by
  rw [upTo_step _ _ _ _ _ _ 0 0 (by omega) (by omega), ← s1 c arg1 harg1 arg2 harg2 arg3 harg3 arg4 harg4 arg5 harg5 arg6 harg6 arg7 harg7 arg8 harg8 arg9 harg9 arg10 harg10 arg11 x0 x1 x2 x3 x4 x5 x6 x7 x8 x9 r q]
  refine (congrFun (cov_whole arg11.view _ _ _ _) (ix2 r q)).trans ?_
  exact chunk_load arg8 harg8 arg9 harg9 arg10 harg10 x7 x8 x9 (kernelRun0_A.sl.r_2 c arg1 harg1 arg2 harg2 arg3 harg3 arg4 harg4 arg5 harg5 arg6 harg6 arg7 harg7 x0 x1 x2 x3 x4 x5 x6) _ 0 (by omega) _ _ r q

theorem s3 (c : Dev nD) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x1024 .f32) (x0 : S512x1024.Idx → Elt Ideal .f32) (x1 : S512x256.Idx → Elt Ideal .f32) (x2 : S512x256.Idx → Elt Ideal .f32) (x3 : S512x256.Idx → Elt Ideal .f32) (x4 : S512x256.Idx → Elt Ideal .f32) (x5 : S1024x1024.Idx → Elt Ideal .bf16) (x6 : S1x1024.Idx → Elt Ideal .f32) (x7 : S1024x2816.Idx → Elt Ideal .bf16) (x8 : S1024x2816.Idx → Elt Ideal .bf16) (x9 : S2816x1024.Idx → Elt Ideal .bf16) (r : Fin 512) (q : Fin 1024) :
    (kernelRun0_A.sl.v103 c arg1 harg1 arg2 harg2 arg3 harg3 arg4 harg4 arg5 harg5 arg6 harg6 arg7 harg7 arg8 harg8 arg9 harg9 arg10 harg10 arg11 x0 x1 x2 x3 x4 x5 x6 x7 x8 x9 (ix2 r q) : EReal) = upTo (fun k => (kernelRun0_A.sl.r c arg1 harg1 arg2 harg2 arg3 harg3 arg4 harg4 arg5 harg5 arg6 harg6 x0 x1 x2 x3 x4 x5 (ix2 r k) : EReal)) (fun k => kernelRun0_A.sl.r_2 c arg1 harg1 arg2 harg2 arg3 harg3 arg4 harg4 arg5 harg5 arg6 harg6 arg7 harg7 x0 x1 x2 x3 x4 x5 x6 (ix2 r k)) x7 x8 x9 q 2 := by
  rw [upTo_step _ _ _ _ _ _ 1 256 (by omega) (by omega), ← s2 c arg1 harg1 arg2 harg2 arg3 harg3 arg4 harg4 arg5 harg5 arg6 harg6 arg7 harg7 arg8 harg8 arg9 harg9 arg10 harg10 arg11 x0 x1 x2 x3 x4 x5 x6 x7 x8 x9 r q]
  refine (congrFun (cov_whole arg11.view _ _ _ _) (ix2 r q)).trans ?_
  exact chunk_load arg8 harg8 arg9 harg9 arg10 harg10 x7 x8 x9 (kernelRun0_A.sl.r_2 c arg1 harg1 arg2 harg2 arg3 harg3 arg4 harg4 arg5 harg5 arg6 harg6 arg7 harg7 x0 x1 x2 x3 x4 x5 x6) _ 256 (by omega) _ _ r q

theorem s4 (c : Dev nD) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x1024 .f32) (x0 : S512x1024.Idx → Elt Ideal .f32) (x1 : S512x256.Idx → Elt Ideal .f32) (x2 : S512x256.Idx → Elt Ideal .f32) (x3 : S512x256.Idx → Elt Ideal .f32) (x4 : S512x256.Idx → Elt Ideal .f32) (x5 : S1024x1024.Idx → Elt Ideal .bf16) (x6 : S1x1024.Idx → Elt Ideal .f32) (x7 : S1024x2816.Idx → Elt Ideal .bf16) (x8 : S1024x2816.Idx → Elt Ideal .bf16) (x9 : S2816x1024.Idx → Elt Ideal .bf16) (r : Fin 512) (q : Fin 1024) :
    (kernelRun0_A.sl.v126 c arg1 harg1 arg2 harg2 arg3 harg3 arg4 harg4 arg5 harg5 arg6 harg6 arg7 harg7 arg8 harg8 arg9 harg9 arg10 harg10 arg11 x0 x1 x2 x3 x4 x5 x6 x7 x8 x9 (ix2 r q) : EReal) = upTo (fun k => (kernelRun0_A.sl.r c arg1 harg1 arg2 harg2 arg3 harg3 arg4 harg4 arg5 harg5 arg6 harg6 x0 x1 x2 x3 x4 x5 (ix2 r k) : EReal)) (fun k => kernelRun0_A.sl.r_2 c arg1 harg1 arg2 harg2 arg3 harg3 arg4 harg4 arg5 harg5 arg6 harg6 arg7 harg7 x0 x1 x2 x3 x4 x5 x6 (ix2 r k)) x7 x8 x9 q 3 := by
  rw [upTo_step _ _ _ _ _ _ 2 512 (by omega) (by omega), ← s3 c arg1 harg1 arg2 harg2 arg3 harg3 arg4 harg4 arg5 harg5 arg6 harg6 arg7 harg7 arg8 harg8 arg9 harg9 arg10 harg10 arg11 x0 x1 x2 x3 x4 x5 x6 x7 x8 x9 r q]
  refine (congrFun (cov_whole arg11.view _ _ _ _) (ix2 r q)).trans ?_
  exact chunk_load arg8 harg8 arg9 harg9 arg10 harg10 x7 x8 x9 (kernelRun0_A.sl.r_2 c arg1 harg1 arg2 harg2 arg3 harg3 arg4 harg4 arg5 harg5 arg6 harg6 arg7 harg7 x0 x1 x2 x3 x4 x5 x6) _ 512 (by omega) _ _ r q

theorem s5 (c : Dev nD) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x1024 .f32) (x0 : S512x1024.Idx → Elt Ideal .f32) (x1 : S512x256.Idx → Elt Ideal .f32) (x2 : S512x256.Idx → Elt Ideal .f32) (x3 : S512x256.Idx → Elt Ideal .f32) (x4 : S512x256.Idx → Elt Ideal .f32) (x5 : S1024x1024.Idx → Elt Ideal .bf16) (x6 : S1x1024.Idx → Elt Ideal .f32) (x7 : S1024x2816.Idx → Elt Ideal .bf16) (x8 : S1024x2816.Idx → Elt Ideal .bf16) (x9 : S2816x1024.Idx → Elt Ideal .bf16) (r : Fin 512) (q : Fin 1024) :
    (kernelRun0_A.sl.v149 c arg1 harg1 arg2 harg2 arg3 harg3 arg4 harg4 arg5 harg5 arg6 harg6 arg7 harg7 arg8 harg8 arg9 harg9 arg10 harg10 arg11 x0 x1 x2 x3 x4 x5 x6 x7 x8 x9 (ix2 r q) : EReal) = upTo (fun k => (kernelRun0_A.sl.r c arg1 harg1 arg2 harg2 arg3 harg3 arg4 harg4 arg5 harg5 arg6 harg6 x0 x1 x2 x3 x4 x5 (ix2 r k) : EReal)) (fun k => kernelRun0_A.sl.r_2 c arg1 harg1 arg2 harg2 arg3 harg3 arg4 harg4 arg5 harg5 arg6 harg6 arg7 harg7 x0 x1 x2 x3 x4 x5 x6 (ix2 r k)) x7 x8 x9 q 4 := by
  rw [upTo_step _ _ _ _ _ _ 3 768 (by omega) (by omega), ← s4 c arg1 harg1 arg2 harg2 arg3 harg3 arg4 harg4 arg5 harg5 arg6 harg6 arg7 harg7 arg8 harg8 arg9 harg9 arg10 harg10 arg11 x0 x1 x2 x3 x4 x5 x6 x7 x8 x9 r q]
  refine (congrFun (cov_whole arg11.view _ _ _ _) (ix2 r q)).trans ?_
  exact chunk_load arg8 harg8 arg9 harg9 arg10 harg10 x7 x8 x9 (kernelRun0_A.sl.r_2 c arg1 harg1 arg2 harg2 arg3 harg3 arg4 harg4 arg5 harg5 arg6 harg6 arg7 harg7 x0 x1 x2 x3 x4 x5 x6) _ 768 (by omega) _ _ r q

theorem s6 (c : Dev nD) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x1024 .f32) (x0 : S512x1024.Idx → Elt Ideal .f32) (x1 : S512x256.Idx → Elt Ideal .f32) (x2 : S512x256.Idx → Elt Ideal .f32) (x3 : S512x256.Idx → Elt Ideal .f32) (x4 : S512x256.Idx → Elt Ideal .f32) (x5 : S1024x1024.Idx → Elt Ideal .bf16) (x6 : S1x1024.Idx → Elt Ideal .f32) (x7 : S1024x2816.Idx → Elt Ideal .bf16) (x8 : S1024x2816.Idx → Elt Ideal .bf16) (x9 : S2816x1024.Idx → Elt Ideal .bf16) (r : Fin 512) (q : Fin 1024) :
    (kernelRun0_A.sl.v172 c arg1 harg1 arg2 harg2 arg3 harg3 arg4 harg4 arg5 harg5 arg6 harg6 arg7 harg7 arg8 harg8 arg9 harg9 arg10 harg10 arg11 x0 x1 x2 x3 x4 x5 x6 x7 x8 x9 (ix2 r q) : EReal) = upTo (fun k => (kernelRun0_A.sl.r c arg1 harg1 arg2 harg2 arg3 harg3 arg4 harg4 arg5 harg5 arg6 harg6 x0 x1 x2 x3 x4 x5 (ix2 r k) : EReal)) (fun k => kernelRun0_A.sl.r_2 c arg1 harg1 arg2 harg2 arg3 harg3 arg4 harg4 arg5 harg5 arg6 harg6 arg7 harg7 x0 x1 x2 x3 x4 x5 x6 (ix2 r k)) x7 x8 x9 q 5 := by
  rw [upTo_step _ _ _ _ _ _ 4 1024 (by omega) (by omega), ← s5 c arg1 harg1 arg2 harg2 arg3 harg3 arg4 harg4 arg5 harg5 arg6 harg6 arg7 harg7 arg8 harg8 arg9 harg9 arg10 harg10 arg11 x0 x1 x2 x3 x4 x5 x6 x7 x8 x9 r q]
  refine (congrFun (cov_whole arg11.view _ _ _ _) (ix2 r q)).trans ?_
  exact chunk_load arg8 harg8 arg9 harg9 arg10 harg10 x7 x8 x9 (kernelRun0_A.sl.r_2 c arg1 harg1 arg2 harg2 arg3 harg3 arg4 harg4 arg5 harg5 arg6 harg6 arg7 harg7 x0 x1 x2 x3 x4 x5 x6) _ 1024 (by omega) _ _ r q

theorem s7 (c : Dev nD) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x1024 .f32) (x0 : S512x1024.Idx → Elt Ideal .f32) (x1 : S512x256.Idx → Elt Ideal .f32) (x2 : S512x256.Idx → Elt Ideal .f32) (x3 : S512x256.Idx → Elt Ideal .f32) (x4 : S512x256.Idx → Elt Ideal .f32) (x5 : S1024x1024.Idx → Elt Ideal .bf16) (x6 : S1x1024.Idx → Elt Ideal .f32) (x7 : S1024x2816.Idx → Elt Ideal .bf16) (x8 : S1024x2816.Idx → Elt Ideal .bf16) (x9 : S2816x1024.Idx → Elt Ideal .bf16) (r : Fin 512) (q : Fin 1024) :
    (kernelRun0_A.sl.v195 c arg1 harg1 arg2 harg2 arg3 harg3 arg4 harg4 arg5 harg5 arg6 harg6 arg7 harg7 arg8 harg8 arg9 harg9 arg10 harg10 arg11 x0 x1 x2 x3 x4 x5 x6 x7 x8 x9 (ix2 r q) : EReal) = upTo (fun k => (kernelRun0_A.sl.r c arg1 harg1 arg2 harg2 arg3 harg3 arg4 harg4 arg5 harg5 arg6 harg6 x0 x1 x2 x3 x4 x5 (ix2 r k) : EReal)) (fun k => kernelRun0_A.sl.r_2 c arg1 harg1 arg2 harg2 arg3 harg3 arg4 harg4 arg5 harg5 arg6 harg6 arg7 harg7 x0 x1 x2 x3 x4 x5 x6 (ix2 r k)) x7 x8 x9 q 6 := by
  rw [upTo_step _ _ _ _ _ _ 5 1280 (by omega) (by omega), ← s6 c arg1 harg1 arg2 harg2 arg3 harg3 arg4 harg4 arg5 harg5 arg6 harg6 arg7 harg7 arg8 harg8 arg9 harg9 arg10 harg10 arg11 x0 x1 x2 x3 x4 x5 x6 x7 x8 x9 r q]
  refine (congrFun (cov_whole arg11.view _ _ _ _) (ix2 r q)).trans ?_
  exact chunk_load arg8 harg8 arg9 harg9 arg10 harg10 x7 x8 x9 (kernelRun0_A.sl.r_2 c arg1 harg1 arg2 harg2 arg3 harg3 arg4 harg4 arg5 harg5 arg6 harg6 arg7 harg7 x0 x1 x2 x3 x4 x5 x6) _ 1280 (by omega) _ _ r q

theorem s8 (c : Dev nD) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x1024 .f32) (x0 : S512x1024.Idx → Elt Ideal .f32) (x1 : S512x256.Idx → Elt Ideal .f32) (x2 : S512x256.Idx → Elt Ideal .f32) (x3 : S512x256.Idx → Elt Ideal .f32) (x4 : S512x256.Idx → Elt Ideal .f32) (x5 : S1024x1024.Idx → Elt Ideal .bf16) (x6 : S1x1024.Idx → Elt Ideal .f32) (x7 : S1024x2816.Idx → Elt Ideal .bf16) (x8 : S1024x2816.Idx → Elt Ideal .bf16) (x9 : S2816x1024.Idx → Elt Ideal .bf16) (r : Fin 512) (q : Fin 1024) :
    (kernelRun0_A.sl.v218 c arg1 harg1 arg2 harg2 arg3 harg3 arg4 harg4 arg5 harg5 arg6 harg6 arg7 harg7 arg8 harg8 arg9 harg9 arg10 harg10 arg11 x0 x1 x2 x3 x4 x5 x6 x7 x8 x9 (ix2 r q) : EReal) = upTo (fun k => (kernelRun0_A.sl.r c arg1 harg1 arg2 harg2 arg3 harg3 arg4 harg4 arg5 harg5 arg6 harg6 x0 x1 x2 x3 x4 x5 (ix2 r k) : EReal)) (fun k => kernelRun0_A.sl.r_2 c arg1 harg1 arg2 harg2 arg3 harg3 arg4 harg4 arg5 harg5 arg6 harg6 arg7 harg7 x0 x1 x2 x3 x4 x5 x6 (ix2 r k)) x7 x8 x9 q 7 := by
  rw [upTo_step _ _ _ _ _ _ 6 1536 (by omega) (by omega), ← s7 c arg1 harg1 arg2 harg2 arg3 harg3 arg4 harg4 arg5 harg5 arg6 harg6 arg7 harg7 arg8 harg8 arg9 harg9 arg10 harg10 arg11 x0 x1 x2 x3 x4 x5 x6 x7 x8 x9 r q]
  refine (congrFun (cov_whole arg11.view _ _ _ _) (ix2 r q)).trans ?_
  exact chunk_load arg8 harg8 arg9 harg9 arg10 harg10 x7 x8 x9 (kernelRun0_A.sl.r_2 c arg1 harg1 arg2 harg2 arg3 harg3 arg4 harg4 arg5 harg5 arg6 harg6 arg7 harg7 x0 x1 x2 x3 x4 x5 x6) _ 1536 (by omega) _ _ r q

theorem s9 (c : Dev nD) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x1024 .f32) (x0 : S512x1024.Idx → Elt Ideal .f32) (x1 : S512x256.Idx → Elt Ideal .f32) (x2 : S512x256.Idx → Elt Ideal .f32) (x3 : S512x256.Idx → Elt Ideal .f32) (x4 : S512x256.Idx → Elt Ideal .f32) (x5 : S1024x1024.Idx → Elt Ideal .bf16) (x6 : S1x1024.Idx → Elt Ideal .f32) (x7 : S1024x2816.Idx → Elt Ideal .bf16) (x8 : S1024x2816.Idx → Elt Ideal .bf16) (x9 : S2816x1024.Idx → Elt Ideal .bf16) (r : Fin 512) (q : Fin 1024) :
    (kernelRun0_A.sl.v241 c arg1 harg1 arg2 harg2 arg3 harg3 arg4 harg4 arg5 harg5 arg6 harg6 arg7 harg7 arg8 harg8 arg9 harg9 arg10 harg10 arg11 x0 x1 x2 x3 x4 x5 x6 x7 x8 x9 (ix2 r q) : EReal) = upTo (fun k => (kernelRun0_A.sl.r c arg1 harg1 arg2 harg2 arg3 harg3 arg4 harg4 arg5 harg5 arg6 harg6 x0 x1 x2 x3 x4 x5 (ix2 r k) : EReal)) (fun k => kernelRun0_A.sl.r_2 c arg1 harg1 arg2 harg2 arg3 harg3 arg4 harg4 arg5 harg5 arg6 harg6 arg7 harg7 x0 x1 x2 x3 x4 x5 x6 (ix2 r k)) x7 x8 x9 q 8 := by
  rw [upTo_step _ _ _ _ _ _ 7 1792 (by omega) (by omega), ← s8 c arg1 harg1 arg2 harg2 arg3 harg3 arg4 harg4 arg5 harg5 arg6 harg6 arg7 harg7 arg8 harg8 arg9 harg9 arg10 harg10 arg11 x0 x1 x2 x3 x4 x5 x6 x7 x8 x9 r q]
  refine (congrFun (cov_whole arg11.view _ _ _ _) (ix2 r q)).trans ?_
  exact chunk_load arg8 harg8 arg9 harg9 arg10 harg10 x7 x8 x9 (kernelRun0_A.sl.r_2 c arg1 harg1 arg2 harg2 arg3 harg3 arg4 harg4 arg5 harg5 arg6 harg6 arg7 harg7 x0 x1 x2 x3 x4 x5 x6) _ 1792 (by omega) _ _ r q

theorem s10 (c : Dev nD) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x1024 .f32) (x0 : S512x1024.Idx → Elt Ideal .f32) (x1 : S512x256.Idx → Elt Ideal .f32) (x2 : S512x256.Idx → Elt Ideal .f32) (x3 : S512x256.Idx → Elt Ideal .f32) (x4 : S512x256.Idx → Elt Ideal .f32) (x5 : S1024x1024.Idx → Elt Ideal .bf16) (x6 : S1x1024.Idx → Elt Ideal .f32) (x7 : S1024x2816.Idx → Elt Ideal .bf16) (x8 : S1024x2816.Idx → Elt Ideal .bf16) (x9 : S2816x1024.Idx → Elt Ideal .bf16) (r : Fin 512) (q : Fin 1024) :
    (kernelRun0_A.sl.v264 c arg1 harg1 arg2 harg2 arg3 harg3 arg4 harg4 arg5 harg5 arg6 harg6 arg7 harg7 arg8 harg8 arg9 harg9 arg10 harg10 arg11 x0 x1 x2 x3 x4 x5 x6 x7 x8 x9 (ix2 r q) : EReal) = upTo (fun k => (kernelRun0_A.sl.r c arg1 harg1 arg2 harg2 arg3 harg3 arg4 harg4 arg5 harg5 arg6 harg6 x0 x1 x2 x3 x4 x5 (ix2 r k) : EReal)) (fun k => kernelRun0_A.sl.r_2 c arg1 harg1 arg2 harg2 arg3 harg3 arg4 harg4 arg5 harg5 arg6 harg6 arg7 harg7 x0 x1 x2 x3 x4 x5 x6 (ix2 r k)) x7 x8 x9 q 9 := by
  rw [upTo_step _ _ _ _ _ _ 8 2048 (by omega) (by omega), ← s9 c arg1 harg1 arg2 harg2 arg3 harg3 arg4 harg4 arg5 harg5 arg6 harg6 arg7 harg7 arg8 harg8 arg9 harg9 arg10 harg10 arg11 x0 x1 x2 x3 x4 x5 x6 x7 x8 x9 r q]
  refine (congrFun (cov_whole arg11.view _ _ _ _) (ix2 r q)).trans ?_
  exact chunk_load arg8 harg8 arg9 harg9 arg10 harg10 x7 x8 x9 (kernelRun0_A.sl.r_2 c arg1 harg1 arg2 harg2 arg3 harg3 arg4 harg4 arg5 harg5 arg6 harg6 arg7 harg7 x0 x1 x2 x3 x4 x5 x6) _ 2048 (by omega) _ _ r q

theorem s11 (c : Dev nD) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x1024 .f32) (x0 : S512x1024.Idx → Elt Ideal .f32) (x1 : S512x256.Idx → Elt Ideal .f32) (x2 : S512x256.Idx → Elt Ideal .f32) (x3 : S512x256.Idx → Elt Ideal .f32) (x4 : S512x256.Idx → Elt Ideal .f32) (x5 : S1024x1024.Idx → Elt Ideal .bf16) (x6 : S1x1024.Idx → Elt Ideal .f32) (x7 : S1024x2816.Idx → Elt Ideal .bf16) (x8 : S1024x2816.Idx → Elt Ideal .bf16) (x9 : S2816x1024.Idx → Elt Ideal .bf16) (r : Fin 512) (q : Fin 1024) :
    (kernelRun0_A.sl.v287 c arg1 harg1 arg2 harg2 arg3 harg3 arg4 harg4 arg5 harg5 arg6 harg6 arg7 harg7 arg8 harg8 arg9 harg9 arg10 harg10 arg11 x0 x1 x2 x3 x4 x5 x6 x7 x8 x9 (ix2 r q) : EReal) = upTo (fun k => (kernelRun0_A.sl.r c arg1 harg1 arg2 harg2 arg3 harg3 arg4 harg4 arg5 harg5 arg6 harg6 x0 x1 x2 x3 x4 x5 (ix2 r k) : EReal)) (fun k => kernelRun0_A.sl.r_2 c arg1 harg1 arg2 harg2 arg3 harg3 arg4 harg4 arg5 harg5 arg6 harg6 arg7 harg7 x0 x1 x2 x3 x4 x5 x6 (ix2 r k)) x7 x8 x9 q 10 := by
  rw [upTo_step _ _ _ _ _ _ 9 2304 (by omega) (by omega), ← s10 c arg1 harg1 arg2 harg2 arg3 harg3 arg4 harg4 arg5 harg5 arg6 harg6 arg7 harg7 arg8 harg8 arg9 harg9 arg10 harg10 arg11 x0 x1 x2 x3 x4 x5 x6 x7 x8 x9 r q]
  refine (congrFun (cov_whole arg11.view _ _ _ _) (ix2 r q)).trans ?_
  exact chunk_load arg8 harg8 arg9 harg9 arg10 harg10 x7 x8 x9 (kernelRun0_A.sl.r_2 c arg1 harg1 arg2 harg2 arg3 harg3 arg4 harg4 arg5 harg5 arg6 harg6 arg7 harg7 x0 x1 x2 x3 x4 x5 x6) _ 2304 (by omega) _ _ r q

theorem block (i : grid0.Coords) (c : Dev nD) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x1024 .f32) (x0 : S512x1024.Idx → Elt Ideal .f32) (x1 : S512x256.Idx → Elt Ideal .f32) (x2 : S512x256.Idx → Elt Ideal .f32) (x3 : S512x256.Idx → Elt Ideal .f32) (x4 : S512x256.Idx → Elt Ideal .f32) (x5 : S1024x1024.Idx → Elt Ideal .bf16) (x6 : S1x1024.Idx → Elt Ideal .f32) (x7 : S1024x2816.Idx → Elt Ideal .bf16) (x8 : S1024x2816.Idx → Elt Ideal .bf16) (x9 : S2816x1024.Idx → Elt Ideal .bf16) (harg11 : arg11.IsWhole) (r : Fin 512) (q : Fin 1024) :
    (View.canon (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 x9).1 (ix2 r q) : EReal) = upTo (fun k => (kernelRun0_A.sl.r c arg1 harg1 arg2 harg2 arg3 harg3 arg4 harg4 arg5 harg5 arg6 harg6 x0 x1 x2 x3 x4 x5 (ix2 r k) : EReal)) (fun k => kernelRun0_A.sl.r_2 c arg1 harg1 arg2 harg2 arg3 harg3 arg4 harg4 arg5 harg5 arg6 harg6 arg7 harg7 x0 x1 x2 x3 x4 x5 x6 (ix2 r k)) x7 x8 x9 q 11 := by
  rw [upTo_step _ _ _ _ _ _ 10 2560 (by omega) (by omega), ← s11 c arg1 harg1 arg2 harg2 arg3 harg3 arg4 harg4 arg5 harg5 arg6 harg6 arg7 harg7 arg8 harg8 arg9 harg9 arg10 harg10 arg11 x0 x1 x2 x3 x4 x5 x6 x7 x8 x9 r q]
  refine (congrFun (canon_whole _ _ _) (ix2 r q)).trans ?_
  exact chunk_load arg8 harg8 arg9 harg9 arg10 harg10 x7 x8 x9 (kernelRun0_A.sl.r_2 c arg1 harg1 arg2 harg2 arg3 harg3 arg4 harg4 arg5 harg5 arg6 harg6 arg7 harg7 x0 x1 x2 x3 x4 x5 x6) _ 2560 (by omega) _ _ r q

end Cert.FfnIdeal.Row

end
-- ==== Proof.FfnValue.lean ====
/- The output projection and the feed-forward: the kernel's result array as one function of the argument arrays. -/
module

public import proofs.«01_k».proof.Proof.FfnBlock

@[expose] public section

set_option maxRecDepth 16384

noncomputable section

namespace Cert.FfnIdeal.Row

open Cert.FfnIdeal Cert.FfnIdeal.Gen
open Idealize.ShloMosaic Idealize.ShloMosaic.TcCoe Idealize.SL.Sem

/-- Four rows of 256 side by side. -/
def mixRow (a b c d : Fin 256 → EReal) (k : Fin 1024) : EReal :=
  if h : k.val < 256 then a ⟨k, h⟩ else if h : k.val - 256 < 256 then b ⟨k - 256, h⟩ else if h : k.val - 256 - 256 < 256 then c ⟨k - 256 - 256, h⟩
    else d ⟨k - 256 - 256 - 256, by omega⟩

/-- The row after the output projection. -/
def x1Row (x : Fin 1024 → EReal) (a b c d : Fin 256 → EReal) (wo : S1024x1024.Idx → EReal) (q : Fin 1024) : EReal :=
  x q + ∑ k : Fin 1024, mixRow a b c d k * wo (ix2 k q)

/-- A row over its root mean square, times the gains. -/
def normRow (x : Fin 1024 → EReal) (g : Fin 1024 → EReal) (k : Fin 1024) : EReal := x k * scale x * g k

/-- The row after the feed-forward. -/
def ffnRow (x1 : Fin 1024 → EReal) (g : Fin 1024 → EReal) (wg wu : S1024x2816.Idx → EReal) (wd : S2816x1024.Idx → EReal) (q : Fin 1024) : EReal :=
  x1 q + ∑ f : Fin 2816, hidTerm (normRow x1 g) wg wu wd q f

theorem mix_sum (a b c d : Fin 256 → EReal) (w : Fin 1024 → EReal) :
    ∑ k : Fin 1024, mixRow a b c d k * w k
      = (∑ j : Fin 256, a j * w ⟨0 + j, by omega⟩) + (∑ j : Fin 256, b j * w ⟨256 + j, by omega⟩) + (∑ j : Fin 256, c j * w ⟨512 + j, by omega⟩) + (∑ j : Fin 256, d j * w ⟨768 + j, by omega⟩) := by
  rw [← Fin.sum_mul_add_congr (S := 4) (n := 256) (L := 1024) (F := fun s k => mixRow a b c d ⟨s.val * 256 + k.val, by omega⟩ * w ⟨s.val * 256 + k.val, by omega⟩) (f := fun k => mixRow a b c d k * w k) (fun s k hl => rfl)]
  rw [Fin.sum_univ_four]
  refine congrArg₂ (· + ·) (congrArg₂ (· + ·) (congrArg₂ (· + ·) ?_ ?_) ?_) ?_
  · refine Finset.sum_congr rfl fun j _ => congrArg₂ (· * ·) ?_ (congrArg w (Fin.ext (by simp)))
    have hj := j.isLt
    unfold mixRow
    rw [dif_pos (by simp)]
    exact congrArg a (Fin.ext (by simp))
  · refine Finset.sum_congr rfl fun j _ => congrArg₂ (· * ·) ?_ (congrArg w (Fin.ext (by simp)))
    have hj := j.isLt
    unfold mixRow
    rw [dif_neg (by simp), dif_pos (by simp)]
    exact congrArg b (Fin.ext (by simp))
  · refine Finset.sum_congr rfl fun j _ => congrArg₂ (· * ·) ?_ (congrArg w (Fin.ext (by simp)))
    have hj := j.isLt
    unfold mixRow
    rw [dif_neg (by simp; omega), dif_neg (by simp; omega), dif_pos (by simp; omega)]
    exact congrArg c (Fin.ext (by simp; omega))
  · refine Finset.sum_congr rfl fun j _ => congrArg₂ (· * ·) ?_ (congrArg w (Fin.ext (by simp)))
    have hj := j.isLt
    unfold mixRow
    rw [dif_neg (by simp; omega), dif_neg (by simp; omega), dif_neg (by simp; omega)]
    exact congrArg d (Fin.ext (by simp; omega))

theorem load_w (arg6 : Memref sig .tc .vmem S1024x1024 .bf16) (harg6 : arg6.IsWhole) (x5 : S1024x1024.Idx → Elt Ideal .bf16) (a : ℕ) (ha : a + 256 ≤ 1024)
    (i : ∀ ax : Fin 2, ![a, 0] ax + ![256, 1024] ax ≤ ![1024, 1024] ax) (j : Fin 256) (q : Fin 1024) :
    View.readAt (Elt Ideal) arg6.view (Rect.unit (s := S1024x1024) ![a, 0] S256x1024.size i).toLoadRect (harg6.unread x5) (ix2 j q) = x5 (ix2 (⟨a + j, by omega⟩ : Fin 1024) q) :=
  (load2_at arg6 harg6 x5 a 0 i j q (by omega) (by omega)).trans (congrArg (fun z : Fin 1024 => x5 (ix2 (⟨a + j, by omega⟩ : Fin 1024) z)) (Fin.ext (by simp)))

theorem x1_row (c : Dev nD) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x1024 .f32) (x0 : S512x1024.Idx → Elt Ideal .f32) (x1 : S512x256.Idx → Elt Ideal .f32) (x2 : S512x256.Idx → Elt Ideal .f32) (x3 : S512x256.Idx → Elt Ideal .f32) (x4 : S512x256.Idx → Elt Ideal .f32) (x5 : S1024x1024.Idx → Elt Ideal .bf16) (x6 : S1x1024.Idx → Elt Ideal .f32) (x7 : S1024x2816.Idx → Elt Ideal .bf16) (x8 : S1024x2816.Idx → Elt Ideal .bf16) (x9 : S2816x1024.Idx → Elt Ideal .bf16) (r : Fin 512) (q : Fin 1024) :
    (kernelRun0_A.sl.r c arg1 harg1 arg2 harg2 arg3 harg3 arg4 harg4 arg5 harg5 arg6 harg6 x0 x1 x2 x3 x4 x5 (ix2 r q) : EReal) = x1Row (fun k => x0 (ix2 r k)) (fun j => x1 (ix2 r j)) (fun j => x2 (ix2 r j)) (fun j => x3 (ix2 r j)) (fun j => x4 (ix2 r j)) x5 q := by
  unfold x1Row
  rw [mix_sum _ _ _ _ (fun k => x5 (ix2 k q)), ← add_assoc, ← add_assoc, ← add_assoc]
  refine (x1_at _ _ _ _ _ _ _ _ _ r q).trans ?_
  rw [load2_zero arg1 harg1 x0, load2_zero arg2 harg2 x1, load2_zero arg3 harg3 x2, load2_zero arg4 harg4 x3, load2_zero arg5 harg5 x4]
  refine congrArg₂ (· + ·) (congrArg₂ (· + ·) (congrArg₂ (· + ·) (congrArg₂ (· + ·) rfl ?_) ?_) ?_) ?_
  · exact Finset.sum_congr rfl fun j _ => congrArg (x1 (ix2 r j) * ·) (load_w arg6 harg6 x5 0 (by omega) _ j q)
  · exact Finset.sum_congr rfl fun j _ => congrArg (x2 (ix2 r j) * ·) (load_w arg6 harg6 x5 256 (by omega) _ j q)
  · exact Finset.sum_congr rfl fun j _ => congrArg (x3 (ix2 r j) * ·) (load_w arg6 harg6 x5 512 (by omega) _ j q)
  · exact Finset.sum_congr rfl fun j _ => congrArg (x4 (ix2 r j) * ·) (load_w arg6 harg6 x5 768 (by omega) _ j q)

theorem h_row (c : Dev nD) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x1024 .f32) (x0 : S512x1024.Idx → Elt Ideal .f32) (x1 : S512x256.Idx → Elt Ideal .f32) (x2 : S512x256.Idx → Elt Ideal .f32) (x3 : S512x256.Idx → Elt Ideal .f32) (x4 : S512x256.Idx → Elt Ideal .f32) (x5 : S1024x1024.Idx → Elt Ideal .bf16) (x6 : S1x1024.Idx → Elt Ideal .f32) (x7 : S1024x2816.Idx → Elt Ideal .bf16) (x8 : S1024x2816.Idx → Elt Ideal .bf16) (x9 : S2816x1024.Idx → Elt Ideal .bf16) (r : Fin 512) (k : Fin 1024) :
    (kernelRun0_A.sl.r_2 c arg1 harg1 arg2 harg2 arg3 harg3 arg4 harg4 arg5 harg5 arg6 harg6 arg7 harg7 x0 x1 x2 x3 x4 x5 x6 (ix2 r k) : EReal) = normRow (x1Row (fun k => x0 (ix2 r k)) (fun j => x1 (ix2 r j)) (fun j => x2 (ix2 r j)) (fun j => x3 (ix2 r j)) (fun j => x4 (ix2 r j)) x5) (fun k => x6 (ix2 0 k)) k := by
  refine (norm_at _ _ _ r k).trans ?_
  rw [load2_zero arg7 harg7 x6]
  refine congrArg (· * x6 (ix2 0 k)) (congrArg₂ (· * ·) (x1_row c arg1 harg1 arg2 harg2 arg3 harg3 arg4 harg4 arg5 harg5 arg6 harg6 arg7 harg7 arg8 harg8 arg9 harg9 arg10 harg10 arg11 x0 x1 x2 x3 x4 x5 x6 x7 x8 x9 r k) ?_)
  refine (scale_at _ _ _ _ _ _ _ _ _ r k).trans (congrArg scale (funext fun k => x1_row c arg1 harg1 arg2 harg2 arg3 harg3 arg4 harg4 arg5 harg5 arg6 harg6 arg7 harg7 arg8 harg8 arg9 harg9 arg10 harg10 arg11 x0 x1 x2 x3 x4 x5 x6 x7 x8 x9 r k))

theorem block_row (i : grid0.Coords) (c : Dev nD) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x1024 .f32) (x0 : S512x1024.Idx → Elt Ideal .f32) (x1 : S512x256.Idx → Elt Ideal .f32) (x2 : S512x256.Idx → Elt Ideal .f32) (x3 : S512x256.Idx → Elt Ideal .f32) (x4 : S512x256.Idx → Elt Ideal .f32) (x5 : S1024x1024.Idx → Elt Ideal .bf16) (x6 : S1x1024.Idx → Elt Ideal .f32) (x7 : S1024x2816.Idx → Elt Ideal .bf16) (x8 : S1024x2816.Idx → Elt Ideal .bf16) (x9 : S2816x1024.Idx → Elt Ideal .bf16) (harg11 : arg11.IsWhole) (r : Fin 512) (q : Fin 1024) :
    (View.canon (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 x9).1 (ix2 r q) : EReal)
      = ffnRow (x1Row (fun k => x0 (ix2 r k)) (fun j => x1 (ix2 r j)) (fun j => x2 (ix2 r j)) (fun j => x3 (ix2 r j)) (fun j => x4 (ix2 r j)) x5) (fun k => x6 (ix2 0 k)) x7 x8 x9 q := by
  rw [block, upTo_all, x1_row c arg1 harg1 arg2 harg2 arg3 harg3 arg4 harg4 arg5 harg5 arg6 harg6 arg7 harg7 arg8 harg8 arg9 harg9 arg10 harg10 arg11 x0 x1 x2 x3 x4 x5 x6 x7 x8 x9 r q]
  rw [show (fun k => (kernelRun0_A.sl.r_2 c arg1 harg1 arg2 harg2 arg3 harg3 arg4 harg4 arg5 harg5 arg6 harg6 arg7 harg7 x0 x1 x2 x3 x4 x5 x6 (ix2 r k) : EReal)) = normRow (x1Row (fun k => x0 (ix2 r k)) (fun j => x1 (ix2 r j)) (fun j => x2 (ix2 r j)) (fun j => x3 (ix2 r j)) (fun j => x4 (ix2 r j)) x5) (fun k => x6 (ix2 0 k)) from funext fun k => h_row c arg1 harg1 arg2 harg2 arg3 harg3 arg4 harg4 arg5 harg5 arg6 harg6 arg7 harg7 arg8 harg8 arg9 harg9 arg10 harg10 arg11 x0 x1 x2 x3 x4 x5 x6 x7 x8 x9 r k]
  rfl

theorem out_row (i : grid0.Coords) (c : Dev nD) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S512x1024 .f32) (x0 : S512x1024.Idx → Elt Ideal .f32) (x1 : S512x256.Idx → Elt Ideal .f32) (x2 : S512x256.Idx → Elt Ideal .f32) (x3 : S512x256.Idx → Elt Ideal .f32) (x4 : S512x256.Idx → Elt Ideal .f32) (x5 : S1024x1024.Idx → Elt Ideal .bf16) (x6 : S1x1024.Idx → Elt Ideal .f32) (x7 : S1024x2816.Idx → Elt Ideal .bf16) (x8 : S1024x2816.Idx → Elt Ideal .bf16) (x9 : S2816x1024.Idx → Elt Ideal .bf16) (harg11 : arg11.IsWhole) (r : Fin 512) (q : Fin 1024) :
    (out0_A_10 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 x9 (ix2 r q) : EReal)
      = ffnRow (x1Row (fun k => x0 (ix2 r k)) (fun j => x1 (ix2 r j)) (fun j => x2 (ix2 r j)) (fun j => x3 (ix2 r j)) (fun j => x4 (ix2 r j)) x5) (fun k => x6 (ix2 0 k)) x7 x8 x9 q :=
  (congrFun (View.read_writes_junk_eq_canon VO0_10 _) (ix2 r q)).trans (block_row i c arg1 harg1 arg2 harg2 arg3 harg3 arg4 harg4 arg5 harg5 arg6 harg6 arg7 harg7 arg8 harg8 arg9 harg9 arg10 harg10 arg11 x0 x1 x2 x3 x4 x5 x6 x7 x8 x9 harg11 r q)

theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![0, 0] ∧ win0_6.index t = ![0, 0] ∧ win0_7.index t = ![0, 0] ∧ win0_8.index t = ![0, 0] ∧ win0_9.index t = ![0, 0] ∧ win0_10.index t = ![t.val, 0] ∧ t.val < 32 :=
  (by decide +kernel : ∀ t : Fin grid0.N, _)

variable (m : (ℓ : Loc nD τ sig) → Buf (Elt Ideal) ℓ)

theorem b0 (c : Dev nD) (t : Fin cfg0.N) (h : t.val < 32) (r : Fin 512) (k : Fin 1024) :
    iblk m c 0 t (ix2 r k) = m ((c.tc : Thread nD τ).loc main_arg0) (ix2 (⟨512 * t.val + r, by omega⟩ : Fin 16384) k) := by
  blk_ext! [iblk, V, idx t]

theorem b1 (c : Dev nD) (t : Fin cfg0.N) (h : t.val < 32) (r : Fin 512) (k : Fin 256) :
    iblk m c 1 t (ix2 r k) = m ((c.tc : Thread nD τ).loc main_arg1) (ix2 (⟨512 * t.val + r, by omega⟩ : Fin 16384) k) := by
  blk_ext! [iblk, V, idx t]

theorem b2 (c : Dev nD) (t : Fin cfg0.N) (h : t.val < 32) (r : Fin 512) (k : Fin 256) :
    iblk m c 2 t (ix2 r k) = m ((c.tc : Thread nD τ).loc main_arg2) (ix2 (⟨512 * t.val + r, by omega⟩ : Fin 16384) k) := by
  blk_ext! [iblk, V, idx t]

theorem b3 (c : Dev nD) (t : Fin cfg0.N) (h : t.val < 32) (r : Fin 512) (k : Fin 256) :
    iblk m c 3 t (ix2 r k) = m ((c.tc : Thread nD τ).loc main_arg3) (ix2 (⟨512 * t.val + r, by omega⟩ : Fin 16384) k) := by
  blk_ext! [iblk, V, idx t]

theorem b4 (c : Dev nD) (t : Fin cfg0.N) (h : t.val < 32) (r : Fin 512) (k : Fin 256) :
    iblk m c 4 t (ix2 r k) = m ((c.tc : Thread nD τ).loc main_arg4) (ix2 (⟨512 * t.val + r, by omega⟩ : Fin 16384) k) := by
  blk_ext! [iblk, V, idx t]

theorem b5 (c : Dev nD) (t : Fin cfg0.N) (p : Fin 1024) (q : Fin 1024) :
    iblk m c 5 t (ix2 p q) = m ((c.tc : Thread nD τ).loc main_arg5) (ix2 p q) := by
  blk_ext! [iblk, V, idx t]

theorem b7 (c : Dev nD) (t : Fin cfg0.N) (p : Fin 1024) (q : Fin 2816) :
    iblk m c 7 t (ix2 p q) = m ((c.tc : Thread nD τ).loc main_arg7) (ix2 p q) := by
  blk_ext! [iblk, V, idx t]

theorem b8 (c : Dev nD) (t : Fin cfg0.N) (p : Fin 1024) (q : Fin 2816) :
    iblk m c 8 t (ix2 p q) = m ((c.tc : Thread nD τ).loc main_arg8) (ix2 p q) := by
  blk_ext! [iblk, V, idx t]

theorem b9 (c : Dev nD) (t : Fin cfg0.N) (p : Fin 2816) (q : Fin 1024) :
    iblk m c 9 t (ix2 p q) = m ((c.tc : Thread nD τ).loc main_arg9) (ix2 p q) := by
  blk_ext! [iblk, V, idx t]

theorem b6 (c : Dev nD) (t : Fin cfg0.N) (q : Fin 1024) :
    iblk m c 6 t (ix2 0 q) = m ((c.tc : Thread nD τ).loc main_arg6) (ix1 q) := by
  blk_ext! [iblk, V, idx t]

end Cert.FfnIdeal.Row

end
-- ==== Proof.ProjPack.lean ====
/- The input projection: the packed weights the kernel is handed. -/
module

public import proofs.«01_k».proof.Proof.Gen.ProjIdeal.Frame
public import Idealize.ShloMosaic.Lib.Pointwise
public import Idealize.ShloMosaic.Lib.Pipeline.ValueKit

@[expose] public section

set_option maxRecDepth 16384

noncomputable section

namespace Cert.ProjIdeal.Row

open Cert.ProjIdeal Cert.ProjIdeal.Gen
open Idealize.ShloMosaic Idealize.ShloMosaic.TcCoe Idealize.SL.Sem

/-- The rows of the wide heads and of the first narrow ones, in the packed order. -/
def headPk (T : FVec Ideal S3604x1024 .f32) : FVec Ideal S3600x1024 .f32 :=
  concatenate S3600x1024 0 [⟨S256x1024, (extractStridedSlice S256x1024 ![0, 0] T slices_S3604x1024_S256x1024_0_0 : (⟨S256x1024, .f32⟩ : BufTy).Contents (Elt Ideal))⟩, ⟨S256x1024, (extractStridedSlice S256x1024 ![256, 0] T slices_S3604x1024_S256x1024_256_0 : (⟨S256x1024, .f32⟩ : BufTy).Contents (Elt Ideal))⟩, ⟨S256x1024, (extractStridedSlice S256x1024 ![512, 0] T slices_S3604x1024_S256x1024_512_0 : (⟨S256x1024, .f32⟩ : BufTy).Contents (Elt Ideal))⟩, ⟨S768x1024, (extractStridedSlice S768x1024 ![772, 0] T slices_S3604x1024_S768x1024_772_0 : (⟨S768x1024, .f32⟩ : BufTy).Contents (Elt Ideal))⟩, ⟨S256x1024, (extractStridedSlice S256x1024 ![1548, 0] T slices_S3604x1024_S256x1024_1548_0 : (⟨S256x1024, .f32⟩ : BufTy).Contents (Elt Ideal))⟩, ⟨S256x1024, (extractStridedSlice S256x1024 ![1804, 0] T slices_S3604x1024_S256x1024_1804_0 : (⟨S256x1024, .f32⟩ : BufTy).Contents (Elt Ideal))⟩, ⟨S256x1024, (extractStridedSlice S256x1024 ![2060, 0] T slices_S3604x1024_S256x1024_2060_0 : (⟨S256x1024, .f32⟩ : BufTy).Contents (Elt Ideal))⟩, ⟨S256x1024, (extractStridedSlice S256x1024 ![2316, 0] T slices_S3604x1024_S256x1024_2316_0 : (⟨S256x1024, .f32⟩ : BufTy).Contents (Elt Ideal))⟩, ⟨S256x1024, (extractStridedSlice S256x1024 ![2572, 0] T slices_S3604x1024_S256x1024_2572_0 : (⟨S256x1024, .f32⟩ : BufTy).Contents (Elt Ideal))⟩, ⟨S256x1024, (extractStridedSlice S256x1024 ![2828, 0] T slices_S3604x1024_S256x1024_2828_0 : (⟨S256x1024, .f32⟩ : BufTy).Contents (Elt Ideal))⟩, ⟨S256x1024, (extractStridedSlice S256x1024 ![3084, 0] T slices_S3604x1024_S256x1024_3084_0 : (⟨S256x1024, .f32⟩ : BufTy).Contents (Elt Ideal))⟩, ⟨S256x1024, (extractStridedSlice S256x1024 ![3348, 0] T slices_S3604x1024_S256x1024_3348_0 : (⟨S256x1024, .f32⟩ : BufTy).Contents (Elt Ideal))⟩, ⟨S4x1024, (extractStridedSlice S4x1024 ![768, 0] T slices_S3604x1024_S4x1024_768_0 : (⟨S4x1024, .f32⟩ : BufTy).Contents (Elt Ideal))⟩, ⟨S4x1024, (extractStridedSlice S4x1024 ![1540, 0] T slices_S3604x1024_S4x1024_1540_0 : (⟨S4x1024, .f32⟩ : BufTy).Contents (Elt Ideal))⟩, ⟨S4x1024, (extractStridedSlice S4x1024 ![1544, 0] T slices_S3604x1024_S4x1024_1544_0 : (⟨S4x1024, .f32⟩ : BufTy).Contents (Elt Ideal))⟩, ⟨S4x1024, (extractStridedSlice S4x1024 ![3340, 0] T slices_S3604x1024_S4x1024_3340_0 : (⟨S4x1024, .f32⟩ : BufTy).Contents (Elt Ideal))⟩] concatenates_S256x1024_S256x1024_S256x1024_S768x1024_S256x1024_S256x1024_S256x1024_S256x1024_S256x1024_S256x1024_S256x1024_S256x1024_S4x1024_S4x1024_S4x1024_S4x1024_S3600x1024_d0

/-- The last narrow head and the rows of zeros. -/
def tailPk (T : FVec Ideal S3604x1024 .f32) : FVec Ideal S112x1024 .f32 :=
  concatenate S112x1024 0 [⟨S4x1024, (extractStridedSlice S4x1024 ![3344, 0] T slices_S3604x1024_S4x1024_3344_0 : (⟨S4x1024, .f32⟩ : BufTy).Contents (Elt Ideal))⟩, ⟨S108x1024, (broadcastInDim S108x1024 ![] bcast_S_S108x1024 (constant (F := Ideal) S_ .f32 0x00000000#32) : (⟨S108x1024, .f32⟩ : BufTy).Contents (Elt Ideal))⟩] concatenates_S4x1024_S108x1024_S112x1024_d0

theorem head_0 (T : FVec Ideal S3604x1024 .f32) (n : Fin 3600) (k : Fin 1024) (j : Fin 256) (hn : n.val = 0 + j.val) :
    headPk T (ix2 n k) = T (ix2 (⟨0 + j, by omega⟩ : Fin 3604) k) := by
  unfold headPk
  refine Eq.trans (concatenate_apply_piece (t := S3600x1024) 0 _ _ (ix2 n k) 0 ?_ S256x1024 (extractStridedSlice S256x1024 ![0, 0] T slices_S3604x1024_S256x1024_0_0) ?_ rfl 0 ?_ (ix2 j k) (fun b hb => ?_) ?_) ?_
  · exact (by decide : 0 < 16)
  · rfl
  · simp only [List.take_succ_cons, List.take_zero, List.map_cons, List.map_nil, List.sum_cons, List.sum_nil]
  · fin_cases b
    · exact absurd rfl hb
    · rfl
  · exact hn.symm
  · pointwise

theorem head_1 (T : FVec Ideal S3604x1024 .f32) (n : Fin 3600) (k : Fin 1024) (j : Fin 256) (hn : n.val = 256 + j.val) :
    headPk T (ix2 n k) = T (ix2 (⟨256 + j, by omega⟩ : Fin 3604) k) := by
  unfold headPk
  refine Eq.trans (concatenate_apply_piece (t := S3600x1024) 0 _ _ (ix2 n k) 1 ?_ S256x1024 (extractStridedSlice S256x1024 ![256, 0] T slices_S3604x1024_S256x1024_256_0) ?_ rfl 256 ?_ (ix2 j k) (fun b hb => ?_) ?_) ?_
  · exact (by decide : 1 < 16)
  · rfl
  · simp only [List.take_succ_cons, List.take_zero, List.map_cons, List.map_nil, List.sum_cons, List.sum_nil]
    rfl
  · fin_cases b
    · exact absurd rfl hb
    · rfl
  · exact hn.symm
  · pointwise

theorem head_2 (T : FVec Ideal S3604x1024 .f32) (n : Fin 3600) (k : Fin 1024) (j : Fin 256) (hn : n.val = 512 + j.val) :
    headPk T (ix2 n k) = T (ix2 (⟨512 + j, by omega⟩ : Fin 3604) k) := by
  unfold headPk
  refine Eq.trans (concatenate_apply_piece (t := S3600x1024) 0 _ _ (ix2 n k) 2 ?_ S256x1024 (extractStridedSlice S256x1024 ![512, 0] T slices_S3604x1024_S256x1024_512_0) ?_ rfl 512 ?_ (ix2 j k) (fun b hb => ?_) ?_) ?_
  · exact (by decide : 2 < 16)
  · rfl
  · simp only [List.take_succ_cons, List.take_zero, List.map_cons, List.map_nil, List.sum_cons, List.sum_nil]
    rfl
  · fin_cases b
    · exact absurd rfl hb
    · rfl
  · exact hn.symm
  · pointwise

theorem head_3 (T : FVec Ideal S3604x1024 .f32) (n : Fin 3600) (k : Fin 1024) (j : Fin 768) (hn : n.val = 768 + j.val) :
    headPk T (ix2 n k) = T (ix2 (⟨772 + j, by omega⟩ : Fin 3604) k) := by
  unfold headPk
  refine Eq.trans (concatenate_apply_piece (t := S3600x1024) 0 _ _ (ix2 n k) 3 ?_ S768x1024 (extractStridedSlice S768x1024 ![772, 0] T slices_S3604x1024_S768x1024_772_0) ?_ rfl 768 ?_ (ix2 j k) (fun b hb => ?_) ?_) ?_
  · exact (by decide : 3 < 16)
  · rfl
  · simp only [List.take_succ_cons, List.take_zero, List.map_cons, List.map_nil, List.sum_cons, List.sum_nil]
    rfl
  · fin_cases b
    · exact absurd rfl hb
    · rfl
  · exact hn.symm
  · pointwise

theorem head_4 (T : FVec Ideal S3604x1024 .f32) (n : Fin 3600) (k : Fin 1024) (j : Fin 256) (hn : n.val = 1536 + j.val) :
    headPk T (ix2 n k) = T (ix2 (⟨1548 + j, by omega⟩ : Fin 3604) k) := by
  unfold headPk
  refine Eq.trans (concatenate_apply_piece (t := S3600x1024) 0 _ _ (ix2 n k) 4 ?_ S256x1024 (extractStridedSlice S256x1024 ![1548, 0] T slices_S3604x1024_S256x1024_1548_0) ?_ rfl 1536 ?_ (ix2 j k) (fun b hb => ?_) ?_) ?_
  · exact (by decide : 4 < 16)
  · rfl
  · simp only [List.take_succ_cons, List.take_zero, List.map_cons, List.map_nil, List.sum_cons, List.sum_nil]
    rfl
  · fin_cases b
    · exact absurd rfl hb
    · rfl
  · exact hn.symm
  · pointwise

theorem head_5 (T : FVec Ideal S3604x1024 .f32) (n : Fin 3600) (k : Fin 1024) (j : Fin 256) (hn : n.val = 1792 + j.val) :
    headPk T (ix2 n k) = T (ix2 (⟨1804 + j, by omega⟩ : Fin 3604) k) := by
  unfold headPk
  refine Eq.trans (concatenate_apply_piece (t := S3600x1024) 0 _ _ (ix2 n k) 5 ?_ S256x1024 (extractStridedSlice S256x1024 ![1804, 0] T slices_S3604x1024_S256x1024_1804_0) ?_ rfl 1792 ?_ (ix2 j k) (fun b hb => ?_) ?_) ?_
  · exact (by decide : 5 < 16)
  · rfl
  · simp only [List.take_succ_cons, List.take_zero, List.map_cons, List.map_nil, List.sum_cons, List.sum_nil]
    rfl
  · fin_cases b
    · exact absurd rfl hb
    · rfl
  · exact hn.symm
  · pointwise

theorem head_6 (T : FVec Ideal S3604x1024 .f32) (n : Fin 3600) (k : Fin 1024) (j : Fin 256) (hn : n.val = 2048 + j.val) :
    headPk T (ix2 n k) = T (ix2 (⟨2060 + j, by omega⟩ : Fin 3604) k) := by
  unfold headPk
  refine Eq.trans (concatenate_apply_piece (t := S3600x1024) 0 _ _ (ix2 n k) 6 ?_ S256x1024 (extractStridedSlice S256x1024 ![2060, 0] T slices_S3604x1024_S256x1024_2060_0) ?_ rfl 2048 ?_ (ix2 j k) (fun b hb => ?_) ?_) ?_
  · exact (by decide : 6 < 16)
  · rfl
  · simp only [List.take_succ_cons, List.take_zero, List.map_cons, List.map_nil, List.sum_cons, List.sum_nil]
    rfl
  · fin_cases b
    · exact absurd rfl hb
    · rfl
  · exact hn.symm
  · pointwise

theorem head_7 (T : FVec Ideal S3604x1024 .f32) (n : Fin 3600) (k : Fin 1024) (j : Fin 256) (hn : n.val = 2304 + j.val) :
    headPk T (ix2 n k) = T (ix2 (⟨2316 + j, by omega⟩ : Fin 3604) k) := by
  unfold headPk
  refine Eq.trans (concatenate_apply_piece (t := S3600x1024) 0 _ _ (ix2 n k) 7 ?_ S256x1024 (extractStridedSlice S256x1024 ![2316, 0] T slices_S3604x1024_S256x1024_2316_0) ?_ rfl 2304 ?_ (ix2 j k) (fun b hb => ?_) ?_) ?_
  · exact (by decide : 7 < 16)
  · rfl
  · simp only [List.take_succ_cons, List.take_zero, List.map_cons, List.map_nil, List.sum_cons, List.sum_nil]
    rfl
  · fin_cases b
    · exact absurd rfl hb
    · rfl
  · exact hn.symm
  · pointwise

theorem head_8 (T : FVec Ideal S3604x1024 .f32) (n : Fin 3600) (k : Fin 1024) (j : Fin 256) (hn : n.val = 2560 + j.val) :
    headPk T (ix2 n k) = T (ix2 (⟨2572 + j, by omega⟩ : Fin 3604) k) := by
  unfold headPk
  refine Eq.trans (concatenate_apply_piece (t := S3600x1024) 0 _ _ (ix2 n k) 8 ?_ S256x1024 (extractStridedSlice S256x1024 ![2572, 0] T slices_S3604x1024_S256x1024_2572_0) ?_ rfl 2560 ?_ (ix2 j k) (fun b hb => ?_) ?_) ?_
  · exact (by decide : 8 < 16)
  · rfl
  · simp only [List.take_succ_cons, List.take_zero, List.map_cons, List.map_nil, List.sum_cons, List.sum_nil]
    rfl
  · fin_cases b
    · exact absurd rfl hb
    · rfl
  · exact hn.symm
  · pointwise

theorem head_9 (T : FVec Ideal S3604x1024 .f32) (n : Fin 3600) (k : Fin 1024) (j : Fin 256) (hn : n.val = 2816 + j.val) :
    headPk T (ix2 n k) = T (ix2 (⟨2828 + j, by omega⟩ : Fin 3604) k) := by
  unfold headPk
  refine Eq.trans (concatenate_apply_piece (t := S3600x1024) 0 _ _ (ix2 n k) 9 ?_ S256x1024 (extractStridedSlice S256x1024 ![2828, 0] T slices_S3604x1024_S256x1024_2828_0) ?_ rfl 2816 ?_ (ix2 j k) (fun b hb => ?_) ?_) ?_
  · exact (by decide : 9 < 16)
  · rfl
  · simp only [List.take_succ_cons, List.take_zero, List.map_cons, List.map_nil, List.sum_cons, List.sum_nil]
    rfl
  · fin_cases b
    · exact absurd rfl hb
    · rfl
  · exact hn.symm
  · pointwise

theorem head_10 (T : FVec Ideal S3604x1024 .f32) (n : Fin 3600) (k : Fin 1024) (j : Fin 256) (hn : n.val = 3072 + j.val) :
    headPk T (ix2 n k) = T (ix2 (⟨3084 + j, by omega⟩ : Fin 3604) k) := by
  unfold headPk
  refine Eq.trans (concatenate_apply_piece (t := S3600x1024) 0 _ _ (ix2 n k) 10 ?_ S256x1024 (extractStridedSlice S256x1024 ![3084, 0] T slices_S3604x1024_S256x1024_3084_0) ?_ rfl 3072 ?_ (ix2 j k) (fun b hb => ?_) ?_) ?_
  · exact (by decide : 10 < 16)
  · rfl
  · simp only [List.take_succ_cons, List.take_zero, List.map_cons, List.map_nil, List.sum_cons, List.sum_nil]
    rfl
  · fin_cases b
    · exact absurd rfl hb
    · rfl
  · exact hn.symm
  · pointwise

theorem head_11 (T : FVec Ideal S3604x1024 .f32) (n : Fin 3600) (k : Fin 1024) (j : Fin 256) (hn : n.val = 3328 + j.val) :
    headPk T (ix2 n k) = T (ix2 (⟨3348 + j, by omega⟩ : Fin 3604) k) := by
  unfold headPk
  refine Eq.trans (concatenate_apply_piece (t := S3600x1024) 0 _ _ (ix2 n k) 11 ?_ S256x1024 (extractStridedSlice S256x1024 ![3348, 0] T slices_S3604x1024_S256x1024_3348_0) ?_ rfl 3328 ?_ (ix2 j k) (fun b hb => ?_) ?_) ?_
  · exact (by decide : 11 < 16)
  · rfl
  · simp only [List.take_succ_cons, List.take_zero, List.map_cons, List.map_nil, List.sum_cons, List.sum_nil]
    rfl
  · fin_cases b
    · exact absurd rfl hb
    · rfl
  · exact hn.symm
  · pointwise

theorem head_12 (T : FVec Ideal S3604x1024 .f32) (n : Fin 3600) (k : Fin 1024) (j : Fin 4) (hn : n.val = 3584 + j.val) :
    headPk T (ix2 n k) = T (ix2 (⟨768 + j, by omega⟩ : Fin 3604) k) := by
  unfold headPk
  refine Eq.trans (concatenate_apply_piece (t := S3600x1024) 0 _ _ (ix2 n k) 12 ?_ S4x1024 (extractStridedSlice S4x1024 ![768, 0] T slices_S3604x1024_S4x1024_768_0) ?_ rfl 3584 ?_ (ix2 j k) (fun b hb => ?_) ?_) ?_
  · exact (by decide : 12 < 16)
  · rfl
  · simp only [List.take_succ_cons, List.take_zero, List.map_cons, List.map_nil, List.sum_cons, List.sum_nil]
    rfl
  · fin_cases b
    · exact absurd rfl hb
    · rfl
  · exact hn.symm
  · pointwise

theorem head_13 (T : FVec Ideal S3604x1024 .f32) (n : Fin 3600) (k : Fin 1024) (j : Fin 4) (hn : n.val = 3588 + j.val) :
    headPk T (ix2 n k) = T (ix2 (⟨1540 + j, by omega⟩ : Fin 3604) k) := by
  unfold headPk
  refine Eq.trans (concatenate_apply_piece (t := S3600x1024) 0 _ _ (ix2 n k) 13 ?_ S4x1024 (extractStridedSlice S4x1024 ![1540, 0] T slices_S3604x1024_S4x1024_1540_0) ?_ rfl 3588 ?_ (ix2 j k) (fun b hb => ?_) ?_) ?_
  · exact (by decide : 13 < 16)
  · rfl
  · simp only [List.take_succ_cons, List.take_zero, List.map_cons, List.map_nil, List.sum_cons, List.sum_nil]
    rfl
  · fin_cases b
    · exact absurd rfl hb
    · rfl
  · exact hn.symm
  · pointwise

theorem head_14 (T : FVec Ideal S3604x1024 .f32) (n : Fin 3600) (k : Fin 1024) (j : Fin 4) (hn : n.val = 3592 + j.val) :
    headPk T (ix2 n k) = T (ix2 (⟨1544 + j, by omega⟩ : Fin 3604) k) := by
  unfold headPk
  refine Eq.trans (concatenate_apply_piece (t := S3600x1024) 0 _ _ (ix2 n k) 14 ?_ S4x1024 (extractStridedSlice S4x1024 ![1544, 0] T slices_S3604x1024_S4x1024_1544_0) ?_ rfl 3592 ?_ (ix2 j k) (fun b hb => ?_) ?_) ?_
  · exact (by decide : 14 < 16)
  · rfl
  · simp only [List.take_succ_cons, List.take_zero, List.map_cons, List.map_nil, List.sum_cons, List.sum_nil]
    rfl
  · fin_cases b
    · exact absurd rfl hb
    · rfl
  · exact hn.symm
  · pointwise

theorem head_15 (T : FVec Ideal S3604x1024 .f32) (n : Fin 3600) (k : Fin 1024) (j : Fin 4) (hn : n.val = 3596 + j.val) :
    headPk T (ix2 n k) = T (ix2 (⟨3340 + j, by omega⟩ : Fin 3604) k) := by
  unfold headPk
  refine Eq.trans (concatenate_apply_piece (t := S3600x1024) 0 _ _ (ix2 n k) 15 ?_ S4x1024 (extractStridedSlice S4x1024 ![3340, 0] T slices_S3604x1024_S4x1024_3340_0) ?_ rfl 3596 ?_ (ix2 j k) (fun b hb => ?_) ?_) ?_
  · exact (by decide : 15 < 16)
  · rfl
  · simp only [List.take_succ_cons, List.take_zero, List.map_cons, List.map_nil, List.sum_cons, List.sum_nil]
    rfl
  · fin_cases b
    · exact absurd rfl hb
    · rfl
  · exact hn.symm
  · pointwise

/-- The packed weights. -/
def wPk (W : FVec Ideal S1024x3604 .f32) : FVec Ideal S3712x1024 .bf16 :=
  truncf .bf16 (concatenate S3712x1024 0 [⟨S3600x1024, (headPk (transpose S3604x1024 [1, 0] W transposes_S1024x3604_S3604x1024_1_0) : (⟨S3600x1024, .f32⟩ : BufTy).Contents (Elt Ideal))⟩, ⟨S112x1024, (tailPk (transpose S3604x1024 [1, 0] W transposes_S1024x3604_S3604x1024_1_0) : (⟨S112x1024, .f32⟩ : BufTy).Contents (Elt Ideal))⟩] concatenates_S3600x1024_S112x1024_S3712x1024_d0 : FVec Ideal S3712x1024 .f32) bitsLt_bf16_f32

theorem tail_at (T : FVec Ideal S3604x1024 .f32) (n : Fin 112) (k : Fin 1024) :
    (tailPk T (ix2 n k) : EReal) = if h : n.val < 4 then T (ix2 (⟨3344 + n, by omega⟩ : Fin 3604) k) else 0 := by
  pointwise [tailPk]

theorem wPk_at (W : FVec Ideal S1024x3604 .f32) (n : Fin 3712) (k : Fin 1024) :
    (wPk W (ix2 n k) : EReal) = if h : n.val < 3600 then headPk (transpose S3604x1024 [1, 0] W transposes_S1024x3604_S3604x1024_1_0) (ix2 (⟨n, h⟩ : Fin 3600) k)
      else tailPk (transpose S3604x1024 [1, 0] W transposes_S1024x3604_S3604x1024_1_0) (ix2 (⟨n - 3600, by omega⟩ : Fin 112) k) := by
  pointwise [wPk]

theorem flip_at (W : FVec Ideal S1024x3604 .f32) (j : Fin 3604) (k : Fin 1024) :
    transpose S3604x1024 [1, 0] W transposes_S1024x3604_S3604x1024_1_0 (ix2 j k) = W (ix2 k j) := by
  pointwise

variable (m : (ℓ : Loc nD τ sig) → Buf (Elt Ideal) ℓ)

set_option maxHeartbeats 2000000 in
theorem entry_w (c : Dev nD) : V m c main_v22 = wPk (m ((c.tc : Thread nD τ).loc main_arg2)) := by
  show StableHlo.after hostOps0 _ _ = _
  simp only [hostOps0]
  after_results_simp <;> (try dsimp only [Matrix.cons_val]) <;> (try after_results_simp) <;> rfl

end Cert.ProjIdeal.Row

end
-- ==== Proof.ProjRow.lean ====
/- The input projection, one block of 512 rows: what the kernel's body leaves in the block of the result. -/
module

public import proofs.«01_k».proof.Proof.FfnValue
public import proofs.«01_k».proof.Proof.ProjPack
public import Idealize.ShloMosaic.Lib.Pipeline.CanonAppend

@[expose] public section

set_option maxRecDepth 16384

noncomputable section

namespace Cert.ProjIdeal.Row

open Cert.ProjIdeal Cert.ProjIdeal.Gen
open Idealize.ShloMosaic Idealize.ShloMosaic.TcCoe Idealize.SL.Sem
open Cert.FfnIdeal.Row (scale normRow)

/-- A load of a rectangle of a whole argument, at an index. -/
theorem load2_at {R C n c : ℕ} {e : EltTy} (v : Memref sig .tc .vmem (⟨2, ![R, C]⟩ : Shape) e) (hv : v.IsWhole) (x : (⟨2, ![R, C]⟩ : Shape).Idx → Elt Ideal e) (a b : ℕ)
    (i : ∀ ax : Fin 2, ![a, b] ax + ![n, c] ax ≤ ![R, C] ax) (p : Fin n) (q : Fin c) (hp : a + p < R) (hq : b + q < C) :
    View.readAt (Elt Ideal) v.view (Rect.unit (s := (⟨2, ![R, C]⟩ : Shape)) ![a, b] ![n, c] i).toLoadRect (hv.unread x) (ix2 p q) = x (ix2 (⟨a + p, hp⟩ : Fin R) (⟨b + q, hq⟩ : Fin C)) := by
  refine (congrFun (hv.read_unread x) _).trans (congrArg x (funext fun ax => Fin.ext ?_))
  fin_cases ax <;> simp [Rect.unit, Rect.toLoadRect, LoadRect.idx]

/-- A load of a whole argument from its start. -/
theorem load2_zero {R C : ℕ} {e : EltTy} (v : Memref sig .tc .vmem (⟨2, ![R, C]⟩ : Shape) e) (hv : v.IsWhole) (x : (⟨2, ![R, C]⟩ : Shape).Idx → Elt Ideal e)
    (i : ∀ ax : Fin 2, ![0, 0] ax + ![R, C] ax ≤ ![R, C] ax) :
    View.readAt (Elt Ideal) v.view (Rect.unit (s := (⟨2, ![R, C]⟩ : Shape)) ![0, 0] ![R, C] i).toLoadRect (hv.unread x) = x := by
  funext y
  refine (congrFun (hv.read_unread x) _).trans (congrArg x (funext fun ax => Fin.ext ?_))
  fin_cases ax <;> simp [Rect.unit, Rect.toLoadRect, LoadRect.idx]

/-- The normed row, as every chunk's program computes it. -/
theorem norm_at (x : FVec Ideal S512x1024 .f32) (g : FVec Ideal S1x1024 .f32) (r : Fin 512) (k : Fin 1024) :
    (k0_pay5 (F := Ideal) x g (ix2 r k) : EReal) = normRow (fun k => x (ix2 r k)) (fun k => g (ix2 0 k)) k := by
  pointwise [k0_pay5]
  rfl

/-- One result entry: a normed row against a row of the packed weights. -/
def dotRow (h : Fin 1024 → EReal) (w : S3712x1024.Idx → EReal) (n : Fin 3712) : EReal := ∑ k : Fin 1024, h k * w (ix2 n k)

theorem pay1_at (h : FVec Ideal S512x1024 .bf16) (w : FVec Ideal S512x1024 .bf16) (r n : Fin 512) :
    (k0_pay1 (F := Ideal) h w (ix2 r n) : EReal) = ∑ k : Fin 1024, (h (ix2 r k) : EReal) * w (ix2 n k) := by
  pointwise [k0_pay1]

theorem pay2_at (h : FVec Ideal S512x1024 .bf16) (w : FVec Ideal S512x1024 .bf16) (r n : Fin 512) :
    (k0_pay2 (F := Ideal) h w (ix2 r n) : EReal) = ∑ k : Fin 1024, (h (ix2 r k) : EReal) * w (ix2 n k) := by
  pointwise [k0_pay2]

theorem pay3_at (h : FVec Ideal S512x1024 .bf16) (w : FVec Ideal S512x1024 .bf16) (r n : Fin 512) :
    (k0_pay3 (F := Ideal) h w (ix2 r n) : EReal) = ∑ k : Fin 1024, (h (ix2 r k) : EReal) * w (ix2 n k) := by
  pointwise [k0_pay3]

theorem pay4_at (h : FVec Ideal S512x1024 .bf16) (w : FVec Ideal S128x1024 .bf16) (r : Fin 512) (n : Fin 128) :
    (k0_pay4 (F := Ideal) h w (ix2 r n) : EReal) = ∑ k : Fin 1024, (h (ix2 r k) : EReal) * w (ix2 n k) := by
  pointwise [k0_pay4]

theorem pay6_at (x : FVec Ideal S512x1024 .f32) (g : FVec Ideal S1x1024 .f32) (w : FVec Ideal S512x1024 .bf16) (r n : Fin 512) :
    (k0_pay6 (F := Ideal) x g w (ix2 r n) : EReal) = ∑ k : Fin 1024, (k0_pay5 (F := Ideal) x g (ix2 r k) : EReal) * w (ix2 n k) :=
  pay1_at (k0_pay5 (F := Ideal) x g) w r n

theorem pay7_at (x : FVec Ideal S512x1024 .f32) (g : FVec Ideal S1x1024 .f32) (w : FVec Ideal S512x1024 .bf16) (r n : Fin 512) :
    (k0_pay7 (F := Ideal) x g w (ix2 r n) : EReal) = ∑ k : Fin 1024, (k0_pay5 (F := Ideal) x g (ix2 r k) : EReal) * w (ix2 n k) :=
  pay1_at (k0_pay5 (F := Ideal) x g) w r n

theorem pay8_at (x : FVec Ideal S512x1024 .f32) (g : FVec Ideal S1x1024 .f32) (w : FVec Ideal S512x1024 .bf16) (r n : Fin 512) :
    (k0_pay8 (F := Ideal) x g w (ix2 r n) : EReal) = ∑ k : Fin 1024, (k0_pay5 (F := Ideal) x g (ix2 r k) : EReal) * w (ix2 n k) :=
  pay1_at (k0_pay5 (F := Ideal) x g) w r n

theorem pay9_at (x : FVec Ideal S512x1024 .f32) (g : FVec Ideal S1x1024 .f32) (w : FVec Ideal S512x1024 .bf16) (r n : Fin 512) :
    (k0_pay9 (F := Ideal) x g w (ix2 r n) : EReal) = ∑ k : Fin 1024, (k0_pay5 (F := Ideal) x g (ix2 r k) : EReal) * w (ix2 n k) :=
  pay1_at (k0_pay5 (F := Ideal) x g) w r n

theorem dot_load (arg3 : Memref sig .tc .vmem S3712x1024 .bf16) (harg3 : arg3.IsWhole) (x2 : S3712x1024.Idx → Elt Ideal .bf16) (h : Fin 1024 → EReal) (h' : Fin 1024 → EReal) (N a : ℕ) (hN : a + N ≤ 3712)
    (i : ∀ ax : Fin 2, ![a, 0] ax + ![N, 1024] ax ≤ ![3712, 1024] ax) (n : Fin N) (hh : ∀ k, h k = h' k) :
    (∑ k : Fin 1024, h k * (View.readAt (Elt Ideal) arg3.view (Rect.unit (s := S3712x1024) ![a, 0] ![N, 1024] i).toLoadRect (harg3.unread x2) (ix2 n k) : EReal)) = dotRow h' x2 (⟨a + n, by omega⟩ : Fin 3712) :=
  Finset.sum_congr rfl fun k _ => congrArg₂ (· * ·) (hh k) ((load2_at arg3 harg3 x2 a 0 i n k (by omega) (by omega)).trans (congrArg (fun z : Fin 1024 => x2 (ix2 (⟨a + n, by omega⟩ : Fin 3712) z)) (Fin.ext (by simp))))

theorem canon_cols (G : S512x3712.Idx → Elt Ideal .f32) (w6 w5 w4 w3 w2 w1 w0 : S512x512.Idx → Elt Ideal .f32) (w7 : S512x128.Idx → Elt Ideal .f32) (i7 i6 i5 i4 i3 i2 i1 i0)
    (h7 : ∀ (r : Fin 512) (n : Fin 128), w7 (ix2 r n) = G (ix2 r (⟨3584 + n, by omega⟩ : Fin 3712)))
    (h6 : ∀ (r n : Fin 512), w6 (ix2 r n) = G (ix2 r (⟨3072 + n, by omega⟩ : Fin 3712)))
    (h5 : ∀ (r n : Fin 512), w5 (ix2 r n) = G (ix2 r (⟨2560 + n, by omega⟩ : Fin 3712)))
    (h4 : ∀ (r n : Fin 512), w4 (ix2 r n) = G (ix2 r (⟨2048 + n, by omega⟩ : Fin 3712)))
    (h3 : ∀ (r n : Fin 512), w3 (ix2 r n) = G (ix2 r (⟨1536 + n, by omega⟩ : Fin 3712)))
    (h2 : ∀ (r n : Fin 512), w2 (ix2 r n) = G (ix2 r (⟨1024 + n, by omega⟩ : Fin 3712)))
    (h1 : ∀ (r n : Fin 512), w1 (ix2 r n) = G (ix2 r (⟨512 + n, by omega⟩ : Fin 3712)))
    (h0 : ∀ (r n : Fin 512), w0 (ix2 r n) = G (ix2 r (⟨0 + n, by omega⟩ : Fin 3712))) :
    View.canon [(⟨Rect.unit (s := S512x3712) ![0, 3584] S512x128.size i7, w7⟩ : View.Piece (Elt Ideal) S512x3712 .f32),
      ⟨Rect.unit (s := S512x3712) ![0, 3072] S512x512.size i6, w6⟩,
      ⟨Rect.unit (s := S512x3712) ![0, 2560] S512x512.size i5, w5⟩,
      ⟨Rect.unit (s := S512x3712) ![0, 2048] S512x512.size i4, w4⟩,
      ⟨Rect.unit (s := S512x3712) ![0, 1536] S512x512.size i3, w3⟩,
      ⟨Rect.unit (s := S512x3712) ![0, 1024] S512x512.size i2, w2⟩,
      ⟨Rect.unit (s := S512x3712) ![0, 512] S512x512.size i1, w1⟩,
      ⟨Rect.unit (s := S512x3712) ![0, 0] S512x512.size i0, w0⟩] = G := by
  funext y
  refine View.canon_append_of_pieces G [] [_, _, _, _, _, _, _, _] ?pieces y ?cov
  case cov =>
    have h1 : (y 1 : ℕ) < 3712 := (y 1).isLt
    have h0 : (y 0 : ℕ) < 512 := (y 0).isLt
    have key : ∀ (d : ℕ) (i), d ≤ (y 1 : ℕ) → (y 1 : ℕ) < d + 512 →
        y ∈ (Rect.unit (s := S512x3712) ![0, d] S512x512.size i).set := fun d i e2 e3 =>
      Rect.mem_set_unit.2 fun a => by fin_cases a <;> simp <;> omega
    have key7 : ∀ i, 3584 ≤ (y 1 : ℕ) → y ∈ (Rect.unit (s := S512x3712) ![0, 3584] S512x128.size i).set := fun i e2 =>
      Rect.mem_set_unit.2 fun a => by fin_cases a <;> simp <;> omega
    rcases (by omega : (0 ≤ (y 1 : ℕ) ∧ (y 1 : ℕ) < 512) ∨ (512 ≤ (y 1 : ℕ) ∧ (y 1 : ℕ) < 1024) ∨ (1024 ≤ (y 1 : ℕ) ∧ (y 1 : ℕ) < 1536) ∨ (1536 ≤ (y 1 : ℕ) ∧ (y 1 : ℕ) < 2048) ∨ (2048 ≤ (y 1 : ℕ) ∧ (y 1 : ℕ) < 2560) ∨ (2560 ≤ (y 1 : ℕ) ∧ (y 1 : ℕ) < 3072) ∨ (3072 ≤ (y 1 : ℕ) ∧ (y 1 : ℕ) < 3584) ∨ 3584 ≤ (y 1 : ℕ)) with e | e | e | e | e | e | e | e
    · exact ⟨_, .tail _ (.tail _ (.tail _ (.tail _ (.tail _ (.tail _ (.tail _ (.head _))))))), key 0 i0 e.1 e.2⟩
    · exact ⟨_, .tail _ (.tail _ (.tail _ (.tail _ (.tail _ (.tail _ (.head _)))))), key 512 i1 e.1 e.2⟩
    · exact ⟨_, .tail _ (.tail _ (.tail _ (.tail _ (.tail _ (.head _))))), key 1024 i2 e.1 e.2⟩
    · exact ⟨_, .tail _ (.tail _ (.tail _ (.tail _ (.head _)))), key 1536 i3 e.1 e.2⟩
    · exact ⟨_, .tail _ (.tail _ (.tail _ (.head _))), key 2048 i4 e.1 e.2⟩
    · exact ⟨_, .tail _ (.tail _ (.head _)), key 2560 i5 e.1 e.2⟩
    · exact ⟨_, .tail _ (.head _), key 3072 i6 e.1 e.2⟩
    · exact ⟨_, .head _, key7 i7 e⟩
  intro p hp x
  have key : ∀ (w : S512x512.Idx → Elt Ideal .f32) (d : ℕ) (hd : d + 512 ≤ 3712) (i) (x : S512x512.Idx), (∀ (r n : Fin 512), w (ix2 r n) = G (ix2 r (⟨d + n, by omega⟩ : Fin 3712))) →
      w x = G ((Rect.unit (s := S512x3712) ![0, d] S512x512.size i).emb x) := by
    intro w d hd i x hw
    obtain ⟨r, n, rfl⟩ : ∃ (r : Fin 512) (n : Fin 512), x = ix2 r n := ⟨x 0, x 1, by funext a; fin_cases a <;> rfl⟩
    rw [hw]
    refine congrArg G (funext fun a => Fin.ext ?_)
    rw [Rect.emb_apply]
    fin_cases a <;> simp [Rect.unit]
  have key7 : ∀ (i) (x : S512x128.Idx), w7 x = G ((Rect.unit (s := S512x3712) ![0, 3584] S512x128.size i).emb x) := by
    intro i x
    obtain ⟨r, n, rfl⟩ : ∃ (r : Fin 512) (n : Fin 128), x = ix2 r n := ⟨x 0, x 1, by funext a; fin_cases a <;> rfl⟩
    rw [h7]
    refine congrArg G (funext fun a => Fin.ext ?_)
    rw [Rect.emb_apply]
    fin_cases a <;> simp [Rect.unit]
  simp only [List.mem_cons, List.not_mem_nil, or_false] at hp
  rcases hp with rfl | rfl | rfl | rfl | rfl | rfl | rfl | rfl
  · exact key7 i7 x
  · exact key w6 3072 (by omega) i6 x h6
  · exact key w5 2560 (by omega) i5 x h5
  · exact key w4 2048 (by omega) i4 x h4
  · exact key w3 1536 (by omega) i3 x h3
  · exact key w2 1024 (by omega) i2 x h2
  · exact key w1 512 (by omega) i1 x h1
  · exact key w0 0 (by omega) i0 x h0

theorem block_row (i : grid0.Coords) (c : Dev nD) (arg1 : Memref sig .tc .vmem S512x1024 .f32) (harg1 : arg1.IsWhole) (arg2 : Memref sig .tc .vmem S1x1024 .f32) (harg2 : arg2.IsWhole) (arg3 : Memref sig .tc .vmem S3712x1024 .bf16) (harg3 : arg3.IsWhole) (arg4 : Memref sig .tc .vmem S512x3712 .f32) (harg4 : arg4.IsWhole)
    (x0 : S512x1024.Idx → Elt Ideal .f32) (x1 : S1x1024.Idx → Elt Ideal .f32) (x2 : S3712x1024.Idx → Elt Ideal .bf16) :
    View.canon (kernelRun0_A (F := Ideal) c i arg1 harg1 arg2 harg2 arg3 harg3 arg4 harg4 x0 x1 x2).1
      = fun y => dotRow (normRow (fun k => x0 (ix2 (y 0) k)) (fun k => x1 (ix2 0 k))) x2 (y 1) := by
  have hn : ∀ (r : Fin 512) (k : Fin 1024), (k0_pay5 (F := Ideal) (View.readAt (Elt Ideal) arg1.view (Rect.unit ![0, 0] S512x1024.size inb_S512x1024_S512x1024_0_0).toLoadRect (harg1.unread x0)) (View.readAt (Elt Ideal) arg2.view (Rect.unit ![0, 0] S1x1024.size inb_S1x1024_S1x1024_0_0).toLoadRect (harg2.unread x1)) (ix2 r k) : EReal)
      = normRow (fun k => x0 (ix2 r k)) (fun k => x1 (ix2 0 k)) k := fun r k => by
    refine (norm_at _ _ r k).trans ?_
    rw [load2_zero arg1 harg1 x0, load2_zero arg2 harg2 x1]
  refine canon_cols _ _ _ _ _ _ _ _ _ _ _ _ _ _ _ _ _ ?_ ?_ ?_ ?_ ?_ ?_ ?_ ?_
  · exact fun r n => (pay4_at _ _ r n).trans (dot_load arg3 harg3 x2 _ _ 128 3584 (by omega) _ n (hn r))
  · exact fun r n => (pay3_at _ _ r n).trans (dot_load arg3 harg3 x2 _ _ 512 3072 (by omega) _ n (hn r))
  · exact fun r n => (pay2_at _ _ r n).trans (dot_load arg3 harg3 x2 _ _ 512 2560 (by omega) _ n (hn r))
  · exact fun r n => (pay1_at _ _ r n).trans (dot_load arg3 harg3 x2 _ _ 512 2048 (by omega) _ n (hn r))
  · exact fun r n => (pay9_at _ _ _ r n).trans (dot_load arg3 harg3 x2 _ _ 512 1536 (by omega) _ n (hn r))
  · exact fun r n => (pay8_at _ _ _ r n).trans (dot_load arg3 harg3 x2 _ _ 512 1024 (by omega) _ n (hn r))
  · exact fun r n => (pay7_at _ _ _ r n).trans (dot_load arg3 harg3 x2 _ _ 512 512 (by omega) _ n (hn r))
  · exact fun r n => (pay6_at _ _ _ r n).trans (dot_load arg3 harg3 x2 _ _ 512 0 (by omega) _ n (hn r))

theorem out_row (i : grid0.Coords) (c : Dev nD) (arg1 : Memref sig .tc .vmem S512x1024 .f32) (harg1 : arg1.IsWhole) (arg2 : Memref sig .tc .vmem S1x1024 .f32) (harg2 : arg2.IsWhole) (arg3 : Memref sig .tc .vmem S3712x1024 .bf16) (harg3 : arg3.IsWhole) (arg4 : Memref sig .tc .vmem S512x3712 .f32) (harg4 : arg4.IsWhole)
    (x0 : S512x1024.Idx → Elt Ideal .f32) (x1 : S1x1024.Idx → Elt Ideal .f32) (x2 : S3712x1024.Idx → Elt Ideal .bf16) (r : Fin 512) (n : Fin 3712) :
    (out0_A_3 (F := Ideal) c i arg1 harg1 arg2 harg2 arg3 harg3 arg4 harg4 x0 x1 x2 (ix2 r n) : EReal)
      = dotRow (normRow (fun k => x0 (ix2 r k)) (fun k => x1 (ix2 0 k))) x2 n :=
  (congrFun (View.read_writes_junk_eq_canon VO0_3 _) (ix2 r n)).trans (congrFun (block_row i c arg1 harg1 arg2 harg2 arg3 harg3 arg4 harg4 x0 x1 x2) (ix2 r n))

end Cert.ProjIdeal.Row

end
-- ==== Proof.ProjRef.lean ====
/- The input projection: the reference's result, column by column. -/
module

public import proofs.«01_k».proof.Proof.FfnBlock
public import proofs.«01_k».proof.Proof.FfnValue
public import proofs.«01_k».proof.Proof.Gen.ProjReferenceIdeal.Run
public import Idealize.ShloMosaic.Lib.Pointwise
public import Idealize.ShloMosaic.Lib.Pipeline.ValueKit

@[expose] public section

set_option maxRecDepth 16384

noncomputable section

namespace Cert.ProjReferenceIdeal.Row

open Cert.ProjReferenceIdeal Cert.ProjReferenceIdeal.Gen
open Idealize.ShloMosaic Idealize.ShloMosaic.TcCoe Idealize.SL.Sem
open Cert.FfnIdeal.Row (scale normRow)

/-- The rows over their root mean squares, times the gains. -/
def Hn (A0 : FVec Ideal S16384x1024 .f32) (A1 : FVec Ideal S1024 .f32) : FVec Ideal S16384x1024 .f32 :=
  (mulf (mulf A0 (broadcastInDim S16384x1024 ![0, 1] bcast_S16384x1_S16384x1024_0_1 (Host.rsqrt (addf (Host.divf (broadcastInDim S16384x1 ![0] bcast_S16384_S16384x1_0 (Host.reduceAdd (mulf A0 A0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 A1)))

/-- The projection, its columns in the order of the weights. -/
def Zc (H : FVec Ideal S16384x1024 .f32) (A2 : FVec Ideal S1024x3604 .f32) : FVec Ideal S16384x3604 .f32 :=
  (Host.dotGeneral (φ₁ := .f32) (φ₂ := .f32) dot_S16384x1024_S1024x3604_S16384x3604_1_0_0_1_n_n none H A2)

/-- The columns of the wide heads and of the first narrow ones, in the packed order. -/
def headR (Z : FVec Ideal S16384x3604 .f32) : FVec Ideal S16384x3600 .f32 :=
  ((concatenate S16384x3600 1 [⟨S16384x256, ((extractStridedSlice S16384x256 ![0, 0] Z slices_S16384x3604_S16384x256_0_0) : (⟨S16384x256, .f32⟩ : BufTy).Contents (Elt Ideal))⟩, ⟨S16384x256, ((extractStridedSlice S16384x256 ![0, 256] Z slices_S16384x3604_S16384x256_0_256) : (⟨S16384x256, .f32⟩ : BufTy).Contents (Elt Ideal))⟩, ⟨S16384x256, ((extractStridedSlice S16384x256 ![0, 512] Z slices_S16384x3604_S16384x256_0_512) : (⟨S16384x256, .f32⟩ : BufTy).Contents (Elt Ideal))⟩, ⟨S16384x768, ((extractStridedSlice S16384x768 ![0, 772] Z slices_S16384x3604_S16384x768_0_772) : (⟨S16384x768, .f32⟩ : BufTy).Contents (Elt Ideal))⟩, ⟨S16384x256, ((extractStridedSlice S16384x256 ![0, 1548] Z slices_S16384x3604_S16384x256_0_1548) : (⟨S16384x256, .f32⟩ : BufTy).Contents (Elt Ideal))⟩, ⟨S16384x256, ((extractStridedSlice S16384x256 ![0, 1804] Z slices_S16384x3604_S16384x256_0_1804) : (⟨S16384x256, .f32⟩ : BufTy).Contents (Elt Ideal))⟩, ⟨S16384x256, ((extractStridedSlice S16384x256 ![0, 2060] Z slices_S16384x3604_S16384x256_0_2060) : (⟨S16384x256, .f32⟩ : BufTy).Contents (Elt Ideal))⟩, ⟨S16384x256, ((extractStridedSlice S16384x256 ![0, 2316] Z slices_S16384x3604_S16384x256_0_2316) : (⟨S16384x256, .f32⟩ : BufTy).Contents (Elt Ideal))⟩, ⟨S16384x256, ((extractStridedSlice S16384x256 ![0, 2572] Z slices_S16384x3604_S16384x256_0_2572) : (⟨S16384x256, .f32⟩ : BufTy).Contents (Elt Ideal))⟩, ⟨S16384x256, ((extractStridedSlice S16384x256 ![0, 2828] Z slices_S16384x3604_S16384x256_0_2828) : (⟨S16384x256, .f32⟩ : BufTy).Contents (Elt Ideal))⟩, ⟨S16384x256, ((extractStridedSlice S16384x256 ![0, 3084] Z slices_S16384x3604_S16384x256_0_3084) : (⟨S16384x256, .f32⟩ : BufTy).Contents (Elt Ideal))⟩, ⟨S16384x256, ((extractStridedSlice S16384x256 ![0, 3348] Z slices_S16384x3604_S16384x256_0_3348) : (⟨S16384x256, .f32⟩ : BufTy).Contents (Elt Ideal))⟩, ⟨S16384x4, ((extractStridedSlice S16384x4 ![0, 768] Z slices_S16384x3604_S16384x4_0_768) : (⟨S16384x4, .f32⟩ : BufTy).Contents (Elt Ideal))⟩, ⟨S16384x4, ((extractStridedSlice S16384x4 ![0, 1540] Z slices_S16384x3604_S16384x4_0_1540) : (⟨S16384x4, .f32⟩ : BufTy).Contents (Elt Ideal))⟩, ⟨S16384x4, ((extractStridedSlice S16384x4 ![0, 1544] Z slices_S16384x3604_S16384x4_0_1544) : (⟨S16384x4, .f32⟩ : BufTy).Contents (Elt Ideal))⟩, ⟨S16384x4, ((extractStridedSlice S16384x4 ![0, 3340] Z slices_S16384x3604_S16384x4_0_3340) : (⟨S16384x4, .f32⟩ : BufTy).Contents (Elt Ideal))⟩] concatenates_S16384x256_S16384x256_S16384x256_S16384x768_S16384x256_S16384x256_S16384x256_S16384x256_S16384x256_S16384x256_S16384x256_S16384x256_S16384x4_S16384x4_S16384x4_S16384x4_S16384x3600_d1 : (⟨S16384x3600, .f32⟩ : BufTy).Contents (Elt Ideal)))

/-- The last narrow head and the columns of zeros. -/
def tailR (Z : FVec Ideal S16384x3604 .f32) : FVec Ideal S16384x112 .f32 :=
  (concatenate S16384x112 1 [⟨S16384x4, (extractStridedSlice S16384x4 ![0, 3344] Z slices_S16384x3604_S16384x4_0_3344 : (⟨S16384x4, .f32⟩ : BufTy).Contents (Elt Ideal))⟩, ⟨S16384x108, (broadcastInDim S16384x108 ![] bcast_S_S16384x108 (constant (F := Ideal) S_ .f32 0x00000000#32) : (⟨S16384x108, .f32⟩ : BufTy).Contents (Elt Ideal))⟩] concatenates_S16384x4_S16384x108_S16384x112_d1)

/-- The result: the projection with its columns in the packed order. -/
def Pk (Z : FVec Ideal S16384x3604 .f32) : FVec Ideal S16384x3712 .f32 :=
  concatenate S16384x3712 1 [⟨S16384x3600, (headR Z : (⟨S16384x3600, .f32⟩ : BufTy).Contents (Elt Ideal))⟩, ⟨S16384x112, (tailR Z : (⟨S16384x112, .f32⟩ : BufTy).Contents (Elt Ideal))⟩] concatenates_S16384x3600_S16384x112_S16384x3712_d1

theorem res_eq (m : (ℓ : Loc nD τ sig) → Buf (Elt Ideal) ℓ) (c : Dev nD) (A0 : FVec Ideal S16384x1024 .f32) (A1 : FVec Ideal S1024 .f32) (A2 : FVec Ideal S1024x3604 .f32)
    (h0 : m ((c.tc : Thread nD τ).loc main_arg0) = A0) (h1 : m ((c.tc : Thread nD τ).loc main_arg1) = A1) (h2 : m ((c.tc : Thread nD τ).loc main_arg2) = A2) :
    Cert.ProjReferenceIdeal.Value.res_main_v37 m c = Pk (Zc (Hn A0 A1) A2) := by
  subst h0 h1 h2
  rfl

/-- The last three convolution rows of each sequence: those of the three rows of zeros joined with the projected ones. -/
def Conv (Z : FVec Ideal S16384x3604 .f32) : FVec Ideal S2x3x768 .f32 :=
  extractStridedSlice S2x3x768 ![0, 8192, 0] (concatenate S2x8195x768 1 [⟨S2x3x768, (broadcastInDim S2x3x768 ![] bcast_S_S2x3x768 (constant (F := Ideal) S_ .f32 0x00000000#32) : (⟨S2x3x768, .f32⟩ : BufTy).Contents (Elt Ideal))⟩, ⟨S2x8192x768, (shapeCast S2x8192x768 (extractStridedSlice S16384x768 ![0, 772] Z slices_S16384x3604_S16384x768_0_772) shapeCasts_S16384x768_S2x8192x768 : (⟨S2x8192x768, .f32⟩ : BufTy).Contents (Elt Ideal))⟩] concatenates_S2x3x768_S2x8192x768_S2x8195x768_d1) slices_S2x8195x768_S2x3x768_0_8192_0

theorem Hn_at (A0 : FVec Ideal S16384x1024 .f32) (A1 : FVec Ideal S1024 .f32) (R : Fin 16384) (k : Fin 1024) :
    (Hn A0 A1 (ix2 R k) : EReal) = normRow (fun k => A0 (ix2 R k)) (fun k => A1 (ix1 k)) k := by
  pointwise [Hn]
  rfl

theorem Zc_at (H : FVec Ideal S16384x1024 .f32) (A2 : FVec Ideal S1024x3604 .f32) (R : Fin 16384) (n : Fin 3604) :
    (Zc H A2 (ix2 R n) : EReal) = ∑ k : Fin 1024, (H (ix2 R k) : EReal) * A2 (ix2 k n) := by
  pointwise [Zc]

theorem tailR_at (Z : FVec Ideal S16384x3604 .f32) (R : Fin 16384) (n : Fin 112) :
    (tailR Z (ix2 R n) : EReal) = if h : n.val < 4 then Z (ix2 R (⟨3344 + n, by omega⟩ : Fin 3604)) else 0 := by
  pointwise [tailR]

theorem Pk_at (Z : FVec Ideal S16384x3604 .f32) (R : Fin 16384) (n : Fin 3712) :
    (Pk Z (ix2 R n) : EReal) = if h : n.val < 3600 then headR Z (ix2 R (⟨n, h⟩ : Fin 3600)) else tailR Z (ix2 R (⟨n - 3600, by omega⟩ : Fin 112)) := by
  pointwise [Pk]

theorem head_0 (Z : FVec Ideal S16384x3604 .f32) (R : Fin 16384) (n : Fin 3600) (j : Fin 256) (hn : n.val = 0 + j.val) :
    headR Z (ix2 R n) = Z (ix2 R (⟨0 + j, by omega⟩ : Fin 3604)) := by
  unfold headR
  refine Eq.trans (concatenate_apply_piece (t := S16384x3600) 1 _ _ (ix2 R n) 0 ?_ S16384x256 (extractStridedSlice S16384x256 ![0, 0] Z slices_S16384x3604_S16384x256_0_0) ?_ rfl 0 ?_ (ix2 R j) (fun b hb => ?_) ?_) ?_
  · exact (by decide : 0 < 16)
  · rfl
  · simp only [List.take_succ_cons, List.take_zero, List.map_cons, List.map_nil, List.sum_cons, List.sum_nil]
  · fin_cases b
    · rfl
    · exact absurd rfl hb
  · exact hn.symm
  · pointwise

theorem head_1 (Z : FVec Ideal S16384x3604 .f32) (R : Fin 16384) (n : Fin 3600) (j : Fin 256) (hn : n.val = 256 + j.val) :
    headR Z (ix2 R n) = Z (ix2 R (⟨256 + j, by omega⟩ : Fin 3604)) := by
  unfold headR
  refine Eq.trans (concatenate_apply_piece (t := S16384x3600) 1 _ _ (ix2 R n) 1 ?_ S16384x256 (extractStridedSlice S16384x256 ![0, 256] Z slices_S16384x3604_S16384x256_0_256) ?_ rfl 256 ?_ (ix2 R j) (fun b hb => ?_) ?_) ?_
  · exact (by decide : 1 < 16)
  · rfl
  · simp only [List.take_succ_cons, List.take_zero, List.map_cons, List.map_nil, List.sum_cons, List.sum_nil]
    rfl
  · fin_cases b
    · rfl
    · exact absurd rfl hb
  · exact hn.symm
  · pointwise

theorem head_2 (Z : FVec Ideal S16384x3604 .f32) (R : Fin 16384) (n : Fin 3600) (j : Fin 256) (hn : n.val = 512 + j.val) :
    headR Z (ix2 R n) = Z (ix2 R (⟨512 + j, by omega⟩ : Fin 3604)) := by
  unfold headR
  refine Eq.trans (concatenate_apply_piece (t := S16384x3600) 1 _ _ (ix2 R n) 2 ?_ S16384x256 (extractStridedSlice S16384x256 ![0, 512] Z slices_S16384x3604_S16384x256_0_512) ?_ rfl 512 ?_ (ix2 R j) (fun b hb => ?_) ?_) ?_
  · exact (by decide : 2 < 16)
  · rfl
  · simp only [List.take_succ_cons, List.take_zero, List.map_cons, List.map_nil, List.sum_cons, List.sum_nil]
    rfl
  · fin_cases b
    · rfl
    · exact absurd rfl hb
  · exact hn.symm
  · pointwise

theorem head_3 (Z : FVec Ideal S16384x3604 .f32) (R : Fin 16384) (n : Fin 3600) (j : Fin 768) (hn : n.val = 768 + j.val) :
    headR Z (ix2 R n) = Z (ix2 R (⟨772 + j, by omega⟩ : Fin 3604)) := by
  unfold headR
  refine Eq.trans (concatenate_apply_piece (t := S16384x3600) 1 _ _ (ix2 R n) 3 ?_ S16384x768 (extractStridedSlice S16384x768 ![0, 772] Z slices_S16384x3604_S16384x768_0_772) ?_ rfl 768 ?_ (ix2 R j) (fun b hb => ?_) ?_) ?_
  · exact (by decide : 3 < 16)
  · rfl
  · simp only [List.take_succ_cons, List.take_zero, List.map_cons, List.map_nil, List.sum_cons, List.sum_nil]
    rfl
  · fin_cases b
    · rfl
    · exact absurd rfl hb
  · exact hn.symm
  · pointwise

theorem head_4 (Z : FVec Ideal S16384x3604 .f32) (R : Fin 16384) (n : Fin 3600) (j : Fin 256) (hn : n.val = 1536 + j.val) :
    headR Z (ix2 R n) = Z (ix2 R (⟨1548 + j, by omega⟩ : Fin 3604)) := by
  unfold headR
  refine Eq.trans (concatenate_apply_piece (t := S16384x3600) 1 _ _ (ix2 R n) 4 ?_ S16384x256 (extractStridedSlice S16384x256 ![0, 1548] Z slices_S16384x3604_S16384x256_0_1548) ?_ rfl 1536 ?_ (ix2 R j) (fun b hb => ?_) ?_) ?_
  · exact (by decide : 4 < 16)
  · rfl
  · simp only [List.take_succ_cons, List.take_zero, List.map_cons, List.map_nil, List.sum_cons, List.sum_nil]
    rfl
  · fin_cases b
    · rfl
    · exact absurd rfl hb
  · exact hn.symm
  · pointwise

theorem head_5 (Z : FVec Ideal S16384x3604 .f32) (R : Fin 16384) (n : Fin 3600) (j : Fin 256) (hn : n.val = 1792 + j.val) :
    headR Z (ix2 R n) = Z (ix2 R (⟨1804 + j, by omega⟩ : Fin 3604)) := by
  unfold headR
  refine Eq.trans (concatenate_apply_piece (t := S16384x3600) 1 _ _ (ix2 R n) 5 ?_ S16384x256 (extractStridedSlice S16384x256 ![0, 1804] Z slices_S16384x3604_S16384x256_0_1804) ?_ rfl 1792 ?_ (ix2 R j) (fun b hb => ?_) ?_) ?_
  · exact (by decide : 5 < 16)
  · rfl
  · simp only [List.take_succ_cons, List.take_zero, List.map_cons, List.map_nil, List.sum_cons, List.sum_nil]
    rfl
  · fin_cases b
    · rfl
    · exact absurd rfl hb
  · exact hn.symm
  · pointwise

theorem head_6 (Z : FVec Ideal S16384x3604 .f32) (R : Fin 16384) (n : Fin 3600) (j : Fin 256) (hn : n.val = 2048 + j.val) :
    headR Z (ix2 R n) = Z (ix2 R (⟨2060 + j, by omega⟩ : Fin 3604)) := by
  unfold headR
  refine Eq.trans (concatenate_apply_piece (t := S16384x3600) 1 _ _ (ix2 R n) 6 ?_ S16384x256 (extractStridedSlice S16384x256 ![0, 2060] Z slices_S16384x3604_S16384x256_0_2060) ?_ rfl 2048 ?_ (ix2 R j) (fun b hb => ?_) ?_) ?_
  · exact (by decide : 6 < 16)
  · rfl
  · simp only [List.take_succ_cons, List.take_zero, List.map_cons, List.map_nil, List.sum_cons, List.sum_nil]
    rfl
  · fin_cases b
    · rfl
    · exact absurd rfl hb
  · exact hn.symm
  · pointwise

theorem head_7 (Z : FVec Ideal S16384x3604 .f32) (R : Fin 16384) (n : Fin 3600) (j : Fin 256) (hn : n.val = 2304 + j.val) :
    headR Z (ix2 R n) = Z (ix2 R (⟨2316 + j, by omega⟩ : Fin 3604)) := by
  unfold headR
  refine Eq.trans (concatenate_apply_piece (t := S16384x3600) 1 _ _ (ix2 R n) 7 ?_ S16384x256 (extractStridedSlice S16384x256 ![0, 2316] Z slices_S16384x3604_S16384x256_0_2316) ?_ rfl 2304 ?_ (ix2 R j) (fun b hb => ?_) ?_) ?_
  · exact (by decide : 7 < 16)
  · rfl
  · simp only [List.take_succ_cons, List.take_zero, List.map_cons, List.map_nil, List.sum_cons, List.sum_nil]
    rfl
  · fin_cases b
    · rfl
    · exact absurd rfl hb
  · exact hn.symm
  · pointwise

theorem head_8 (Z : FVec Ideal S16384x3604 .f32) (R : Fin 16384) (n : Fin 3600) (j : Fin 256) (hn : n.val = 2560 + j.val) :
    headR Z (ix2 R n) = Z (ix2 R (⟨2572 + j, by omega⟩ : Fin 3604)) := by
  unfold headR
  refine Eq.trans (concatenate_apply_piece (t := S16384x3600) 1 _ _ (ix2 R n) 8 ?_ S16384x256 (extractStridedSlice S16384x256 ![0, 2572] Z slices_S16384x3604_S16384x256_0_2572) ?_ rfl 2560 ?_ (ix2 R j) (fun b hb => ?_) ?_) ?_
  · exact (by decide : 8 < 16)
  · rfl
  · simp only [List.take_succ_cons, List.take_zero, List.map_cons, List.map_nil, List.sum_cons, List.sum_nil]
    rfl
  · fin_cases b
    · rfl
    · exact absurd rfl hb
  · exact hn.symm
  · pointwise

theorem head_9 (Z : FVec Ideal S16384x3604 .f32) (R : Fin 16384) (n : Fin 3600) (j : Fin 256) (hn : n.val = 2816 + j.val) :
    headR Z (ix2 R n) = Z (ix2 R (⟨2828 + j, by omega⟩ : Fin 3604)) := by
  unfold headR
  refine Eq.trans (concatenate_apply_piece (t := S16384x3600) 1 _ _ (ix2 R n) 9 ?_ S16384x256 (extractStridedSlice S16384x256 ![0, 2828] Z slices_S16384x3604_S16384x256_0_2828) ?_ rfl 2816 ?_ (ix2 R j) (fun b hb => ?_) ?_) ?_
  · exact (by decide : 9 < 16)
  · rfl
  · simp only [List.take_succ_cons, List.take_zero, List.map_cons, List.map_nil, List.sum_cons, List.sum_nil]
    rfl
  · fin_cases b
    · rfl
    · exact absurd rfl hb
  · exact hn.symm
  · pointwise

theorem head_10 (Z : FVec Ideal S16384x3604 .f32) (R : Fin 16384) (n : Fin 3600) (j : Fin 256) (hn : n.val = 3072 + j.val) :
    headR Z (ix2 R n) = Z (ix2 R (⟨3084 + j, by omega⟩ : Fin 3604)) := by
  unfold headR
  refine Eq.trans (concatenate_apply_piece (t := S16384x3600) 1 _ _ (ix2 R n) 10 ?_ S16384x256 (extractStridedSlice S16384x256 ![0, 3084] Z slices_S16384x3604_S16384x256_0_3084) ?_ rfl 3072 ?_ (ix2 R j) (fun b hb => ?_) ?_) ?_
  · exact (by decide : 10 < 16)
  · rfl
  · simp only [List.take_succ_cons, List.take_zero, List.map_cons, List.map_nil, List.sum_cons, List.sum_nil]
    rfl
  · fin_cases b
    · rfl
    · exact absurd rfl hb
  · exact hn.symm
  · pointwise

theorem head_11 (Z : FVec Ideal S16384x3604 .f32) (R : Fin 16384) (n : Fin 3600) (j : Fin 256) (hn : n.val = 3328 + j.val) :
    headR Z (ix2 R n) = Z (ix2 R (⟨3348 + j, by omega⟩ : Fin 3604)) := by
  unfold headR
  refine Eq.trans (concatenate_apply_piece (t := S16384x3600) 1 _ _ (ix2 R n) 11 ?_ S16384x256 (extractStridedSlice S16384x256 ![0, 3348] Z slices_S16384x3604_S16384x256_0_3348) ?_ rfl 3328 ?_ (ix2 R j) (fun b hb => ?_) ?_) ?_
  · exact (by decide : 11 < 16)
  · rfl
  · simp only [List.take_succ_cons, List.take_zero, List.map_cons, List.map_nil, List.sum_cons, List.sum_nil]
    rfl
  · fin_cases b
    · rfl
    · exact absurd rfl hb
  · exact hn.symm
  · pointwise

theorem head_12 (Z : FVec Ideal S16384x3604 .f32) (R : Fin 16384) (n : Fin 3600) (j : Fin 4) (hn : n.val = 3584 + j.val) :
    headR Z (ix2 R n) = Z (ix2 R (⟨768 + j, by omega⟩ : Fin 3604)) := by
  unfold headR
  refine Eq.trans (concatenate_apply_piece (t := S16384x3600) 1 _ _ (ix2 R n) 12 ?_ S16384x4 (extractStridedSlice S16384x4 ![0, 768] Z slices_S16384x3604_S16384x4_0_768) ?_ rfl 3584 ?_ (ix2 R j) (fun b hb => ?_) ?_) ?_
  · exact (by decide : 12 < 16)
  · rfl
  · simp only [List.take_succ_cons, List.take_zero, List.map_cons, List.map_nil, List.sum_cons, List.sum_nil]
    rfl
  · fin_cases b
    · rfl
    · exact absurd rfl hb
  · exact hn.symm
  · pointwise

theorem head_13 (Z : FVec Ideal S16384x3604 .f32) (R : Fin 16384) (n : Fin 3600) (j : Fin 4) (hn : n.val = 3588 + j.val) :
    headR Z (ix2 R n) = Z (ix2 R (⟨1540 + j, by omega⟩ : Fin 3604)) := by
  unfold headR
  refine Eq.trans (concatenate_apply_piece (t := S16384x3600) 1 _ _ (ix2 R n) 13 ?_ S16384x4 (extractStridedSlice S16384x4 ![0, 1540] Z slices_S16384x3604_S16384x4_0_1540) ?_ rfl 3588 ?_ (ix2 R j) (fun b hb => ?_) ?_) ?_
  · exact (by decide : 13 < 16)
  · rfl
  · simp only [List.take_succ_cons, List.take_zero, List.map_cons, List.map_nil, List.sum_cons, List.sum_nil]
    rfl
  · fin_cases b
    · rfl
    · exact absurd rfl hb
  · exact hn.symm
  · pointwise

theorem head_14 (Z : FVec Ideal S16384x3604 .f32) (R : Fin 16384) (n : Fin 3600) (j : Fin 4) (hn : n.val = 3592 + j.val) :
    headR Z (ix2 R n) = Z (ix2 R (⟨1544 + j, by omega⟩ : Fin 3604)) := by
  unfold headR
  refine Eq.trans (concatenate_apply_piece (t := S16384x3600) 1 _ _ (ix2 R n) 14 ?_ S16384x4 (extractStridedSlice S16384x4 ![0, 1544] Z slices_S16384x3604_S16384x4_0_1544) ?_ rfl 3592 ?_ (ix2 R j) (fun b hb => ?_) ?_) ?_
  · exact (by decide : 14 < 16)
  · rfl
  · simp only [List.take_succ_cons, List.take_zero, List.map_cons, List.map_nil, List.sum_cons, List.sum_nil]
    rfl
  · fin_cases b
    · rfl
    · exact absurd rfl hb
  · exact hn.symm
  · pointwise

theorem head_15 (Z : FVec Ideal S16384x3604 .f32) (R : Fin 16384) (n : Fin 3600) (j : Fin 4) (hn : n.val = 3596 + j.val) :
    headR Z (ix2 R n) = Z (ix2 R (⟨3340 + j, by omega⟩ : Fin 3604)) := by
  unfold headR
  refine Eq.trans (concatenate_apply_piece (t := S16384x3600) 1 _ _ (ix2 R n) 15 ?_ S16384x4 (extractStridedSlice S16384x4 ![0, 3340] Z slices_S16384x3604_S16384x4_0_3340) ?_ rfl 3596 ?_ (ix2 R j) (fun b hb => ?_) ?_) ?_
  · exact (by decide : 15 < 16)
  · rfl
  · simp only [List.take_succ_cons, List.take_zero, List.map_cons, List.map_nil, List.sum_cons, List.sum_nil]
    rfl
  · fin_cases b
    · rfl
    · exact absurd rfl hb
  · exact hn.symm
  · pointwise

/-- Of the packed columns, those of the convolution. -/
theorem Pk_conv (Z : FVec Ideal S16384x3604 .f32) (R : Fin 16384) (j : Fin 768) :
    (Pk Z (ix2 R (⟨768 + j, by omega⟩ : Fin 3712)) : EReal) = Z (ix2 R (⟨772 + j, by omega⟩ : Fin 3604)) := by
  rw [Pk_at, dif_pos (show 768 + j.val < 3600 by omega)]
  exact head_3 Z R _ j rfl

theorem Conv_at (Z : FVec Ideal S16384x3604 .f32) (b : Fin 2) (t : Fin 3) (j : Fin 768) :
    (Conv Z (ix3 b t j) : EReal) = Z (ix2 (⟨8192 * b + (8189 + t), by omega⟩ : Fin 16384) (⟨772 + j, by omega⟩ : Fin 3604)) := by
  pointwise [Conv]
  rw [dif_neg (by omega)]
  pointwise
  refine congrArg Z (congrArg₂ ix2 (Fin.ext ?_) (Fin.ext ?_)) <;> dsimp only <;> omega

end Cert.ProjReferenceIdeal.Row

end
-- ==== Proof.ProjFinal.lean ====
/- The input projection: the kernel's packed product against the reference's reordered columns, and the two result
   arrays. -/
module

public import proofs.«01_k».proof.Proof.ProjRow
public import proofs.«01_k».proof.Proof.ProjRef

@[expose] public section

set_option maxRecDepth 16384

noncomputable section

namespace Cert.ProjIdeal.Row

open Cert.ProjIdeal Cert.ProjIdeal.Gen
open Idealize.ShloMosaic Idealize.ShloMosaic.TcCoe Idealize.SL.Sem
open Cert.FfnIdeal.Row (scale normRow)
open Cert.ProjReferenceIdeal.Row (Hn Zc headR tailR Pk Hn_at Zc_at tailR_at Pk_at)

/-- A packed place and the column of the weights it holds. -/
def Sits (n : Fin 3600) (j : Fin 3604) : Prop :=
  (∀ (T : FVec Ideal S3604x1024 .f32) (k : Fin 1024), headPk T (ix2 n k) = T (ix2 j k))
    ∧ ∀ (Z : FVec Ideal Cert.ProjReferenceIdeal.S16384x3604 .f32) (R : Fin 16384), headR Z (ix2 R n) = Z (ix2 R j)

theorem head_any (n : Fin 3600) : ∃ j : Fin 3604, Sits n j := by
  have hn := n.isLt
  rcases (by omega : (0 ≤ n.val ∧ n.val < 256) ∨ (256 ≤ n.val ∧ n.val < 512) ∨ (512 ≤ n.val ∧ n.val < 768) ∨ (768 ≤ n.val ∧ n.val < 1536) ∨ (1536 ≤ n.val ∧ n.val < 1792) ∨ (1792 ≤ n.val ∧ n.val < 2048) ∨ (2048 ≤ n.val ∧ n.val < 2304) ∨ (2304 ≤ n.val ∧ n.val < 2560) ∨ (2560 ≤ n.val ∧ n.val < 2816) ∨ (2816 ≤ n.val ∧ n.val < 3072) ∨ (3072 ≤ n.val ∧ n.val < 3328) ∨ (3328 ≤ n.val ∧ n.val < 3584) ∨ (3584 ≤ n.val ∧ n.val < 3588) ∨ (3588 ≤ n.val ∧ n.val < 3592) ∨ (3592 ≤ n.val ∧ n.val < 3596) ∨ (3596 ≤ n.val ∧ n.val < 3600)) with e | e | e | e | e | e | e | e | e | e | e | e | e | e | e | e
  · exact ⟨(⟨0 + (n.val - 0), by omega⟩ : Fin 3604), fun T k => head_0 T n k (⟨n.val - 0, by omega⟩ : Fin 256) (by show n.val = 0 + (n.val - 0); omega),
      fun Z R => Cert.ProjReferenceIdeal.Row.head_0 Z R n (⟨n.val - 0, by omega⟩ : Fin 256) (by show n.val = 0 + (n.val - 0); omega)⟩
  · exact ⟨(⟨256 + (n.val - 256), by omega⟩ : Fin 3604), fun T k => head_1 T n k (⟨n.val - 256, by omega⟩ : Fin 256) (by show n.val = 256 + (n.val - 256); omega),
      fun Z R => Cert.ProjReferenceIdeal.Row.head_1 Z R n (⟨n.val - 256, by omega⟩ : Fin 256) (by show n.val = 256 + (n.val - 256); omega)⟩
  · exact ⟨(⟨512 + (n.val - 512), by omega⟩ : Fin 3604), fun T k => head_2 T n k (⟨n.val - 512, by omega⟩ : Fin 256) (by show n.val = 512 + (n.val - 512); omega),
      fun Z R => Cert.ProjReferenceIdeal.Row.head_2 Z R n (⟨n.val - 512, by omega⟩ : Fin 256) (by show n.val = 512 + (n.val - 512); omega)⟩
  · exact ⟨(⟨772 + (n.val - 768), by omega⟩ : Fin 3604), fun T k => head_3 T n k (⟨n.val - 768, by omega⟩ : Fin 768) (by show n.val = 768 + (n.val - 768); omega),
      fun Z R => Cert.ProjReferenceIdeal.Row.head_3 Z R n (⟨n.val - 768, by omega⟩ : Fin 768) (by show n.val = 768 + (n.val - 768); omega)⟩
  · exact ⟨(⟨1548 + (n.val - 1536), by omega⟩ : Fin 3604), fun T k => head_4 T n k (⟨n.val - 1536, by omega⟩ : Fin 256) (by show n.val = 1536 + (n.val - 1536); omega),
      fun Z R => Cert.ProjReferenceIdeal.Row.head_4 Z R n (⟨n.val - 1536, by omega⟩ : Fin 256) (by show n.val = 1536 + (n.val - 1536); omega)⟩
  · exact ⟨(⟨1804 + (n.val - 1792), by omega⟩ : Fin 3604), fun T k => head_5 T n k (⟨n.val - 1792, by omega⟩ : Fin 256) (by show n.val = 1792 + (n.val - 1792); omega),
      fun Z R => Cert.ProjReferenceIdeal.Row.head_5 Z R n (⟨n.val - 1792, by omega⟩ : Fin 256) (by show n.val = 1792 + (n.val - 1792); omega)⟩
  · exact ⟨(⟨2060 + (n.val - 2048), by omega⟩ : Fin 3604), fun T k => head_6 T n k (⟨n.val - 2048, by omega⟩ : Fin 256) (by show n.val = 2048 + (n.val - 2048); omega),
      fun Z R => Cert.ProjReferenceIdeal.Row.head_6 Z R n (⟨n.val - 2048, by omega⟩ : Fin 256) (by show n.val = 2048 + (n.val - 2048); omega)⟩
  · exact ⟨(⟨2316 + (n.val - 2304), by omega⟩ : Fin 3604), fun T k => head_7 T n k (⟨n.val - 2304, by omega⟩ : Fin 256) (by show n.val = 2304 + (n.val - 2304); omega),
      fun Z R => Cert.ProjReferenceIdeal.Row.head_7 Z R n (⟨n.val - 2304, by omega⟩ : Fin 256) (by show n.val = 2304 + (n.val - 2304); omega)⟩
  · exact ⟨(⟨2572 + (n.val - 2560), by omega⟩ : Fin 3604), fun T k => head_8 T n k (⟨n.val - 2560, by omega⟩ : Fin 256) (by show n.val = 2560 + (n.val - 2560); omega),
      fun Z R => Cert.ProjReferenceIdeal.Row.head_8 Z R n (⟨n.val - 2560, by omega⟩ : Fin 256) (by show n.val = 2560 + (n.val - 2560); omega)⟩
  · exact ⟨(⟨2828 + (n.val - 2816), by omega⟩ : Fin 3604), fun T k => head_9 T n k (⟨n.val - 2816, by omega⟩ : Fin 256) (by show n.val = 2816 + (n.val - 2816); omega),
      fun Z R => Cert.ProjReferenceIdeal.Row.head_9 Z R n (⟨n.val - 2816, by omega⟩ : Fin 256) (by show n.val = 2816 + (n.val - 2816); omega)⟩
  · exact ⟨(⟨3084 + (n.val - 3072), by omega⟩ : Fin 3604), fun T k => head_10 T n k (⟨n.val - 3072, by omega⟩ : Fin 256) (by show n.val = 3072 + (n.val - 3072); omega),
      fun Z R => Cert.ProjReferenceIdeal.Row.head_10 Z R n (⟨n.val - 3072, by omega⟩ : Fin 256) (by show n.val = 3072 + (n.val - 3072); omega)⟩
  · exact ⟨(⟨3348 + (n.val - 3328), by omega⟩ : Fin 3604), fun T k => head_11 T n k (⟨n.val - 3328, by omega⟩ : Fin 256) (by show n.val = 3328 + (n.val - 3328); omega),
      fun Z R => Cert.ProjReferenceIdeal.Row.head_11 Z R n (⟨n.val - 3328, by omega⟩ : Fin 256) (by show n.val = 3328 + (n.val - 3328); omega)⟩
  · exact ⟨(⟨768 + (n.val - 3584), by omega⟩ : Fin 3604), fun T k => head_12 T n k (⟨n.val - 3584, by omega⟩ : Fin 4) (by show n.val = 3584 + (n.val - 3584); omega),
      fun Z R => Cert.ProjReferenceIdeal.Row.head_12 Z R n (⟨n.val - 3584, by omega⟩ : Fin 4) (by show n.val = 3584 + (n.val - 3584); omega)⟩
  · exact ⟨(⟨1540 + (n.val - 3588), by omega⟩ : Fin 3604), fun T k => head_13 T n k (⟨n.val - 3588, by omega⟩ : Fin 4) (by show n.val = 3588 + (n.val - 3588); omega),
      fun Z R => Cert.ProjReferenceIdeal.Row.head_13 Z R n (⟨n.val - 3588, by omega⟩ : Fin 4) (by show n.val = 3588 + (n.val - 3588); omega)⟩
  · exact ⟨(⟨1544 + (n.val - 3592), by omega⟩ : Fin 3604), fun T k => head_14 T n k (⟨n.val - 3592, by omega⟩ : Fin 4) (by show n.val = 3592 + (n.val - 3592); omega),
      fun Z R => Cert.ProjReferenceIdeal.Row.head_14 Z R n (⟨n.val - 3592, by omega⟩ : Fin 4) (by show n.val = 3592 + (n.val - 3592); omega)⟩
  · exact ⟨(⟨3340 + (n.val - 3596), by omega⟩ : Fin 3604), fun T k => head_15 T n k (⟨n.val - 3596, by omega⟩ : Fin 4) (by show n.val = 3596 + (n.val - 3596); omega),
      fun Z R => Cert.ProjReferenceIdeal.Row.head_15 Z R n (⟨n.val - 3596, by omega⟩ : Fin 4) (by show n.val = 3596 + (n.val - 3596); omega)⟩

theorem col_eq (H : FVec Ideal Cert.ProjReferenceIdeal.S16384x1024 .f32) (W : FVec Ideal S1024x3604 .f32) (R : Fin 16384) (n : Fin 3712) :
    (Pk (Zc H W) (ix2 R n) : EReal) = dotRow (fun k => H (ix2 R k)) (wPk W) n := by
  rw [Pk_at]
  unfold dotRow
  by_cases h : n.val < 3600
  · rw [dif_pos h]
    obtain ⟨j, hj⟩ := head_any ⟨n, h⟩
    rw [hj.2, Zc_at]
    refine Finset.sum_congr rfl fun k _ => congrArg ((H (ix2 R k) : EReal) * ·) ?_
    rw [wPk_at, dif_pos h, hj.1, flip_at]
  · rw [dif_neg h, tailR_at]
    by_cases h4 : n.val - 3600 < 4
    · rw [dif_pos h4, Zc_at]
      refine Finset.sum_congr rfl fun k _ => congrArg ((H (ix2 R k) : EReal) * ·) ?_
      rw [wPk_at, dif_neg h, tail_at, dif_pos h4, flip_at]
    · rw [dif_neg h4]
      refine (Finset.sum_eq_zero fun k _ => ?_).symm
      rw [wPk_at, dif_neg h, tail_at, dif_neg h4, mul_zero]

/-- The reference's result as one function of the argument arrays. -/
def G (A0 : FVec Ideal Cert.ProjReferenceIdeal.S16384x1024 .f32) (A1 : FVec Ideal Cert.ProjReferenceIdeal.S1024 .f32) (A2 : FVec Ideal Cert.ProjReferenceIdeal.S1024x3604 .f32) :
    FVec Ideal Cert.ProjReferenceIdeal.S16384x3712 .f32 := Pk (Zc (Hn A0 A1) A2)

theorem idx : ∀ t : Fin cfg0.N, win0_0.index t = ![t.val, 0] ∧ win0_1.index t = ![0, 0] ∧ win0_2.index t = ![0, 0] ∧ win0_3.index t = ![t.val, 0] ∧ t.val < 32 :=
  (by decide +kernel : ∀ t : Fin grid0.N, _)

variable (m : (ℓ : Loc nD τ sig) → Buf (Elt Ideal) ℓ)

theorem b0 (c : Dev nD) (t : Fin cfg0.N) (h : t.val < 32) (r : Fin 512) (k : Fin 1024) :
    iblk m c 0 t (ix2 r k) = m ((c.tc : Thread nD τ).loc main_arg0) (ix2 (⟨512 * t.val + r, by omega⟩ : Fin 16384) k) := by
  blk_ext! [iblk, V, idx t]

theorem entry_g (c : Dev nD) : V m c main_v23 = shapeCast S1x1024 (m ((c.tc : Thread nD τ).loc main_arg1) : FVec Ideal S1024 .f32) shapeCasts_S1024_S1x1024 := by
  show StableHlo.after hostOps0 _ _ = _
  simp only [hostOps0]
  after_results_simp <;> rfl

theorem gains (c : Dev nD) (k : Fin 1024) : V m c main_v23 (ix2 0 k) = m ((c.tc : Thread nD τ).loc main_arg1) (ix1 k) := by
  rw [entry_g]
  pointwise

theorem b1 (c : Dev nD) (t : Fin cfg0.N) (k : Fin 1024) :
    iblk m c 1 t (ix2 0 k) = m ((c.tc : Thread nD τ).loc main_arg1) (ix1 k) := by
  refine Eq.trans ?_ (gains m c k)
  blk_ext [iblk, idx t]

theorem b2 (c : Dev nD) (t : Fin cfg0.N) : iblk m c 2 t = wPk (m ((c.tc : Thread nD τ).loc main_arg2)) := by
  refine Eq.trans (funext fun y => ?_) (entry_w m c)
  blk_ext [iblk, idx t]

theorem dot_congr {f f' g g' : Fin 1024 → EReal} {w w' : S3712x1024.Idx → EReal} (hf : ∀ k, f k = f' k) (hg : ∀ k, g k = g' k) (hw : w = w') (n : Fin 3712) :
    dotRow (normRow f g) w n = dotRow (normRow f' g') w' n := by
  rw [funext hf, funext hg, hw]

/-- The kernel's result array is the reference's function of the argument arrays. -/
theorem final (c : Dev nD) : (dats m 0 c).arrAt 3 cfg0.N = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 32 := (idx t).2.2.2.2
  blk_simp
  rw [after0_3]
  have key : ∀ (r : Fin 512) (n : Fin 3712), (outsAt0 m c t (ix2 r n) : EReal) = G (m ((c.tc : Thread nD τ).loc main_arg0)) (m ((c.tc : Thread nD τ).loc main_arg1)) (m ((c.tc : Thread nD τ).loc main_arg2)) (ix2 (⟨512 * t.val + r, by omega⟩ : Fin 16384) n) := by
    intro r n
    refine (out_row _ c _ _ _ _ _ _ _ _ _ _ _ r n).trans ?_
    refine Eq.trans ?_ (col_eq _ _ _ _).symm
    rw [show (fun k => (Hn (m ((c.tc : Thread nD τ).loc main_arg0)) (m ((c.tc : Thread nD τ).loc main_arg1)) (ix2 (⟨512 * t.val + r, by omega⟩ : Fin 16384) k) : EReal))
      = normRow (fun k => m ((c.tc : Thread nD τ).loc main_arg0) (ix2 (⟨512 * t.val + r, by omega⟩ : Fin 16384) k)) (fun k => m ((c.tc : Thread nD τ).loc main_arg1) (ix1 k)) from funext fun k => Hn_at _ _ _ k]
    exact dot_congr (b0 m c t ht r) (b1 m c t) (b2 m c t) n
  obtain ⟨r, n, rfl⟩ : ∃ (r : Fin 512) (n : Fin 3712), y = ix2 r n := ⟨y 0, y 1, by funext a; fin_cases a <;> rfl⟩
  refine (key r n).trans ?_
  blk_ext [idx t]

/-- The rows of the kernel's array by sequence and position. -/
theorem seq_at (X : FVec Ideal S16384x3712 .f32) (b : Fin 2) (s : Fin 8192) (n : Fin 3712) :
    shapeCast S2x8192x3712 X shapeCasts_S16384x3712_S2x8192x3712 (ix3 b s n) = X (ix2 (⟨8192 * b + s, by omega⟩ : Fin 16384) n) := by
  pointwise
  refine congrArg X (congrArg₂ ix2 (Fin.ext ?_) (Fin.ext ?_)) <;> dsimp only <;> omega

theorem slice_at (X : FVec Ideal S2x8192x3712 .f32) (b : Fin 2) (t : Fin 3) (j : Fin 768) (s : Fin 8192) (n : Fin 3712) (hs : s.val = 8189 + t.val) (hn : n.val = 768 + j.val) :
    extractStridedSlice S2x3x768 ![0, 8189, 768] X slices_S2x8192x3712_S2x3x768_0_8189_768 (ix3 b t j) = X (ix3 b s n) := by
  refine extractStridedSlice_apply _ _ _ _ _ fun a => ?_
  fin_cases a
  · exact (Nat.zero_add b.val).symm
  · exact hs
  · exact hn

/-- The last three convolution rows of each sequence out of the kernel's array. -/
theorem conv_eq (Z : FVec Ideal Cert.ProjReferenceIdeal.S16384x3604 .f32) :
    extractStridedSlice S2x3x768 ![0, 8189, 768] (shapeCast S2x8192x3712 (Pk Z : FVec Ideal S16384x3712 .f32) shapeCasts_S16384x3712_S2x8192x3712) slices_S2x8192x3712_S2x3x768_0_8189_768 = Cert.ProjReferenceIdeal.Row.Conv Z := by
  funext y
  obtain ⟨b, t, j, rfl⟩ : ∃ (b : Fin 2) (t : Fin 3) (j : Fin 768), y = ix3 b t j := ⟨y 0, y 1, y 2, by funext a; fin_cases a <;> rfl⟩
  rw [slice_at _ b t j (⟨8189 + t, by omega⟩ : Fin 8192) (⟨768 + j, by omega⟩ : Fin 3712) rfl rfl, seq_at, Cert.ProjReferenceIdeal.Row.Conv_at]
  exact Cert.ProjReferenceIdeal.Row.Pk_conv Z _ j

/-- The contents the lines after the call start from: the call's result where the kernel's array is, everything else as before the call. -/
def Wa (c : Dev nD) : Valuation τ sig (Elt Ideal) := Pipeline.withArrays spec0 c (V0 m c) fun w => (dats m 0 c).arrAt w cfg0.N

theorem Wa_z (c : Dev nD) : Wa m c (Proc.devRef .tc main_v24) = (dats m 0 c).arrAt 3 cfg0.N :=
  (dats m 0 c).withArrays_arrAt (by decide) (V0 m c) (A_eq m c) 3

set_option maxHeartbeats 1000000 in
theorem after_conv (c : Dev nD) : Pipeline.afterTail₀ cfgs (dats m) 0 (V0 m) [hostOps1] c main_v26
    = extractStridedSlice S2x3x768 ![0, 8189, 768] (shapeCast S2x8192x3712 (Wa m c (Proc.devRef .tc main_v24)) shapeCasts_S16384x3712_S2x8192x3712) slices_S2x8192x3712_S2x3x768_0_8189_768 := by
  show StableHlo.after hostOps1 (Wa m c) (Proc.devRef .tc main_v26) = _
  generalize Wa m c = W
  simp only [hostOps1]
  after_results_simp <;> rfl

/-- The projection in the order of the weights, as a function of the kernel's arguments. -/
abbrev Zm (c : Dev nD) : FVec Ideal Cert.ProjReferenceIdeal.S16384x3604 .f32 :=
  Zc (Hn (m ((c.tc : Thread nD τ).loc main_arg0)) (m ((c.tc : Thread nD τ).loc main_arg1))) (m ((c.tc : Thread nD τ).loc main_arg2))

theorem final_conv (c : Dev nD) : Pipeline.afterTail₀ cfgs (dats m) 0 (V0 m) [hostOps1] c main_v26 = Cert.ProjReferenceIdeal.Row.Conv (Zm m c) := by
  rw [after_conv, Wa_z, final]
  exact conv_eq _

/-- The kernel's run with its two results named and its arguments as they were. -/
theorem run_value (ρ : Dev nD → PrngReg) : θ_run defs (onTc (τ := τ) (main (F := Ideal))) ⟨m, fun _ => 0, ρ⟩ fun r => ∀ c : Dev nD,
      r.2.mem ((c.tc : Thread nD τ).loc main_v24) = Pk (Zm m c)
      ∧ r.2.mem ((c.tc : Thread nD τ).loc main_v26) = Cert.ProjReferenceIdeal.Row.Conv (Zm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final m c),
      ((h c).2 main_v26 (Pipeline.mem_restRefs_of main_v26 (by decide) (by decide))).trans (final_conv m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ProjIdeal.Row

end
-- ==== Proof.PrepRef.lean ====
/- The preparation of queries and keys: the reference's results at a position. -/
module

public import proofs.«01_k».proof.Proof.ProjRow
public import proofs.«01_k».proof.Proof.Gen.PrepReferenceIdeal.Run

@[expose] public section

set_option maxRecDepth 16384

noncomputable section

namespace Cert.PrepReferenceIdeal.Row

open Cert.PrepReferenceIdeal Cert.PrepReferenceIdeal.Gen
open Idealize.ShloMosaic Idealize.ShloMosaic.TcCoe Idealize.SL.Sem

/-- 256 columns of the projected row as four heads of 64. -/
def Hd (A0 : FVec Ideal S128x3712 .f32) (o : ℕ) (h : S128x3712.Slices ![0, o] S128x256) : FVec Ideal S32x4x4x64 .f32 :=
  shapeCast S32x4x4x64 (shapeCast S32x4x256 (extractStridedSlice S128x256 ![0, o] A0 h) shapeCasts_S128x256_S32x4x256) shapeCasts_S32x4x256_S32x4x4x64

/-- Each head over its root mean square, times the gains. -/
def Nm (X : FVec Ideal S32x4x4x64 .f32) (W : FVec Ideal S64 .f32) : FVec Ideal S32x4x4x64 .f32 :=
  mulf (mulf X (broadcastInDim S32x4x4x64 ![0, 1, 2, 3] bcast_S32x4x4x1_S32x4x4x64_0_1_2_3 (Host.rsqrt (addf (Host.divf (broadcastInDim S32x4x4x1 ![0, 1, 2] bcast_S32x4x4_S32x4x4x1_0_1_2 (Host.reduceAdd (mulf X X) (constant S_ .f32 0x00000000#32) reducesTo_S32x4x4x64_S32x4x4_d3 h_S_)) (broadcastInDim S32x4x4x1 ![] bcast_S_S32x4x4x1 (constant S_ .f32 0x42800000#32))) (broadcastInDim S32x4x4x1 ![] bcast_S_S32x4x4x1 (constant S_ .f32 0x358637BD#32)))))) (broadcastInDim S32x4x4x64 ![0, 1, 2, 3] bcast_S1x1x1x64_S32x4x4x64_0_1_2_3 (broadcastInDim S1x1x1x64 ![3] bcast_S64_S1x1x1x64_3 W))

/-- The angles of the rotation. -/
def Ang (P : IVec S4 32) : FVec Ideal S4x32 .f32 :=
  mulf (broadcastInDim S4x32 ![0, 1] bcast_S4x1_S4x32_0_1 (broadcastInDim S4x1 ![0] bcast_S4_S4x1_0 (sitofp .f32 P))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- A table over the angles, laid along batches and heads. -/
def Tb (T : FVec Ideal S4x32 .f32) : FVec Ideal S32x4x4x32 .f32 :=
  broadcastInDim S32x4x4x32 ![0, 1, 2, 3] bcast_S1x4x1x32_S32x4x4x32_0_1_2_3 (broadcastInDim S1x4x1x32 ![1, 3] bcast_S4x32_S1x4x1x32_1_3 T)

/-- Each head rotated by the tables. -/
def Rt (X : FVec Ideal S32x4x4x64 .f32) (C S : FVec Ideal S4x32 .f32) : FVec Ideal S32x4x4x64 .f32 :=
  concatenate S32x4x4x64 3
    [⟨S32x4x4x32, (subf (mulf (extractStridedSlice S32x4x4x32 ![0, 0, 0, 0] X slices_S32x4x4x64_S32x4x4x32_0_0_0_0) (Tb C)) (mulf (extractStridedSlice S32x4x4x32 ![0, 0, 0, 32] X slices_S32x4x4x64_S32x4x4x32_0_0_0_32) (Tb S)) : FVec Ideal S32x4x4x32 .f32)⟩,
     ⟨S32x4x4x32, (addf (mulf (extractStridedSlice S32x4x4x32 ![0, 0, 0, 32] X slices_S32x4x4x64_S32x4x4x32_0_0_0_32) (Tb C)) (mulf (extractStridedSlice S32x4x4x32 ![0, 0, 0, 0] X slices_S32x4x4x64_S32x4x4x32_0_0_0_0) (Tb S)) : FVec Ideal S32x4x4x32 .f32)⟩]
    concatenates_S32x4x4x32_S32x4x4x32_S32x4x4x64_d3

/-- An eighth of every entry. -/
def Eighth (X : FVec Ideal S32x4x4x64 .f32) : FVec Ideal S32x4x4x64 .f32 := mulf X (broadcastInDim S32x4x4x64 ![] bcast_S_S32x4x4x64 (constant S_ .f32 0x3E000000#32))

/-- The heads side by side again. -/
def Pk (X : FVec Ideal S32x4x4x64 .f32) : FVec Ideal S128x256 .f32 := shapeCast S128x256 X shapeCasts_S32x4x4x64_S128x256

/-- The gate columns with the biases on the first four. -/
def Bs (A0 : FVec Ideal S128x3712 .f32) (B : FVec Ideal S4 .f32) : FVec Ideal S128x128 .f32 :=
  addf (extractStridedSlice S128x128 ![0, 3584] A0 slices_S128x3712_S128x128_0_3584) (broadcastInDim S128x128 ![0, 1] bcast_S1x128_S128x128_0_1 (broadcastInDim S1x128 ![1] bcast_S128_S1x128_1 (pad S128 ![0] ![124] ![0] B (sitofp .f32 (constantI S_ 32 0#32)) pads_S4_S128_01240 h_S_)))

/-- The logarithm of the logistic function. -/
def Ls (X : FVec Ideal S128x128 .f32) : FVec Ideal S128x128 .f32 :=
  Host.negf (select (cmpf .une (subf (Host.negf X) (broadcastInDim S128x128 ![] bcast_S_S128x128 (constant S_ .f32 0x00000000#32))) (subf (Host.negf X) (broadcastInDim S128x128 ![] bcast_S_S128x128 (constant S_ .f32 0x00000000#32)))) (addf (Host.negf X) (broadcastInDim S128x128 ![] bcast_S_S128x128 (constant S_ .f32 0x00000000#32))) (addf (maximumf (Host.negf X) (broadcastInDim S128x128 ![] bcast_S_S128x128 (constant S_ .f32 0x00000000#32))) (Host.log1p (Host.exp (Host.negf (Host.absf (subf (Host.negf X) (broadcastInDim S128x128 ![] bcast_S_S128x128 (constant S_ .f32 0x00000000#32)))))))))

theorem res3_eq (m : (ℓ : Loc nD τ sig) → Buf (Elt Ideal) ℓ) (c : Dev nD) (A0 : FVec Ideal S128x3712 .f32) (A3 : FVec Ideal S64 .f32) (A6 : IVec S4 32)
    (h0 : m ((c.tc : Thread nD τ).loc main_arg0) = A0) (h3 : m ((c.tc : Thread nD τ).loc main_arg3) = A3) (h6 : m ((c.tc : Thread nD τ).loc main_arg6) = A6) :
    Cert.PrepReferenceIdeal.Value.res_out3 m c = Pk (Eighth (Rt (Nm (Hd A0 1792 slices_S128x3712_S128x256_0_1792) A3) (Host.cos (Ang A6)) (Host.sin (Ang A6)))) := by
  subst h0 h3 h6
  rfl

theorem res4_eq (m : (ℓ : Loc nD τ sig) → Buf (Elt Ideal) ℓ) (c : Dev nD) (A0 : FVec Ideal S128x3712 .f32) (A4 : FVec Ideal S64 .f32) (A6 : IVec S4 32)
    (h0 : m ((c.tc : Thread nD τ).loc main_arg0) = A0) (h4 : m ((c.tc : Thread nD τ).loc main_arg4) = A4) (h6 : m ((c.tc : Thread nD τ).loc main_arg6) = A6) :
    Cert.PrepReferenceIdeal.Value.res_out4 m c = Pk (Rt (Nm (Hd A0 2048 slices_S128x3712_S128x256_0_2048) A4) (Host.cos (Ang A6)) (Host.sin (Ang A6))) := by
  subst h0 h4 h6
  rfl

theorem Hd_at (A0 : FVec Ideal S128x3712 .f32) (o : ℕ) (ho : o + 256 ≤ 3712) (h : S128x3712.Slices ![0, o] S128x256) (b : Fin 32) (t h' : Fin 4) (j : Fin 64) :
    (Hd A0 o h (ix4 b t h' j) : EReal) = A0 (ix2 (⟨4 * b + t, by omega⟩ : Fin 128) (⟨o + (64 * h' + j), by omega⟩ : Fin 3712)) := by
  pointwise [Hd]
  refine congrArg A0 (congrArg₂ ix2 (Fin.ext ?_) (Fin.ext ?_)) <;> dsimp only <;> omega

theorem Nm_at (X : FVec Ideal S32x4x4x64 .f32) (W : FVec Ideal S64 .f32) (b : Fin 32) (t h : Fin 4) (j : Fin 64) :
    (Nm X W (ix4 b t h j) : EReal) = X (ix4 b t h j) * Ideal.rsqrt (Ideal.div (∑ x : Fin 64, X (ix4 b t h x) * X (ix4 b t h x)) (Ideal.ofBits .f32 1115684864#32) + Ideal.ofBits .f32 897988541#32) * W (ix1 j) := by
  pointwise [Nm]

/-- The rotation at a lane of the first half. -/
theorem Rt_lo (X : FVec Ideal S32x4x4x64 .f32) (C S : FVec Ideal S4x32 .f32) (b : Fin 32) (t h : Fin 4) (j : Fin 64) (hj : (j : ℕ) < 32) :
    (Rt X C S (ix4 b t h j) : EReal) = X (ix4 b t h j) * C (ix2 t (⟨j, hj⟩ : Fin 32)) - X (ix4 b t h (⟨32 + j, by omega⟩ : Fin 64)) * S (ix2 t (⟨j, hj⟩ : Fin 32)) := by
  pointwise [Rt, Tb]
  rw [dif_pos hj]

/-- The rotation at a lane of the second half. -/
theorem Rt_hi (X : FVec Ideal S32x4x4x64 .f32) (C S : FVec Ideal S4x32 .f32) (b : Fin 32) (t h : Fin 4) (j : Fin 64) (hj : ¬ (j : ℕ) < 32) :
    (Rt X C S (ix4 b t h j) : EReal) = X (ix4 b t h j) * C (ix2 t (⟨j - 32, by omega⟩ : Fin 32)) + X (ix4 b t h (⟨j - 32, by omega⟩ : Fin 64)) * S (ix2 t (⟨j - 32, by omega⟩ : Fin 32)) := by
  have e : (⟨32 + (j - 32), by omega⟩ : Fin 64) = j := Fin.ext (by dsimp only; omega)
  pointwise [Rt, Tb]
  rw [dif_neg hj, e]

theorem Eighth_at (X : FVec Ideal S32x4x4x64 .f32) (b : Fin 32) (t h : Fin 4) (j : Fin 64) :
    (Eighth X (ix4 b t h j) : EReal) = X (ix4 b t h j) * Ideal.ofBits .f32 1040187392#32 := by
  pointwise [Eighth]

theorem Pk_at (X : FVec Ideal S32x4x4x64 .f32) (r : Fin 128) (n : Fin 256) :
    (Pk X (ix2 r n) : EReal) = X (ix4 (⟨r / 4, by omega⟩ : Fin 32) (⟨r % 4, by omega⟩ : Fin 4) (⟨n / 64, by omega⟩ : Fin 4) (⟨n % 64, by omega⟩ : Fin 64)) := by
  pointwise [Pk]

/-- The angle of position `t` at lane `i`. -/
theorem Ang_at (P : IVec S4 32) (t : Fin 4) (i : Fin 32) :
    (Ang P (ix2 t i) : EReal) = FloatOps.sitofp (F := Ideal) .f32 (P (ix1 t)) * Ideal.pow (Ideal.ofBits .f32 1176256512#32) (Ideal.div (-(FloatOps.sitofp (F := Ideal) .f32 (BitVec.ofNat 32 i))) (Ideal.ofBits .f32 1107296256#32)) := by
  pointwise [Ang]

theorem Ls_at (X : FVec Ideal S128x128 .f32) (r n : Fin 128) :
    (Ls X (ix2 r n) : EReal) = -(max (-(X (ix2 r n))) 0 + Ideal.log1p (Ideal.exp (-(FloatOps.absf (F := Ideal) (φ := .f32) (-(X (ix2 r n))))))) := by
  pointwise [Ls]
  rw [if_neg (fun h => h rfl)]

theorem Bs_at (A0 : FVec Ideal S128x3712 .f32) (B : FVec Ideal S4 .f32) (r n : Fin 128) :
    (Bs A0 B (ix2 r n) : EReal) = A0 (ix2 r (⟨3584 + n, by omega⟩ : Fin 3712)) + if h : (n : ℕ) < 4 then B (ix1 (⟨n, h⟩ : Fin 4)) else FloatOps.sitofp (F := Ideal) .f32 (0#32) := by
  pointwise [Bs]

end Cert.PrepReferenceIdeal.Row

end
-- ==== Proof.PrepHost.lean ====
/- What the kernel's tables hold when it starts: gains, biases, rotation tables and the head indicator. -/
module

public import proofs.«01_k».proof.Proof.ProjRow
public import proofs.«01_k».proof.Proof.Gen.PrepIdeal.Value
public import Idealize.ShloMosaic.Lib.Routing.OpsOrder

@[expose] public section

set_option maxRecDepth 16384

noncomputable section

namespace Cert.PrepIdeal.Row

open Cert.PrepIdeal Cert.PrepIdeal.Gen
open Idealize.ShloMosaic Idealize.ShloMosaic.TcCoe Idealize.SL.Sem

/-- A gain row: the 64 gains once per head. -/
def wRow (W : FVec Ideal S64 .f32) : FVec Ideal S1x256 .f32 :=
  shapeCast S1x256 (shapeCast S256 (broadcastInDim S4x64 ![0, 1] bcast_S1x64_S4x64_0_1 (shapeCast S1x64 W shapeCasts_S64_S1x64)) shapeCasts_S4x64_S256) shapeCasts_S256_S1x256

theorem wRow_at (W : FVec Ideal S64 .f32) (n : Fin 256) : (wRow W (ix2 0 n) : EReal) = W (ix1 (⟨n % 64, by omega⟩ : Fin 64)) := by
  pointwise [wRow]

/-- The bias row. -/
def bRow (B : FVec Ideal S4 .f32) : FVec Ideal S1x128 .f32 :=
  Host.scatter scatter_S1x128_S2_S4_0_0_01_0 (fun _ b => b) (broadcastInDim S1x128 ![] bcast_S_S1x128 (constant S_ .f32 0x00000000#32)) (concatenate S2 0 [⟨S1, (broadcastInDim S1 ![] bcast_S_S1 (constantI S_ 32 0#32) : IVec S1 32)⟩, ⟨S1, (broadcastInDim S1 ![] bcast_S_S1 (constantI S_ 32 0#32) : IVec S1 32)⟩] concatenates_S1_S1_S2_d0) B

/-- The angles. -/
def Ang (P : IVec S4 32) : FVec Ideal S4x32 .f32 :=
  mulf (broadcastInDim S4x32 ![0, 1] bcast_S4x1_S4x32_0_1 (broadcastInDim S4x1 ![0] bcast_S4_S4x1_0 (sitofp .f32 P))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- Two tables side by side, over heads and batches. -/
def Lay (T U : FVec Ideal S4x32 .f32) : FVec Ideal S128x256 .f32 :=
  shapeCast S128x256 (broadcastInDim S32x4x1x256 ![0, 1, 2, 3] bcast_S1x4x1x256_S32x4x1x256_0_1_2_3 (shapeCast S1x4x1x256 (shapeCast S4x256 (broadcastInDim S1x4x4x64 ![0, 1, 2, 3] bcast_S1x4x1x64_S1x4x4x64_0_1_2_3 (shapeCast S1x4x1x64 (concatenate S4x64 1 [⟨S4x32, T⟩, ⟨S4x32, U⟩] concatenates_S4x32_S4x32_S4x64_d1) shapeCasts_S4x64_S1x4x1x64)) shapeCasts_S1x4x4x64_S4x256) shapeCasts_S4x256_S1x4x1x256)) shapeCasts_S32x4x1x256_S128x256

theorem Lay_at (T U : FVec Ideal S4x32 .f32) (r : Fin 128) (n : Fin 256) :
    (Lay T U (ix2 r n) : EReal) = if h : (n : ℕ) % 64 < 32 then T (ix2 (⟨r % 4, by omega⟩ : Fin 4) (⟨n % 64, h⟩ : Fin 32)) else U (ix2 (⟨r % 4, by omega⟩ : Fin 4) (⟨n % 64 - 32, by omega⟩ : Fin 32)) := by
  pointwise [Lay]

/-- Row numbers over 64, rounded down, as the program computes it. -/
def headR : IVec S256x1 32 :=
  select (andi (cmpi .ne (signi (broadcastInDim S256x1 ![0] bcast_S256_S256x1_0 (iotaInDim S256 32 0))) (broadcastInDim S256x1 ![] bcast_S_S256x1 (signi (constantI S_ 32 64#32))))
      (cmpi .ne (Host.remsi (broadcastInDim S256x1 ![0] bcast_S256_S256x1_0 (iotaInDim S256 32 0)) (broadcastInDim S256x1 ![] bcast_S_S256x1 (constantI S_ 32 64#32))) (broadcastInDim S256x1 ![] bcast_S_S256x1 (constantI S_ 32 0#32))))
    (subi (Host.divsi (broadcastInDim S256x1 ![0] bcast_S256_S256x1_0 (iotaInDim S256 32 0)) (broadcastInDim S256x1 ![] bcast_S_S256x1 (constantI S_ 32 64#32))) (broadcastInDim S256x1 ![] bcast_S_S256x1 (constantI S_ 32 1#32)))
    (Host.divsi (broadcastInDim S256x1 ![0] bcast_S256_S256x1_0 (iotaInDim S256 32 0)) (broadcastInDim S256x1 ![] bcast_S_S256x1 (constantI S_ 32 64#32)))

/-- Column numbers over 64, likewise. -/
def headC : IVec S1x256 32 :=
  select (andi (cmpi .ne (signi (broadcastInDim S1x256 ![1] bcast_S256_S1x256_1 (iotaInDim S256 32 0))) (broadcastInDim S1x256 ![] bcast_S_S1x256 (signi (constantI S_ 32 64#32))))
      (cmpi .ne (Host.remsi (broadcastInDim S1x256 ![1] bcast_S256_S1x256_1 (iotaInDim S256 32 0)) (broadcastInDim S1x256 ![] bcast_S_S1x256 (constantI S_ 32 64#32))) (broadcastInDim S1x256 ![] bcast_S_S1x256 (constantI S_ 32 0#32))))
    (subi (Host.divsi (broadcastInDim S1x256 ![1] bcast_S256_S1x256_1 (iotaInDim S256 32 0)) (broadcastInDim S1x256 ![] bcast_S_S1x256 (constantI S_ 32 64#32))) (broadcastInDim S1x256 ![] bcast_S_S1x256 (constantI S_ 32 1#32)))
    (Host.divsi (broadcastInDim S1x256 ![1] bcast_S256_S1x256_1 (iotaInDim S256 32 0)) (broadcastInDim S1x256 ![] bcast_S_S1x256 (constantI S_ 32 64#32)))

/-- One where a row and a column belong to the same head. -/
def Same : FVec Ideal S256x256 .bf16 :=
  uitofp .bf16 (cmpi .eq (broadcastInDim S256x256 ![0, 1] bcast_S256x1_S256x256_0_1 headR) (broadcastInDim S256x256 ![0, 1] bcast_S1x256_S256x256_0_1 headC))

theorem headR_at (r : Fin 256) : headR (ix2 r 0) = BitVec.ofNat 32 (r / 64) := by
  pointwise [headR]
  revert r
  decide +kernel

theorem headC_at (r : Fin 256) : headC (ix2 0 r) = BitVec.ofNat 32 (r / 64) := by
  pointwise [headC]
  revert r
  decide +kernel

theorem Same_at (r n : Fin 256) : (Same (ix2 r n) : EReal) = if (r : ℕ) / 64 = n / 64 then 1 else 0 := by
  pointwise [Same]
  rw [headR_at, headC_at]
  have e : IntOp.cmpi CmpIPredicate.eq (BitVec.ofNat 32 ((r : ℕ) / 64)) (BitVec.ofNat 32 ((n : ℕ) / 64)) = if (r : ℕ) / 64 = n / 64 then 1#1 else 0#1 := by
    have h : ∀ a b : Fin 4, IntOp.cmpi CmpIPredicate.eq (BitVec.ofNat 32 (a : ℕ)) (BitVec.ofNat 32 (b : ℕ)) = if (a : ℕ) = b then 1#1 else 0#1 := by decide +kernel
    exact h (⟨r / 64, by omega⟩ : Fin 4) (⟨n / 64, by omega⟩ : Fin 4)
  rw [e]
  split_ifs
  · show (((1#1 : BitVec 1).toNat : ℝ) : EReal) = 1
    norm_num
  · show (((0#1 : BitVec 1).toNat : ℝ) : EReal) = 0
    norm_num

theorem lands : ∀ (k : Fin S4.numel) (n : Fin 128), scatter_S1x128_S2_S4_0_0_01_0.resultIdx? (S4.rowMajor.symm k) (fun _ => 0#32 : IVec S2 32) = some (ix2 0 n) ↔ k.val = n.val := by
  decide +kernel

theorem bRow_at (B : FVec Ideal S4 .f32) (n : Fin 128) : (bRow B (ix2 0 n) : EReal) = if h : (n : ℕ) < 4 then B (ix1 (⟨n, h⟩ : Fin 4)) else 0 := by
  have hi : (concatenate S2 0 [⟨S1, (broadcastInDim S1 ![] bcast_S_S1 (constantI S_ 32 0#32) : IVec S1 32)⟩, ⟨S1, (broadcastInDim S1 ![] bcast_S_S1 (constantI S_ 32 0#32) : IVec S1 32)⟩] concatenates_S1_S1_S2_d0 : IVec S2 32) = fun _ => 0#32 := by
    funext y
    obtain ⟨a, rfl⟩ : ∃ a : Fin 2, y = ix1 a := ⟨y 0, by funext z; fin_cases z; rfl⟩
    pointwise
    try split_ifs <;> rfl
  unfold bRow
  rw [hi, ← Routing.scatterIn_finRange, Routing.scatterIn_at]
  simp only [lands]
  have hk : ∀ k : Fin S4.numel, S4.rowMajor.symm k = ix1 (⟨k.val, k.isLt⟩ : Fin 4) := by decide +kernel
  simp only [hk]
  have h0 : (broadcastInDim S1x128 ![] bcast_S_S1x128 (constant S_ .f32 0x00000000#32) : FVec Ideal S1x128 .f32) (ix2 0 n) = (0 : EReal) := by
    pointwise
  rw [h0]
  show (List.finRange 4).foldl (fun (a : EReal) (k : Fin 4) => if k.val = n.val then (B (ix1 k) : EReal) else a) 0 = _
  have hl : List.finRange 4 = [(0 : Fin 4), (1 : Fin 4), (2 : Fin 4), (3 : Fin 4)] := by decide +kernel
  rw [hl]
  simp only [List.foldl_cons, List.foldl_nil]
  by_cases h : (n : ℕ) < 4
  · rw [dif_pos h]
    obtain ⟨v, hv⟩ := n
    dsimp only at h ⊢
    interval_cases v <;> rfl
  · rw [dif_neg h]
    have ne : ∀ k : Fin 4, ¬ k.val = n.val := fun k e => h (by have := k.isLt; omega)
    rw [if_neg (ne 3), if_neg (ne 2), if_neg (ne 1), if_neg (ne 0)]

variable (m : (ℓ : Loc nD τ sig) → Buf (Elt Ideal) ℓ)

set_option maxHeartbeats 8000000 in
theorem entry_w1 (c : Dev nD) : V m c main_v26 = wRow (m ((c.tc : Thread nD τ).loc main_arg1)) := by
  unfold V
  simp only [List.flatten_cons, List.flatten_nil, List.append_nil, List.cons_append, List.nil_append]
  after_results_simp <;> (try dsimp only [Matrix.cons_val]) <;> (try after_results_simp) <;> rfl

set_option maxHeartbeats 8000000 in
theorem entry_w2 (c : Dev nD) : V m c main_v30 = wRow (m ((c.tc : Thread nD τ).loc main_arg2)) := by
  unfold V
  simp only [List.flatten_cons, List.flatten_nil, List.append_nil, List.cons_append, List.nil_append]
  after_results_simp <;> (try dsimp only [Matrix.cons_val]) <;> (try after_results_simp) <;> rfl

set_option maxHeartbeats 8000000 in
theorem entry_w3 (c : Dev nD) : V m c main_v34 = wRow (m ((c.tc : Thread nD τ).loc main_arg3)) := by
  unfold V
  simp only [List.flatten_cons, List.flatten_nil, List.append_nil, List.cons_append, List.nil_append]
  after_results_simp <;> (try dsimp only [Matrix.cons_val]) <;> (try after_results_simp) <;> rfl

set_option maxHeartbeats 8000000 in
theorem entry_w4 (c : Dev nD) : V m c main_v38 = wRow (m ((c.tc : Thread nD τ).loc main_arg4)) := by
  unfold V
  simp only [List.flatten_cons, List.flatten_nil, List.append_nil, List.cons_append, List.nil_append]
  after_results_simp <;> (try dsimp only [Matrix.cons_val]) <;> (try after_results_simp) <;> rfl

set_option maxHeartbeats 8000000 in
theorem entry_b (c : Dev nD) : V m c main_v43 = bRow (m ((c.tc : Thread nD τ).loc main_arg5)) := by
  unfold V
  simp only [List.flatten_cons, List.flatten_nil, List.append_nil, List.cons_append, List.nil_append]
  after_results_simp <;> (try dsimp only [Matrix.cons_val]) <;> (try after_results_simp) <;> rfl

set_option maxHeartbeats 8000000 in
theorem entry_c (c : Dev nD) : V m c main_v46 = Lay (Host.cos (Ang (m ((c.tc : Thread nD τ).loc main_arg6)))) (Host.cos (Ang (m ((c.tc : Thread nD τ).loc main_arg6)))) := by
  unfold V
  simp only [List.flatten_cons, List.flatten_nil, List.append_nil, List.cons_append, List.nil_append]
  after_results_simp <;> (try dsimp only [Matrix.cons_val]) <;> (try after_results_simp) <;> rfl

set_option maxHeartbeats 8000000 in
theorem entry_s (c : Dev nD) : V m c main_v49 = Lay (Host.negf (Host.sin (Ang (m ((c.tc : Thread nD τ).loc main_arg6))))) (Host.sin (Ang (m ((c.tc : Thread nD τ).loc main_arg6)))) := by
  unfold V
  simp only [List.flatten_cons, List.flatten_nil, List.append_nil, List.cons_append, List.nil_append]
  after_results_simp <;> (try dsimp only [Matrix.cons_val]) <;> (try after_results_simp) <;> rfl

set_option maxHeartbeats 8000000 in
theorem entry_g (c : Dev nD) : V m c main_v58 = Same := by
  unfold V
  simp only [List.flatten_cons, List.flatten_nil, List.append_nil, List.cons_append, List.nil_append]
  after_results_simp <;> (try dsimp only [Matrix.cons_val]) <;> (try after_results_simp) <;> rfl

end Cert.PrepIdeal.Row

end
-- ==== Proof.PrepBlock.lean ====
/- The preparation of queries and keys: what the kernel's one block leaves in each output. -/
module

public import proofs.«01_k».proof.Proof.PrepHost

@[expose] public section

set_option maxRecDepth 16384

noncomputable section

namespace Cert.PrepIdeal.Row

open Cert.PrepIdeal Cert.PrepIdeal.Gen
open Idealize.ShloMosaic Idealize.ShloMosaic.TcCoe Idealize.SL.Sem

/-- A load of a whole argument from its start. -/
theorem load_all {R C : ℕ} {e : EltTy} (v : Memref sig .tc .vmem (⟨2, ![R, C]⟩ : Shape) e) (hv : v.IsWhole) (x : (⟨2, ![R, C]⟩ : Shape).Idx → Elt Ideal e)
    (i : ∀ ax : Fin 2, ![0, 0] ax + ![R, C] ax ≤ ![R, C] ax) :
    View.readAt (Elt Ideal) v.view (Rect.unit (s := (⟨2, ![R, C]⟩ : Shape)) ![0, 0] ![R, C] i).toLoadRect (hv.unread x) = x := by
  funext y
  refine (congrFun (hv.read_unread x) _).trans (congrArg x (funext fun ax => Fin.ext ?_))
  fin_cases ax <;> simp [Rect.unit, Rect.toLoadRect, LoadRect.idx]

/-- The normed moba query, and the normed moba key, before rotation. -/
def mq (x2 : S128x256.Idx → Elt Ideal .f32) (x7 : S1x256.Idx → Elt Ideal .f32) (x12 : S256x256.Idx → Elt Ideal .bf16) : FVec Ideal S128x256 .f32 := k0_pay8 (k0_pay2 x12) x2 x7
def mk (x3 : S128x256.Idx → Elt Ideal .f32) (x8 : S1x256.Idx → Elt Ideal .f32) (x12 : S256x256.Idx → Elt Ideal .bf16) : FVec Ideal S128x256 .f32 := k0_pay17 (k0_pay2 x12) x3 x8

theorem out13 (c : Dev nD) (i : grid0.Coords) (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S256x256 .bf16) (harg13 : arg13.IsWhole) (arg14 : Memref sig .tc .vmem S128x256 .f32) (harg14 : arg14.IsWhole) (arg15 : Memref sig .tc .vmem S128x256 .f32) (harg15 : arg15.IsWhole) (arg16 : Memref sig .tc .vmem S128x128 .f32) (harg16 : arg16.IsWhole) (arg17 : Memref sig .tc .vmem S128x256 .f32) (harg17 : arg17.IsWhole) (arg18 : Memref sig .tc .vmem S128x256 .f32) (harg18 : arg18.IsWhole)
    (x0 : S128x256.Idx → Elt Ideal .f32) (x1 : S128x256.Idx → Elt Ideal .f32) (x2 : S128x256.Idx → Elt Ideal .f32) (x3 : S128x256.Idx → Elt Ideal .f32) (x4 : S128x128.Idx → Elt Ideal .f32) (x5 : S1x256.Idx → Elt Ideal .f32) (x6 : S1x256.Idx → Elt Ideal .f32) (x7 : S1x256.Idx → Elt Ideal .f32) (x8 : S1x256.Idx → Elt Ideal .f32) (x9 : S1x128.Idx → Elt Ideal .f32) (x10 : S128x256.Idx → Elt Ideal .f32) (x11 : S128x256.Idx → Elt Ideal .f32) (x12 : S256x256.Idx → Elt Ideal .bf16) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 = k0_pay3 x12 x0 x5 := by
  refine (View.read_writes_junk_eq_canon VO0_13 _).trans ((View.canon_cons_unit_lit _ _ _ (by intro a; fin_cases a <;> rfl)).trans ?_)
  have l0 := fun h => load_all arg1 harg1 x0 h
  have l5 := fun h => load_all arg6 harg6 x5 h
  have l12 := fun h => load_all arg13 harg13 x12 h
  have key : ∀ (y0 : S128x256.Idx → Elt Ideal .f32) (y5 : S1x256.Idx → Elt Ideal .f32) (y12 : S256x256.Idx → Elt Ideal .bf16), y0 = x0 → y5 = x5 → y12 = x12 → k0_pay3 y12 y0 y5 = k0_pay3 x12 x0 x5 := by
    intro y0 y5 y12 h0 h5 h12
    rw [h0, h5, h12]
  exact key _ _ _ (l0 _) (l5 _) (l12 _)

theorem out14 (c : Dev nD) (i : grid0.Coords) (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S256x256 .bf16) (harg13 : arg13.IsWhole) (arg14 : Memref sig .tc .vmem S128x256 .f32) (harg14 : arg14.IsWhole) (arg15 : Memref sig .tc .vmem S128x256 .f32) (harg15 : arg15.IsWhole) (arg16 : Memref sig .tc .vmem S128x128 .f32) (harg16 : arg16.IsWhole) (arg17 : Memref sig .tc .vmem S128x256 .f32) (harg17 : arg17.IsWhole) (arg18 : Memref sig .tc .vmem S128x256 .f32) (harg18 : arg18.IsWhole)
    (x0 : S128x256.Idx → Elt Ideal .f32) (x1 : S128x256.Idx → Elt Ideal .f32) (x2 : S128x256.Idx → Elt Ideal .f32) (x3 : S128x256.Idx → Elt Ideal .f32) (x4 : S128x128.Idx → Elt Ideal .f32) (x5 : S1x256.Idx → Elt Ideal .f32) (x6 : S1x256.Idx → Elt Ideal .f32) (x7 : S1x256.Idx → Elt Ideal .f32) (x8 : S1x256.Idx → Elt Ideal .f32) (x9 : S1x128.Idx → Elt Ideal .f32) (x10 : S128x256.Idx → Elt Ideal .f32) (x11 : S128x256.Idx → Elt Ideal .f32) (x12 : S256x256.Idx → Elt Ideal .bf16) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 = k0_pay6 x1 (k0_pay4 x6) (k0_pay5 x12 x1) (Ideal.ofBits .f32 0x358637BD#32) := by
  refine (View.read_writes_junk_eq_canon VO0_14 _).trans ((View.canon_cons_unit_lit _ _ _ (by intro a; fin_cases a <;> rfl)).trans ?_)
  have l1 := fun h => load_all arg2 harg2 x1 h
  have l6 := fun h => load_all arg7 harg7 x6 h
  have l12 := fun h => load_all arg13 harg13 x12 h
  have key : ∀ (y1 : S128x256.Idx → Elt Ideal .f32) (y6 : S1x256.Idx → Elt Ideal .f32) (y12 : S256x256.Idx → Elt Ideal .bf16), y1 = x1 → y6 = x6 → y12 = x12 → k0_pay6 y1 (k0_pay4 y6) (k0_pay5 y12 y1) (Ideal.ofBits .f32 0x358637BD#32) = k0_pay6 x1 (k0_pay4 x6) (k0_pay5 x12 x1) (Ideal.ofBits .f32 0x358637BD#32) := by
    intro y1 y6 y12 h1 h6 h12
    rw [h1, h6, h12]
  exact key _ _ _ (l1 _) (l6 _) (l12 _)

theorem out15 (c : Dev nD) (i : grid0.Coords) (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S256x256 .bf16) (harg13 : arg13.IsWhole) (arg14 : Memref sig .tc .vmem S128x256 .f32) (harg14 : arg14.IsWhole) (arg15 : Memref sig .tc .vmem S128x256 .f32) (harg15 : arg15.IsWhole) (arg16 : Memref sig .tc .vmem S128x128 .f32) (harg16 : arg16.IsWhole) (arg17 : Memref sig .tc .vmem S128x256 .f32) (harg17 : arg17.IsWhole) (arg18 : Memref sig .tc .vmem S128x256 .f32) (harg18 : arg18.IsWhole)
    (x0 : S128x256.Idx → Elt Ideal .f32) (x1 : S128x256.Idx → Elt Ideal .f32) (x2 : S128x256.Idx → Elt Ideal .f32) (x3 : S128x256.Idx → Elt Ideal .f32) (x4 : S128x128.Idx → Elt Ideal .f32) (x5 : S1x256.Idx → Elt Ideal .f32) (x6 : S1x256.Idx → Elt Ideal .f32) (x7 : S1x256.Idx → Elt Ideal .f32) (x8 : S1x256.Idx → Elt Ideal .f32) (x9 : S1x128.Idx → Elt Ideal .f32) (x10 : S128x256.Idx → Elt Ideal .f32) (x11 : S128x256.Idx → Elt Ideal .f32) (x12 : S256x256.Idx → Elt Ideal .bf16) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 = k0_pay7 x4 x9 := by
  refine (View.read_writes_junk_eq_canon VO0_15 _).trans ((View.canon_cons_unit_lit _ _ _ (by intro a; fin_cases a <;> rfl)).trans ?_)
  have l4 := fun h => load_all arg5 harg5 x4 h
  have l9 := fun h => load_all arg10 harg10 x9 h
  have key : ∀ (y4 : S128x128.Idx → Elt Ideal .f32) (y9 : S1x128.Idx → Elt Ideal .f32), y4 = x4 → y9 = x9 → k0_pay7 y4 y9 = k0_pay7 x4 x9 := by
    intro y4 y9 h4 h9
    rw [h4, h9]
  exact key _ _ (l4 _) (l9 _)

theorem out16 (c : Dev nD) (i : grid0.Coords) (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S256x256 .bf16) (harg13 : arg13.IsWhole) (arg14 : Memref sig .tc .vmem S128x256 .f32) (harg14 : arg14.IsWhole) (arg15 : Memref sig .tc .vmem S128x256 .f32) (harg15 : arg15.IsWhole) (arg16 : Memref sig .tc .vmem S128x128 .f32) (harg16 : arg16.IsWhole) (arg17 : Memref sig .tc .vmem S128x256 .f32) (harg17 : arg17.IsWhole) (arg18 : Memref sig .tc .vmem S128x256 .f32) (harg18 : arg18.IsWhole)
    (x0 : S128x256.Idx → Elt Ideal .f32) (x1 : S128x256.Idx → Elt Ideal .f32) (x2 : S128x256.Idx → Elt Ideal .f32) (x3 : S128x256.Idx → Elt Ideal .f32) (x4 : S128x128.Idx → Elt Ideal .f32) (x5 : S1x256.Idx → Elt Ideal .f32) (x6 : S1x256.Idx → Elt Ideal .f32) (x7 : S1x256.Idx → Elt Ideal .f32) (x8 : S1x256.Idx → Elt Ideal .f32) (x9 : S1x128.Idx → Elt Ideal .f32) (x10 : S128x256.Idx → Elt Ideal .f32) (x11 : S128x256.Idx → Elt Ideal .f32) (x12 : S256x256.Idx → Elt Ideal .bf16) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 = k0_pay16 (k0_pay9 x10) (k0_pay10 x11) (k0_pay11 (mq x2 x7 x12) x10 x11) (k0_pay12 (mq x2 x7 x12)) (Scalar.select (Scalar.cmpi .eq 64#32 0#32) 1#32 64#32) k0_pay13 k0_pay14 k0_pay15 := by
  refine (View.read_writes_junk_eq_canon VO0_16 _).trans ((View.canon_cons_unit_lit _ _ _ (by intro a; fin_cases a <;> rfl)).trans ?_)
  have l2 := fun h => load_all arg3 harg3 x2 h
  have l7 := fun h => load_all arg8 harg8 x7 h
  have l10 := fun h => load_all arg11 harg11 x10 h
  have l11 := fun h => load_all arg12 harg12 x11 h
  have l12 := fun h => load_all arg13 harg13 x12 h
  have key : ∀ (y2 : S128x256.Idx → Elt Ideal .f32) (y7 : S1x256.Idx → Elt Ideal .f32) (y10 : S128x256.Idx → Elt Ideal .f32) (y11 : S128x256.Idx → Elt Ideal .f32) (y12 : S256x256.Idx → Elt Ideal .bf16), y2 = x2 → y7 = x7 → y10 = x10 → y11 = x11 → y12 = x12 → k0_pay16 (k0_pay9 y10) (k0_pay10 y11) (k0_pay11 (mq y2 y7 y12) y10 y11) (k0_pay12 (mq y2 y7 y12)) (Scalar.select (Scalar.cmpi .eq 64#32 0#32) 1#32 64#32) k0_pay13 k0_pay14 k0_pay15 = k0_pay16 (k0_pay9 x10) (k0_pay10 x11) (k0_pay11 (mq x2 x7 x12) x10 x11) (k0_pay12 (mq x2 x7 x12)) (Scalar.select (Scalar.cmpi .eq 64#32 0#32) 1#32 64#32) k0_pay13 k0_pay14 k0_pay15 := by
    intro y2 y7 y10 y11 y12 h2 h7 h10 h11 h12
    rw [h2, h7, h10, h11, h12]
  exact key _ _ _ _ _ (l2 _) (l7 _) (l10 _) (l11 _) (l12 _)

theorem out17 (c : Dev nD) (i : grid0.Coords) (arg1 : Memref sig .tc .vmem S128x256 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x128 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x128 .f32) (harg10 : arg10.IsWhole) (arg11 : Memref sig .tc .vmem S128x256 .f32) (harg11 : arg11.IsWhole) (arg12 : Memref sig .tc .vmem S128x256 .f32) (harg12 : arg12.IsWhole) (arg13 : Memref sig .tc .vmem S256x256 .bf16) (harg13 : arg13.IsWhole) (arg14 : Memref sig .tc .vmem S128x256 .f32) (harg14 : arg14.IsWhole) (arg15 : Memref sig .tc .vmem S128x256 .f32) (harg15 : arg15.IsWhole) (arg16 : Memref sig .tc .vmem S128x128 .f32) (harg16 : arg16.IsWhole) (arg17 : Memref sig .tc .vmem S128x256 .f32) (harg17 : arg17.IsWhole) (arg18 : Memref sig .tc .vmem S128x256 .f32) (harg18 : arg18.IsWhole)
    (x0 : S128x256.Idx → Elt Ideal .f32) (x1 : S128x256.Idx → Elt Ideal .f32) (x2 : S128x256.Idx → Elt Ideal .f32) (x3 : S128x256.Idx → Elt Ideal .f32) (x4 : S128x128.Idx → Elt Ideal .f32) (x5 : S1x256.Idx → Elt Ideal .f32) (x6 : S1x256.Idx → Elt Ideal .f32) (x7 : S1x256.Idx → Elt Ideal .f32) (x8 : S1x256.Idx → Elt Ideal .f32) (x9 : S1x128.Idx → Elt Ideal .f32) (x10 : S128x256.Idx → Elt Ideal .f32) (x11 : S128x256.Idx → Elt Ideal .f32) (x12 : S256x256.Idx → Elt Ideal .bf16) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 = k0_pay1 (k0_pay18 x10) (k0_pay19 x11) (k0_pay20 (mk x3 x8 x12) x10 x11) (k0_pay21 (mk x3 x8 x12)) (Scalar.select (Scalar.cmpi .eq 64#32 0#32) 1#32 64#32) k0_pay22 k0_pay23 k0_pay24 k0_pay25 := by
  refine (View.read_writes_junk_eq_canon VO0_17 _).trans ((View.canon_cons_unit_lit _ _ _ (by intro a; fin_cases a <;> rfl)).trans ?_)
  have l3 := fun h => load_all arg4 harg4 x3 h
  have l8 := fun h => load_all arg9 harg9 x8 h
  have l10 := fun h => load_all arg11 harg11 x10 h
  have l11 := fun h => load_all arg12 harg12 x11 h
  have l12 := fun h => load_all arg13 harg13 x12 h
  have key : ∀ (y3 : S128x256.Idx → Elt Ideal .f32) (y8 : S1x256.Idx → Elt Ideal .f32) (y10 : S128x256.Idx → Elt Ideal .f32) (y11 : S128x256.Idx → Elt Ideal .f32) (y12 : S256x256.Idx → Elt Ideal .bf16), y3 = x3 → y8 = x8 → y10 = x10 → y11 = x11 → y12 = x12 → k0_pay1 (k0_pay18 y10) (k0_pay19 y11) (k0_pay20 (mk y3 y8 y12) y10 y11) (k0_pay21 (mk y3 y8 y12)) (Scalar.select (Scalar.cmpi .eq 64#32 0#32) 1#32 64#32) k0_pay22 k0_pay23 k0_pay24 k0_pay25 = k0_pay1 (k0_pay18 x10) (k0_pay19 x11) (k0_pay20 (mk x3 x8 x12) x10 x11) (k0_pay21 (mk x3 x8 x12)) (Scalar.select (Scalar.cmpi .eq 64#32 0#32) 1#32 64#32) k0_pay22 k0_pay23 k0_pay24 k0_pay25 := by
    intro y3 y8 y10 y11 y12 h3 h8 h10 h11 h12
    rw [h3, h8, h10, h11, h12]
  exact key _ _ _ _ _ (l3 _) (l8 _) (l10 _) (l11 _) (l12 _)

end Cert.PrepIdeal.Row

end
-- ==== Proof.PrepMath.lean ====
/- The preparation of queries and keys: the kernel's arithmetic and the reference's, at a place. -/
module

public import proofs.«01_k».proof.Proof.PrepRef
public import proofs.«01_k».proof.Proof.PrepBlock

@[expose] public section

set_option maxRecDepth 16384

noncomputable section

namespace Cert.PrepIdeal.Row

open Cert.PrepIdeal Cert.PrepIdeal.Gen
open Idealize.ShloMosaic Idealize.ShloMosaic.TcCoe Idealize.SL.Sem

/-- Where lane `x` of the head of column `n` lies. -/
def at64 (n : Fin 256) (x : Fin 64) : Fin 256 := ⟨64 * (n / 64) + x, by omega⟩

/-- A row normed head by head: each entry over its head's root mean square, times the gain of its lane. -/
def RM (f : Fin 256 → EReal) (W : Fin 64 → EReal) (n : Fin 256) : EReal :=
  f n * Ideal.rsqrt (Ideal.div (∑ x : Fin 64, f (at64 n x) * f (at64 n x)) (Ideal.ofBits .f32 1115684864#32) + Ideal.ofBits .f32 897988541#32) * W (⟨n % 64, by omega⟩ : Fin 64)

/-- The lane half a head away. -/
def partner (n : Fin 256) : Fin 256 := if (n : ℕ) % 64 < 32 then ⟨(n + 32) % 256, by omega⟩ else ⟨n - 32, by omega⟩

/-- A row rotated head by head, by the cosines and sines of its position. -/
def RO (f : Fin 256 → EReal) (C S : Fin 32 → EReal) (n : Fin 256) : EReal :=
  if h : (n : ℕ) % 64 < 32 then f n * C ⟨n % 64, h⟩ - f (partner n) * S ⟨n % 64, h⟩
  else f n * C ⟨n % 64 - 32, by omega⟩ + f (partner n) * S ⟨n % 64 - 32, by omega⟩

theorem bits64 : (Ideal.ofBits .f32 1115684864#32 : EReal) = ((64 : ℝ) : EReal) := by
  simp [Ideal.ofBits, Ideal.ieee]
  rw [← EReal.coe_mul]; norm_num

theorem bits64th : (Ideal.ofBits .f32 1015021568#32 : EReal) = ((64⁻¹ : ℝ) : EReal) := by
  simp [Ideal.ofBits, Ideal.ieee]
  rw [← EReal.coe_mul]; norm_num

theorem div64 (y : EReal) : Ideal.div y (Ideal.ofBits .f32 1115684864#32) = y * Ideal.ofBits .f32 1015021568#32 := by
  rw [bits64, bits64th]
  unfold Ideal.div
  rw [if_neg (by norm_num)]
  rfl

/-- A sum against the indicator of a head is the sum over the head's lanes. -/
theorem head_sum (f : Fin 256 → EReal) (n : Fin 256) : ∑ i : Fin 256, f i * (if (i : ℕ) / 64 = n / 64 then (1 : EReal) else 0) = ∑ x : Fin 64, f (at64 n x) := by
  rw [← Equiv.sum_comp (finProdFinEquiv : Fin 4 × Fin 64 ≃ Fin (4 * 64)) (fun i : Fin 256 => f i * (if (i : ℕ) / 64 = n / 64 then (1 : EReal) else 0)), Fintype.sum_prod_type]
  have hn : (n : ℕ) / 64 < 4 := by omega
  rw [Finset.sum_eq_single (⟨(n : ℕ) / 64, hn⟩ : Fin 4)]
  · refine Finset.sum_congr rfl fun x _ => ?_
    have e : finProdFinEquiv ((⟨(n : ℕ) / 64, hn⟩ : Fin 4), x) = at64 n x := Fin.ext (by show (x : ℕ) + 64 * ((n : ℕ) / 64) = 64 * ((n : ℕ) / 64) + x; omega)
    rw [e, if_pos (by show (64 * ((n : ℕ) / 64) + x) / 64 = n / 64; omega), mul_one]
  · intro b _ hb
    refine Finset.sum_eq_zero fun x _ => ?_
    rw [if_neg, mul_zero]
    intro h
    refine hb (Fin.ext ?_)
    have e : ((finProdFinEquiv (b, x) : Fin (4 * 64)) : ℕ) = x + 64 * b := rfl
    rw [e] at h
    show (b : ℕ) = n / 64
    omega
  · intro h
    exact absurd (Finset.mem_univ _) h

/-- The kernel's mean of squares, for a row of finite entries: the high part and the remainder summed over a head. -/
theorem mean_sq (f : Fin 256 → EReal) (hf : ∀ k, ∃ q : ℝ, f k = (q : EReal)) (g : Fin 256 → EReal) (n : Fin 256) (hg : ∀ k, g k = if (k : ℕ) / 64 = n / 64 then 1 else 0) :
    ((∑ x, f x * f x * g x) + ∑ x, (f x * f x - f x * f x) * g x) * Ideal.ofBits .f32 1015021568#32
      = Ideal.div (∑ x : Fin 64, f (at64 n x) * f (at64 n x)) (Ideal.ofBits .f32 1115684864#32) := by
  have h2 : ∑ x, (f x * f x - f x * f x) * g x = 0 := by
    refine Finset.sum_eq_zero fun x _ => ?_
    obtain ⟨q, hq⟩ := hf x
    rw [hq, ← EReal.coe_mul, ← EReal.coe_sub, sub_self, EReal.coe_zero, zero_mul]
  rw [h2, add_zero, div64, ← head_sum (fun k => f k * f k) n]
  refine congrArg (· * Ideal.ofBits .f32 1015021568#32) (Finset.sum_congr rfl fun x _ => ?_)
  rw [hg]

theorem pay3_at (g : FVec Ideal S256x256 .bf16) (x : FVec Ideal S128x256 .f32) (w : FVec Ideal S1x256 .f32) (r : Fin 128) (n : Fin 256)
    (hx : ∀ k, ∃ q : ℝ, x (ix2 r k) = (q : EReal)) (hg : ∀ k m, (g (ix2 k m) : EReal) = if (k : ℕ) / 64 = m / 64 then 1 else 0)
    (W : Fin 64 → EReal) (hw : ∀ m : Fin 256, (w (ix2 0 m) : EReal) = W (⟨m % 64, by omega⟩ : Fin 64)) :
    (k0_pay3 (F := Ideal) g x w (ix2 r n) : EReal) = RM (fun k => x (ix2 r k)) W n * Ideal.ofBits .f32 1040187392#32 := by
  pointwise [k0_pay3, k0_pay2]
  rw [mean_sq (fun k => x (ix2 r k)) hx (fun k => g (ix2 k n)) n (fun k => hg k n), hw]
  rfl

theorem pay6_at (g : FVec Ideal S256x256 .bf16) (x : FVec Ideal S128x256 .f32) (w : FVec Ideal S1x256 .f32) (r : Fin 128) (n : Fin 256)
    (hx : ∀ k, ∃ q : ℝ, x (ix2 r k) = (q : EReal)) (hg : ∀ k m, (g (ix2 k m) : EReal) = if (k : ℕ) / 64 = m / 64 then 1 else 0)
    (W : Fin 64 → EReal) (hw : ∀ m : Fin 256, (w (ix2 0 m) : EReal) = W (⟨m % 64, by omega⟩ : Fin 64)) :
    (k0_pay6 (F := Ideal) x (k0_pay4 w) (k0_pay5 g x) (Ideal.ofBits .f32 0x358637BD#32) (ix2 r n) : EReal) = RM (fun k => x (ix2 r k)) W n := by
  pointwise [k0_pay6, k0_pay4, k0_pay5, k0_pay2]
  rw [mean_sq (fun k => x (ix2 r k)) hx (fun k => g (ix2 k n)) n (fun k => hg k n), hw]
  rfl

theorem mq_at (g : FVec Ideal S256x256 .bf16) (x : FVec Ideal S128x256 .f32) (w : FVec Ideal S1x256 .f32) (r : Fin 128) (n : Fin 256)
    (hx : ∀ k, ∃ q : ℝ, x (ix2 r k) = (q : EReal)) (hg : ∀ k m, (g (ix2 k m) : EReal) = if (k : ℕ) / 64 = m / 64 then 1 else 0)
    (W : Fin 64 → EReal) (hw : ∀ m : Fin 256, (w (ix2 0 m) : EReal) = W (⟨m % 64, by omega⟩ : Fin 64)) :
    (mq x w g (ix2 r n) : EReal) = RM (fun k => x (ix2 r k)) W n := by
  pointwise [mq, k0_pay8, k0_pay2]
  rw [mean_sq (fun k => x (ix2 r k)) hx (fun k => g (ix2 k n)) n (fun k => hg k n), hw]
  rfl

theorem mk_at (g : FVec Ideal S256x256 .bf16) (x : FVec Ideal S128x256 .f32) (w : FVec Ideal S1x256 .f32) (r : Fin 128) (n : Fin 256)
    (hx : ∀ k, ∃ q : ℝ, x (ix2 r k) = (q : EReal)) (hg : ∀ k m, (g (ix2 k m) : EReal) = if (k : ℕ) / 64 = m / 64 then 1 else 0)
    (W : Fin 64 → EReal) (hw : ∀ m : Fin 256, (w (ix2 0 m) : EReal) = W (⟨m % 64, by omega⟩ : Fin 64)) :
    (mk x w g (ix2 r n) : EReal) = RM (fun k => x (ix2 r k)) W n := by
  pointwise [mk, k0_pay17, k0_pay2]
  rw [mean_sq (fun k => x (ix2 r k)) hx (fun k => g (ix2 k n)) n (fun k => hg k n), hw]
  rfl

/-- The reference's normed heads. -/
theorem Nm_RM (A0 : FVec Ideal S128x3712 .f32) (W : FVec Ideal S64 .f32) (o : ℕ) (ho : o + 256 ≤ 3712) (h : S128x3712.Slices ![0, o] S128x256) (r : Fin 128) (n : Fin 256) :
    (Cert.PrepReferenceIdeal.Row.Nm (Cert.PrepReferenceIdeal.Row.Hd A0 o h) W (ix4 (⟨r / 4, by omega⟩ : Fin 32) (⟨r % 4, by omega⟩ : Fin 4) (⟨n / 64, by omega⟩ : Fin 4) (⟨n % 64, by omega⟩ : Fin 64)) : EReal)
      = RM (fun k => A0 (ix2 r (⟨o + k, by omega⟩ : Fin 3712))) (fun j => W (ix1 j)) n := by
  rw [Cert.PrepReferenceIdeal.Row.Nm_at]
  simp only [Cert.PrepReferenceIdeal.Row.Hd_at A0 o ho]
  have er : (⟨4 * ((r : ℕ) / 4) + (r : ℕ) % 4, by omega⟩ : Fin 128) = r := Fin.ext (by dsimp only; omega)
  have en : (⟨o + (64 * ((n : ℕ) / 64) + (n : ℕ) % 64), by omega⟩ : Fin 3712) = ⟨o + n, by omega⟩ := Fin.ext (by dsimp only; omega)
  rw [er, en]
  rfl

theorem partner_lo (n : Fin 256) (h : (n : ℕ) % 64 < 32) : (partner n : ℕ) = n + 32 := by
  unfold partner; rw [if_pos h]; dsimp only; omega

theorem partner_hi (n : Fin 256) (h : ¬ (n : ℕ) % 64 < 32) : (partner n : ℕ) = n - 32 := by
  unfold partner; rw [if_neg h]

/-- The reference's rotated heads. -/
theorem Rt_RO (X : FVec Ideal Cert.PrepReferenceIdeal.S32x4x4x64 .f32) (f : Fin 256 → EReal) (C S : FVec Ideal S4x32 .f32) (r : Fin 128) (n : Fin 256)
    (hX : ∀ n : Fin 256, (X (ix4 (⟨r / 4, by omega⟩ : Fin 32) (⟨r % 4, by omega⟩ : Fin 4) (⟨n / 64, by omega⟩ : Fin 4) (⟨n % 64, by omega⟩ : Fin 64)) : EReal) = f n) :
    (Cert.PrepReferenceIdeal.Row.Rt X C S (ix4 (⟨r / 4, by omega⟩ : Fin 32) (⟨r % 4, by omega⟩ : Fin 4) (⟨n / 64, by omega⟩ : Fin 4) (⟨n % 64, by omega⟩ : Fin 64)) : EReal)
      = RO f (fun i => C (ix2 (⟨r % 4, by omega⟩ : Fin 4) i)) (fun i => S (ix2 (⟨r % 4, by omega⟩ : Fin 4) i)) n := by
  unfold RO
  by_cases h : (n : ℕ) % 64 < 32
  · rw [dif_pos h, Cert.PrepReferenceIdeal.Row.Rt_lo _ _ _ _ _ _ _ h, hX n, ← hX (partner n)]
    have e := partner_lo n h
    have e1 : (⟨(partner n : ℕ) / 64, by omega⟩ : Fin 4) = ⟨n / 64, by omega⟩ := Fin.ext (by dsimp only; omega)
    have e2 : (⟨(partner n : ℕ) % 64, by omega⟩ : Fin 64) = ⟨32 + (n : ℕ) % 64, by omega⟩ := Fin.ext (by dsimp only; omega)
    rw [e1, e2]
  · rw [dif_neg h, Cert.PrepReferenceIdeal.Row.Rt_hi _ _ _ _ _ _ _ h, hX n, ← hX (partner n)]
    have e := partner_hi n h
    have e1 : (⟨(partner n : ℕ) / 64, by omega⟩ : Fin 4) = ⟨n / 64, by omega⟩ := Fin.ext (by dsimp only; omega)
    have e2 : (⟨(partner n : ℕ) % 64, by omega⟩ : Fin 64) = ⟨(n : ℕ) % 64 - 32, by omega⟩ := Fin.ext (by dsimp only; omega)
    rw [e1, e2]

/-- The logarithm of the logistic function, in the kernel's form and in the reference's. -/
theorem log_sig (z : EReal) : min z 0 - Ideal.log1p (Ideal.exp (0 - FloatOps.absf (F := Ideal) (φ := .f32) z))
    = -(max (-z) 0 + Ideal.log1p (Ideal.exp (-(FloatOps.absf (F := Ideal) (φ := .f32) (-z))))) := by
  have hl : Ideal.log1p (Ideal.exp (-(FloatOps.absf (F := Ideal) (φ := .f32) (-z)))) ≠ ⊥ := by
    have he : ∀ y : EReal, Ideal.log1p (Ideal.exp y) ≠ ⊥ := by
      intro y
      unfold Ideal.log1p
      induction y with
      | bot => show Ideal.log (1 + 0) ≠ ⊥
               rw [add_zero, ← EReal.coe_one]
               show (if (1 : ℝ) ≤ 0 then (⊥ : EReal) else (Real.log 1 : EReal)) ≠ ⊥
               rw [if_neg (by norm_num)]; exact EReal.coe_ne_bot _
      | top => show Ideal.log (1 + ⊤) ≠ ⊥
               rw [← EReal.coe_one, EReal.coe_add_top]
               exact top_ne_bot
      | coe q => show Ideal.log (1 + (Real.exp q : EReal)) ≠ ⊥
                 rw [← EReal.coe_one, ← EReal.coe_add]
                 show (if (1 + Real.exp q : ℝ) ≤ 0 then (⊥ : EReal) else (Real.log (1 + Real.exp q) : EReal)) ≠ ⊥
                 rw [if_neg (not_le.mpr (by positivity))]; exact EReal.coe_ne_bot _
    exact he _
  have hm : max (-z) 0 ≠ ⊥ := fun e => absurd (le_max_right (-z) (0 : EReal)) (by rw [e]; simp)
  have ha : FloatOps.absf (F := Ideal) (φ := .f32) (-z) = FloatOps.absf (F := Ideal) (φ := .f32) z := by
    rw [Ideal.absf_def, Ideal.absf_def]
    rw [neg_neg, max_comm]
  rw [EReal.neg_add (Or.inl hm) (Or.inr hl), ← ha, zero_sub]
  refine congrArg (· - _) ?_
  rcases le_total z 0 with h | h
  · rw [min_eq_left h, max_eq_left (EReal.neg_le_neg_iff.mp (by rw [neg_neg, neg_zero]; exact h)), neg_neg]
  · rw [min_eq_right h, max_eq_right (EReal.neg_le_neg_iff.mp (by rw [neg_neg, neg_zero]; exact h)), neg_zero]

end Cert.PrepIdeal.Row

end
-- ==== Proof.PrepTurn.lean ====
/- The preparation of queries and keys: the kernel's rotation at a place. -/
module

public import proofs.«01_k».proof.Proof.PrepMath

@[expose] public section

set_option maxRecDepth 16384

noncomputable section

namespace Cert.PrepIdeal.Row

open Cert.PrepIdeal Cert.PrepIdeal.Gen
open Idealize.ShloMosaic Idealize.ShloMosaic.TcCoe Idealize.SL.Sem

/-- A row turned by the kernel: each lane against its partner half a head away, the sign held in the second table. -/
def TN (f : Fin 256 → EReal) (c s : Fin 256 → EReal) (n : Fin 256) : EReal := f n * c n + f (partner n) * s n

theorem by64 : Scalar.select (Scalar.cmpi .eq 64#32 0#32) 1#32 64#32 = (64#32 : BitVec 32) := by decide +kernel

/-- Whether a lane lies in the first half of its head, as the program computes it. -/
theorem low_at : ∀ k : Fin 128, IntOp.cmpi CmpIPredicate.slt (Scalar.select (IntOp.andi (IntOp.xori (IntOp.cmpi CmpIPredicate.slt (IntOp.remsi ArithUnit.vector (BitVec.ofNat 32 (k : ℕ)) 64#32) 0#32) (Scalar.cmpi CmpIPredicate.slt 64#32 0#32)) (IntOp.cmpi CmpIPredicate.ne (IntOp.remsi ArithUnit.vector (BitVec.ofNat 32 (k : ℕ)) 64#32) 0#32)) (IntOp.addi (IntOp.remsi ArithUnit.vector (BitVec.ofNat 32 (k : ℕ)) 64#32) 64#32) (IntOp.remsi ArithUnit.vector (BitVec.ofNat 32 (k : ℕ)) 64#32)) 32#32 = if (k : ℕ) % 64 < 32 then 1#1 else 0#1 := by
  decide +kernel

theorem pick (p : Prop) [Decidable p] (a b : EReal) : Scalar.select (if p then 1#1 else 0#1) a b = if p then a else b := by
  split_ifs <;> rfl

/-- The two halves of a row put together, each turned in its own half. -/
theorem halves (f c s : Fin 256 → EReal) (n : Fin 256) :
    (if h : (n : ℕ) < 128 then f n * c n + (if (n : ℕ) % 64 < 32 then f ⟨((n : ℕ) + 128 - 96) % 128, by omega⟩ else f ⟨((n : ℕ) + 128 - 32) % 128, by omega⟩) * s n
      else f ⟨128 + ((n : ℕ) - 128), by omega⟩ * c ⟨128 + ((n : ℕ) - 128), by omega⟩
        + (if ((n : ℕ) - 128) % 64 < 32 then f ⟨128 + ((n : ℕ) - 128 + 128 - 96) % 128, by omega⟩ else f ⟨128 + ((n : ℕ) - 128 + 128 - 32) % 128, by omega⟩) * s ⟨128 + ((n : ℕ) - 128), by omega⟩)
      = TN f c s n := by
  unfold TN
  by_cases h : (n : ℕ) < 128
  · rw [dif_pos h]
    by_cases hl : (n : ℕ) % 64 < 32
    · rw [if_pos hl, show (⟨((n : ℕ) + 128 - 96) % 128, by omega⟩ : Fin 256) = partner n from Fin.ext (by have := partner_lo n hl; dsimp only; omega)]
    · rw [if_neg hl, show (⟨((n : ℕ) + 128 - 32) % 128, by omega⟩ : Fin 256) = partner n from Fin.ext (by have := partner_hi n hl; dsimp only; omega)]
  · rw [dif_neg h, show (⟨128 + ((n : ℕ) - 128), by omega⟩ : Fin 256) = n from Fin.ext (by dsimp only; omega)]
    by_cases hl : (n : ℕ) % 64 < 32
    · rw [if_pos (by omega), show (⟨128 + ((n : ℕ) - 128 + 128 - 96) % 128, by omega⟩ : Fin 256) = partner n from Fin.ext (by have := partner_lo n hl; dsimp only; omega)]
    · rw [if_neg (by omega), show (⟨128 + ((n : ℕ) - 128 + 128 - 32) % 128, by omega⟩ : Fin 256) = partner n from Fin.ext (by have := partner_hi n hl; dsimp only; omega)]

/-- The same, the choice of partner as the program makes it. -/
theorem halves_pick (f c s : Fin 256 → EReal) (n : Fin 256) :
    (if h : (n : ℕ) < 128 then f n * c n + Scalar.select (IntOp.cmpi CmpIPredicate.slt (Scalar.select (IntOp.andi (IntOp.xori (IntOp.cmpi CmpIPredicate.slt (IntOp.remsi ArithUnit.vector (BitVec.ofNat 32 (n : ℕ)) 64#32) 0#32) (Scalar.cmpi CmpIPredicate.slt 64#32 0#32)) (IntOp.cmpi CmpIPredicate.ne (IntOp.remsi ArithUnit.vector (BitVec.ofNat 32 (n : ℕ)) 64#32) 0#32)) (IntOp.addi (IntOp.remsi ArithUnit.vector (BitVec.ofNat 32 (n : ℕ)) 64#32) 64#32) (IntOp.remsi ArithUnit.vector (BitVec.ofNat 32 (n : ℕ)) 64#32)) 32#32) (f ⟨((n : ℕ) + 128 - 96) % 128, by omega⟩) (f ⟨((n : ℕ) + 128 - 32) % 128, by omega⟩) * s n
      else f ⟨128 + ((n : ℕ) - 128), by omega⟩ * c ⟨128 + ((n : ℕ) - 128), by omega⟩
        + Scalar.select (IntOp.cmpi CmpIPredicate.slt (Scalar.select (IntOp.andi (IntOp.xori (IntOp.cmpi CmpIPredicate.slt (IntOp.remsi ArithUnit.vector (BitVec.ofNat 32 ((n : ℕ) - 128)) 64#32) 0#32) (Scalar.cmpi CmpIPredicate.slt 64#32 0#32)) (IntOp.cmpi CmpIPredicate.ne (IntOp.remsi ArithUnit.vector (BitVec.ofNat 32 ((n : ℕ) - 128)) 64#32) 0#32)) (IntOp.addi (IntOp.remsi ArithUnit.vector (BitVec.ofNat 32 ((n : ℕ) - 128)) 64#32) 64#32) (IntOp.remsi ArithUnit.vector (BitVec.ofNat 32 ((n : ℕ) - 128)) 64#32)) 32#32) (f ⟨128 + ((n : ℕ) - 128 + 128 - 96) % 128, by omega⟩) (f ⟨128 + ((n : ℕ) - 128 + 128 - 32) % 128, by omega⟩) * s ⟨128 + ((n : ℕ) - 128), by omega⟩)
      = TN f c s n := by
  refine Eq.trans ?_ (halves f c s n)
  refine dite_congr rfl (fun h => ?_) (fun h => ?_)
  · exact congrArg (fun z : EReal => f n * c n + z * s n) ((congrArg (fun z => Scalar.select z _ _) (low_at ⟨n, h⟩)).trans (pick _ _ _))
  · exact congrArg (fun z : EReal => _ + z * s _) ((congrArg (fun z => Scalar.select z _ _) (low_at ⟨n - 128, by omega⟩)).trans (pick _ _ _))

theorem pay16_at (x : FVec Ideal S128x256 .f32) (c s : FVec Ideal S128x256 .f32) (r : Fin 128) (n : Fin 256) :
    (k0_pay16 (F := Ideal) (k0_pay9 c) (k0_pay10 s) (k0_pay11 x c s) (k0_pay12 x) (Scalar.select (Scalar.cmpi .eq 64#32 0#32) 1#32 64#32) k0_pay13 k0_pay14 k0_pay15 (ix2 r n) : EReal)
      = TN (fun k => x (ix2 r k)) (fun k => c (ix2 r k)) (fun k => s (ix2 r k)) n * Ideal.ofBits .f32 1040187392#32 := by
  pointwise [k0_pay16, k0_pay13, k0_pay14, k0_pay15, k0_pay11, k0_pay12, k0_pay9, k0_pay10]
  simp only [by64]
  exact congrArg (· * Ideal.ofBits .f32 1040187392#32) (halves_pick (fun k => x (ix2 r k)) (fun k => c (ix2 r k)) (fun k => s (ix2 r k)) n)

theorem pay1_at (x : FVec Ideal S128x256 .f32) (c s : FVec Ideal S128x256 .f32) (r : Fin 128) (n : Fin 256) :
    (k0_pay1 (F := Ideal) (k0_pay18 c) (k0_pay19 s) (k0_pay20 x c s) (k0_pay21 x) (Scalar.select (Scalar.cmpi .eq 64#32 0#32) 1#32 64#32) k0_pay22 k0_pay23 k0_pay24 k0_pay25 (ix2 r n) : EReal)
      = TN (fun k => x (ix2 r k)) (fun k => c (ix2 r k)) (fun k => s (ix2 r k)) n := by
  pointwise [k0_pay1, k0_pay22, k0_pay23, k0_pay24, k0_pay25, k0_pay18, k0_pay19, k0_pay20, k0_pay21]
  simp only [by64]
  exact halves_pick (fun k => x (ix2 r k)) (fun k => c (ix2 r k)) (fun k => s (ix2 r k)) n

/-- The kernel's turn with its two tables is the rotation. -/
theorem TN_RO (f : Fin 256 → EReal) (C S : FVec Ideal S4x32 .f32) (r : Fin 128) (n : Fin 256) :
    TN f (fun k => Lay C C (ix2 r k)) (fun k => Lay (Host.negf S) S (ix2 r k)) n
      = RO f (fun i => C (ix2 (⟨r % 4, by omega⟩ : Fin 4) i)) (fun i => S (ix2 (⟨r % 4, by omega⟩ : Fin 4) i)) n := by
  unfold TN RO
  dsimp only
  rw [Lay_at, Lay_at]
  by_cases h : (n : ℕ) % 64 < 32
  · rw [dif_pos h, dif_pos h, dif_pos h]
    show _ + f (partner n) * -(S (ix2 (⟨r % 4, by omega⟩ : Fin 4) (⟨n % 64, h⟩ : Fin 32))) = _
    rw [mul_neg, ← sub_eq_add_neg]
  · rw [dif_neg h, dif_neg h, dif_neg h]

end Cert.PrepIdeal.Row

end
-- ==== Proof.Tables.lean ====
/- The preconditions read back: the two tables hold the tile pairs, the queries and keys are finite, and lane 64 of every
   value head is one. -/
module

public import proofs.«01_k».proof.Defs
public import proofs.«01_k».proof.Proof.Gen.Kernel.Flash
public import proofs.«01_k».proof.Proof.Gen.KernelIdeal.Flash
public import proofs.«01_k».proof.Proof.Gen.Pre_tables
public import proofs.«01_k».proof.Proof.Gen.Pre_packed
public import Idealize.ShloMosaic.Lib.ReduceAll
public import Idealize.ShloMosaic.Lib.Pointwise

@[expose] public section

set_option maxRecDepth 16384

noncomputable section

namespace Cert.Tables

open Idealize.ShloMosaic Idealize.ShloMosaic.TcCoe Idealize.SL.Sem

instance : Subsingleton Cert.Pre_tables.S_.Idx := ⟨fun y z => funext fun a => a.elim0⟩

theorem both_on (p q : BitVec 1) (h : IntOp.andi p q = 1#1) : p = 1#1 ∧ q = 1#1 := by
  revert p q; decide

theorem eq_on {w : ℕ} (a b : BitVec w) (h : IntOp.cmpi .eq a b = 1#1) : a = b := by
  simpa [IntOp.cmpi_eq] using h

theorem lit0_eq (k : Fin 136) : Cert.Pre_tables.lit0 k = Cert.KernelIdeal.Gen.pinT_0 0 (ix1 k) := by
  revert k; decide +kernel

theorem lit1_eq (k : Fin 136) : Cert.Pre_tables.lit1 k = Cert.KernelIdeal.Gen.pinT_1 0 (ix1 k) := by
  revert k; decide +kernel

theorem pin0_eq (x : Cert.Pre_tables.S136.Idx) (k : Fin 136) (h : (k : ℕ) = (x 0 : ℕ)) :
    Cert.KernelIdeal.Gen.pinT_0 0 (ix1 k) = Cert.KernelIdeal.Gen.pinT_0 0 x :=
  by unfold Cert.KernelIdeal.Gen.pinT_0; exact congrArg (fun i : ℕ => List.getD _ i 0#32) h

theorem pin1_eq (x : Cert.Pre_tables.S136.Idx) (k : Fin 136) (h : (k : ℕ) = (x 0 : ℕ)) :
    Cert.KernelIdeal.Gen.pinT_1 0 (ix1 k) = Cert.KernelIdeal.Gen.pinT_1 0 x := by
  unfold Cert.KernelIdeal.Gen.pinT_1; exact congrArg (fun i : ℕ => List.getD _ i 0#32) h

/-- The predicate `tables` says that the tables are the tile pairs. -/
theorem tables_say {F : FTy → Type} [FloatOps F] (a b : IVec Cert.Pre_tables.S136 32) (q k v : FVec F Cert.Pre_tables.S16384x512 .bf16)
    (h : Cert.Pre_tables.fn a b q k v = fun _ => 1#1) : a = Cert.KernelIdeal.Gen.pinT_0 0 ∧ b = Cert.KernelIdeal.Gen.pinT_1 0 := by
  obtain ⟨h0, h1⟩ := both_on _ _ (congrFun h (fun a => a.elim0))
  refine ⟨funext fun x => ?_, funext fun x => ?_⟩
  · have e := eq_on _ _ (Host.reduce_andi_all _ _ _ _ _ h0 x)
    exact e.trans ((lit0_eq _).trans (pin0_eq x _ (Shape.rowMajor_val_one x)))
  · have e := eq_on _ _ (Host.reduce_andi_all _ _ _ _ _ h1 x)
    exact e.trans ((lit1_eq _).trans (pin1_eq x _ (Shape.rowMajor_val_one x)))

theorem finite_of (x : EReal) (h : FloatOps.cmpf (F := Ideal) (φ := .f32) .olt (FloatOps.absf (F := Ideal) (φ := .f32) x) (FloatOps.ofBits (F := Ideal) .f32 0x7F800000#32) = 1#1) :
    ∃ r : ℝ, x = (r : EReal) := by
  have t : (FloatOps.ofBits (F := Ideal) .f32 0x7F800000#32 : EReal) = ⊤ := by simp [FloatOps.ofBits, Ideal.ofBits, Ideal.ieee]
  rw [Ideal.cmpf_def, Ideal.absf_def, t] at h
  induction x with
  | bot => simp [Ideal.cmp] at h
  | top => simp [Ideal.cmp] at h
  | coe r => exact ⟨r, rfl⟩

theorem one_of (x : EReal) (h : FloatOps.cmpf (F := Ideal) (φ := .f32) .oeq x (FloatOps.ofBits (F := Ideal) .f32 0x3F800000#32) = 1#1) : x = 1 := by
  have t : (FloatOps.ofBits (F := Ideal) .f32 0x3F800000#32 : EReal) = 1 := by
    simp [FloatOps.ofBits, Ideal.ofBits, Ideal.ieee]
    rw [← EReal.coe_mul]; norm_num
  rw [Ideal.cmpf_def, t] at h
  have h' : BitVec.ofBool (decide (x = 1)) = 1#1 := by simpa [Ideal.cmp] using h
  by_contra hx
  simp [hx] at h'

/-- What the predicate `packed` says: the tables, every query and every key finite, lane 64 of every value head one. -/
theorem packed_say (a b : IVec Cert.Pre_tables.S136 32) (q k v : FVec Ideal Cert.Pre_tables.S16384x512 .bf16)
    (h : Cert.Pre_packed.fn (F := Ideal) a b q k v = fun _ => 1#1) :
    (a = Cert.KernelIdeal.Gen.pinT_0 0 ∧ b = Cert.KernelIdeal.Gen.pinT_1 0)
      ∧ (∀ x, ∃ r : ℝ, q x = (r : EReal)) ∧ (∀ x, ∃ r : ℝ, k x = (r : EReal))
      ∧ ∀ (r : Fin 16384) (h : Fin 4), v (ix2 r (⟨128 * (h : ℕ) + 64, by omega⟩ : Fin 512)) = (1 : EReal) := by
  obtain ⟨h2, hv⟩ := both_on _ _ (congrFun h (fun a => a.elim0))
  obtain ⟨h2, hk⟩ := both_on _ _ h2
  obtain ⟨h2, hq⟩ := both_on _ _ h2
  refine ⟨tables_say (F := Ideal) a b q k v (funext fun i => ?_), fun x => ?_, fun x => ?_, fun r h => ?_⟩
  · rw [Subsingleton.elim i (fun a => a.elim0)]; exact h2
  · have e := Host.reduce_andi_all _ _ _ _ _ hq x
    exact finite_of _ e
  · have e := Host.reduce_andi_all _ _ _ _ _ hk x
    exact finite_of _ e
  · have e := Host.reduce_andi_all _ _ _ _ _ hv (ix2 r h)
    refine Eq.trans ?_ (one_of _ e)
    pointwise
    exact congrArg v (congrArg (ix2 r) (Fin.ext (by simp only []; omega)))

theorem pinned_Kernel (m : (ℓ : Loc Cert.Kernel.nD Cert.Kernel.τ Cert.Kernel.sig) → Buf (Elt Bits) ℓ) (h : Cert.Pre_Kernel m) :
    Cert.Kernel.Gen.Pinned 0 m :=
  ⟨fun c => (tables_say _ _ _ _ _ (h c)).1, fun c => (tables_say _ _ _ _ _ (h c)).2⟩

theorem pinned_KernelIdeal (m : (ℓ : Loc Cert.KernelIdeal.nD Cert.KernelIdeal.τ Cert.KernelIdeal.sig) → Buf (Elt Ideal) ℓ) (h : Cert.Pre_KernelIdeal m) :
    Cert.KernelIdeal.Gen.Pinned 0 m :=
  ⟨fun c => (tables_say _ _ _ _ _ (h c)).1, fun c => (tables_say _ _ _ _ _ (h c)).2⟩

theorem pinned_packed (m : (ℓ : Loc Cert.KernelIdeal.nD Cert.KernelIdeal.τ Cert.KernelIdeal.sig) → Buf (Elt Ideal) ℓ) (h : Cert.Pre_KernelIdeal_packed m) :
    Cert.KernelIdeal.Gen.Pinned 0 m :=
  ⟨fun c => (packed_say _ _ _ _ _ (h c)).1.1, fun c => (packed_say _ _ _ _ _ (h c)).1.2⟩

end Cert.Tables

end
-- ==== Proof.PrepFinal.lean ====
/- The preparation of queries and keys: the five result arrays. -/
module

public import proofs.«01_k».proof.Proof.PrepTurn
public import proofs.«01_k».proof.Proof.Tables
public import proofs.«01_k».proof.Proof.Gen.Pre_finite

@[expose] public section

set_option maxRecDepth 16384

noncomputable section

namespace Cert.PrepIdeal.Row

open Cert.PrepIdeal Cert.PrepIdeal.Gen
open Idealize.ShloMosaic Idealize.ShloMosaic.TcCoe Idealize.SL.Sem
open Cert.PrepReferenceIdeal.Row (Hd Nm Rt Eighth Pk Bs Ls Pk_at Eighth_at Ls_at Bs_at)

instance : Subsingleton Cert.Pre_finite.S_.Idx := ⟨fun y z => funext fun a => a.elim0⟩

/-- What the predicate `finite` says: the two pairs of column blocks hold finite numbers. -/
theorem finite_say (A0 : FVec Ideal S128x3712 .f32) (A1 A2 A3 A4 : FVec Ideal S64 .f32) (A5 : FVec Ideal S4 .f32) (A6 : IVec S4 32)
    (h : Cert.Pre_finite.fn (F := Ideal) A0 A1 A2 A3 A4 A5 A6 = fun _ => 1#1) :
    ∀ (r : Fin 128) (k : Fin 3712), ((k : ℕ) < 512 ∨ (1792 ≤ (k : ℕ) ∧ (k : ℕ) < 2304)) → ∃ q : ℝ, A0 (ix2 r k) = (q : EReal) := by
  obtain ⟨h0, h1⟩ := Cert.Tables.both_on _ _ (congrFun h (fun a => a.elim0))
  intro r k hk
  rcases hk with hk | ⟨hk, hk'⟩
  · have e := Cert.Tables.finite_of _ (Host.reduce_andi_all _ _ _ _ _ h0 (ix2 r (⟨k, hk⟩ : Fin 512)))
    have e' : (extractStridedSlice Cert.Pre_finite.S128x512 ![0, 0] A0 Cert.Pre_finite.Facts.slices_S128x3712_S128x512_0_0 (ix2 r (⟨k, hk⟩ : Fin 512)) : EReal) = A0 (ix2 r k) := by
      pointwise
    exact e' ▸ e
  · have e := Cert.Tables.finite_of _ (Host.reduce_andi_all _ _ _ _ _ h1 (ix2 r (⟨k - 1792, by omega⟩ : Fin 512)))
    have ek : (⟨1792 + (k - 1792), by omega⟩ : Fin 3712) = k := Fin.ext (by dsimp only; omega)
    have e' : (extractStridedSlice Cert.Pre_finite.S128x512 ![0, 1792] A0 Cert.Pre_finite.Facts.slices_S128x3712_S128x512_0_1792 (ix2 r (⟨k - 1792, by omega⟩ : Fin 512)) : EReal) = A0 (ix2 r k) := by
      pointwise
      rw [ek]
    exact e' ▸ e

theorem idx : ∀ t : Fin cfg0.N, win0_0.index t = ![0, 0] ∧ win0_1.index t = ![0, 1] ∧ win0_2.index t = ![0, 7] ∧ win0_3.index t = ![0, 8] ∧ win0_4.index t = ![0, 28]
    ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] :=
  (by decide +kernel : ∀ t : Fin grid0.N, _)

variable (m : (ℓ : Loc nD τ sig) → Buf (Elt Ideal) ℓ)

theorem b0 (c : Dev nD) (t : Fin cfg0.N) (r : Fin 128) (k : Fin 256) :
    X0_0 m c t (ix2 r k) = m ((c.tc : Thread nD τ).loc main_arg0) (ix2 r (⟨0 + k, by omega⟩ : Fin 3712)) := by
  refine Eq.trans ?_ (congrFun (V_main_arg0 m c) _)
  unfold X0_0 Pipeline.Window.fill
  rw [dif_pos (moved0_0 t _)]
  blk_ext [iblk, idx t]

theorem b1 (c : Dev nD) (t : Fin cfg0.N) (r : Fin 128) (k : Fin 256) :
    X0_1 m c t (ix2 r k) = m ((c.tc : Thread nD τ).loc main_arg0) (ix2 r (⟨256 + k, by omega⟩ : Fin 3712)) := by
  refine Eq.trans ?_ (congrFun (V_main_arg0 m c) _)
  unfold X0_1 Pipeline.Window.fill
  rw [dif_pos (moved0_1 t _)]
  blk_ext [iblk, idx t]

theorem b2 (c : Dev nD) (t : Fin cfg0.N) (r : Fin 128) (k : Fin 256) :
    X0_2 m c t (ix2 r k) = m ((c.tc : Thread nD τ).loc main_arg0) (ix2 r (⟨1792 + k, by omega⟩ : Fin 3712)) := by
  refine Eq.trans ?_ (congrFun (V_main_arg0 m c) _)
  unfold X0_2 Pipeline.Window.fill
  rw [dif_pos (moved0_2 t _)]
  blk_ext [iblk, idx t]

theorem b3 (c : Dev nD) (t : Fin cfg0.N) (r : Fin 128) (k : Fin 256) :
    X0_3 m c t (ix2 r k) = m ((c.tc : Thread nD τ).loc main_arg0) (ix2 r (⟨2048 + k, by omega⟩ : Fin 3712)) := by
  refine Eq.trans ?_ (congrFun (V_main_arg0 m c) _)
  unfold X0_3 Pipeline.Window.fill
  rw [dif_pos (moved0_3 t _)]
  blk_ext [iblk, idx t]

theorem b4 (c : Dev nD) (t : Fin cfg0.N) (r k : Fin 128) :
    iblk m c 4 t (ix2 r k) = m ((c.tc : Thread nD τ).loc main_arg0) (ix2 r (⟨3584 + k, by omega⟩ : Fin 3712)) := by
  refine Eq.trans ?_ (congrFun (V_main_arg0 m c) _)
  blk_ext [iblk, idx t]

theorem b5 (c : Dev nD) (t : Fin cfg0.N) : iblk m c 5 t = wRow (m ((c.tc : Thread nD τ).loc main_arg1)) := by
  refine Eq.trans (funext fun y => ?_) (entry_w1 m c)
  blk_ext [iblk, idx t]

theorem b6 (c : Dev nD) (t : Fin cfg0.N) : iblk m c 6 t = wRow (m ((c.tc : Thread nD τ).loc main_arg2)) := by
  refine Eq.trans (funext fun y => ?_) (entry_w2 m c)
  blk_ext [iblk, idx t]

theorem b7 (c : Dev nD) (t : Fin cfg0.N) : iblk m c 7 t = wRow (m ((c.tc : Thread nD τ).loc main_arg3)) := by
  refine Eq.trans (funext fun y => ?_) (entry_w3 m c)
  blk_ext [iblk, idx t]

theorem b8 (c : Dev nD) (t : Fin cfg0.N) : iblk m c 8 t = wRow (m ((c.tc : Thread nD τ).loc main_arg4)) := by
  refine Eq.trans (funext fun y => ?_) (entry_w4 m c)
  blk_ext [iblk, idx t]

theorem b9 (c : Dev nD) (t : Fin cfg0.N) : iblk m c 9 t = bRow (m ((c.tc : Thread nD τ).loc main_arg5)) := by
  refine Eq.trans (funext fun y => ?_) (entry_b m c)
  blk_ext [iblk, idx t]

theorem b10 (c : Dev nD) (t : Fin cfg0.N) : iblk m c 10 t = Lay (Host.cos (Ang (m ((c.tc : Thread nD τ).loc main_arg6)))) (Host.cos (Ang (m ((c.tc : Thread nD τ).loc main_arg6)))) := by
  refine Eq.trans (funext fun y => ?_) (entry_c m c)
  blk_ext [iblk, idx t]

theorem b11 (c : Dev nD) (t : Fin cfg0.N) : iblk m c 11 t = Lay (Host.negf (Host.sin (Ang (m ((c.tc : Thread nD τ).loc main_arg6))))) (Host.sin (Ang (m ((c.tc : Thread nD τ).loc main_arg6)))) := by
  refine Eq.trans (funext fun y => ?_) (entry_s m c)
  blk_ext [iblk, idx t]

theorem b12 (c : Dev nD) (t : Fin cfg0.N) : iblk m c 12 t = Same := by
  refine Eq.trans (funext fun y => ?_) (entry_g m c)
  blk_ext [iblk, idx t]

end Cert.PrepIdeal.Row

end
-- ==== Proof.PrepOut.lean ====
/- The preparation of queries and keys: each result array of the kernel is the reference's function of the arguments. -/
module

public import proofs.«01_k».proof.Proof.PrepFinal

@[expose] public section

set_option maxRecDepth 16384

noncomputable section

namespace Cert.PrepIdeal.Row

open Cert.PrepIdeal Cert.PrepIdeal.Gen
open Idealize.ShloMosaic Idealize.ShloMosaic.TcCoe Idealize.SL.Sem
open Cert.PrepReferenceIdeal.Row (Hd Nm Rt Eighth Pk Bs Ls Pk_at Eighth_at Ls_at Bs_at)

/-- The columns that feed the norms are finite. -/
def Fine (A0 : FVec Ideal S128x3712 .f32) : Prop :=
  ∀ (r : Fin 128) (k : Fin 3712), ((k : ℕ) < 512 ∨ (1792 ≤ (k : ℕ) ∧ (k : ℕ) < 2304)) → ∃ q : ℝ, A0 (ix2 r k) = (q : EReal)

variable (m : (ℓ : Loc nD τ sig) → Buf (Elt Ideal) ℓ)

theorem gain_at (c : Dev nD) (W : FVec Ideal S64 .f32) (X : FVec Ideal S1x256 .f32) (h : X = wRow W) (n : Fin 256) : (X (ix2 0 n) : EReal) = (fun j => W (ix1 j)) (⟨n % 64, by omega⟩ : Fin 64) := by
  rw [h, wRow_at]

theorem same_at (X : FVec Ideal S256x256 .bf16) (h : X = Same) (k n : Fin 256) : (X (ix2 k n) : EReal) = if (k : ℕ) / 64 = n / 64 then 1 else 0 := by
  rw [h, Same_at]

theorem SL0 : Cert.PrepReferenceIdeal.S128x3712.Slices ![0, 0] Cert.PrepReferenceIdeal.S128x256 := by decide +kernel
theorem SL256 : Cert.PrepReferenceIdeal.S128x3712.Slices ![0, 256] Cert.PrepReferenceIdeal.S128x256 := by decide +kernel
theorem SL1792 : Cert.PrepReferenceIdeal.S128x3712.Slices ![0, 1792] Cert.PrepReferenceIdeal.S128x256 := by decide +kernel
theorem SL2048 : Cert.PrepReferenceIdeal.S128x3712.Slices ![0, 2048] Cert.PrepReferenceIdeal.S128x256 := by decide +kernel

theorem at13 (c : Dev nD) (t : Fin cfg0.N) : (outsAt0 m c t).1 = k0_pay3 (iblk m c 12 t) (X0_0 m c t) (iblk m c 5 t) := by
  unfold outsAt0
  dsimp only
  rw [out13]

theorem at14 (c : Dev nD) (t : Fin cfg0.N) : (outsAt0 m c t).2.1 = k0_pay6 (X0_1 m c t) (k0_pay4 (iblk m c 6 t)) (k0_pay5 (iblk m c 12 t) (X0_1 m c t)) (Ideal.ofBits .f32 0x358637BD#32) := by
  unfold outsAt0
  dsimp only
  rw [out14]

theorem at15 (c : Dev nD) (t : Fin cfg0.N) : (outsAt0 m c t).2.2.1 = k0_pay7 (iblk m c 4 t) (iblk m c 9 t) := by
  unfold outsAt0
  dsimp only
  rw [out15]

theorem at16 (c : Dev nD) (t : Fin cfg0.N) : (outsAt0 m c t).2.2.2.1 = k0_pay16 (k0_pay9 (iblk m c 10 t)) (k0_pay10 (iblk m c 11 t)) (k0_pay11 (mq (X0_2 m c t) (iblk m c 7 t) (iblk m c 12 t)) (iblk m c 10 t) (iblk m c 11 t)) (k0_pay12 (mq (X0_2 m c t) (iblk m c 7 t) (iblk m c 12 t))) (Scalar.select (Scalar.cmpi .eq 64#32 0#32) 1#32 64#32) k0_pay13 k0_pay14 k0_pay15 := by
  unfold outsAt0
  dsimp only
  rw [out16]

theorem at17 (c : Dev nD) (t : Fin cfg0.N) : (outsAt0 m c t).2.2.2.2 = k0_pay1 (k0_pay18 (iblk m c 10 t)) (k0_pay19 (iblk m c 11 t)) (k0_pay20 (mk (X0_3 m c t) (iblk m c 8 t) (iblk m c 12 t)) (iblk m c 10 t) (iblk m c 11 t)) (k0_pay21 (mk (X0_3 m c t) (iblk m c 8 t) (iblk m c 12 t))) (Scalar.select (Scalar.cmpi .eq 64#32 0#32) 1#32 64#32) k0_pay22 k0_pay23 k0_pay24 k0_pay25 := by
  unfold outsAt0
  dsimp only
  rw [out17]

theorem final13 (c : Dev nD) (hA : Fine (m ((c.tc : Thread nD τ).loc main_arg0))) : (dats m 0 c).arrAt 13 cfg0.N = Pk (Eighth (Nm (Hd (m ((c.tc : Thread nD τ).loc main_arg0)) 0 SL0) (m ((c.tc : Thread nD τ).loc main_arg1)))) := by
  refine (dats m 0 c).arrAt_eq_of_covers 13 _ (by decide +kernel) fun t hf y => ?_
  blk_simp
  rw [after0_13]
  have key : ∀ (r : Fin 128) (n : Fin 256), ((outsAt0 m c t).1 (ix2 r n) : EReal) = (Pk (Eighth (Nm (Hd (m ((c.tc : Thread nD τ).loc main_arg0)) 0 SL0) (m ((c.tc : Thread nD τ).loc main_arg1)))) : FVec Ideal S128x256 .f32) (ix2 r n) := by
    intro r n
    have e0 := congrFun (at13 m c t) (ix2 r n)
    refine e0.trans ?_
    refine (pay3_at _ _ _ r n (fun k => by rw [b0]; exact hA r _ (by dsimp only; omega)) (same_at _ (b12 m c t)) (fun j => (m ((c.tc : Thread nD τ).loc main_arg1)) (ix1 j)) (gain_at c _ _ (b5 m c t))).trans ?_
    rw [Pk_at, Eighth_at, Nm_RM _ _ 0 (by omega), funext (b0 m c t r)]
  obtain ⟨r, n, rfl⟩ : ∃ (r : Fin 128) (n : Fin 256), y = ix2 r n := ⟨y 0, y 1, by funext a; fin_cases a <;> rfl⟩
  refine (key r n).trans ?_
  blk_ext [idx t]

theorem final14 (c : Dev nD) (hA : Fine (m ((c.tc : Thread nD τ).loc main_arg0))) : (dats m 0 c).arrAt 14 cfg0.N = Pk (Nm (Hd (m ((c.tc : Thread nD τ).loc main_arg0)) 256 SL256) (m ((c.tc : Thread nD τ).loc main_arg2))) := by
  refine (dats m 0 c).arrAt_eq_of_covers 14 _ (by decide +kernel) fun t hf y => ?_
  blk_simp
  rw [after0_14]
  have key : ∀ (r : Fin 128) (n : Fin 256), ((outsAt0 m c t).2.1 (ix2 r n) : EReal) = (Pk (Nm (Hd (m ((c.tc : Thread nD τ).loc main_arg0)) 256 SL256) (m ((c.tc : Thread nD τ).loc main_arg2))) : FVec Ideal S128x256 .f32) (ix2 r n) := by
    intro r n
    have e0 := congrFun (at14 m c t) (ix2 r n)
    refine e0.trans ?_
    refine (pay6_at _ _ _ r n (fun k => by rw [b1]; exact hA r _ (by dsimp only; omega)) (same_at _ (b12 m c t)) (fun j => (m ((c.tc : Thread nD τ).loc main_arg2)) (ix1 j)) (gain_at c _ _ (b6 m c t))).trans ?_
    rw [Pk_at, Nm_RM _ _ 256 (by omega), funext (b1 m c t r)]
  obtain ⟨r, n, rfl⟩ : ∃ (r : Fin 128) (n : Fin 256), y = ix2 r n := ⟨y 0, y 1, by funext a; fin_cases a <;> rfl⟩
  refine (key r n).trans ?_
  blk_ext [idx t]

theorem final15 (c : Dev nD) : (dats m 0 c).arrAt 15 cfg0.N = Ls (Bs (m ((c.tc : Thread nD τ).loc main_arg0)) (m ((c.tc : Thread nD τ).loc main_arg5))) := by
  refine (dats m 0 c).arrAt_eq_of_covers 15 _ (by decide +kernel) fun t hf y => ?_
  blk_simp
  rw [after0_15]
  have key : ∀ (r : Fin 128) (n : Fin 128), ((outsAt0 m c t).2.2.1 (ix2 r n) : EReal) = (Ls (Bs (m ((c.tc : Thread nD τ).loc main_arg0)) (m ((c.tc : Thread nD τ).loc main_arg5))) : FVec Ideal S128x128 .f32) (ix2 r n) := by
    intro r n
    have e0 := congrFun (at15 m c t) (ix2 r n)
    refine e0.trans ?_
    have e : ∀ (x : FVec Ideal S128x128 .f32) (w : FVec Ideal S1x128 .f32), (k0_pay7 (F := Ideal) x w (ix2 r n) : EReal)
        = min (x (ix2 r n) + w (ix2 0 n)) 0 - Ideal.log1p (Ideal.exp (0 - FloatOps.absf (F := Ideal) (φ := .f32) (x (ix2 r n) + w (ix2 0 n)))) := by
      intro x w
      pointwise [k0_pay7]
    refine (e _ _).trans ?_
    rw [log_sig, Ls_at, Bs_at, b4, b9, bRow_at]
    rw [show FloatOps.sitofp (F := Ideal) .f32 (0#32) = (0 : EReal) from by show (((0#32 : BitVec 32).toInt : ℝ) : EReal) = 0; norm_num]
  obtain ⟨r, n, rfl⟩ : ∃ (r : Fin 128) (n : Fin 128), y = ix2 r n := ⟨y 0, y 1, by funext a; fin_cases a <;> rfl⟩
  refine (key r n).trans ?_
  blk_ext [idx t]

theorem final16 (c : Dev nD) (hA : Fine (m ((c.tc : Thread nD τ).loc main_arg0))) : (dats m 0 c).arrAt 16 cfg0.N = Pk (Eighth (Rt (Nm (Hd (m ((c.tc : Thread nD τ).loc main_arg0)) 1792 SL1792) (m ((c.tc : Thread nD τ).loc main_arg3))) (Host.cos (Cert.PrepReferenceIdeal.Row.Ang (m ((c.tc : Thread nD τ).loc main_arg6)))) (Host.sin (Cert.PrepReferenceIdeal.Row.Ang (m ((c.tc : Thread nD τ).loc main_arg6)))))) := by
  refine (dats m 0 c).arrAt_eq_of_covers 16 _ (by decide +kernel) fun t hf y => ?_
  blk_simp
  rw [after0_16]
  have key : ∀ (r : Fin 128) (n : Fin 256), ((outsAt0 m c t).2.2.2.1 (ix2 r n) : EReal) = (Pk (Eighth (Rt (Nm (Hd (m ((c.tc : Thread nD τ).loc main_arg0)) 1792 SL1792) (m ((c.tc : Thread nD τ).loc main_arg3))) (Host.cos (Cert.PrepReferenceIdeal.Row.Ang (m ((c.tc : Thread nD τ).loc main_arg6)))) (Host.sin (Cert.PrepReferenceIdeal.Row.Ang (m ((c.tc : Thread nD τ).loc main_arg6)))))) : FVec Ideal S128x256 .f32) (ix2 r n) := by
    intro r n
    have e0 := congrFun (at16 m c t) (ix2 r n)
    refine e0.trans ?_
    refine (pay16_at _ _ _ r n).trans ?_
    rw [Pk_at, Eighth_at, Rt_RO _ _ _ _ r n (fun n => Nm_RM (m ((c.tc : Thread nD τ).loc main_arg0)) (m ((c.tc : Thread nD τ).loc main_arg3)) 1792 (by omega) _ r n), b10, b11, TN_RO]
    rw [show (fun N : Fin 256 => (mq (X0_2 m c t) (iblk m c 7 t) (iblk m c 12 t) (ix2 r N) : EReal)) = RM (fun k => (m ((c.tc : Thread nD τ).loc main_arg0)) (ix2 r (⟨1792 + k, by omega⟩ : Fin 3712))) (fun j => (m ((c.tc : Thread nD τ).loc main_arg3)) (ix1 j)) from funext fun N => (mq_at _ _ _ r N (fun k => by rw [b2]; exact hA r _ (by dsimp only; omega)) (same_at _ (b12 m c t)) (fun j => (m ((c.tc : Thread nD τ).loc main_arg3)) (ix1 j)) (gain_at c _ _ (b7 m c t))).trans (by rw [funext (b2 m c t r)])]
    rfl
  obtain ⟨r, n, rfl⟩ : ∃ (r : Fin 128) (n : Fin 256), y = ix2 r n := ⟨y 0, y 1, by funext a; fin_cases a <;> rfl⟩
  refine (key r n).trans ?_
  blk_ext [idx t]

theorem final17 (c : Dev nD) (hA : Fine (m ((c.tc : Thread nD τ).loc main_arg0))) : (dats m 0 c).arrAt 17 cfg0.N = Pk (Rt (Nm (Hd (m ((c.tc : Thread nD τ).loc main_arg0)) 2048 SL2048) (m ((c.tc : Thread nD τ).loc main_arg4))) (Host.cos (Cert.PrepReferenceIdeal.Row.Ang (m ((c.tc : Thread nD τ).loc main_arg6)))) (Host.sin (Cert.PrepReferenceIdeal.Row.Ang (m ((c.tc : Thread nD τ).loc main_arg6))))) := by
  refine (dats m 0 c).arrAt_eq_of_covers 17 _ (by decide +kernel) fun t hf y => ?_
  blk_simp
  rw [after0_17]
  have key : ∀ (r : Fin 128) (n : Fin 256), ((outsAt0 m c t).2.2.2.2 (ix2 r n) : EReal) = (Pk (Rt (Nm (Hd (m ((c.tc : Thread nD τ).loc main_arg0)) 2048 SL2048) (m ((c.tc : Thread nD τ).loc main_arg4))) (Host.cos (Cert.PrepReferenceIdeal.Row.Ang (m ((c.tc : Thread nD τ).loc main_arg6)))) (Host.sin (Cert.PrepReferenceIdeal.Row.Ang (m ((c.tc : Thread nD τ).loc main_arg6))))) : FVec Ideal S128x256 .f32) (ix2 r n) := by
    intro r n
    have e0 := congrFun (at17 m c t) (ix2 r n)
    refine e0.trans ?_
    refine (pay1_at _ _ _ r n).trans ?_
    rw [Pk_at, Rt_RO _ _ _ _ r n (fun n => Nm_RM (m ((c.tc : Thread nD τ).loc main_arg0)) (m ((c.tc : Thread nD τ).loc main_arg4)) 2048 (by omega) _ r n), b10, b11, TN_RO]
    rw [show (fun N : Fin 256 => (mk (X0_3 m c t) (iblk m c 8 t) (iblk m c 12 t) (ix2 r N) : EReal)) = RM (fun k => (m ((c.tc : Thread nD τ).loc main_arg0)) (ix2 r (⟨2048 + k, by omega⟩ : Fin 3712))) (fun j => (m ((c.tc : Thread nD τ).loc main_arg4)) (ix1 j)) from funext fun N => (mk_at _ _ _ r N (fun k => by rw [b3]; exact hA r _ (by dsimp only; omega)) (same_at _ (b12 m c t)) (fun j => (m ((c.tc : Thread nD τ).loc main_arg4)) (ix1 j)) (gain_at c _ _ (b8 m c t))).trans (by rw [funext (b3 m c t r)])]
    rfl
  obtain ⟨r, n, rfl⟩ : ∃ (r : Fin 128) (n : Fin 256), y = ix2 r n := ⟨y 0, y 1, by funext a; fin_cases a <;> rfl⟩
  refine (key r n).trans ?_
  blk_ext [idx t]

end Cert.PrepIdeal.Row

end
-- ==== Proof.DecRow.lean ====
/- The decoding rows' input projection, the one block of 128 rows: what the kernel's body leaves in the block of the result. -/
module

public import proofs.«01_k».proof.Proof.FfnValue
public import proofs.«01_k».proof.Proof.ProjRow
public import proofs.«01_k».proof.Proof.Gen.DecIdeal.Frame
public import Idealize.ShloMosaic.Lib.Pipeline.CanonAppend

@[expose] public section

set_option maxRecDepth 16384

noncomputable section

namespace Cert.DecIdeal.Row

open Cert.DecIdeal Cert.DecIdeal.Gen
open Idealize.ShloMosaic Idealize.ShloMosaic.TcCoe Idealize.SL.Sem
open Cert.FfnIdeal.Row (scale normRow)
open Cert.ProjIdeal.Row (dotRow)

/-- A load of a rectangle of a whole argument, at an index. -/
theorem load2_at {R C n c : ℕ} {e : EltTy} (v : Memref sig .tc .vmem (⟨2, ![R, C]⟩ : Shape) e) (hv : v.IsWhole) (x : (⟨2, ![R, C]⟩ : Shape).Idx → Elt Ideal e) (a b : ℕ)
    (i : ∀ ax : Fin 2, ![a, b] ax + ![n, c] ax ≤ ![R, C] ax) (p : Fin n) (q : Fin c) (hp : a + p < R) (hq : b + q < C) :
    View.readAt (Elt Ideal) v.view (Rect.unit (s := (⟨2, ![R, C]⟩ : Shape)) ![a, b] ![n, c] i).toLoadRect (hv.unread x) (ix2 p q) = x (ix2 (⟨a + p, hp⟩ : Fin R) (⟨b + q, hq⟩ : Fin C)) := by
  refine (congrFun (hv.read_unread x) _).trans (congrArg x (funext fun ax => Fin.ext ?_))
  fin_cases ax <;> simp [Rect.unit, Rect.toLoadRect, LoadRect.idx]

/-- A load of a whole argument from its start. -/
theorem load2_zero {R C : ℕ} {e : EltTy} (v : Memref sig .tc .vmem (⟨2, ![R, C]⟩ : Shape) e) (hv : v.IsWhole) (x : (⟨2, ![R, C]⟩ : Shape).Idx → Elt Ideal e)
    (i : ∀ ax : Fin 2, ![0, 0] ax + ![R, C] ax ≤ ![R, C] ax) :
    View.readAt (Elt Ideal) v.view (Rect.unit (s := (⟨2, ![R, C]⟩ : Shape)) ![0, 0] ![R, C] i).toLoadRect (hv.unread x) = x := by
  funext y
  refine (congrFun (hv.read_unread x) _).trans (congrArg x (funext fun ax => Fin.ext ?_))
  fin_cases ax <;> simp [Rect.unit, Rect.toLoadRect, LoadRect.idx]

/-- The normed row, as every chunk's program computes it. -/
theorem norm_at (x : FVec Ideal S128x1024 .f32) (g : FVec Ideal S1x1024 .f32) (r : Fin 128) (k : Fin 1024) :
    (k0_pay5 (F := Ideal) x g (ix2 r k) : EReal) = normRow (fun k => x (ix2 r k)) (fun k => g (ix2 0 k)) k := by
  pointwise [k0_pay5]
  rfl

theorem pay1_at (h : FVec Ideal S128x1024 .bf16) (w : FVec Ideal S512x1024 .bf16) (r : Fin 128) (n : Fin 512) :
    (k0_pay1 (F := Ideal) h w (ix2 r n) : EReal) = ∑ k : Fin 1024, (h (ix2 r k) : EReal) * w (ix2 n k) := by
  pointwise [k0_pay1]

theorem pay2_at (h : FVec Ideal S128x1024 .bf16) (w : FVec Ideal S512x1024 .bf16) (r : Fin 128) (n : Fin 512) :
    (k0_pay2 (F := Ideal) h w (ix2 r n) : EReal) = ∑ k : Fin 1024, (h (ix2 r k) : EReal) * w (ix2 n k) := by
  pointwise [k0_pay2]

theorem pay3_at (h : FVec Ideal S128x1024 .bf16) (w : FVec Ideal S512x1024 .bf16) (r : Fin 128) (n : Fin 512) :
    (k0_pay3 (F := Ideal) h w (ix2 r n) : EReal) = ∑ k : Fin 1024, (h (ix2 r k) : EReal) * w (ix2 n k) := by
  pointwise [k0_pay3]

theorem pay4_at (h : FVec Ideal S128x1024 .bf16) (w : FVec Ideal S128x1024 .bf16) (r : Fin 128) (n : Fin 128) :
    (k0_pay4 (F := Ideal) h w (ix2 r n) : EReal) = ∑ k : Fin 1024, (h (ix2 r k) : EReal) * w (ix2 n k) := by
  pointwise [k0_pay4]

theorem pay6_at (x : FVec Ideal S128x1024 .f32) (g : FVec Ideal S1x1024 .f32) (w : FVec Ideal S512x1024 .bf16) (r : Fin 128) (n : Fin 512) :
    (k0_pay6 (F := Ideal) x g w (ix2 r n) : EReal) = ∑ k : Fin 1024, (k0_pay5 (F := Ideal) x g (ix2 r k) : EReal) * w (ix2 n k) :=
  pay1_at (k0_pay5 (F := Ideal) x g) w r n

theorem pay7_at (x : FVec Ideal S128x1024 .f32) (g : FVec Ideal S1x1024 .f32) (w : FVec Ideal S512x1024 .bf16) (r : Fin 128) (n : Fin 512) :
    (k0_pay7 (F := Ideal) x g w (ix2 r n) : EReal) = ∑ k : Fin 1024, (k0_pay5 (F := Ideal) x g (ix2 r k) : EReal) * w (ix2 n k) :=
  pay1_at (k0_pay5 (F := Ideal) x g) w r n

theorem pay8_at (x : FVec Ideal S128x1024 .f32) (g : FVec Ideal S1x1024 .f32) (w : FVec Ideal S512x1024 .bf16) (r : Fin 128) (n : Fin 512) :
    (k0_pay8 (F := Ideal) x g w (ix2 r n) : EReal) = ∑ k : Fin 1024, (k0_pay5 (F := Ideal) x g (ix2 r k) : EReal) * w (ix2 n k) :=
  pay1_at (k0_pay5 (F := Ideal) x g) w r n

theorem pay9_at (x : FVec Ideal S128x1024 .f32) (g : FVec Ideal S1x1024 .f32) (w : FVec Ideal S512x1024 .bf16) (r : Fin 128) (n : Fin 512) :
    (k0_pay9 (F := Ideal) x g w (ix2 r n) : EReal) = ∑ k : Fin 1024, (k0_pay5 (F := Ideal) x g (ix2 r k) : EReal) * w (ix2 n k) :=
  pay1_at (k0_pay5 (F := Ideal) x g) w r n

theorem dot_load (arg3 : Memref sig .tc .vmem S3712x1024 .bf16) (harg3 : arg3.IsWhole) (x2 : S3712x1024.Idx → Elt Ideal .bf16) (h : Fin 1024 → EReal) (h' : Fin 1024 → EReal) (N a : ℕ) (hN : a + N ≤ 3712)
    (i : ∀ ax : Fin 2, ![a, 0] ax + ![N, 1024] ax ≤ ![3712, 1024] ax) (n : Fin N) (hh : ∀ k, h k = h' k) :
    (∑ k : Fin 1024, h k * (View.readAt (Elt Ideal) arg3.view (Rect.unit (s := S3712x1024) ![a, 0] ![N, 1024] i).toLoadRect (harg3.unread x2) (ix2 n k) : EReal)) = dotRow h' x2 (⟨a + n, by omega⟩ : Fin 3712) :=
  Finset.sum_congr rfl fun k _ => congrArg₂ (· * ·) (hh k) ((load2_at arg3 harg3 x2 a 0 i n k (by omega) (by omega)).trans (congrArg (fun z : Fin 1024 => x2 (ix2 (⟨a + n, by omega⟩ : Fin 3712) z)) (Fin.ext (by simp))))

theorem canon_cols (G : S128x3712.Idx → Elt Ideal .f32) (w6 w5 w4 w3 w2 w1 w0 : S128x512.Idx → Elt Ideal .f32) (w7 : S128x128.Idx → Elt Ideal .f32) (i7 i6 i5 i4 i3 i2 i1 i0)
    (h7 : ∀ (r : Fin 128) (n : Fin 128), w7 (ix2 r n) = G (ix2 r (⟨3584 + n, by omega⟩ : Fin 3712)))
    (h6 : ∀ (r : Fin 128) (n : Fin 512), w6 (ix2 r n) = G (ix2 r (⟨3072 + n, by omega⟩ : Fin 3712)))
    (h5 : ∀ (r : Fin 128) (n : Fin 512), w5 (ix2 r n) = G (ix2 r (⟨2560 + n, by omega⟩ : Fin 3712)))
    (h4 : ∀ (r : Fin 128) (n : Fin 512), w4 (ix2 r n) = G (ix2 r (⟨2048 + n, by omega⟩ : Fin 3712)))
    (h3 : ∀ (r : Fin 128) (n : Fin 512), w3 (ix2 r n) = G (ix2 r (⟨1536 + n, by omega⟩ : Fin 3712)))
    (h2 : ∀ (r : Fin 128) (n : Fin 512), w2 (ix2 r n) = G (ix2 r (⟨1024 + n, by omega⟩ : Fin 3712)))
    (h1 : ∀ (r : Fin 128) (n : Fin 512), w1 (ix2 r n) = G (ix2 r (⟨512 + n, by omega⟩ : Fin 3712)))
    (h0 : ∀ (r : Fin 128) (n : Fin 512), w0 (ix2 r n) = G (ix2 r (⟨0 + n, by omega⟩ : Fin 3712))) :
    View.canon [(⟨Rect.unit (s := S128x3712) ![0, 3584] S128x128.size i7, w7⟩ : View.Piece (Elt Ideal) S128x3712 .f32),
      ⟨Rect.unit (s := S128x3712) ![0, 3072] S128x512.size i6, w6⟩,
      ⟨Rect.unit (s := S128x3712) ![0, 2560] S128x512.size i5, w5⟩,
      ⟨Rect.unit (s := S128x3712) ![0, 2048] S128x512.size i4, w4⟩,
      ⟨Rect.unit (s := S128x3712) ![0, 1536] S128x512.size i3, w3⟩,
      ⟨Rect.unit (s := S128x3712) ![0, 1024] S128x512.size i2, w2⟩,
      ⟨Rect.unit (s := S128x3712) ![0, 512] S128x512.size i1, w1⟩,
      ⟨Rect.unit (s := S128x3712) ![0, 0] S128x512.size i0, w0⟩] = G := by
  funext y
  refine View.canon_append_of_pieces G [] [_, _, _, _, _, _, _, _] ?pieces y ?cov
  case cov =>
    have h1 : (y 1 : ℕ) < 3712 := (y 1).isLt
    have h0 : (y 0 : ℕ) < 128 := (y 0).isLt
    have key : ∀ (d : ℕ) (i), d ≤ (y 1 : ℕ) → (y 1 : ℕ) < d + 512 →
        y ∈ (Rect.unit (s := S128x3712) ![0, d] S128x512.size i).set := fun d i e2 e3 =>
      Rect.mem_set_unit.2 fun a => by fin_cases a <;> simp <;> omega
    have key7 : ∀ i, 3584 ≤ (y 1 : ℕ) → y ∈ (Rect.unit (s := S128x3712) ![0, 3584] S128x128.size i).set := fun i e2 =>
      Rect.mem_set_unit.2 fun a => by fin_cases a <;> simp <;> omega
    rcases (by omega : (0 ≤ (y 1 : ℕ) ∧ (y 1 : ℕ) < 512) ∨ (512 ≤ (y 1 : ℕ) ∧ (y 1 : ℕ) < 1024) ∨ (1024 ≤ (y 1 : ℕ) ∧ (y 1 : ℕ) < 1536) ∨ (1536 ≤ (y 1 : ℕ) ∧ (y 1 : ℕ) < 2048) ∨ (2048 ≤ (y 1 : ℕ) ∧ (y 1 : ℕ) < 2560) ∨ (2560 ≤ (y 1 : ℕ) ∧ (y 1 : ℕ) < 3072) ∨ (3072 ≤ (y 1 : ℕ) ∧ (y 1 : ℕ) < 3584) ∨ 3584 ≤ (y 1 : ℕ)) with e | e | e | e | e | e | e | e
    · exact ⟨_, .tail _ (.tail _ (.tail _ (.tail _ (.tail _ (.tail _ (.tail _ (.head _))))))), key 0 i0 e.1 e.2⟩
    · exact ⟨_, .tail _ (.tail _ (.tail _ (.tail _ (.tail _ (.tail _ (.head _)))))), key 512 i1 e.1 e.2⟩
    · exact ⟨_, .tail _ (.tail _ (.tail _ (.tail _ (.tail _ (.head _))))), key 1024 i2 e.1 e.2⟩
    · exact ⟨_, .tail _ (.tail _ (.tail _ (.tail _ (.head _)))), key 1536 i3 e.1 e.2⟩
    · exact ⟨_, .tail _ (.tail _ (.tail _ (.head _))), key 2048 i4 e.1 e.2⟩
    · exact ⟨_, .tail _ (.tail _ (.head _)), key 2560 i5 e.1 e.2⟩
    · exact ⟨_, .tail _ (.head _), key 3072 i6 e.1 e.2⟩
    · exact ⟨_, .head _, key7 i7 e⟩
  intro p hp x
  have key : ∀ (w : S128x512.Idx → Elt Ideal .f32) (d : ℕ) (hd : d + 512 ≤ 3712) (i) (x : S128x512.Idx), (∀ (r : Fin 128) (n : Fin 512), w (ix2 r n) = G (ix2 r (⟨d + n, by omega⟩ : Fin 3712))) →
      w x = G ((Rect.unit (s := S128x3712) ![0, d] S128x512.size i).emb x) := by
    intro w d hd i x hw
    obtain ⟨r, n, rfl⟩ : ∃ (r : Fin 128) (n : Fin 512), x = ix2 r n := ⟨x 0, x 1, by funext a; fin_cases a <;> rfl⟩
    rw [hw]
    refine congrArg G (funext fun a => Fin.ext ?_)
    rw [Rect.emb_apply]
    fin_cases a <;> simp [Rect.unit]
  have key7 : ∀ (i) (x : S128x128.Idx), w7 x = G ((Rect.unit (s := S128x3712) ![0, 3584] S128x128.size i).emb x) := by
    intro i x
    obtain ⟨r, n, rfl⟩ : ∃ (r : Fin 128) (n : Fin 128), x = ix2 r n := ⟨x 0, x 1, by funext a; fin_cases a <;> rfl⟩
    rw [h7]
    refine congrArg G (funext fun a => Fin.ext ?_)
    rw [Rect.emb_apply]
    fin_cases a <;> simp [Rect.unit]
  simp only [List.mem_cons, List.not_mem_nil, or_false] at hp
  rcases hp with rfl | rfl | rfl | rfl | rfl | rfl | rfl | rfl
  · exact key7 i7 x
  · exact key w6 3072 (by omega) i6 x h6
  · exact key w5 2560 (by omega) i5 x h5
  · exact key w4 2048 (by omega) i4 x h4
  · exact key w3 1536 (by omega) i3 x h3
  · exact key w2 1024 (by omega) i2 x h2
  · exact key w1 512 (by omega) i1 x h1
  · exact key w0 0 (by omega) i0 x h0

theorem block_row (i : grid0.Coords) (c : Dev nD) (arg1 : Memref sig .tc .vmem S128x1024 .f32) (harg1 : arg1.IsWhole) (arg2 : Memref sig .tc .vmem S1x1024 .f32) (harg2 : arg2.IsWhole) (arg3 : Memref sig .tc .vmem S3712x1024 .bf16) (harg3 : arg3.IsWhole) (arg4 : Memref sig .tc .vmem S128x3712 .f32) (harg4 : arg4.IsWhole)
    (x0 : S128x1024.Idx → Elt Ideal .f32) (x1 : S1x1024.Idx → Elt Ideal .f32) (x2 : S3712x1024.Idx → Elt Ideal .bf16) :
    View.canon (kernelRun0_A (F := Ideal) c i arg1 harg1 arg2 harg2 arg3 harg3 arg4 harg4 x0 x1 x2).1
      = fun y => dotRow (normRow (fun k => x0 (ix2 (y 0) k)) (fun k => x1 (ix2 0 k))) x2 (y 1) := by
  have hn : ∀ (r : Fin 128) (k : Fin 1024), (k0_pay5 (F := Ideal) (View.readAt (Elt Ideal) arg1.view (Rect.unit ![0, 0] S128x1024.size inb_S128x1024_S128x1024_0_0).toLoadRect (harg1.unread x0)) (View.readAt (Elt Ideal) arg2.view (Rect.unit ![0, 0] S1x1024.size inb_S1x1024_S1x1024_0_0).toLoadRect (harg2.unread x1)) (ix2 r k) : EReal)
      = normRow (fun k => x0 (ix2 r k)) (fun k => x1 (ix2 0 k)) k := fun r k => by
    refine (norm_at _ _ r k).trans ?_
    rw [load2_zero arg1 harg1 x0, load2_zero arg2 harg2 x1]
  refine canon_cols _ _ _ _ _ _ _ _ _ _ _ _ _ _ _ _ _ ?_ ?_ ?_ ?_ ?_ ?_ ?_ ?_
  · exact fun r n => (pay4_at _ _ r n).trans (dot_load arg3 harg3 x2 _ _ 128 3584 (by omega) _ n (hn r))
  · exact fun r n => (pay3_at _ _ r n).trans (dot_load arg3 harg3 x2 _ _ 512 3072 (by omega) _ n (hn r))
  · exact fun r n => (pay2_at _ _ r n).trans (dot_load arg3 harg3 x2 _ _ 512 2560 (by omega) _ n (hn r))
  · exact fun r n => (pay1_at _ _ r n).trans (dot_load arg3 harg3 x2 _ _ 512 2048 (by omega) _ n (hn r))
  · exact fun r n => (pay9_at _ _ _ r n).trans (dot_load arg3 harg3 x2 _ _ 512 1536 (by omega) _ n (hn r))
  · exact fun r n => (pay8_at _ _ _ r n).trans (dot_load arg3 harg3 x2 _ _ 512 1024 (by omega) _ n (hn r))
  · exact fun r n => (pay7_at _ _ _ r n).trans (dot_load arg3 harg3 x2 _ _ 512 512 (by omega) _ n (hn r))
  · exact fun r n => (pay6_at _ _ _ r n).trans (dot_load arg3 harg3 x2 _ _ 512 0 (by omega) _ n (hn r))

theorem out_row (i : grid0.Coords) (c : Dev nD) (arg1 : Memref sig .tc .vmem S128x1024 .f32) (harg1 : arg1.IsWhole) (arg2 : Memref sig .tc .vmem S1x1024 .f32) (harg2 : arg2.IsWhole) (arg3 : Memref sig .tc .vmem S3712x1024 .bf16) (harg3 : arg3.IsWhole) (arg4 : Memref sig .tc .vmem S128x3712 .f32) (harg4 : arg4.IsWhole)
    (x0 : S128x1024.Idx → Elt Ideal .f32) (x1 : S1x1024.Idx → Elt Ideal .f32) (x2 : S3712x1024.Idx → Elt Ideal .bf16) (r : Fin 128) (n : Fin 3712) :
    (out0_A_3 (F := Ideal) c i arg1 harg1 arg2 harg2 arg3 harg3 arg4 harg4 x0 x1 x2 (ix2 r n) : EReal)
      = dotRow (normRow (fun k => x0 (ix2 r k)) (fun k => x1 (ix2 0 k))) x2 n :=
  (congrFun (View.read_writes_junk_eq_canon VO0_3 _) (ix2 r n)).trans (congrFun (block_row i c arg1 harg1 arg2 harg2 arg3 harg3 arg4 harg4 x0 x1 x2) (ix2 r n))

end Cert.DecIdeal.Row

end
-- ==== Proof.DecRef.lean ====
/- The decoding rows' input projection: the reference's result, column by column. -/
module

public import proofs.«01_k».proof.Proof.FfnBlock
public import proofs.«01_k».proof.Proof.FfnValue
public import proofs.«01_k».proof.Proof.Gen.DecReferenceIdeal.Run
public import Idealize.ShloMosaic.Lib.Pointwise
public import Idealize.ShloMosaic.Lib.Pipeline.ValueKit

@[expose] public section

set_option maxRecDepth 16384

noncomputable section

namespace Cert.DecReferenceIdeal.Row

open Cert.DecReferenceIdeal Cert.DecReferenceIdeal.Gen
open Idealize.ShloMosaic Idealize.ShloMosaic.TcCoe Idealize.SL.Sem
open Cert.FfnIdeal.Row (scale normRow)

/-- The rows over their root mean squares, times the gains. -/
def Hn (A0 : FVec Ideal S128x1024 .f32) (A1 : FVec Ideal S1024 .f32) : FVec Ideal S128x1024 .f32 :=
  (mulf (mulf A0 (broadcastInDim S128x1024 ![0, 1] bcast_S128x1_S128x1024_0_1 (Host.rsqrt (addf (Host.divf (broadcastInDim S128x1 ![0] bcast_S128_S128x1_0 (Host.reduceAdd (mulf A0 A0) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 A1)))

/-- The projection, its columns in the order of the weights. -/
def Zc (H : FVec Ideal S128x1024 .f32) (A2 : FVec Ideal S1024x3604 .f32) : FVec Ideal S128x3604 .f32 :=
  (Host.dotGeneral (φ₁ := .f32) (φ₂ := .f32) dot_S128x1024_S1024x3604_S128x3604_1_0_0_1_n_n none H A2)

/-- The columns of the wide heads and of the first narrow ones, in the packed order. -/
def headR (Z : FVec Ideal S128x3604 .f32) : FVec Ideal S128x3600 .f32 :=
  ((concatenate S128x3600 1 [⟨S128x256, ((extractStridedSlice S128x256 ![0, 0] Z slices_S128x3604_S128x256_0_0) : (⟨S128x256, .f32⟩ : BufTy).Contents (Elt Ideal))⟩, ⟨S128x256, ((extractStridedSlice S128x256 ![0, 256] Z slices_S128x3604_S128x256_0_256) : (⟨S128x256, .f32⟩ : BufTy).Contents (Elt Ideal))⟩, ⟨S128x256, ((extractStridedSlice S128x256 ![0, 512] Z slices_S128x3604_S128x256_0_512) : (⟨S128x256, .f32⟩ : BufTy).Contents (Elt Ideal))⟩, ⟨S128x768, ((extractStridedSlice S128x768 ![0, 772] Z slices_S128x3604_S128x768_0_772) : (⟨S128x768, .f32⟩ : BufTy).Contents (Elt Ideal))⟩, ⟨S128x256, ((extractStridedSlice S128x256 ![0, 1548] Z slices_S128x3604_S128x256_0_1548) : (⟨S128x256, .f32⟩ : BufTy).Contents (Elt Ideal))⟩, ⟨S128x256, ((extractStridedSlice S128x256 ![0, 1804] Z slices_S128x3604_S128x256_0_1804) : (⟨S128x256, .f32⟩ : BufTy).Contents (Elt Ideal))⟩, ⟨S128x256, ((extractStridedSlice S128x256 ![0, 2060] Z slices_S128x3604_S128x256_0_2060) : (⟨S128x256, .f32⟩ : BufTy).Contents (Elt Ideal))⟩, ⟨S128x256, ((extractStridedSlice S128x256 ![0, 2316] Z slices_S128x3604_S128x256_0_2316) : (⟨S128x256, .f32⟩ : BufTy).Contents (Elt Ideal))⟩, ⟨S128x256, ((extractStridedSlice S128x256 ![0, 2572] Z slices_S128x3604_S128x256_0_2572) : (⟨S128x256, .f32⟩ : BufTy).Contents (Elt Ideal))⟩, ⟨S128x256, ((extractStridedSlice S128x256 ![0, 2828] Z slices_S128x3604_S128x256_0_2828) : (⟨S128x256, .f32⟩ : BufTy).Contents (Elt Ideal))⟩, ⟨S128x256, ((extractStridedSlice S128x256 ![0, 3084] Z slices_S128x3604_S128x256_0_3084) : (⟨S128x256, .f32⟩ : BufTy).Contents (Elt Ideal))⟩, ⟨S128x256, ((extractStridedSlice S128x256 ![0, 3348] Z slices_S128x3604_S128x256_0_3348) : (⟨S128x256, .f32⟩ : BufTy).Contents (Elt Ideal))⟩, ⟨S128x4, ((extractStridedSlice S128x4 ![0, 768] Z slices_S128x3604_S128x4_0_768) : (⟨S128x4, .f32⟩ : BufTy).Contents (Elt Ideal))⟩, ⟨S128x4, ((extractStridedSlice S128x4 ![0, 1540] Z slices_S128x3604_S128x4_0_1540) : (⟨S128x4, .f32⟩ : BufTy).Contents (Elt Ideal))⟩, ⟨S128x4, ((extractStridedSlice S128x4 ![0, 1544] Z slices_S128x3604_S128x4_0_1544) : (⟨S128x4, .f32⟩ : BufTy).Contents (Elt Ideal))⟩, ⟨S128x4, ((extractStridedSlice S128x4 ![0, 3340] Z slices_S128x3604_S128x4_0_3340) : (⟨S128x4, .f32⟩ : BufTy).Contents (Elt Ideal))⟩] concatenates_S128x256_S128x256_S128x256_S128x768_S128x256_S128x256_S128x256_S128x256_S128x256_S128x256_S128x256_S128x256_S128x4_S128x4_S128x4_S128x4_S128x3600_d1 : (⟨S128x3600, .f32⟩ : BufTy).Contents (Elt Ideal)))

/-- The last narrow head and the columns of zeros. -/
def tailR (Z : FVec Ideal S128x3604 .f32) : FVec Ideal S128x112 .f32 :=
  (concatenate S128x112 1 [⟨S128x4, (extractStridedSlice S128x4 ![0, 3344] Z slices_S128x3604_S128x4_0_3344 : (⟨S128x4, .f32⟩ : BufTy).Contents (Elt Ideal))⟩, ⟨S128x108, (broadcastInDim S128x108 ![] bcast_S_S128x108 (constant (F := Ideal) S_ .f32 0x00000000#32) : (⟨S128x108, .f32⟩ : BufTy).Contents (Elt Ideal))⟩] concatenates_S128x4_S128x108_S128x112_d1)

/-- The result: the projection with its columns in the packed order. -/
def Pk (Z : FVec Ideal S128x3604 .f32) : FVec Ideal S128x3712 .f32 :=
  concatenate S128x3712 1 [⟨S128x3600, (headR Z : (⟨S128x3600, .f32⟩ : BufTy).Contents (Elt Ideal))⟩, ⟨S128x112, (tailR Z : (⟨S128x112, .f32⟩ : BufTy).Contents (Elt Ideal))⟩] concatenates_S128x3600_S128x112_S128x3712_d1

theorem res_eq (m : (ℓ : Loc nD τ sig) → Buf (Elt Ideal) ℓ) (c : Dev nD) (A0 : FVec Ideal S128x1024 .f32) (A1 : FVec Ideal S1024 .f32) (A2 : FVec Ideal S1024x3604 .f32)
    (h0 : m ((c.tc : Thread nD τ).loc main_arg0) = A0) (h1 : m ((c.tc : Thread nD τ).loc main_arg1) = A1) (h2 : m ((c.tc : Thread nD τ).loc main_arg2) = A2) :
    Cert.DecReferenceIdeal.Value.res_main_v36 m c = Pk (Zc (Hn A0 A1) A2) := by
  subst h0 h1 h2
  rfl

/-- The forgetting attention's values, by sequence, position and head. -/
def Fv (Z : FVec Ideal S128x3604 .f32) : FVec Ideal S32x4x4x64 .f32 :=
  shapeCast S32x4x4x64 (shapeCast S32x4x256 (extractStridedSlice S128x256 ![0, 512] Z slices_S128x3604_S128x256_0_512) shapeCasts_S128x256_S32x4x256) shapeCasts_S32x4x256_S32x4x4x64

/-- The block attention's values, by sequence, position and head. -/
def Mv (Z : FVec Ideal S128x3604 .f32) : FVec Ideal S32x4x4x64 .f32 :=
  shapeCast S32x4x4x64 (shapeCast S32x4x256 (extractStridedSlice S128x256 ![0, 2316] Z slices_S128x3604_S128x256_0_2316) shapeCasts_S128x256_S32x4x256) shapeCasts_S32x4x256_S32x4x4x64

/-- The convolution's columns, by sequence and position. -/
def Cq (Z : FVec Ideal S128x3604 .f32) : FVec Ideal S32x4x768 .f32 :=
  shapeCast S32x4x768 (extractStridedSlice S128x768 ![0, 772] Z slices_S128x3604_S128x768_0_772) shapeCasts_S128x768_S32x4x768

/-- The last three of the buffered and the new rows. -/
def Last (A3 : FVec Ideal S32x3x768 .f32) (C : FVec Ideal S32x4x768 .f32) : FVec Ideal S32x3x768 .f32 :=
  extractStridedSlice S32x3x768 ![0, 4, 0] (concatenate S32x7x768 1 [⟨S32x3x768, (A3 : (⟨S32x3x768, .f32⟩ : BufTy).Contents (Elt Ideal))⟩, ⟨S32x4x768, (C : (⟨S32x4x768, .f32⟩ : BufTy).Contents (Elt Ideal))⟩] concatenates_S32x3x768_S32x4x768_S32x7x768_d1) slices_S32x7x768_S32x3x768_0_4_0

theorem Hn_at (A0 : FVec Ideal S128x1024 .f32) (A1 : FVec Ideal S1024 .f32) (R : Fin 128) (k : Fin 1024) :
    (Hn A0 A1 (ix2 R k) : EReal) = normRow (fun k => A0 (ix2 R k)) (fun k => A1 (ix1 k)) k := by
  pointwise [Hn]
  rfl

theorem Zc_at (H : FVec Ideal S128x1024 .f32) (A2 : FVec Ideal S1024x3604 .f32) (R : Fin 128) (n : Fin 3604) :
    (Zc H A2 (ix2 R n) : EReal) = ∑ k : Fin 1024, (H (ix2 R k) : EReal) * A2 (ix2 k n) := by
  pointwise [Zc]

theorem tailR_at (Z : FVec Ideal S128x3604 .f32) (R : Fin 128) (n : Fin 112) :
    (tailR Z (ix2 R n) : EReal) = if h : n.val < 4 then Z (ix2 R (⟨3344 + n, by omega⟩ : Fin 3604)) else 0 := by
  pointwise [tailR]

theorem Pk_at (Z : FVec Ideal S128x3604 .f32) (R : Fin 128) (n : Fin 3712) :
    (Pk Z (ix2 R n) : EReal) = if h : n.val < 3600 then headR Z (ix2 R (⟨n, h⟩ : Fin 3600)) else tailR Z (ix2 R (⟨n - 3600, by omega⟩ : Fin 112)) := by
  pointwise [Pk]

theorem head_0 (Z : FVec Ideal S128x3604 .f32) (R : Fin 128) (n : Fin 3600) (j : Fin 256) (hn : n.val = 0 + j.val) :
    headR Z (ix2 R n) = Z (ix2 R (⟨0 + j, by omega⟩ : Fin 3604)) := by
  unfold headR
  refine Eq.trans (concatenate_apply_piece (t := S128x3600) 1 _ _ (ix2 R n) 0 ?_ S128x256 (extractStridedSlice S128x256 ![0, 0] Z slices_S128x3604_S128x256_0_0) ?_ rfl 0 ?_ (ix2 R j) (fun b hb => ?_) ?_) ?_
  · exact (by decide : 0 < 16)
  · rfl
  · simp only [List.take_succ_cons, List.take_zero, List.map_cons, List.map_nil, List.sum_cons, List.sum_nil]
  · fin_cases b
    · rfl
    · exact absurd rfl hb
  · exact hn.symm
  · pointwise

theorem head_1 (Z : FVec Ideal S128x3604 .f32) (R : Fin 128) (n : Fin 3600) (j : Fin 256) (hn : n.val = 256 + j.val) :
    headR Z (ix2 R n) = Z (ix2 R (⟨256 + j, by omega⟩ : Fin 3604)) := by
  unfold headR
  refine Eq.trans (concatenate_apply_piece (t := S128x3600) 1 _ _ (ix2 R n) 1 ?_ S128x256 (extractStridedSlice S128x256 ![0, 256] Z slices_S128x3604_S128x256_0_256) ?_ rfl 256 ?_ (ix2 R j) (fun b hb => ?_) ?_) ?_
  · exact (by decide : 1 < 16)
  · rfl
  · simp only [List.take_succ_cons, List.take_zero, List.map_cons, List.map_nil, List.sum_cons, List.sum_nil]
    rfl
  · fin_cases b
    · rfl
    · exact absurd rfl hb
  · exact hn.symm
  · pointwise

theorem head_2 (Z : FVec Ideal S128x3604 .f32) (R : Fin 128) (n : Fin 3600) (j : Fin 256) (hn : n.val = 512 + j.val) :
    headR Z (ix2 R n) = Z (ix2 R (⟨512 + j, by omega⟩ : Fin 3604)) := by
  unfold headR
  refine Eq.trans (concatenate_apply_piece (t := S128x3600) 1 _ _ (ix2 R n) 2 ?_ S128x256 (extractStridedSlice S128x256 ![0, 512] Z slices_S128x3604_S128x256_0_512) ?_ rfl 512 ?_ (ix2 R j) (fun b hb => ?_) ?_) ?_
  · exact (by decide : 2 < 16)
  · rfl
  · simp only [List.take_succ_cons, List.take_zero, List.map_cons, List.map_nil, List.sum_cons, List.sum_nil]
    rfl
  · fin_cases b
    · rfl
    · exact absurd rfl hb
  · exact hn.symm
  · pointwise

theorem head_3 (Z : FVec Ideal S128x3604 .f32) (R : Fin 128) (n : Fin 3600) (j : Fin 768) (hn : n.val = 768 + j.val) :
    headR Z (ix2 R n) = Z (ix2 R (⟨772 + j, by omega⟩ : Fin 3604)) := by
  unfold headR
  refine Eq.trans (concatenate_apply_piece (t := S128x3600) 1 _ _ (ix2 R n) 3 ?_ S128x768 (extractStridedSlice S128x768 ![0, 772] Z slices_S128x3604_S128x768_0_772) ?_ rfl 768 ?_ (ix2 R j) (fun b hb => ?_) ?_) ?_
  · exact (by decide : 3 < 16)
  · rfl
  · simp only [List.take_succ_cons, List.take_zero, List.map_cons, List.map_nil, List.sum_cons, List.sum_nil]
    rfl
  · fin_cases b
    · rfl
    · exact absurd rfl hb
  · exact hn.symm
  · pointwise

theorem head_4 (Z : FVec Ideal S128x3604 .f32) (R : Fin 128) (n : Fin 3600) (j : Fin 256) (hn : n.val = 1536 + j.val) :
    headR Z (ix2 R n) = Z (ix2 R (⟨1548 + j, by omega⟩ : Fin 3604)) := by
  unfold headR
  refine Eq.trans (concatenate_apply_piece (t := S128x3600) 1 _ _ (ix2 R n) 4 ?_ S128x256 (extractStridedSlice S128x256 ![0, 1548] Z slices_S128x3604_S128x256_0_1548) ?_ rfl 1536 ?_ (ix2 R j) (fun b hb => ?_) ?_) ?_
  · exact (by decide : 4 < 16)
  · rfl
  · simp only [List.take_succ_cons, List.take_zero, List.map_cons, List.map_nil, List.sum_cons, List.sum_nil]
    rfl
  · fin_cases b
    · rfl
    · exact absurd rfl hb
  · exact hn.symm
  · pointwise

theorem head_5 (Z : FVec Ideal S128x3604 .f32) (R : Fin 128) (n : Fin 3600) (j : Fin 256) (hn : n.val = 1792 + j.val) :
    headR Z (ix2 R n) = Z (ix2 R (⟨1804 + j, by omega⟩ : Fin 3604)) := by
  unfold headR
  refine Eq.trans (concatenate_apply_piece (t := S128x3600) 1 _ _ (ix2 R n) 5 ?_ S128x256 (extractStridedSlice S128x256 ![0, 1804] Z slices_S128x3604_S128x256_0_1804) ?_ rfl 1792 ?_ (ix2 R j) (fun b hb => ?_) ?_) ?_
  · exact (by decide : 5 < 16)
  · rfl
  · simp only [List.take_succ_cons, List.take_zero, List.map_cons, List.map_nil, List.sum_cons, List.sum_nil]
    rfl
  · fin_cases b
    · rfl
    · exact absurd rfl hb
  · exact hn.symm
  · pointwise

theorem head_6 (Z : FVec Ideal S128x3604 .f32) (R : Fin 128) (n : Fin 3600) (j : Fin 256) (hn : n.val = 2048 + j.val) :
    headR Z (ix2 R n) = Z (ix2 R (⟨2060 + j, by omega⟩ : Fin 3604)) := by
  unfold headR
  refine Eq.trans (concatenate_apply_piece (t := S128x3600) 1 _ _ (ix2 R n) 6 ?_ S128x256 (extractStridedSlice S128x256 ![0, 2060] Z slices_S128x3604_S128x256_0_2060) ?_ rfl 2048 ?_ (ix2 R j) (fun b hb => ?_) ?_) ?_
  · exact (by decide : 6 < 16)
  · rfl
  · simp only [List.take_succ_cons, List.take_zero, List.map_cons, List.map_nil, List.sum_cons, List.sum_nil]
    rfl
  · fin_cases b
    · rfl
    · exact absurd rfl hb
  · exact hn.symm
  · pointwise

theorem head_7 (Z : FVec Ideal S128x3604 .f32) (R : Fin 128) (n : Fin 3600) (j : Fin 256) (hn : n.val = 2304 + j.val) :
    headR Z (ix2 R n) = Z (ix2 R (⟨2316 + j, by omega⟩ : Fin 3604)) := by
  unfold headR
  refine Eq.trans (concatenate_apply_piece (t := S128x3600) 1 _ _ (ix2 R n) 7 ?_ S128x256 (extractStridedSlice S128x256 ![0, 2316] Z slices_S128x3604_S128x256_0_2316) ?_ rfl 2304 ?_ (ix2 R j) (fun b hb => ?_) ?_) ?_
  · exact (by decide : 7 < 16)
  · rfl
  · simp only [List.take_succ_cons, List.take_zero, List.map_cons, List.map_nil, List.sum_cons, List.sum_nil]
    rfl
  · fin_cases b
    · rfl
    · exact absurd rfl hb
  · exact hn.symm
  · pointwise

theorem head_8 (Z : FVec Ideal S128x3604 .f32) (R : Fin 128) (n : Fin 3600) (j : Fin 256) (hn : n.val = 2560 + j.val) :
    headR Z (ix2 R n) = Z (ix2 R (⟨2572 + j, by omega⟩ : Fin 3604)) := by
  unfold headR
  refine Eq.trans (concatenate_apply_piece (t := S128x3600) 1 _ _ (ix2 R n) 8 ?_ S128x256 (extractStridedSlice S128x256 ![0, 2572] Z slices_S128x3604_S128x256_0_2572) ?_ rfl 2560 ?_ (ix2 R j) (fun b hb => ?_) ?_) ?_
  · exact (by decide : 8 < 16)
  · rfl
  · simp only [List.take_succ_cons, List.take_zero, List.map_cons, List.map_nil, List.sum_cons, List.sum_nil]
    rfl
  · fin_cases b
    · rfl
    · exact absurd rfl hb
  · exact hn.symm
  · pointwise

theorem head_9 (Z : FVec Ideal S128x3604 .f32) (R : Fin 128) (n : Fin 3600) (j : Fin 256) (hn : n.val = 2816 + j.val) :
    headR Z (ix2 R n) = Z (ix2 R (⟨2828 + j, by omega⟩ : Fin 3604)) := by
  unfold headR
  refine Eq.trans (concatenate_apply_piece (t := S128x3600) 1 _ _ (ix2 R n) 9 ?_ S128x256 (extractStridedSlice S128x256 ![0, 2828] Z slices_S128x3604_S128x256_0_2828) ?_ rfl 2816 ?_ (ix2 R j) (fun b hb => ?_) ?_) ?_
  · exact (by decide : 9 < 16)
  · rfl
  · simp only [List.take_succ_cons, List.take_zero, List.map_cons, List.map_nil, List.sum_cons, List.sum_nil]
    rfl
  · fin_cases b
    · rfl
    · exact absurd rfl hb
  · exact hn.symm
  · pointwise

theorem head_10 (Z : FVec Ideal S128x3604 .f32) (R : Fin 128) (n : Fin 3600) (j : Fin 256) (hn : n.val = 3072 + j.val) :
    headR Z (ix2 R n) = Z (ix2 R (⟨3084 + j, by omega⟩ : Fin 3604)) := by
  unfold headR
  refine Eq.trans (concatenate_apply_piece (t := S128x3600) 1 _ _ (ix2 R n) 10 ?_ S128x256 (extractStridedSlice S128x256 ![0, 3084] Z slices_S128x3604_S128x256_0_3084) ?_ rfl 3072 ?_ (ix2 R j) (fun b hb => ?_) ?_) ?_
  · exact (by decide : 10 < 16)
  · rfl
  · simp only [List.take_succ_cons, List.take_zero, List.map_cons, List.map_nil, List.sum_cons, List.sum_nil]
    rfl
  · fin_cases b
    · rfl
    · exact absurd rfl hb
  · exact hn.symm
  · pointwise

theorem head_11 (Z : FVec Ideal S128x3604 .f32) (R : Fin 128) (n : Fin 3600) (j : Fin 256) (hn : n.val = 3328 + j.val) :
    headR Z (ix2 R n) = Z (ix2 R (⟨3348 + j, by omega⟩ : Fin 3604)) := by
  unfold headR
  refine Eq.trans (concatenate_apply_piece (t := S128x3600) 1 _ _ (ix2 R n) 11 ?_ S128x256 (extractStridedSlice S128x256 ![0, 3348] Z slices_S128x3604_S128x256_0_3348) ?_ rfl 3328 ?_ (ix2 R j) (fun b hb => ?_) ?_) ?_
  · exact (by decide : 11 < 16)
  · rfl
  · simp only [List.take_succ_cons, List.take_zero, List.map_cons, List.map_nil, List.sum_cons, List.sum_nil]
    rfl
  · fin_cases b
    · rfl
    · exact absurd rfl hb
  · exact hn.symm
  · pointwise

theorem head_12 (Z : FVec Ideal S128x3604 .f32) (R : Fin 128) (n : Fin 3600) (j : Fin 4) (hn : n.val = 3584 + j.val) :
    headR Z (ix2 R n) = Z (ix2 R (⟨768 + j, by omega⟩ : Fin 3604)) := by
  unfold headR
  refine Eq.trans (concatenate_apply_piece (t := S128x3600) 1 _ _ (ix2 R n) 12 ?_ S128x4 (extractStridedSlice S128x4 ![0, 768] Z slices_S128x3604_S128x4_0_768) ?_ rfl 3584 ?_ (ix2 R j) (fun b hb => ?_) ?_) ?_
  · exact (by decide : 12 < 16)
  · rfl
  · simp only [List.take_succ_cons, List.take_zero, List.map_cons, List.map_nil, List.sum_cons, List.sum_nil]
    rfl
  · fin_cases b
    · rfl
    · exact absurd rfl hb
  · exact hn.symm
  · pointwise

theorem head_13 (Z : FVec Ideal S128x3604 .f32) (R : Fin 128) (n : Fin 3600) (j : Fin 4) (hn : n.val = 3588 + j.val) :
    headR Z (ix2 R n) = Z (ix2 R (⟨1540 + j, by omega⟩ : Fin 3604)) := by
  unfold headR
  refine Eq.trans (concatenate_apply_piece (t := S128x3600) 1 _ _ (ix2 R n) 13 ?_ S128x4 (extractStridedSlice S128x4 ![0, 1540] Z slices_S128x3604_S128x4_0_1540) ?_ rfl 3588 ?_ (ix2 R j) (fun b hb => ?_) ?_) ?_
  · exact (by decide : 13 < 16)
  · rfl
  · simp only [List.take_succ_cons, List.take_zero, List.map_cons, List.map_nil, List.sum_cons, List.sum_nil]
    rfl
  · fin_cases b
    · rfl
    · exact absurd rfl hb
  · exact hn.symm
  · pointwise

theorem head_14 (Z : FVec Ideal S128x3604 .f32) (R : Fin 128) (n : Fin 3600) (j : Fin 4) (hn : n.val = 3592 + j.val) :
    headR Z (ix2 R n) = Z (ix2 R (⟨1544 + j, by omega⟩ : Fin 3604)) := by
  unfold headR
  refine Eq.trans (concatenate_apply_piece (t := S128x3600) 1 _ _ (ix2 R n) 14 ?_ S128x4 (extractStridedSlice S128x4 ![0, 1544] Z slices_S128x3604_S128x4_0_1544) ?_ rfl 3592 ?_ (ix2 R j) (fun b hb => ?_) ?_) ?_
  · exact (by decide : 14 < 16)
  · rfl
  · simp only [List.take_succ_cons, List.take_zero, List.map_cons, List.map_nil, List.sum_cons, List.sum_nil]
    rfl
  · fin_cases b
    · rfl
    · exact absurd rfl hb
  · exact hn.symm
  · pointwise

theorem head_15 (Z : FVec Ideal S128x3604 .f32) (R : Fin 128) (n : Fin 3600) (j : Fin 4) (hn : n.val = 3596 + j.val) :
    headR Z (ix2 R n) = Z (ix2 R (⟨3340 + j, by omega⟩ : Fin 3604)) := by
  unfold headR
  refine Eq.trans (concatenate_apply_piece (t := S128x3600) 1 _ _ (ix2 R n) 15 ?_ S128x4 (extractStridedSlice S128x4 ![0, 3340] Z slices_S128x3604_S128x4_0_3340) ?_ rfl 3596 ?_ (ix2 R j) (fun b hb => ?_) ?_) ?_
  · exact (by decide : 15 < 16)
  · rfl
  · simp only [List.take_succ_cons, List.take_zero, List.map_cons, List.map_nil, List.sum_cons, List.sum_nil]
    rfl
  · fin_cases b
    · rfl
    · exact absurd rfl hb
  · exact hn.symm
  · pointwise

/-- Of the packed columns, those of the forgetting attention's values. -/
theorem Pk_fox (Z : FVec Ideal S128x3604 .f32) (R : Fin 128) (j : Fin 256) :
    (Pk Z (ix2 R (⟨512 + j, by omega⟩ : Fin 3712)) : EReal) = Z (ix2 R (⟨512 + j, by omega⟩ : Fin 3604)) := by
  rw [Pk_at, dif_pos (show 512 + j.val < 3600 by omega)]
  exact head_2 Z R _ j rfl

/-- Of the packed columns, those of the block attention's values. -/
theorem Pk_moba (Z : FVec Ideal S128x3604 .f32) (R : Fin 128) (j : Fin 256) :
    (Pk Z (ix2 R (⟨2304 + j, by omega⟩ : Fin 3712)) : EReal) = Z (ix2 R (⟨2316 + j, by omega⟩ : Fin 3604)) := by
  rw [Pk_at, dif_pos (show 2304 + j.val < 3600 by omega)]
  exact head_7 Z R _ j rfl

/-- Of the packed columns, those of the convolution. -/
theorem Pk_conv (Z : FVec Ideal S128x3604 .f32) (R : Fin 128) (j : Fin 768) :
    (Pk Z (ix2 R (⟨768 + j, by omega⟩ : Fin 3712)) : EReal) = Z (ix2 R (⟨772 + j, by omega⟩ : Fin 3604)) := by
  rw [Pk_at, dif_pos (show 768 + j.val < 3600 by omega)]
  exact head_3 Z R _ j rfl

end Cert.DecReferenceIdeal.Row

end
-- ==== Proof.DecFinal.lean ====
/- The decoding rows' input projection: the kernel's packed product against the reference's reordered columns, and the four result
   arrays. -/
module

public import proofs.«01_k».proof.Proof.DecRow
public import proofs.«01_k».proof.Proof.DecRef

@[expose] public section

set_option maxRecDepth 16384

noncomputable section

namespace Cert.DecIdeal.Row

open Cert.DecIdeal Cert.DecIdeal.Gen
open Idealize.ShloMosaic Idealize.ShloMosaic.TcCoe Idealize.SL.Sem
open Cert.FfnIdeal.Row (scale normRow)
open Cert.ProjIdeal.Row (dotRow headPk wPk wPk_at flip_at tail_at head_0 head_1 head_2 head_3 head_4 head_5 head_6 head_7 head_8 head_9 head_10 head_11 head_12 head_13 head_14 head_15)
open Cert.DecReferenceIdeal.Row (Hn Zc headR tailR Pk Hn_at Zc_at tailR_at Pk_at)

/-- A packed place and the column of the weights it holds. -/
def Sits (n : Fin 3600) (j : Fin 3604) : Prop :=
  (∀ (T : FVec Ideal S3604x1024 .f32) (k : Fin 1024), headPk T (ix2 n k) = T (ix2 j k))
    ∧ ∀ (Z : FVec Ideal Cert.DecReferenceIdeal.S128x3604 .f32) (R : Fin 128), headR Z (ix2 R n) = Z (ix2 R j)

theorem head_any (n : Fin 3600) : ∃ j : Fin 3604, Sits n j := by
  have hn := n.isLt
  rcases (by omega : (0 ≤ n.val ∧ n.val < 256) ∨ (256 ≤ n.val ∧ n.val < 512) ∨ (512 ≤ n.val ∧ n.val < 768) ∨ (768 ≤ n.val ∧ n.val < 1536) ∨ (1536 ≤ n.val ∧ n.val < 1792) ∨ (1792 ≤ n.val ∧ n.val < 2048) ∨ (2048 ≤ n.val ∧ n.val < 2304) ∨ (2304 ≤ n.val ∧ n.val < 2560) ∨ (2560 ≤ n.val ∧ n.val < 2816) ∨ (2816 ≤ n.val ∧ n.val < 3072) ∨ (3072 ≤ n.val ∧ n.val < 3328) ∨ (3328 ≤ n.val ∧ n.val < 3584) ∨ (3584 ≤ n.val ∧ n.val < 3588) ∨ (3588 ≤ n.val ∧ n.val < 3592) ∨ (3592 ≤ n.val ∧ n.val < 3596) ∨ (3596 ≤ n.val ∧ n.val < 3600)) with e | e | e | e | e | e | e | e | e | e | e | e | e | e | e | e
  · exact ⟨(⟨0 + (n.val - 0), by omega⟩ : Fin 3604), fun T k => head_0 T n k (⟨n.val - 0, by omega⟩ : Fin 256) (by show n.val = 0 + (n.val - 0); omega),
      fun Z R => Cert.DecReferenceIdeal.Row.head_0 Z R n (⟨n.val - 0, by omega⟩ : Fin 256) (by show n.val = 0 + (n.val - 0); omega)⟩
  · exact ⟨(⟨256 + (n.val - 256), by omega⟩ : Fin 3604), fun T k => head_1 T n k (⟨n.val - 256, by omega⟩ : Fin 256) (by show n.val = 256 + (n.val - 256); omega),
      fun Z R => Cert.DecReferenceIdeal.Row.head_1 Z R n (⟨n.val - 256, by omega⟩ : Fin 256) (by show n.val = 256 + (n.val - 256); omega)⟩
  · exact ⟨(⟨512 + (n.val - 512), by omega⟩ : Fin 3604), fun T k => head_2 T n k (⟨n.val - 512, by omega⟩ : Fin 256) (by show n.val = 512 + (n.val - 512); omega),
      fun Z R => Cert.DecReferenceIdeal.Row.head_2 Z R n (⟨n.val - 512, by omega⟩ : Fin 256) (by show n.val = 512 + (n.val - 512); omega)⟩
  · exact ⟨(⟨772 + (n.val - 768), by omega⟩ : Fin 3604), fun T k => head_3 T n k (⟨n.val - 768, by omega⟩ : Fin 768) (by show n.val = 768 + (n.val - 768); omega),
      fun Z R => Cert.DecReferenceIdeal.Row.head_3 Z R n (⟨n.val - 768, by omega⟩ : Fin 768) (by show n.val = 768 + (n.val - 768); omega)⟩
  · exact ⟨(⟨1548 + (n.val - 1536), by omega⟩ : Fin 3604), fun T k => head_4 T n k (⟨n.val - 1536, by omega⟩ : Fin 256) (by show n.val = 1536 + (n.val - 1536); omega),
      fun Z R => Cert.DecReferenceIdeal.Row.head_4 Z R n (⟨n.val - 1536, by omega⟩ : Fin 256) (by show n.val = 1536 + (n.val - 1536); omega)⟩
  · exact ⟨(⟨1804 + (n.val - 1792), by omega⟩ : Fin 3604), fun T k => head_5 T n k (⟨n.val - 1792, by omega⟩ : Fin 256) (by show n.val = 1792 + (n.val - 1792); omega),
      fun Z R => Cert.DecReferenceIdeal.Row.head_5 Z R n (⟨n.val - 1792, by omega⟩ : Fin 256) (by show n.val = 1792 + (n.val - 1792); omega)⟩
  · exact ⟨(⟨2060 + (n.val - 2048), by omega⟩ : Fin 3604), fun T k => head_6 T n k (⟨n.val - 2048, by omega⟩ : Fin 256) (by show n.val = 2048 + (n.val - 2048); omega),
      fun Z R => Cert.DecReferenceIdeal.Row.head_6 Z R n (⟨n.val - 2048, by omega⟩ : Fin 256) (by show n.val = 2048 + (n.val - 2048); omega)⟩
  · exact ⟨(⟨2316 + (n.val - 2304), by omega⟩ : Fin 3604), fun T k => head_7 T n k (⟨n.val - 2304, by omega⟩ : Fin 256) (by show n.val = 2304 + (n.val - 2304); omega),
      fun Z R => Cert.DecReferenceIdeal.Row.head_7 Z R n (⟨n.val - 2304, by omega⟩ : Fin 256) (by show n.val = 2304 + (n.val - 2304); omega)⟩
  · exact ⟨(⟨2572 + (n.val - 2560), by omega⟩ : Fin 3604), fun T k => head_8 T n k (⟨n.val - 2560, by omega⟩ : Fin 256) (by show n.val = 2560 + (n.val - 2560); omega),
      fun Z R => Cert.DecReferenceIdeal.Row.head_8 Z R n (⟨n.val - 2560, by omega⟩ : Fin 256) (by show n.val = 2560 + (n.val - 2560); omega)⟩
  · exact ⟨(⟨2828 + (n.val - 2816), by omega⟩ : Fin 3604), fun T k => head_9 T n k (⟨n.val - 2816, by omega⟩ : Fin 256) (by show n.val = 2816 + (n.val - 2816); omega),
      fun Z R => Cert.DecReferenceIdeal.Row.head_9 Z R n (⟨n.val - 2816, by omega⟩ : Fin 256) (by show n.val = 2816 + (n.val - 2816); omega)⟩
  · exact ⟨(⟨3084 + (n.val - 3072), by omega⟩ : Fin 3604), fun T k => head_10 T n k (⟨n.val - 3072, by omega⟩ : Fin 256) (by show n.val = 3072 + (n.val - 3072); omega),
      fun Z R => Cert.DecReferenceIdeal.Row.head_10 Z R n (⟨n.val - 3072, by omega⟩ : Fin 256) (by show n.val = 3072 + (n.val - 3072); omega)⟩
  · exact ⟨(⟨3348 + (n.val - 3328), by omega⟩ : Fin 3604), fun T k => head_11 T n k (⟨n.val - 3328, by omega⟩ : Fin 256) (by show n.val = 3328 + (n.val - 3328); omega),
      fun Z R => Cert.DecReferenceIdeal.Row.head_11 Z R n (⟨n.val - 3328, by omega⟩ : Fin 256) (by show n.val = 3328 + (n.val - 3328); omega)⟩
  · exact ⟨(⟨768 + (n.val - 3584), by omega⟩ : Fin 3604), fun T k => head_12 T n k (⟨n.val - 3584, by omega⟩ : Fin 4) (by show n.val = 3584 + (n.val - 3584); omega),
      fun Z R => Cert.DecReferenceIdeal.Row.head_12 Z R n (⟨n.val - 3584, by omega⟩ : Fin 4) (by show n.val = 3584 + (n.val - 3584); omega)⟩
  · exact ⟨(⟨1540 + (n.val - 3588), by omega⟩ : Fin 3604), fun T k => head_13 T n k (⟨n.val - 3588, by omega⟩ : Fin 4) (by show n.val = 3588 + (n.val - 3588); omega),
      fun Z R => Cert.DecReferenceIdeal.Row.head_13 Z R n (⟨n.val - 3588, by omega⟩ : Fin 4) (by show n.val = 3588 + (n.val - 3588); omega)⟩
  · exact ⟨(⟨1544 + (n.val - 3592), by omega⟩ : Fin 3604), fun T k => head_14 T n k (⟨n.val - 3592, by omega⟩ : Fin 4) (by show n.val = 3592 + (n.val - 3592); omega),
      fun Z R => Cert.DecReferenceIdeal.Row.head_14 Z R n (⟨n.val - 3592, by omega⟩ : Fin 4) (by show n.val = 3592 + (n.val - 3592); omega)⟩
  · exact ⟨(⟨3340 + (n.val - 3596), by omega⟩ : Fin 3604), fun T k => head_15 T n k (⟨n.val - 3596, by omega⟩ : Fin 4) (by show n.val = 3596 + (n.val - 3596); omega),
      fun Z R => Cert.DecReferenceIdeal.Row.head_15 Z R n (⟨n.val - 3596, by omega⟩ : Fin 4) (by show n.val = 3596 + (n.val - 3596); omega)⟩

theorem col_eq (H : FVec Ideal Cert.DecReferenceIdeal.S128x1024 .f32) (W : FVec Ideal S1024x3604 .f32) (R : Fin 128) (n : Fin 3712) :
    (Pk (Zc H W) (ix2 R n) : EReal) = dotRow (fun k => H (ix2 R k)) (wPk W) n := by
  rw [Pk_at]
  unfold dotRow
  by_cases h : n.val < 3600
  · rw [dif_pos h]
    obtain ⟨j, hj⟩ := head_any ⟨n, h⟩
    rw [hj.2, Zc_at]
    refine Finset.sum_congr rfl fun k _ => congrArg ((H (ix2 R k) : EReal) * ·) ?_
    rw [wPk_at, dif_pos h, hj.1, flip_at]
  · rw [dif_neg h, tailR_at]
    by_cases h4 : n.val - 3600 < 4
    · rw [dif_pos h4, Zc_at]
      refine Finset.sum_congr rfl fun k _ => congrArg ((H (ix2 R k) : EReal) * ·) ?_
      rw [wPk_at, dif_neg h, tail_at, dif_pos h4, flip_at]
    · rw [dif_neg h4]
      refine (Finset.sum_eq_zero fun k _ => ?_).symm
      rw [wPk_at, dif_neg h, tail_at, dif_neg h4, mul_zero]

/-- The reference's result as one function of the argument arrays. -/
def G (A0 : FVec Ideal Cert.DecReferenceIdeal.S128x1024 .f32) (A1 : FVec Ideal Cert.DecReferenceIdeal.S1024 .f32) (A2 : FVec Ideal Cert.DecReferenceIdeal.S1024x3604 .f32) :
    FVec Ideal Cert.DecReferenceIdeal.S128x3712 .f32 := Pk (Zc (Hn A0 A1) A2)

theorem idx : ∀ t : Fin cfg0.N, win0_0.index t = ![t.val, 0] ∧ win0_1.index t = ![0, 0] ∧ win0_2.index t = ![0, 0] ∧ win0_3.index t = ![t.val, 0] ∧ t.val < 1 :=
  (by decide +kernel : ∀ t : Fin grid0.N, _)

variable (m : (ℓ : Loc nD τ sig) → Buf (Elt Ideal) ℓ)

theorem b0 (c : Dev nD) (t : Fin cfg0.N) (h : t.val < 1) (r : Fin 128) (k : Fin 1024) :
    iblk m c 0 t (ix2 r k) = m ((c.tc : Thread nD τ).loc main_arg0) (ix2 (⟨128 * t.val + r, by omega⟩ : Fin 128) k) := by
  blk_ext! [iblk, V, idx t]

theorem entry_g (c : Dev nD) : V m c main_v23 = shapeCast S1x1024 (m ((c.tc : Thread nD τ).loc main_arg1) : FVec Ideal S1024 .f32) shapeCasts_S1024_S1x1024 := by
  show StableHlo.after hostOps0 _ _ = _
  simp only [hostOps0]
  after_results_simp <;> rfl

theorem gains (c : Dev nD) (k : Fin 1024) : V m c main_v23 (ix2 0 k) = m ((c.tc : Thread nD τ).loc main_arg1) (ix1 k) := by
  rw [entry_g]
  pointwise

theorem b1 (c : Dev nD) (t : Fin cfg0.N) (k : Fin 1024) :
    iblk m c 1 t (ix2 0 k) = m ((c.tc : Thread nD τ).loc main_arg1) (ix1 k) := by
  refine Eq.trans ?_ (gains m c k)
  blk_ext [iblk, idx t]

set_option maxHeartbeats 2000000 in
theorem entry_w (c : Dev nD) : V m c main_v22 = wPk (m ((c.tc : Thread nD τ).loc main_arg2)) := by
  show StableHlo.after hostOps0 _ _ = _
  simp only [hostOps0]
  after_results_simp <;> (try dsimp only [Matrix.cons_val]) <;> (try after_results_simp) <;> rfl

theorem b2 (c : Dev nD) (t : Fin cfg0.N) : iblk m c 2 t = wPk (m ((c.tc : Thread nD τ).loc main_arg2)) := by
  refine Eq.trans (funext fun y => ?_) (entry_w m c)
  blk_ext [iblk, idx t]

theorem dot_congr {f f' g g' : Fin 1024 → EReal} {w w' : S3712x1024.Idx → EReal} (hf : ∀ k, f k = f' k) (hg : ∀ k, g k = g' k) (hw : w = w') (n : Fin 3712) :
    dotRow (normRow f g) w n = dotRow (normRow f' g') w' n := by
  rw [funext hf, funext hg, hw]

/-- The kernel's result array is the reference's function of the argument arrays. -/
theorem final (c : Dev nD) : (dats m 0 c).arrAt 3 cfg0.N = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 1 := (idx t).2.2.2.2
  blk_simp
  rw [after0_3]
  have key : ∀ (r : Fin 128) (n : Fin 3712), (outsAt0 m c t (ix2 r n) : EReal) = G (m ((c.tc : Thread nD τ).loc main_arg0)) (m ((c.tc : Thread nD τ).loc main_arg1)) (m ((c.tc : Thread nD τ).loc main_arg2)) (ix2 (⟨128 * t.val + r, by omega⟩ : Fin 128) n) := by
    intro r n
    refine (out_row _ c _ _ _ _ _ _ _ _ _ _ _ r n).trans ?_
    refine Eq.trans ?_ (col_eq _ _ _ _).symm
    rw [show (fun k => (Hn (m ((c.tc : Thread nD τ).loc main_arg0)) (m ((c.tc : Thread nD τ).loc main_arg1)) (ix2 (⟨128 * t.val + r, by omega⟩ : Fin 128) k) : EReal))
      = normRow (fun k => m ((c.tc : Thread nD τ).loc main_arg0) (ix2 (⟨128 * t.val + r, by omega⟩ : Fin 128) k)) (fun k => m ((c.tc : Thread nD τ).loc main_arg1) (ix1 k)) from funext fun k => Hn_at _ _ _ k]
    exact dot_congr (b0 m c t ht r) (b1 m c t) (b2 m c t) n
  obtain ⟨r, n, rfl⟩ : ∃ (r : Fin 128) (n : Fin 3712), y = ix2 r n := ⟨y 0, y 1, by funext a; fin_cases a <;> rfl⟩
  refine (key r n).trans ?_
  blk_ext [idx t]

/-- The forgetting attention's values out of the kernel's array. -/
theorem fox_eq (Z : FVec Ideal Cert.DecReferenceIdeal.S128x3604 .f32) :
    shapeCast S32x4x4x64 (extractStridedSlice S128x256 ![0, 512] (Pk Z : FVec Ideal S128x3712 .f32) slices_S128x3712_S128x256_0_512) shapeCasts_S128x256_S32x4x4x64 = Cert.DecReferenceIdeal.Row.Fv Z := by
  refine Eq.trans ?_ (shapeCast_comp _ _ _).symm
  refine congrArg (fun v => shapeCast S32x4x4x64 v shapeCasts_S128x256_S32x4x4x64) (funext fun y => ?_)
  obtain ⟨R, j, rfl⟩ : ∃ (R : Fin 128) (j : Fin 256), y = ix2 R j := ⟨y 0, y 1, by funext a; fin_cases a <;> rfl⟩
  pointwise
  exact Cert.DecReferenceIdeal.Row.Pk_fox Z R j

/-- The block attention's values out of the kernel's array. -/
theorem moba_eq (Z : FVec Ideal Cert.DecReferenceIdeal.S128x3604 .f32) :
    shapeCast S32x4x4x64 (extractStridedSlice S128x256 ![0, 2304] (Pk Z : FVec Ideal S128x3712 .f32) slices_S128x3712_S128x256_0_2304) shapeCasts_S128x256_S32x4x4x64 = Cert.DecReferenceIdeal.Row.Mv Z := by
  refine Eq.trans ?_ (shapeCast_comp _ _ _).symm
  refine congrArg (fun v => shapeCast S32x4x4x64 v shapeCasts_S128x256_S32x4x4x64) (funext fun y => ?_)
  obtain ⟨R, j, rfl⟩ : ∃ (R : Fin 128) (j : Fin 256), y = ix2 R j := ⟨y 0, y 1, by funext a; fin_cases a <;> rfl⟩
  pointwise
  exact Cert.DecReferenceIdeal.Row.Pk_moba Z R j

/-- The convolution's columns out of the kernel's array. -/
theorem conv_eq (Z : FVec Ideal Cert.DecReferenceIdeal.S128x3604 .f32) :
    extractStridedSlice S32x4x768 ![0, 0, 768] (shapeCast S32x4x3712 (Pk Z : FVec Ideal S128x3712 .f32) shapeCasts_S128x3712_S32x4x3712) slices_S32x4x3712_S32x4x768_0_0_768 = Cert.DecReferenceIdeal.Row.Cq Z := by
  funext y
  obtain ⟨b, t, j, rfl⟩ : ∃ (b : Fin 32) (t : Fin 4) (j : Fin 768), y = ix3 b t j := ⟨y 0, y 1, y 2, by funext a; fin_cases a <;> rfl⟩
  have hR : (Pk Z (ix2 (⟨4 * b + t, by omega⟩ : Fin 128) (⟨768 + j, by omega⟩ : Fin 3712)) : EReal) = Z (ix2 (⟨4 * b + t, by omega⟩ : Fin 128) (⟨772 + j, by omega⟩ : Fin 3604)) :=
    Cert.DecReferenceIdeal.Row.Pk_conv Z _ j
  refine Eq.trans ?_ (hR.trans ?_)
  · pointwise
    refine congrArg (Pk Z) (congrArg₂ ix2 (Fin.ext ?_) (Fin.ext ?_)) <;> dsimp only <;> omega
  · unfold Cert.DecReferenceIdeal.Row.Cq
    pointwise
    refine congrArg Z (congrArg₂ ix2 (Fin.ext ?_) (Fin.ext ?_)) <;> dsimp only <;> omega

/-- The contents the lines after the call start from: the call's result where the kernel's array is, everything else as before the call. -/
def Wa (c : Dev nD) : Valuation τ sig (Elt Ideal) := Pipeline.withArrays spec0 c (V0 m c) fun w => (dats m 0 c).arrAt w cfg0.N

theorem Wa_z (c : Dev nD) : Wa m c (Proc.devRef .tc main_v24) = (dats m 0 c).arrAt 3 cfg0.N :=
  (dats m 0 c).withArrays_arrAt (by decide) (V0 m c) (A_eq m c) 3

theorem Wa_arg3 (c : Dev nD) : Wa m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)

set_option maxHeartbeats 1000000 in
theorem after_fox (c : Dev nD) : Pipeline.afterTail₀ cfgs (dats m) 0 (V0 m) [hostOps1] c main_v29
    = shapeCast S32x4x4x64 (extractStridedSlice S128x256 ![0, 512] (Wa m c (Proc.devRef .tc main_v24)) slices_S128x3712_S128x256_0_512) shapeCasts_S128x256_S32x4x4x64 := by
  show StableHlo.after hostOps1 (Wa m c) (Proc.devRef .tc main_v29) = _
  generalize Wa m c = W
  simp only [hostOps1]
  after_results_simp <;> rfl

set_option maxHeartbeats 1000000 in
theorem after_moba (c : Dev nD) : Pipeline.afterTail₀ cfgs (dats m) 0 (V0 m) [hostOps1] c main_v31
    = shapeCast S32x4x4x64 (extractStridedSlice S128x256 ![0, 2304] (Wa m c (Proc.devRef .tc main_v24)) slices_S128x3712_S128x256_0_2304) shapeCasts_S128x256_S32x4x4x64 := by
  show StableHlo.after hostOps1 (Wa m c) (Proc.devRef .tc main_v31) = _
  generalize Wa m c = W
  simp only [hostOps1]
  after_results_simp <;> rfl

set_option maxHeartbeats 1000000 in
theorem after_conv (c : Dev nD) : Pipeline.afterTail₀ cfgs (dats m) 0 (V0 m) [hostOps1] c main_v32
    = Cert.DecReferenceIdeal.Row.Last (Wa m c (Proc.devRef .tc main_arg3)) (extractStridedSlice S32x4x768 ![0, 0, 768] (shapeCast S32x4x3712 (Wa m c (Proc.devRef .tc main_v24)) shapeCasts_S128x3712_S32x4x3712) slices_S32x4x3712_S32x4x768_0_0_768) := by
  show StableHlo.after hostOps1 (Wa m c) (Proc.devRef .tc main_v32) = _
  generalize Wa m c = W
  simp only [hostOps1]
  after_results_simp <;> rfl

/-- The projection in the order of the weights, as a function of the kernel's arguments. -/
abbrev Zm (c : Dev nD) : FVec Ideal Cert.DecReferenceIdeal.S128x3604 .f32 :=
  Zc (Hn (m ((c.tc : Thread nD τ).loc main_arg0)) (m ((c.tc : Thread nD τ).loc main_arg1))) (m ((c.tc : Thread nD τ).loc main_arg2))

theorem final_fox (c : Dev nD) : Pipeline.afterTail₀ cfgs (dats m) 0 (V0 m) [hostOps1] c main_v29 = Cert.DecReferenceIdeal.Row.Fv (Zm m c) := by
  rw [after_fox, Wa_z, final]
  exact fox_eq _

theorem final_moba (c : Dev nD) : Pipeline.afterTail₀ cfgs (dats m) 0 (V0 m) [hostOps1] c main_v31 = Cert.DecReferenceIdeal.Row.Mv (Zm m c) := by
  rw [after_moba, Wa_z, final]
  exact moba_eq _

theorem final_conv (c : Dev nD) : Pipeline.afterTail₀ cfgs (dats m) 0 (V0 m) [hostOps1] c main_v32 = Cert.DecReferenceIdeal.Row.Last (m ((c.tc : Thread nD τ).loc main_arg3)) (Cert.DecReferenceIdeal.Row.Cq (Zm m c)) := by
  rw [after_conv, Wa_z, Wa_arg3, final]
  exact congrArg (Cert.DecReferenceIdeal.Row.Last _) (conv_eq _)

/-- The kernel's run with its four results named and its arguments as they were. -/
theorem run_value (ρ : Dev nD → PrngReg) : θ_run defs (onTc (τ := τ) (main (F := Ideal))) ⟨m, fun _ => 0, ρ⟩ fun r => ∀ c : Dev nD,
      r.2.mem ((c.tc : Thread nD τ).loc main_v24) = Pk (Zm m c)
      ∧ r.2.mem ((c.tc : Thread nD τ).loc main_v29) = Cert.DecReferenceIdeal.Row.Fv (Zm m c)
      ∧ r.2.mem ((c.tc : Thread nD τ).loc main_v31) = Cert.DecReferenceIdeal.Row.Mv (Zm m c)
      ∧ r.2.mem ((c.tc : Thread nD τ).loc main_v32) = Cert.DecReferenceIdeal.Row.Last (m ((c.tc : Thread nD τ).loc main_arg3)) (Cert.DecReferenceIdeal.Row.Cq (Zm m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (final m c),
      ((h c).2 main_v29 (Pipeline.mem_restRefs_of main_v29 (by decide) (by decide))).trans (final_fox m c),
      ((h c).2 main_v31 (Pipeline.mem_restRefs_of main_v31 (by decide) (by decide))).trans (final_moba m c),
      ((h c).2 main_v32 (Pipeline.mem_restRefs_of main_v32 (by decide) (by decide))).trans (final_conv m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.DecIdeal.Row

end
-- ==== Proof.FlashChain.lean ====
/- One chain of the attention kernel's step — 256 query rows of one head against a block of keys — as functions of what
   the step reads, and each read at a position: the row's new running maximum, the weights, the new weighted sum. -/
module

public import proofs.«01_k».proof.Proof.Gen.KernelIdeal.Flash
public import Idealize.ShloMosaic.Lib.Pipeline.ValueKit
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.SL.Sem

/-- The literal that stands for the mask, named, is −∞. -/
theorem mask_eq : Named.named (F := Ideal) κ "mask" (φ := .f32) 0xF149F2CA#32 = (⊥ : EReal) := rfl

theorem bot_word : Ideal.ofBits .f32 0xFF800000#32 = (⊥ : EReal) := by simp [Ideal.ofBits, Ideal.ieee]

section chain

variable (a4 a5 a6 : Memref sig .tc .vmem S512x512 .bf16) (x0 x1 x2 : S512x512.Idx → Elt Ideal .bf16)

/-- Scores of 256 query rows from row `r0` against all 512 keys, over the 128 lanes from lane `c0`. -/
def scoreW (r0 c0 : ℕ) (hq : ∀ a, (![r0, c0] : Fin 2 → ℕ) a + S256x128.size a ≤ S512x512.size a)
    (hk : ∀ a, (![0, c0] : Fin 2 → ℕ) a + S512x128.size a ≤ S512x512.size a) : FVec Ideal S256x512 .f32 :=
  matmul (φ₁ := .bf16) (φ₂ := .bf16) dot_S256x128_S512x128_S256x512_1_1_0_0_n_n none
    (View.readAt (Elt Ideal) a4.view (Rect.unit (s := S512x512) ![r0, c0] S256x128.size hq).toLoadRect (a4.view.rep x0))
    (View.readAt (Elt Ideal) a5.view (Rect.unit (s := S512x512) ![0, c0] S512x128.size hk).toLoadRect (a5.view.rep x1))
    (constant S256x512 .f32 0x00000000#32)

/-- Scores of 256 query rows against the first 256 keys. -/
def scoreH (r0 c0 : ℕ) (hq : ∀ a, (![r0, c0] : Fin 2 → ℕ) a + S256x128.size a ≤ S512x512.size a)
    (hk : ∀ a, (![0, c0] : Fin 2 → ℕ) a + S256x128.size a ≤ S512x512.size a) : FVec Ideal S256x256 .f32 :=
  matmul (φ₁ := .bf16) (φ₂ := .bf16) dot_S256x128_S256x128_S256x256_1_1_0_0_n_n none
    (View.readAt (Elt Ideal) a4.view (Rect.unit (s := S512x512) ![r0, c0] S256x128.size hq).toLoadRect (a4.view.rep x0))
    (View.readAt (Elt Ideal) a5.view (Rect.unit (s := S512x512) ![0, c0] S256x128.size hk).toLoadRect (a5.view.rep x1))
    (constant S256x256 .f32 0x00000000#32)

/-- The causal mask of rows 256 … 511 of the diagonal block, all 512 keys. -/
def maskW (s : FVec Ideal S256x512 .f32) : FVec Ideal S256x512 .f32 :=
  select (cmpi .sge (addi (iota .tc S256x512 32 [0] iota_S256x512_d0_w32) (broadcast S256x512 256#32))
      (addi (iota .tc S256x512 32 [1] iota_S256x512_d1_w32) (broadcast S256x512 0#32))) s
    (broadcast S256x512 (Named.named (F := Ideal) κ "mask" (φ := .f32) 0xF149F2CA#32))

/-- The causal mask of rows 0 … 255 of the diagonal block, its first 256 keys. -/
def maskH (s : FVec Ideal S256x256 .f32) : FVec Ideal S256x256 .f32 :=
  select (cmpi .sge (addi (iota .tc S256x256 32 [0] iota_S256x256_d0_w32) (broadcast S256x256 0#32))
      (addi (iota .tc S256x256 32 [1] iota_S256x256_d1_w32) (broadcast S256x256 0#32))) s
    (broadcast S256x256 (Named.named (F := Ideal) κ "mask" (φ := .f32) 0xF149F2CA#32))

/-- The running maximum after the block, on every lane. -/
def topW (s : FVec Ideal S256x512 .f32) (mp : FVec Ideal S256x128 .f32) : FVec Ideal S256x128 .f32 :=
  maximumf mp (broadcastTo S256x128 (shapeCast S256x1
    (multiReduction .maximumf [1] S256 s 0xFF800000#32 reduces_S256x512_S256 (.inl rfl) rfl) shapeCasts_S256_S256x1) broadcasts_S256x1_S256x128)

def topH (s : FVec Ideal S256x256 .f32) (mp : FVec Ideal S256x128 .f32) : FVec Ideal S256x128 .f32 :=
  maximumf mp (broadcastTo S256x128 (shapeCast S256x1
    (multiReduction .maximumf [1] S256 s 0xFF800000#32 reduces_S256x256_S256 (.inl rfl) rfl) shapeCasts_S256_S256x1) broadcasts_S256x1_S256x128)

/-- The weights `exp (s - m)`, 128 keys at a time against the lanes of `m`. -/
def wtsW (s : FVec Ideal S256x512 .f32) (mn : FVec Ideal S256x128 .f32) : FVec Ideal S256x512 .bf16 :=
  truncf .bf16 (concatenate S256x512 1
    [⟨S256x128, exp (subf (extractStridedSlice S256x128 ![0, 0] s slices_S256x512_o0_0_S256x128) mn)⟩,
     ⟨S256x128, exp (subf (extractStridedSlice S256x128 ![0, 128] s slices_S256x512_o0_128_S256x128) mn)⟩,
     ⟨S256x128, exp (subf (extractStridedSlice S256x128 ![0, 256] s slices_S256x512_o0_256_S256x128) mn)⟩,
     ⟨S256x128, exp (subf (extractStridedSlice S256x128 ![0, 384] s slices_S256x512_o0_384_S256x128) mn)⟩]
    concatenates_S256x128_S256x128_S256x128_S256x128_S256x512_d1 : FVec Ideal S256x512 .f32) bitsLt_bf16_f32

def wtsH (s : FVec Ideal S256x256 .f32) (mn : FVec Ideal S256x128 .f32) : FVec Ideal S256x256 .bf16 :=
  truncf .bf16 (concatenate S256x256 1
    [⟨S256x128, exp (subf (extractStridedSlice S256x128 ![0, 0] s slices_S256x256_o0_0_S256x128) mn)⟩,
     ⟨S256x128, exp (subf (extractStridedSlice S256x128 ![0, 128] s slices_S256x256_o0_128_S256x128) mn)⟩]
    concatenates_S256x128_S256x128_S256x256_d1 : FVec Ideal S256x256 .f32) bitsLt_bf16_f32

/-- The weighted sum after the block: what was held, rescaled, plus the block's weights times its values. -/
def accW (p : FVec Ideal S256x512 .bf16) (mp mn ap : FVec Ideal S256x128 .f32) (c0 : ℕ)
    (hk : ∀ a, (![0, c0] : Fin 2 → ℕ) a + S512x128.size a ≤ S512x512.size a) : FVec Ideal S256x128 .f32 :=
  addf (mulf ap (exp (subf mp mn))) (matmul (φ₁ := .bf16) (φ₂ := .bf16) dot_S256x512_S512x128_S256x128_1_0_0_1_n_n none p
    (View.readAt (Elt Ideal) a6.view (Rect.unit (s := S512x512) ![0, c0] S512x128.size hk).toLoadRect (a6.view.rep x2))
    (constant S256x128 .f32 0x00000000#32))

def accH (p : FVec Ideal S256x256 .bf16) (mp mn ap : FVec Ideal S256x128 .f32) (c0 : ℕ)
    (hk : ∀ a, (![0, c0] : Fin 2 → ℕ) a + S256x128.size a ≤ S512x512.size a) : FVec Ideal S256x128 .f32 :=
  addf (mulf ap (exp (subf mp mn))) (matmul (φ₁ := .bf16) (φ₂ := .bf16) dot_S256x256_S256x128_S256x128_1_0_0_1_n_n none p
    (View.readAt (Elt Ideal) a6.view (Rect.unit (s := S512x512) ![0, c0] S256x128.size hk).toLoadRect (a6.view.rep x2))
    (constant S256x128 .f32 0x00000000#32))

/-- The 256 rows written out: the first 64 lanes of the weighted sum over its lane 64. -/
def outC (a : FVec Ideal S256x128 .f32) : FVec Ideal S256x64 .f32 :=
  divf (extractStridedSlice S256x64 ![0, 0] a slices_S256x128_o0_0_S256x64)
    (broadcastTo S256x64 (extractStridedSlice S256x1 ![0, 64] a slices_S256x128_o0_64_S256x1) broadcasts_S256x1_S256x64)

/-! ## Read at a position -/

theorem scoreW_at (r0 c0 : ℕ) (hq hk) (h0 : r0 + 256 ≤ 512) (h1 : c0 + 128 ≤ 512) (r : Fin 256) (j : Fin 512) :
    scoreW a4 a5 x0 x1 r0 c0 hq hk (ix2 r j)
      = ∑ d : Fin 128, (x0 (ix2 (⟨r0 + r, by omega⟩ : Fin 512) (⟨c0 + d, by omega⟩ : Fin 512)) : EReal) * x1 (ix2 j (⟨c0 + d, by omega⟩ : Fin 512)) := by
  unfold scoreW
  rw [View.readAt_rep, View.readAt_rep]
  pointwise

theorem scoreH_at (r0 c0 : ℕ) (hq hk) (h0 : r0 + 256 ≤ 512) (h1 : c0 + 128 ≤ 512) (r : Fin 256) (j : Fin 256) :
    scoreH a4 a5 x0 x1 r0 c0 hq hk (ix2 r j)
      = ∑ d : Fin 128, (x0 (ix2 (⟨r0 + r, by omega⟩ : Fin 512) (⟨c0 + d, by omega⟩ : Fin 512)) : EReal) * x1 (ix2 (⟨j, by omega⟩ : Fin 512) (⟨c0 + d, by omega⟩ : Fin 512)) := by
  unfold scoreH
  rw [View.readAt_rep, View.readAt_rep]
  pointwise

theorem maskW_at (s : FVec Ideal S256x512 .f32) (r : Fin 256) (j : Fin 512) :
    maskW s (ix2 r j) = if (j : ℕ) ≤ 256 + r then (s (ix2 r j) : EReal) else ⊥ := by
  pointwise [maskW, mask_eq]
  have e : IntOp.cmpi .sge (IntOp.addi (BitVec.ofNat 32 (r : ℕ)) 256#32) (IntOp.addi (BitVec.ofNat 32 (j : ℕ)) 0#32)
      = BitVec.ofBool (decide ((j : ℕ) ≤ 256 + r)) := by
    have e1 : IntOp.addi (BitVec.ofNat 32 (r : ℕ)) 256#32 = BitVec.ofNat 32 (256 + r) := by
      rw [Nat.add_comm, BitVec.ofNat_add]; rfl
    have e2 : IntOp.addi (BitVec.ofNat 32 (j : ℕ)) 0#32 = BitVec.ofNat 32 (j : ℕ) := BitVec.add_zero _
    rw [e1, e2, WordCmp.cmpi_sge_ofNat (by omega) (by omega)]
  rw [e]
  by_cases h : (j : ℕ) ≤ 256 + r
  · rw [if_pos h, decide_eq_true h]; rfl
  · rw [if_neg h, decide_eq_false h]; rfl

theorem maskH_at (s : FVec Ideal S256x256 .f32) (r : Fin 256) (j : Fin 256) :
    maskH s (ix2 r j) = if (j : ℕ) ≤ r then (s (ix2 r j) : EReal) else ⊥ := by
  pointwise [maskH, mask_eq]
  have e : IntOp.cmpi .sge (IntOp.addi (BitVec.ofNat 32 (r : ℕ)) 0#32) (IntOp.addi (BitVec.ofNat 32 (j : ℕ)) 0#32)
      = BitVec.ofBool (decide ((j : ℕ) ≤ r)) := by
    have e1 : IntOp.addi (BitVec.ofNat 32 (r : ℕ)) 0#32 = BitVec.ofNat 32 (r : ℕ) := by
      exact BitVec.add_zero _
    have e2 : IntOp.addi (BitVec.ofNat 32 (j : ℕ)) 0#32 = BitVec.ofNat 32 (j : ℕ) := BitVec.add_zero _
    rw [e1, e2, WordCmp.cmpi_sge_ofNat (by omega) (by omega)]
  rw [e]
  by_cases h : (j : ℕ) ≤ r
  · rw [if_pos h, decide_eq_true h]; rfl
  · rw [if_neg h, decide_eq_false h]; rfl

theorem topW_at (s : FVec Ideal S256x512 .f32) (mp : FVec Ideal S256x128 .f32) (r : Fin 256) (l : Fin 128) :
    topW s mp (ix2 r l) = max (mp (ix2 r l) : EReal) (Finset.univ.sup fun j : Fin 512 => (s (ix2 r j) : EReal)) := by
  pointwise [topW]
  rw [Finset.sup, bot_word]

theorem topH_at (s : FVec Ideal S256x256 .f32) (mp : FVec Ideal S256x128 .f32) (r : Fin 256) (l : Fin 128) :
    topH s mp (ix2 r l) = max (mp (ix2 r l) : EReal) (Finset.univ.sup fun j : Fin 256 => (s (ix2 r j) : EReal)) := by
  pointwise [topH]
  rw [Finset.sup, bot_word]

theorem wtsW_at (s : FVec Ideal S256x512 .f32) (mn : FVec Ideal S256x128 .f32) (r : Fin 256) (j : Fin 512) :
    wtsW s mn (ix2 r j) = Ideal.exp ((s (ix2 r j) : EReal) - mn (ix2 r (⟨j % 128, by omega⟩ : Fin 128))) := by
  pointwise [wtsW]
  split_ifs <;> (congr 3 <;> first | rfl | (congr 1; apply Fin.ext; simp only; omega))

theorem wtsH_at (s : FVec Ideal S256x256 .f32) (mn : FVec Ideal S256x128 .f32) (r : Fin 256) (j : Fin 256) :
    wtsH s mn (ix2 r j) = Ideal.exp ((s (ix2 r j) : EReal) - mn (ix2 r (⟨j % 128, by omega⟩ : Fin 128))) := by
  pointwise [wtsH]
  split_ifs <;> (congr 3 <;> first | rfl | (congr 1; apply Fin.ext; simp only; omega))

theorem accW_at (p : FVec Ideal S256x512 .bf16) (mp mn ap : FVec Ideal S256x128 .f32) (c0 : ℕ) (hk) (h1 : c0 + 128 ≤ 512) (r : Fin 256) (l : Fin 128) :
    accW a6 x2 p mp mn ap c0 hk (ix2 r l)
      = (ap (ix2 r l) : EReal) * Ideal.exp ((mp (ix2 r l) : EReal) - mn (ix2 r l))
        + ∑ j : Fin 512, (p (ix2 r j) : EReal) * x2 (ix2 j (⟨c0 + l, by omega⟩ : Fin 512)) := by
  unfold accW
  rw [View.readAt_rep]
  pointwise

theorem accH_at (p : FVec Ideal S256x256 .bf16) (mp mn ap : FVec Ideal S256x128 .f32) (c0 : ℕ) (hk) (h1 : c0 + 128 ≤ 512) (r : Fin 256) (l : Fin 128) :
    accH a6 x2 p mp mn ap c0 hk (ix2 r l)
      = (ap (ix2 r l) : EReal) * Ideal.exp ((mp (ix2 r l) : EReal) - mn (ix2 r l))
        + ∑ j : Fin 256, (p (ix2 r j) : EReal) * x2 (ix2 (⟨j, by omega⟩ : Fin 512) (⟨c0 + l, by omega⟩ : Fin 512)) := by
  unfold accH
  rw [View.readAt_rep]
  pointwise

theorem outC_at (a : FVec Ideal S256x128 .f32) (r : Fin 256) (d : Fin 64) :
    outC a (ix2 r d) = Ideal.div (a (ix2 r (⟨d, by omega⟩ : Fin 128))) (a (ix2 r (64 : Fin 128))) := by
  pointwise [outC]

end chain

end Cert.KernelIdeal.Attn

end
-- ==== Proof.FlashStep.lean ====
/- What one step of the attention kernel does to the running maximum and the weighted sum it keeps, in closed form:
   `newTop` and `newAcc`, at any head, row and lane; and that each chain of FlashChain.lean computes its part of them. -/
module

public import proofs.«01_k».proof.Proof.FlashChain
public import Idealize.ShloMosaic.Lib.Pipeline.CanonAppend

@[expose] public section

set_option maxRecDepth 16384

noncomputable section

namespace Cert.KernelIdeal.Attn

open Cert.KernelIdeal Cert.KernelIdeal.Gen
open Idealize.ShloMosaic Idealize.ShloMosaic.TcCoe Idealize.SL.Sem

/-- The score of row `r` of the query block against row `j` of the key block, head `h`: the product over the head's 128 lanes. -/
def sc (x0 x1 : S512x512.Idx → Elt Ideal .bf16) (h : Fin 4) (r j : Fin 512) : EReal :=
  ∑ d : Fin 128, (x0 (ix2 r (⟨128 * h + d, by omega⟩ : Fin 512)) : EReal) * x1 (ix2 j (⟨128 * h + d, by omega⟩ : Fin 512))

/-- The score, with the keys after the query masked when the block lies on the diagonal. -/
def en (b : Bool) (x0 x1 : S512x512.Idx → Elt Ideal .bf16) (h : Fin 4) (r j : Fin 512) : EReal :=
  if b = false ∨ (j : ℕ) ≤ r then sc x0 x1 h r j else ⊥

/-- The running maximum after the block. -/
def newTop (b : Bool) (x0 x1 : S512x512.Idx → Elt Ideal .bf16) (mp : S4x512x128.Idx → EReal) : S4x512x128.Idx → EReal :=
  fun y => max (mp y) (Finset.univ.sup fun j : Fin 512 => en b x0 x1 (y 0) (y 1) j)

/-- One entry of the weighted sum after the block: head `h`, row `r`, lane `l`. -/
def newAccAt (b : Bool) (x0 x1 x2 : S512x512.Idx → Elt Ideal .bf16) (mp ap : S4x512x128.Idx → EReal) (h : Fin 4) (r : Fin 512) (l : Fin 128) : EReal :=
  ap (ix3 h r l) * Ideal.exp (mp (ix3 h r l) - newTop b x0 x1 mp (ix3 h r l))
    + ∑ j : Fin 512, Ideal.exp (en b x0 x1 h r j - newTop b x0 x1 mp (ix3 h r (⟨j % 128, by omega⟩ : Fin 128)))
        * (x2 (ix2 j (⟨128 * h + l, by omega⟩ : Fin 512)) : EReal)

/-- The weighted sum after the block. -/
def newAcc (b : Bool) (x0 x1 x2 : S512x512.Idx → Elt Ideal .bf16) (mp ap : S4x512x128.Idx → EReal) : S4x512x128.Idx → EReal :=
  fun y => newAccAt b x0 x1 x2 mp ap (y 0) (y 1) (y 2)

/-- One entry of the block of the result a diagonal step writes: row `r`, column `c`. -/
def newOutAt (a : S4x512x128.Idx → EReal) (r : Fin 512) (c : Fin 256) : EReal :=
  Ideal.div (a (ix3 (⟨c / 64, by omega⟩ : Fin 4) r (⟨c % 64, by omega⟩ : Fin 128))) (a (ix3 (⟨c / 64, by omega⟩ : Fin 4) r (64 : Fin 128)))

/-- The block of the result a diagonal step writes. -/
def newOut (a : S4x512x128.Idx → EReal) : S512x256.Idx → EReal := fun y => newOutAt a (y 0) (y 1)

/-! ## A block of which only the first half counts -/

theorem half_sup (f : Fin 512 → EReal) (hf : ∀ j : Fin 512, 256 ≤ (j : ℕ) → f j = ⊥) :
    (Finset.univ.sup fun j : Fin 256 => f ⟨j, by omega⟩) = Finset.univ.sup f := by
  apply le_antisymm
  · exact Finset.sup_le fun j _ => Finset.le_sup (f := f) (Finset.mem_univ _)
  · refine Finset.sup_le fun j _ => ?_
    by_cases hj : (j : ℕ) < 256
    · exact Finset.le_sup (f := fun j : Fin 256 => f ⟨j, by omega⟩) (Finset.mem_univ (⟨j, hj⟩ : Fin 256))
    · rw [hf j (by omega)]; exact bot_le

theorem half_sum (f : Fin 512 → EReal) (hf : ∀ j : Fin 512, 256 ≤ (j : ℕ) → f j = 0) :
    (∑ j : Fin 256, f ⟨j, by omega⟩) = ∑ j : Fin 512, f j := by
  refine Eq.trans ?_ (Fin.sum_univ_add (M := EReal) (a := 256) (b := 256) f).symm
  have h2 : ∑ i : Fin 256, f (Fin.natAdd 256 i) = 0 := Finset.sum_eq_zero fun i _ => hf _ (by simp)
  rw [h2, add_zero]
  rfl

theorem exp_bot_sub (m : EReal) : Ideal.exp ((⊥ : EReal) - m) = 0 := by
  rw [EReal.bot_sub]; rfl

/-! ## The chains -/

section chain

variable (a4 a5 a6 : Memref sig .tc .vmem S512x512 .bf16) (x0 x1 x2 : S512x512.Idx → Elt Ideal .bf16)
  (h : Fin 4)

theorem scoreW_en (c0 : ℕ) (hc : c0 = 128 * (h : ℕ)) (r0 : ℕ) (hr : r0 + 256 ≤ 512) (hq hk) (r : Fin 256) (j : Fin 512) :
    (scoreW a4 a5 x0 x1 r0 c0 hq hk (ix2 r j) : EReal) = en false x0 x1 h (⟨r0 + r, by omega⟩ : Fin 512) j := by
  subst hc
  rw [scoreW_at _ _ _ _ _ _ _ _ hr (by omega)]
  simp only [en, true_or, if_true, sc]

theorem maskW_en (c0 : ℕ) (hc : c0 = 128 * (h : ℕ)) (hq hk) (r : Fin 256) (j : Fin 512) :
    (maskW (scoreW a4 a5 x0 x1 256 c0 hq hk) (ix2 r j) : EReal) = en true x0 x1 h (⟨256 + r, by omega⟩ : Fin 512) j := by
  subst hc
  rw [maskW_at, scoreW_at _ _ _ _ _ _ _ _ (by omega) (by omega)]
  simp only [en, sc, Bool.true_eq_false, false_or]

theorem maskH_en (c0 : ℕ) (hc : c0 = 128 * (h : ℕ)) (hq hk) (r : Fin 256) (j : Fin 256) :
    (maskH (scoreH a4 a5 x0 x1 0 c0 hq hk) (ix2 r j) : EReal) = en true x0 x1 h (⟨0 + r, by omega⟩ : Fin 512) (⟨j, by omega⟩ : Fin 512) := by
  subst hc
  rw [maskH_at, scoreH_at _ _ _ _ _ _ _ _ (by omega) (by omega)]
  simp only [en, sc, Bool.true_eq_false, false_or, Nat.zero_add]

theorem en_half (r : Fin 256) (j : Fin 512) (hj : 256 ≤ (j : ℕ)) : en true x0 x1 h (⟨0 + r, by omega⟩ : Fin 512) j = ⊥ := by
  unfold en; rw [if_neg]; simp; omega

theorem topW_new (r0 : ℕ) (hr : r0 + 256 ≤ 512) (mp : FVec Ideal S256x128 .f32) (MP : S4x512x128.Idx → EReal)
    (hmp : ∀ (r : Fin 256) (l : Fin 128), mp (ix2 r l) = MP (ix3 h (⟨r0 + r, by omega⟩ : Fin 512) l)) (b : Bool) (s : FVec Ideal S256x512 .f32)
    (hs : ∀ (r : Fin 256) (j : Fin 512), (s (ix2 r j) : EReal) = en b x0 x1 h (⟨r0 + r, by omega⟩ : Fin 512) j) (r : Fin 256) (l : Fin 128) :
    topW s mp (ix2 r l) = newTop b x0 x1 MP (ix3 h (⟨r0 + r, by omega⟩ : Fin 512) l) := by
  rw [topW_at, hmp]
  simp only [hs]
  rfl

theorem topH_new (mp : FVec Ideal S256x128 .f32) (MP : S4x512x128.Idx → EReal)
    (hmp : ∀ (r : Fin 256) (l : Fin 128), mp (ix2 r l) = MP (ix3 h (⟨0 + r, by omega⟩ : Fin 512) l)) (s : FVec Ideal S256x256 .f32)
    (hs : ∀ (r : Fin 256) (j : Fin 256), (s (ix2 r j) : EReal) = en true x0 x1 h (⟨0 + r, by omega⟩ : Fin 512) (⟨j, by omega⟩ : Fin 512)) (r : Fin 256) (l : Fin 128) :
    topH s mp (ix2 r l) = newTop true x0 x1 MP (ix3 h (⟨0 + r, by omega⟩ : Fin 512) l) := by
  rw [topH_at, hmp]
  simp only [hs]
  exact congrArg (max _) (half_sup (fun j => en true x0 x1 h (⟨0 + r, by omega⟩ : Fin 512) j) fun j hj => en_half x0 x1 h r j hj)

theorem accW_new (c0 : ℕ) (hc : c0 = 128 * (h : ℕ)) (r0 : ℕ) (hr : r0 + 256 ≤ 512) (hv) (mp ap : FVec Ideal S256x128 .f32) (MP AP : S4x512x128.Idx → EReal)
    (hmp : ∀ (r : Fin 256) (l : Fin 128), mp (ix2 r l) = MP (ix3 h (⟨r0 + r, by omega⟩ : Fin 512) l))
    (hap : ∀ (r : Fin 256) (l : Fin 128), ap (ix2 r l) = AP (ix3 h (⟨r0 + r, by omega⟩ : Fin 512) l)) (b : Bool) (s : FVec Ideal S256x512 .f32)
    (hs : ∀ (r : Fin 256) (j : Fin 512), (s (ix2 r j) : EReal) = en b x0 x1 h (⟨r0 + r, by omega⟩ : Fin 512) j) (r : Fin 256) (l : Fin 128) :
    accW a6 x2 (wtsW s (topW s mp)) mp (topW s mp) ap c0 hv (ix2 r l) = newAcc b x0 x1 x2 MP AP (ix3 h (⟨r0 + r, by omega⟩ : Fin 512) l) := by
  subst hc
  rw [accW_at _ _ _ _ _ _ _ _ (by omega)]
  have e := topW_new x0 x1 h r0 hr mp MP hmp b s hs
  simp only [wtsW_at, e, hs, hmp, hap]
  rfl

theorem accH_new (c0 : ℕ) (hc : c0 = 128 * (h : ℕ)) (hv) (mp ap : FVec Ideal S256x128 .f32) (MP AP : S4x512x128.Idx → EReal)
    (hmp : ∀ (r : Fin 256) (l : Fin 128), mp (ix2 r l) = MP (ix3 h (⟨0 + r, by omega⟩ : Fin 512) l))
    (hap : ∀ (r : Fin 256) (l : Fin 128), ap (ix2 r l) = AP (ix3 h (⟨0 + r, by omega⟩ : Fin 512) l)) (s : FVec Ideal S256x256 .f32)
    (hs : ∀ (r : Fin 256) (j : Fin 256), (s (ix2 r j) : EReal) = en true x0 x1 h (⟨0 + r, by omega⟩ : Fin 512) (⟨j, by omega⟩ : Fin 512)) (r : Fin 256) (l : Fin 128) :
    accH a6 x2 (wtsH s (topH s mp)) mp (topH s mp) ap c0 hv (ix2 r l) = newAcc true x0 x1 x2 MP AP (ix3 h (⟨0 + r, by omega⟩ : Fin 512) l) := by
  subst hc
  rw [accH_at _ _ _ _ _ _ _ _ (by omega)]
  have e := topH_new x0 x1 h mp MP hmp s hs
  simp only [wtsH_at, e, hs, hmp, hap]
  refine congrArg₂ (fun a b : EReal => a + b) rfl ?_
  exact half_sum (fun j => Ideal.exp (en true x0 x1 h (⟨0 + r, by omega⟩ : Fin 512) j - newTop true x0 x1 MP (ix3 h (⟨0 + r, by omega⟩ : Fin 512) (⟨j % 128, by omega⟩ : Fin 128)))
        * (x2 (ix2 j (⟨128 * (h : Fin 4) + (l : Fin 128), by omega⟩ : Fin 512)) : EReal))
    fun j hj => by
      show Ideal.exp (en true x0 x1 h (⟨0 + r, by omega⟩ : Fin 512) j - _) * _ = (0 : EReal)
      rw [en_half x0 x1 h r j hj, exp_bot_sub, zero_mul]

end chain

/-! ## The pieces a step stores -/

/-- Eight blocks of 256 rows, one for each head and half, over any earlier stores. -/
theorem canon_scratch (G : S4x512x128.Idx → Elt Ideal .f32) (L : List (View.Piece (Elt Ideal) S4x512x128 .f32))
    (w : Fin 4 → Fin 2 → S1x256x128.Idx → Elt Ideal .f32)
    (i31 i30 i21 i20 i11 i10 i01 i00)
    (hw : ∀ (h : Fin 4) (z : Fin 2) (r : Fin 256) (l : Fin 128), w h z (ix3 0 r l) = G (ix3 h (⟨256 * z + r, by omega⟩ : Fin 512) l)) :
    View.canon ((⟨Rect.unit (s := S4x512x128) ![3, 256, 0] S1x256x128.size i31, w 3 1⟩ : View.Piece (Elt Ideal) S4x512x128 .f32)
      :: ⟨Rect.unit (s := S4x512x128) ![3, 0, 0] S1x256x128.size i30, w 3 0⟩
      :: ⟨Rect.unit (s := S4x512x128) ![2, 256, 0] S1x256x128.size i21, w 2 1⟩
      :: ⟨Rect.unit (s := S4x512x128) ![2, 0, 0] S1x256x128.size i20, w 2 0⟩
      :: ⟨Rect.unit (s := S4x512x128) ![1, 256, 0] S1x256x128.size i11, w 1 1⟩
      :: ⟨Rect.unit (s := S4x512x128) ![1, 0, 0] S1x256x128.size i10, w 1 0⟩
      :: ⟨Rect.unit (s := S4x512x128) ![0, 256, 0] S1x256x128.size i01, w 0 1⟩
      :: ⟨Rect.unit (s := S4x512x128) ![0, 0, 0] S1x256x128.size i00, w 0 0⟩ :: L) = G := by
  funext y
  refine View.canon_append_of_pieces G L [_, _, _, _, _, _, _, _] ?pieces y ?cov
  case cov =>
    have h1 : (y 1 : ℕ) < 512 := (y 1).isLt
    have h2 : (y 2 : ℕ) < 128 := (y 2).isLt
    have key : ∀ (h z : ℕ) (i), (y 0 : ℕ) = h → z ≤ (y 1 : ℕ) → (y 1 : ℕ) < z + 256 →
        y ∈ (Rect.unit (s := S4x512x128) ![h, z, 0] S1x256x128.size i).set := fun h z i e0 e1 e2 =>
      Rect.mem_set_unit.2 fun a => by fin_cases a <;> simp <;> omega
    have h0 : (y 0 : ℕ) < 4 := (y 0).isLt
    rcases Nat.lt_or_ge (y 1 : ℕ) 256 with hz | hz <;>
    rcases (by omega : (y 0 : ℕ) = 0 ∨ (y 0 : ℕ) = 1 ∨ (y 0 : ℕ) = 2 ∨ (y 0 : ℕ) = 3) with e | e | e | e
    · exact ⟨_, .tail _ (.tail _ (.tail _ (.tail _ (.tail _ (.tail _ (.tail _ (.head _))))))), key 0 0 i00 e (by omega) (by omega)⟩
    · exact ⟨_, .tail _ (.tail _ (.tail _ (.tail _ (.tail _ (.head _))))), key 1 0 i10 e (by omega) (by omega)⟩
    · exact ⟨_, .tail _ (.tail _ (.tail _ (.head _))), key 2 0 i20 e (by omega) (by omega)⟩
    · exact ⟨_, .tail _ (.head _), key 3 0 i30 e (by omega) (by omega)⟩
    · exact ⟨_, .tail _ (.tail _ (.tail _ (.tail _ (.tail _ (.tail _ (.head _)))))), key 0 256 i01 e (by omega) (by omega)⟩
    · exact ⟨_, .tail _ (.tail _ (.tail _ (.tail _ (.head _)))), key 1 256 i11 e (by omega) (by omega)⟩
    · exact ⟨_, .tail _ (.tail _ (.head _)), key 2 256 i21 e (by omega) (by omega)⟩
    · exact ⟨_, .head _, key 3 256 i31 e (by omega) (by omega)⟩
  intro p hp x
  have key : ∀ (h : Fin 4) (z : Fin 2) (off : Fin 3 → ℕ) (i) (x : S1x256x128.Idx), off = ![(h : ℕ), 256 * z, 0] →
      w h z x = G ((Rect.unit (s := S4x512x128) off S1x256x128.size i).emb x) := by
    intro h z off i x ho
    subst ho
    obtain ⟨x0, r, l, rfl⟩ : ∃ (x0 : Fin 1) (r : Fin 256) (l : Fin 128), x = ix3 x0 r l := ⟨x 0, x 1, x 2, by funext a; fin_cases a <;> rfl⟩
    obtain rfl : x0 = 0 := Subsingleton.elim _ _
    rw [hw]
    refine congrArg G (funext fun a => Fin.ext ?_)
    rw [Rect.emb_apply]
    fin_cases a <;> simp [Rect.unit]
  simp only [List.mem_cons, List.not_mem_nil, or_false] at hp
  rcases hp with rfl | rfl | rfl | rfl | rfl | rfl | rfl | rfl
  · exact key 3 1 _ i31 x rfl
  · exact key 3 0 _ i30 x rfl
  · exact key 2 1 _ i21 x rfl
  · exact key 2 0 _ i20 x rfl
  · exact key 1 1 _ i11 x rfl
  · exact key 1 0 _ i10 x rfl
  · exact key 0 1 _ i01 x rfl
  · exact key 0 0 _ i00 x rfl

/-- The same for the result's block, eight tiles of 256 rows and 64 columns. -/
theorem canon_out (G : S512x256.Idx → Elt Ideal .f32)
    (w : Fin 4 → Fin 2 → S256x64.Idx → Elt Ideal .f32)
    (i31 i30 i21 i20 i11 i10 i01 i00)
    (hw : ∀ (h : Fin 4) (z : Fin 2) (r : Fin 256) (d : Fin 64), w h z (ix2 r d) = G (ix2 (⟨256 * z + r, by omega⟩ : Fin 512) (⟨64 * h + d, by omega⟩ : Fin 256))) :
    View.canon [(⟨Rect.unit (s := S512x256) ![256, 192] S256x64.size i31, w 3 1⟩ : View.Piece (Elt Ideal) S512x256 .f32),
      ⟨Rect.unit (s := S512x256) ![0, 192] S256x64.size i30, w 3 0⟩,
      ⟨Rect.unit (s := S512x256) ![256, 128] S256x64.size i21, w 2 1⟩,
      ⟨Rect.unit (s := S512x256) ![0, 128] S256x64.size i20, w 2 0⟩,
      ⟨Rect.unit (s := S512x256) ![256, 64] S256x64.size i11, w 1 1⟩,
      ⟨Rect.unit (s := S512x256) ![0, 64] S256x64.size i10, w 1 0⟩,
      ⟨Rect.unit (s := S512x256) ![256, 0] S256x64.size i01, w 0 1⟩,
      ⟨Rect.unit (s := S512x256) ![0, 0] S256x64.size i00, w 0 0⟩] = G := by
  funext y
  refine View.canon_append_of_pieces G [] [_, _, _, _, _, _, _, _] ?pieces y ?cov
  case cov =>
    have h1 : (y 1 : ℕ) < 256 := (y 1).isLt
    have key : ∀ (z d : ℕ) (i), z ≤ (y 0 : ℕ) → (y 0 : ℕ) < z + 256 → d ≤ (y 1 : ℕ) → (y 1 : ℕ) < d + 64 →
        y ∈ (Rect.unit (s := S512x256) ![z, d] S256x64.size i).set := fun z d i e0 e1 e2 e3 =>
      Rect.mem_set_unit.2 fun a => by fin_cases a <;> simp <;> omega
    have h0 : (y 0 : ℕ) < 512 := (y 0).isLt
    rcases Nat.lt_or_ge (y 0 : ℕ) 256 with hz | hz <;>
    rcases (by omega : (y 1 : ℕ) < 64 ∨ (64 ≤ (y 1 : ℕ) ∧ (y 1 : ℕ) < 128) ∨ (128 ≤ (y 1 : ℕ) ∧ (y 1 : ℕ) < 192) ∨ (192 ≤ (y 1 : ℕ))) with e | e | e | e
    · exact ⟨_, .tail _ (.tail _ (.tail _ (.tail _ (.tail _ (.tail _ (.tail _ (.head _))))))), key 0 0 i00 (by omega) (by omega) (by omega) (by omega)⟩
    · exact ⟨_, .tail _ (.tail _ (.tail _ (.tail _ (.tail _ (.head _))))), key 0 64 i10 (by omega) (by omega) (by omega) (by omega)⟩
    · exact ⟨_, .tail _ (.tail _ (.tail _ (.head _))), key 0 128 i20 (by omega) (by omega) (by omega) (by omega)⟩
    · exact ⟨_, .tail _ (.head _), key 0 192 i30 (by omega) (by omega) (by omega) (by omega)⟩
    · exact ⟨_, .tail _ (.tail _ (.tail _ (.tail _ (.tail _ (.tail _ (.head _)))))), key 256 0 i01 (by omega) (by omega) (by omega) (by omega)⟩
    · exact ⟨_, .tail _ (.tail _ (.tail _ (.tail _ (.head _)))), key 256 64 i11 (by omega) (by omega) (by omega) (by omega)⟩
    · exact ⟨_, .tail _ (.tail _ (.head _)), key 256 128 i21 (by omega) (by omega) (by omega) (by omega)⟩
    · exact ⟨_, .head _, key 256 192 i31 (by omega) (by omega) (by omega) (by omega)⟩
  intro p hp x
  have key : ∀ (h : Fin 4) (z : Fin 2) (off : Fin 2 → ℕ) (i) (x : S256x64.Idx), off = ![256 * (z : ℕ), 64 * (h : ℕ)] →
      w h z x = G ((Rect.unit (s := S512x256) off S256x64.size i).emb x) := by
    intro h z off i x ho
    subst ho
    obtain ⟨r, d, rfl⟩ : ∃ (r : Fin 256) (d : Fin 64), x = ix2 r d := ⟨x 0, x 1, by funext a; fin_cases a <;> rfl⟩
    rw [hw]
    refine congrArg G (funext fun a => Fin.ext ?_)
    rw [Rect.emb_apply]
    fin_cases a <;> simp [Rect.unit]
  simp only [List.mem_cons, List.not_mem_nil, or_false] at hp
  rcases hp with rfl | rfl | rfl | rfl | rfl | rfl | rfl | rfl
  · exact key 3 1 _ i31 x rfl
  · exact key 3 0 _ i30 x rfl
  · exact key 2 1 _ i21 x rfl
  · exact key 2 0 _ i20 x rfl
  · exact key 1 1 _ i11 x rfl
  · exact key 1 0 _ i10 x rfl
  · exact key 0 1 _ i01 x rfl
  · exact key 0 0 _ i00 x rfl

/-- `canon_scratch` with the eight blocks named one by one. -/
theorem canon_scratch8 (G : S4x512x128.Idx → Elt Ideal .f32) (L : List (View.Piece (Elt Ideal) S4x512x128 .f32))
    (w31 w30 w21 w20 w11 w10 w01 w00 : S1x256x128.Idx → Elt Ideal .f32) (i31 i30 i21 i20 i11 i10 i01 i00)
    (h31 : ∀ (r : Fin 256) (l : Fin 128), w31 (ix3 0 r l) = G (ix3 (3 : Fin 4) (⟨256 + r, by omega⟩ : Fin 512) l))
    (h30 : ∀ (r : Fin 256) (l : Fin 128), w30 (ix3 0 r l) = G (ix3 (3 : Fin 4) (⟨0 + r, by omega⟩ : Fin 512) l))
    (h21 : ∀ (r : Fin 256) (l : Fin 128), w21 (ix3 0 r l) = G (ix3 (2 : Fin 4) (⟨256 + r, by omega⟩ : Fin 512) l))
    (h20 : ∀ (r : Fin 256) (l : Fin 128), w20 (ix3 0 r l) = G (ix3 (2 : Fin 4) (⟨0 + r, by omega⟩ : Fin 512) l))
    (h11 : ∀ (r : Fin 256) (l : Fin 128), w11 (ix3 0 r l) = G (ix3 (1 : Fin 4) (⟨256 + r, by omega⟩ : Fin 512) l))
    (h10 : ∀ (r : Fin 256) (l : Fin 128), w10 (ix3 0 r l) = G (ix3 (1 : Fin 4) (⟨0 + r, by omega⟩ : Fin 512) l))
    (h01 : ∀ (r : Fin 256) (l : Fin 128), w01 (ix3 0 r l) = G (ix3 (0 : Fin 4) (⟨256 + r, by omega⟩ : Fin 512) l))
    (h00 : ∀ (r : Fin 256) (l : Fin 128), w00 (ix3 0 r l) = G (ix3 (0 : Fin 4) (⟨0 + r, by omega⟩ : Fin 512) l)) :
    View.canon ((⟨Rect.unit (s := S4x512x128) ![3, 256, 0] S1x256x128.size i31, w31⟩ : View.Piece (Elt Ideal) S4x512x128 .f32)
      :: ⟨Rect.unit (s := S4x512x128) ![3, 0, 0] S1x256x128.size i30, w30⟩
      :: ⟨Rect.unit (s := S4x512x128) ![2, 256, 0] S1x256x128.size i21, w21⟩
      :: ⟨Rect.unit (s := S4x512x128) ![2, 0, 0] S1x256x128.size i20, w20⟩
      :: ⟨Rect.unit (s := S4x512x128) ![1, 256, 0] S1x256x128.size i11, w11⟩
      :: ⟨Rect.unit (s := S4x512x128) ![1, 0, 0] S1x256x128.size i10, w10⟩
      :: ⟨Rect.unit (s := S4x512x128) ![0, 256, 0] S1x256x128.size i01, w01⟩
      :: ⟨Rect.unit (s := S4x512x128) ![0, 0, 0] S1x256x128.size i00, w00⟩ :: L) = G := by
  refine canon_scratch G L (fun h z => (![![w00, w01], ![w10, w11], ![w20, w21], ![w30, w31]] : Fin 4 → Fin 2 → _) h z) i31 i30 i21 i20 i11 i10 i01 i00 ?_
  intro h z r l
  match h, z with
  | 0, 0 => exact h00 r l
  | 0, 1 => exact h01 r l
  | 1, 0 => exact h10 r l
  | 1, 1 => exact h11 r l
  | 2, 0 => exact h20 r l
  | 2, 1 => exact h21 r l
  | 3, 0 => exact h30 r l
  | 3, 1 => exact h31 r l

/-- `canon_out` with the eight tiles named one by one. -/
theorem canon_out8 (G : S512x256.Idx → Elt Ideal .f32)
    (w31 w30 w21 w20 w11 w10 w01 w00 : S256x64.Idx → Elt Ideal .f32) (i31 i30 i21 i20 i11 i10 i01 i00)
    (h31 : ∀ (r : Fin 256) (d : Fin 64), w31 (ix2 r d) = G (ix2 (⟨256 + r, by omega⟩ : Fin 512) (⟨64 * (3 : Fin 4) + d, by omega⟩ : Fin 256)))
    (h30 : ∀ (r : Fin 256) (d : Fin 64), w30 (ix2 r d) = G (ix2 (⟨0 + r, by omega⟩ : Fin 512) (⟨64 * (3 : Fin 4) + d, by omega⟩ : Fin 256)))
    (h21 : ∀ (r : Fin 256) (d : Fin 64), w21 (ix2 r d) = G (ix2 (⟨256 + r, by omega⟩ : Fin 512) (⟨64 * (2 : Fin 4) + d, by omega⟩ : Fin 256)))
    (h20 : ∀ (r : Fin 256) (d : Fin 64), w20 (ix2 r d) = G (ix2 (⟨0 + r, by omega⟩ : Fin 512) (⟨64 * (2 : Fin 4) + d, by omega⟩ : Fin 256)))
    (h11 : ∀ (r : Fin 256) (d : Fin 64), w11 (ix2 r d) = G (ix2 (⟨256 + r, by omega⟩ : Fin 512) (⟨64 * (1 : Fin 4) + d, by omega⟩ : Fin 256)))
    (h10 : ∀ (r : Fin 256) (d : Fin 64), w10 (ix2 r d) = G (ix2 (⟨0 + r, by omega⟩ : Fin 512) (⟨64 * (1 : Fin 4) + d, by omega⟩ : Fin 256)))
    (h01 : ∀ (r : Fin 256) (d : Fin 64), w01 (ix2 r d) = G (ix2 (⟨256 + r, by omega⟩ : Fin 512) (⟨64 * (0 : Fin 4) + d, by omega⟩ : Fin 256)))
    (h00 : ∀ (r : Fin 256) (d : Fin 64), w00 (ix2 r d) = G (ix2 (⟨0 + r, by omega⟩ : Fin 512) (⟨64 * (0 : Fin 4) + d, by omega⟩ : Fin 256))) :
    View.canon [(⟨Rect.unit (s := S512x256) ![256, 192] S256x64.size i31, w31⟩ : View.Piece (Elt Ideal) S512x256 .f32),
      ⟨Rect.unit (s := S512x256) ![0, 192] S256x64.size i30, w30⟩,
      ⟨Rect.unit (s := S512x256) ![256, 128] S256x64.size i21, w21⟩,
      ⟨Rect.unit (s := S512x256) ![0, 128] S256x64.size i20, w20⟩,
      ⟨Rect.unit (s := S512x256) ![256, 64] S256x64.size i11, w11⟩,
      ⟨Rect.unit (s := S512x256) ![0, 64] S256x64.size i10, w10⟩,
      ⟨Rect.unit (s := S512x256) ![256, 0] S256x64.size i01, w01⟩,
      ⟨Rect.unit (s := S512x256) ![0, 0] S256x64.size i00, w00⟩] = G := by
  refine canon_out G (fun h z => (![![w00, w01], ![w10, w11], ![w20, w21], ![w30, w31]] : Fin 4 → Fin 2 → _) h z) i31 i30 i21 i20 i11 i10 i01 i00 ?_
  intro h z r l
  match h, z with
  | 0, 0 => exact h00 r l
  | 0, 1 => exact h01 r l
  | 1, 0 => exact h10 r l
  | 1, 1 => exact h11 r l
  | 2, 0 => exact h20 r l
  | 2, 1 => exact h21 r l
  | 3, 0 => exact h30 r l
  | 3, 1 => exact h31 r l

/-! ## The stored blocks and the loaded ones, at a position -/

theorem cast_at (v : FVec Ideal S256x128 .f32) (hc) (r : Fin 256) (l : Fin 128) :
    shapeCast S1x256x128 v hc (ix3 0 r l) = v (ix2 r l) := by
  pointwise

theorem load_at (v : FVec Ideal S1x256x128 .f32) (hc) (r : Fin 256) (l : Fin 128) :
    shapeCast S256x128 v hc (ix2 r l) = v (ix3 0 r l) := by
  pointwise

/-- What a step loads of the running maximum it was handed. -/
theorem prev0_at (h : Fin 4) (r0 : ℕ) (hr : r0 + 256 ≤ 512) (off : Fin 3 → ℕ) (ho : off = ![(h : ℕ), r0, 0]) (i) (hc)
    (xa : S4x512x128.Idx → Elt Ideal .f32) (r : Fin 256) (l : Fin 128) :
    shapeCast S256x128 (View.readAt (Elt Ideal) scM0_0.view (Rect.unit (s := S4x512x128) off S1x256x128.size i).toLoadRect xa : FVec Ideal S1x256x128 .f32) hc (ix2 r l)
      = xa (ix3 h (⟨r0 + r, by omega⟩ : Fin 512) l) := by
  subst ho
  rw [load_at]
  show xa _ = _
  refine congrArg xa (funext fun a => Fin.ext ?_)
  fin_cases a <;> simp [Rect.unit, Rect.toLoadRect, LoadRect.idx]

/-- What a step loads of the weighted sum it was handed. -/
theorem prev1_at (h : Fin 4) (r0 : ℕ) (hr : r0 + 256 ≤ 512) (off : Fin 3 → ℕ) (ho : off = ![(h : ℕ), r0, 0]) (i) (hc)
    (xa : S4x512x128.Idx → Elt Ideal .f32) (r : Fin 256) (l : Fin 128) :
    shapeCast S256x128 (View.readAt (Elt Ideal) scM0_1.view (Rect.unit (s := S4x512x128) off S1x256x128.size i).toLoadRect xa : FVec Ideal S1x256x128 .f32) hc (ix2 r l)
      = xa (ix3 h (⟨r0 + r, by omega⟩ : Fin 512) l) := by
  subst ho
  rw [load_at]
  show xa _ = _
  refine congrArg xa (funext fun a => Fin.ext ?_)
  fin_cases a <;> simp [Rect.unit, Rect.toLoadRect, LoadRect.idx]

/-- A tile of the result. -/
theorem out_new (h : Fin 4) (r0 : ℕ) (hr : r0 + 256 ≤ 512) (A : FVec Ideal S256x128 .f32) (ACC : S4x512x128.Idx → EReal)
    (hA : ∀ (r : Fin 256) (l : Fin 128), A (ix2 r l) = ACC (ix3 h (⟨r0 + r, by omega⟩ : Fin 512) l)) (r : Fin 256) (d : Fin 64) :
    outC A (ix2 r d) = newOut ACC (ix2 (⟨r0 + r, by omega⟩ : Fin 512) (⟨64 * h + d, by omega⟩ : Fin 256)) := by
  rw [outC_at, hA, hA]
  show _ = newOutAt ACC (⟨r0 + r, by omega⟩ : Fin 512) (⟨64 * h + d, by omega⟩ : Fin 256)
  unfold newOutAt
  have e1 : (⟨(64 * (h : ℕ) + d) / 64, by omega⟩ : Fin 4) = h := Fin.ext (by show (64 * (h : ℕ) + d) / 64 = h; omega)
  have e2 : (⟨(64 * (h : ℕ) + d) % 64, by omega⟩ : Fin 128) = ⟨d, by omega⟩ := Fin.ext (by show (64 * (h : ℕ) + d) % 64 = d; omega)
  rw [e1, e2]

theorem pay1_at (y : S4x512x128.Idx) : (k0_pay1 : FVec Ideal S4x512x128 .f32) y = (⊥ : EReal) := rfl

theorem pay2_at (y : S4x512x128.Idx) : (k0_pay2 : FVec Ideal S4x512x128 .f32) y = (0 : EReal) := by
  show Ideal.ofBits .f32 0x00000000#32 = 0
  simp [Ideal.ofBits, Ideal.ieee]

/-- What the first step of a row of blocks loads of the running maximum, filled with −∞. -/
theorem init0_at (h : Fin 4) (r0 : ℕ) (hr : r0 + 256 ≤ 512) (off : Fin 3 → ℕ) (i) (hc) (i0) (r : Fin 256) (l : Fin 128) :
    shapeCast S256x128 (View.readCov (Val := Elt Ideal) scM0_0.view [⟨Rect.unit (s := S4x512x128) ![0, 0, 0] S4x512x128.size i0, (k0_pay1 : FVec Ideal S4x512x128 .f32)⟩]
      (Rect.unit (s := S4x512x128) off S1x256x128.size i).toLoadRect : FVec Ideal S1x256x128 .f32) hc (ix2 r l) = (fun _ => (⊥ : EReal)) (ix3 h (⟨r0 + r, by omega⟩ : Fin 512) l) := by
  rw [load_at, View.readCov_eq_canon', View.canon_cons_unit_lit _ _ _ (by intro a; fin_cases a <;> rfl)]
  exact pay1_at _

/-- What the first step of a row of blocks loads of the weighted sum, filled with zeros. -/
theorem init1_at (h : Fin 4) (r0 : ℕ) (hr : r0 + 256 ≤ 512) (off : Fin 3 → ℕ) (i) (hc) (i0) (r : Fin 256) (l : Fin 128) :
    shapeCast S256x128 (View.readCov (Val := Elt Ideal) scM0_1.view [⟨Rect.unit (s := S4x512x128) ![0, 0, 0] S4x512x128.size i0, (k0_pay2 : FVec Ideal S4x512x128 .f32)⟩]
      (Rect.unit (s := S4x512x128) off S1x256x128.size i).toLoadRect : FVec Ideal S1x256x128 .f32) hc (ix2 r l) = (fun _ => (0 : EReal)) (ix3 h (⟨r0 + r, by omega⟩ : Fin 512) l) := by
  rw [load_at, View.readCov_eq_canon', View.canon_cons_unit_lit _ _ _ (by intro a; fin_cases a <;> rfl)]
  exact pay2_at _

end Cert.KernelIdeal.Attn

end
-- ==== Proof.FlashSplit.lean ====
/- One chain of a diagonal step, the lower half of head 1: the same values as in the other chains, cut into other parts. -/
module

public import proofs.«01_k».proof.Proof.FlashStep

@[expose] public section

set_option maxRecDepth 16384

noncomputable section

namespace Cert.KernelIdeal.Attn

open Cert.KernelIdeal Cert.KernelIdeal.Gen
open Idealize.ShloMosaic Idealize.ShloMosaic.TcCoe Idealize.SL.Sem

theorem mask11 (v : FVec Ideal S256x512 .f32) : k0_pay110 v = maskW v := rfl

theorem col11 (v : FVec Ideal S256x512 .f32) : k0_pay111 v = shapeCast S256x1
    (multiReduction .maximumf [1] S256 (maskW v) 0xFF800000#32 reduces_S256x512_S256 (.inl rfl) rfl) shapeCasts_S256_S256x1 := by
  unfold k0_pay111; rw [mask11]

theorem top11 (v : FVec Ideal S256x512 .f32) (mp : FVec Ideal S256x128 .f32) : k0_pay112 mp (k0_pay111 v) = topW (maskW v) mp := by
  rw [col11]; rfl

theorem wts11 (v : FVec Ideal S256x512 .f32) (mp : FVec Ideal S256x128 .f32) :
    k0_pay113 mp (k0_pay110 v) (k0_pay111 v) = wtsW (maskW v) (topW (maskW v) mp) := by
  unfold k0_pay113; rw [top11, mask11]; rfl

theorem topX_new (x0 x1 : S512x512.Idx → Elt Ideal .bf16) (h : Fin 4) (r0 : ℕ) (hr : r0 + 256 ≤ 512) (mp : FVec Ideal S256x128 .f32) (MP : S4x512x128.Idx → EReal)
    (hmp : ∀ (r : Fin 256) (l : Fin 128), mp (ix2 r l) = MP (ix3 h (⟨r0 + r, by omega⟩ : Fin 512) l)) (b : Bool) (v : FVec Ideal S256x512 .f32)
    (hs : ∀ (r : Fin 256) (j : Fin 512), (maskW v (ix2 r j) : EReal) = en b x0 x1 h (⟨r0 + r, by omega⟩ : Fin 512) j) (r : Fin 256) (l : Fin 128) :
    k0_pay112 mp (k0_pay111 v) (ix2 r l) = newTop b x0 x1 MP (ix3 h (⟨r0 + r, by omega⟩ : Fin 512) l) := by
  rw [top11]; exact topW_new x0 x1 h r0 hr mp MP hmp b _ hs r l

theorem accX_new (a6 : Memref sig .tc .vmem S512x512 .bf16) (x0 x1 x2 : S512x512.Idx → Elt Ideal .bf16) (h : Fin 4) (c0 : ℕ) (hc : c0 = 128 * (h : ℕ)) (r0 : ℕ) (hr : r0 + 256 ≤ 512) (hv) (mp ap : FVec Ideal S256x128 .f32) (MP AP : S4x512x128.Idx → EReal)
    (hmp : ∀ (r : Fin 256) (l : Fin 128), mp (ix2 r l) = MP (ix3 h (⟨r0 + r, by omega⟩ : Fin 512) l))
    (hap : ∀ (r : Fin 256) (l : Fin 128), ap (ix2 r l) = AP (ix3 h (⟨r0 + r, by omega⟩ : Fin 512) l)) (b : Bool) (v : FVec Ideal S256x512 .f32)
    (hs : ∀ (r : Fin 256) (j : Fin 512), (maskW v (ix2 r j) : EReal) = en b x0 x1 h (⟨r0 + r, by omega⟩ : Fin 512) j) (r : Fin 256) (l : Fin 128) :
    accW a6 x2 (k0_pay113 mp (k0_pay110 v) (k0_pay111 v)) mp (k0_pay112 mp (k0_pay111 v)) ap c0 hv (ix2 r l) = newAcc b x0 x1 x2 MP AP (ix3 h (⟨r0 + r, by omega⟩ : Fin 512) l) := by
  rw [wts11, top11]; exact accW_new a6 x0 x1 x2 h c0 hc r0 hr hv mp ap MP AP hmp hap b _ hs r l

end Cert.KernelIdeal.Attn

end
-- ==== Proof.FlashA.lean ====
/- What the first step of a row of blocks leaves, when it is on the diagonal too. -/
module

public import proofs.«01_k».proof.Proof.FlashSplit

@[expose] public section

set_option maxRecDepth 16384

noncomputable section

namespace Cert.KernelIdeal.Attn

open Cert.KernelIdeal Cert.KernelIdeal.Gen
open Idealize.ShloMosaic Idealize.ShloMosaic.TcCoe Idealize.SL.Sem

set_option maxHeartbeats 4000000 in
theorem A_tops (arg4 arg5 : Memref sig .tc .vmem S512x512 .bf16) (x0 x1 : S512x512.Idx → Elt Ideal .bf16) :
    View.canon (kernelRun0_A.sl.HS0_9 arg4 arg5 x0 x1) = newTop true x0 x1 (fun _ => ⊥) := by
  refine canon_scratch8 (newTop true x0 x1 (fun _ => ⊥)) _ _ _ _ _ _ _ _ _ _ _ _ _ _ _ _ _ ?_ ?_ ?_ ?_ ?_ ?_ ?_ ?_
  · exact fun r l => (cast_at _ _ r l).trans (topW_new x0 x1 3 256 (by omega) _ (fun _ => ⊥) (init0_at 3 256 (by omega) _ _ _ _) true _
      (fun r j => maskW_en arg4 arg5 x0 x1 3 384 rfl (by decide) (by decide) r j) r l)
  · exact fun r l => (cast_at _ _ r l).trans (topH_new x0 x1 3 _ (fun _ => ⊥) (init0_at 3 0 (by omega) _ _ _ _) _ (fun r j => maskH_en arg4 arg5 x0 x1 3 384 rfl (by decide) (by decide) r j) r l)
  · exact fun r l => (cast_at _ _ r l).trans (topW_new x0 x1 2 256 (by omega) _ (fun _ => ⊥) (init0_at 2 256 (by omega) _ _ _ _) true _
      (fun r j => maskW_en arg4 arg5 x0 x1 2 256 rfl (by decide) (by decide) r j) r l)
  · exact fun r l => (cast_at _ _ r l).trans (topH_new x0 x1 2 _ (fun _ => ⊥) (init0_at 2 0 (by omega) _ _ _ _) _ (fun r j => maskH_en arg4 arg5 x0 x1 2 256 rfl (by decide) (by decide) r j) r l)
  · exact fun r l => (cast_at _ _ r l).trans (topX_new x0 x1 1 256 (by omega) _ (fun _ => ⊥) (init0_at 1 256 (by omega) _ _ _ _) true _
      (fun r j => maskW_en arg4 arg5 x0 x1 1 128 rfl (by decide) (by decide) r j) r l)
  · exact fun r l => (cast_at _ _ r l).trans (topH_new x0 x1 1 _ (fun _ => ⊥) (init0_at 1 0 (by omega) _ _ _ _) _ (fun r j => maskH_en arg4 arg5 x0 x1 1 128 rfl (by decide) (by decide) r j) r l)
  · exact fun r l => (cast_at _ _ r l).trans (topW_new x0 x1 0 256 (by omega) _ (fun _ => ⊥) (init0_at 0 256 (by omega) _ _ _ _) true _
      (fun r j => maskW_en arg4 arg5 x0 x1 0 0 rfl (by decide) (by decide) r j) r l)
  · exact fun r l => (cast_at _ _ r l).trans (topH_new x0 x1 0 _ (fun _ => ⊥) (init0_at 0 0 (by omega) _ _ _ _) _ (fun r j => maskH_en arg4 arg5 x0 x1 0 0 rfl (by decide) (by decide) r j) r l)

set_option maxHeartbeats 4000000 in
theorem A_accs (arg4 arg5 arg6 : Memref sig .tc .vmem S512x512 .bf16) (x0 x1 x2 : S512x512.Idx → Elt Ideal .bf16) :
    View.canon (kernelRun0_A.sl.HS1_9 arg4 arg5 arg6 x0 x1 x2) = newAcc true x0 x1 x2 (fun _ => ⊥) (fun _ => 0) := by
  refine canon_scratch8 (newAcc true x0 x1 x2 (fun _ => ⊥) (fun _ => 0)) _ _ _ _ _ _ _ _ _ _ _ _ _ _ _ _ _ ?_ ?_ ?_ ?_ ?_ ?_ ?_ ?_
  · exact fun r l => (cast_at _ _ r l).trans (accW_new arg6 x0 x1 x2 3 384 rfl 256 (by omega) (by decide) _ _ (fun _ => ⊥) (fun _ => 0) (init0_at 3 256 (by omega) _ _ _ _) (init1_at 3 256 (by omega) _ _ _ _) true _
      (fun r j => maskW_en arg4 arg5 x0 x1 3 384 rfl (by decide) (by decide) r j) r l)
  · exact fun r l => (cast_at _ _ r l).trans (accH_new arg6 x0 x1 x2 3 384 rfl (by decide) _ _ (fun _ => ⊥) (fun _ => 0) (init0_at 3 0 (by omega) _ _ _ _) (init1_at 3 0 (by omega) _ _ _ _) _
      (fun r j => maskH_en arg4 arg5 x0 x1 3 384 rfl (by decide) (by decide) r j) r l)
  · exact fun r l => (cast_at _ _ r l).trans (accW_new arg6 x0 x1 x2 2 256 rfl 256 (by omega) (by decide) _ _ (fun _ => ⊥) (fun _ => 0) (init0_at 2 256 (by omega) _ _ _ _) (init1_at 2 256 (by omega) _ _ _ _) true _
      (fun r j => maskW_en arg4 arg5 x0 x1 2 256 rfl (by decide) (by decide) r j) r l)
  · exact fun r l => (cast_at _ _ r l).trans (accH_new arg6 x0 x1 x2 2 256 rfl (by decide) _ _ (fun _ => ⊥) (fun _ => 0) (init0_at 2 0 (by omega) _ _ _ _) (init1_at 2 0 (by omega) _ _ _ _) _
      (fun r j => maskH_en arg4 arg5 x0 x1 2 256 rfl (by decide) (by decide) r j) r l)
  · exact fun r l => (cast_at _ _ r l).trans (accX_new arg6 x0 x1 x2 1 128 rfl 256 (by omega) (by decide) _ _ (fun _ => ⊥) (fun _ => 0) (init0_at 1 256 (by omega) _ _ _ _) (init1_at 1 256 (by omega) _ _ _ _) true _
      (fun r j => maskW_en arg4 arg5 x0 x1 1 128 rfl (by decide) (by decide) r j) r l)
  · exact fun r l => (cast_at _ _ r l).trans (accH_new arg6 x0 x1 x2 1 128 rfl (by decide) _ _ (fun _ => ⊥) (fun _ => 0) (init0_at 1 0 (by omega) _ _ _ _) (init1_at 1 0 (by omega) _ _ _ _) _
      (fun r j => maskH_en arg4 arg5 x0 x1 1 128 rfl (by decide) (by decide) r j) r l)
  · exact fun r l => (cast_at _ _ r l).trans (accW_new arg6 x0 x1 x2 0 0 rfl 256 (by omega) (by decide) _ _ (fun _ => ⊥) (fun _ => 0) (init0_at 0 256 (by omega) _ _ _ _) (init1_at 0 256 (by omega) _ _ _ _) true _
      (fun r j => maskW_en arg4 arg5 x0 x1 0 0 rfl (by decide) (by decide) r j) r l)
  · exact fun r l => (cast_at _ _ r l).trans (accH_new arg6 x0 x1 x2 0 0 rfl (by decide) _ _ (fun _ => ⊥) (fun _ => 0) (init0_at 0 0 (by omega) _ _ _ _) (init1_at 0 0 (by omega) _ _ _ _) _
      (fun r j => maskH_en arg4 arg5 x0 x1 0 0 rfl (by decide) (by decide) r j) r l)

set_option maxHeartbeats 4000000 in
theorem A_outs (arg4 arg5 arg6 : Memref sig .tc .vmem S512x512 .bf16) (x0 x1 x2 : S512x512.Idx → Elt Ideal .bf16) :
    View.canon (kernelRun0_A.sl.HO3_8 arg4 arg5 arg6 x0 x1 x2) = newOut (newAcc true x0 x1 x2 (fun _ => ⊥) (fun _ => 0)) := by
  refine canon_out8 (newOut (newAcc true x0 x1 x2 (fun _ => ⊥) (fun _ => 0))) _ _ _ _ _ _ _ _ _ _ _ _ _ _ _ _ ?_ ?_ ?_ ?_ ?_ ?_ ?_ ?_
  · exact fun r d => out_new 3 256 (by omega) _ (newAcc true x0 x1 x2 (fun _ => ⊥) (fun _ => 0)) (accW_new arg6 x0 x1 x2 3 384 rfl 256 (by omega) (by decide) _ _ (fun _ => ⊥) (fun _ => 0) (init0_at 3 256 (by omega) _ _ _ _) (init1_at 3 256 (by omega) _ _ _ _) true _
      (fun r j => maskW_en arg4 arg5 x0 x1 3 384 rfl (by decide) (by decide) r j)) r d
  · exact fun r d => out_new 3 0 (by omega) _ (newAcc true x0 x1 x2 (fun _ => ⊥) (fun _ => 0)) (accH_new arg6 x0 x1 x2 3 384 rfl (by decide) _ _ (fun _ => ⊥) (fun _ => 0) (init0_at 3 0 (by omega) _ _ _ _) (init1_at 3 0 (by omega) _ _ _ _) _
      (fun r j => maskH_en arg4 arg5 x0 x1 3 384 rfl (by decide) (by decide) r j)) r d
  · exact fun r d => out_new 2 256 (by omega) _ (newAcc true x0 x1 x2 (fun _ => ⊥) (fun _ => 0)) (accW_new arg6 x0 x1 x2 2 256 rfl 256 (by omega) (by decide) _ _ (fun _ => ⊥) (fun _ => 0) (init0_at 2 256 (by omega) _ _ _ _) (init1_at 2 256 (by omega) _ _ _ _) true _
      (fun r j => maskW_en arg4 arg5 x0 x1 2 256 rfl (by decide) (by decide) r j)) r d
  · exact fun r d => out_new 2 0 (by omega) _ (newAcc true x0 x1 x2 (fun _ => ⊥) (fun _ => 0)) (accH_new arg6 x0 x1 x2 2 256 rfl (by decide) _ _ (fun _ => ⊥) (fun _ => 0) (init0_at 2 0 (by omega) _ _ _ _) (init1_at 2 0 (by omega) _ _ _ _) _
      (fun r j => maskH_en arg4 arg5 x0 x1 2 256 rfl (by decide) (by decide) r j)) r d
  · exact fun r d => out_new 1 256 (by omega) _ (newAcc true x0 x1 x2 (fun _ => ⊥) (fun _ => 0)) (accX_new arg6 x0 x1 x2 1 128 rfl 256 (by omega) (by decide) _ _ (fun _ => ⊥) (fun _ => 0) (init0_at 1 256 (by omega) _ _ _ _) (init1_at 1 256 (by omega) _ _ _ _) true _
      (fun r j => maskW_en arg4 arg5 x0 x1 1 128 rfl (by decide) (by decide) r j)) r d
  · exact fun r d => out_new 1 0 (by omega) _ (newAcc true x0 x1 x2 (fun _ => ⊥) (fun _ => 0)) (accH_new arg6 x0 x1 x2 1 128 rfl (by decide) _ _ (fun _ => ⊥) (fun _ => 0) (init0_at 1 0 (by omega) _ _ _ _) (init1_at 1 0 (by omega) _ _ _ _) _
      (fun r j => maskH_en arg4 arg5 x0 x1 1 128 rfl (by decide) (by decide) r j)) r d
  · exact fun r d => out_new 0 256 (by omega) _ (newAcc true x0 x1 x2 (fun _ => ⊥) (fun _ => 0)) (accW_new arg6 x0 x1 x2 0 0 rfl 256 (by omega) (by decide) _ _ (fun _ => ⊥) (fun _ => 0) (init0_at 0 256 (by omega) _ _ _ _) (init1_at 0 256 (by omega) _ _ _ _) true _
      (fun r j => maskW_en arg4 arg5 x0 x1 0 0 rfl (by decide) (by decide) r j)) r d
  · exact fun r d => out_new 0 0 (by omega) _ (newAcc true x0 x1 x2 (fun _ => ⊥) (fun _ => 0)) (accH_new arg6 x0 x1 x2 0 0 rfl (by decide) _ _ (fun _ => ⊥) (fun _ => 0) (init0_at 0 0 (by omega) _ _ _ _) (init1_at 0 0 (by omega) _ _ _ _) _
      (fun r j => maskH_en arg4 arg5 x0 x1 0 0 rfl (by decide) (by decide) r j)) r d

end Cert.KernelIdeal.Attn

end
-- ==== Proof.FlashB.lean ====
/- What the first step of a row of blocks leaves, when it is not on the diagonal. -/
module

public import proofs.«01_k».proof.Proof.FlashStep

@[expose] public section

set_option maxRecDepth 16384

noncomputable section

namespace Cert.KernelIdeal.Attn

open Cert.KernelIdeal Cert.KernelIdeal.Gen
open Idealize.ShloMosaic Idealize.ShloMosaic.TcCoe Idealize.SL.Sem

theorem B_tops (arg4 arg5 : Memref sig .tc .vmem S512x512 .bf16) (x0 x1 : S512x512.Idx → Elt Ideal .bf16) :
    View.canon (kernelRun0_B.sl.HS0_9 arg4 arg5 x0 x1) = newTop false x0 x1 (fun _ => ⊥) := by
  refine canon_scratch8 (newTop false x0 x1 (fun _ => ⊥)) _ _ _ _ _ _ _ _ _ _ _ _ _ _ _ _ _ ?_ ?_ ?_ ?_ ?_ ?_ ?_ ?_
  · exact fun r l => (cast_at _ _ r l).trans (topW_new x0 x1 3 256 (by omega) _ (fun _ => ⊥) (init0_at 3 256 (by omega) _ _ _ _) false _
      (fun r j => scoreW_en arg4 arg5 x0 x1 3 384 rfl 256 (by omega) (by decide) (by decide) r j) r l)
  · exact fun r l => (cast_at _ _ r l).trans (topW_new x0 x1 3 0 (by omega) _ (fun _ => ⊥) (init0_at 3 0 (by omega) _ _ _ _) false _
      (fun r j => scoreW_en arg4 arg5 x0 x1 3 384 rfl 0 (by omega) (by decide) (by decide) r j) r l)
  · exact fun r l => (cast_at _ _ r l).trans (topW_new x0 x1 2 256 (by omega) _ (fun _ => ⊥) (init0_at 2 256 (by omega) _ _ _ _) false _
      (fun r j => scoreW_en arg4 arg5 x0 x1 2 256 rfl 256 (by omega) (by decide) (by decide) r j) r l)
  · exact fun r l => (cast_at _ _ r l).trans (topW_new x0 x1 2 0 (by omega) _ (fun _ => ⊥) (init0_at 2 0 (by omega) _ _ _ _) false _
      (fun r j => scoreW_en arg4 arg5 x0 x1 2 256 rfl 0 (by omega) (by decide) (by decide) r j) r l)
  · exact fun r l => (cast_at _ _ r l).trans (topW_new x0 x1 1 256 (by omega) _ (fun _ => ⊥) (init0_at 1 256 (by omega) _ _ _ _) false _
      (fun r j => scoreW_en arg4 arg5 x0 x1 1 128 rfl 256 (by omega) (by decide) (by decide) r j) r l)
  · exact fun r l => (cast_at _ _ r l).trans (topW_new x0 x1 1 0 (by omega) _ (fun _ => ⊥) (init0_at 1 0 (by omega) _ _ _ _) false _
      (fun r j => scoreW_en arg4 arg5 x0 x1 1 128 rfl 0 (by omega) (by decide) (by decide) r j) r l)
  · exact fun r l => (cast_at _ _ r l).trans (topW_new x0 x1 0 256 (by omega) _ (fun _ => ⊥) (init0_at 0 256 (by omega) _ _ _ _) false _
      (fun r j => scoreW_en arg4 arg5 x0 x1 0 0 rfl 256 (by omega) (by decide) (by decide) r j) r l)
  · exact fun r l => (cast_at _ _ r l).trans (topW_new x0 x1 0 0 (by omega) _ (fun _ => ⊥) (init0_at 0 0 (by omega) _ _ _ _) false _
      (fun r j => scoreW_en arg4 arg5 x0 x1 0 0 rfl 0 (by omega) (by decide) (by decide) r j) r l)

theorem B_accs (arg4 arg5 arg6 : Memref sig .tc .vmem S512x512 .bf16) (x0 x1 x2 : S512x512.Idx → Elt Ideal .bf16) :
    View.canon (kernelRun0_B.sl.HS1_9 arg4 arg5 arg6 x0 x1 x2) = newAcc false x0 x1 x2 (fun _ => ⊥) (fun _ => 0) := by
  refine canon_scratch8 (newAcc false x0 x1 x2 (fun _ => ⊥) (fun _ => 0)) _ _ _ _ _ _ _ _ _ _ _ _ _ _ _ _ _ ?_ ?_ ?_ ?_ ?_ ?_ ?_ ?_
  · exact fun r l => (cast_at _ _ r l).trans (accW_new arg6 x0 x1 x2 3 384 rfl 256 (by omega) (by decide) _ _ (fun _ => ⊥) (fun _ => 0) (init0_at 3 256 (by omega) _ _ _ _) (init1_at 3 256 (by omega) _ _ _ _) false _
      (fun r j => scoreW_en arg4 arg5 x0 x1 3 384 rfl 256 (by omega) (by decide) (by decide) r j) r l)
  · exact fun r l => (cast_at _ _ r l).trans (accW_new arg6 x0 x1 x2 3 384 rfl 0 (by omega) (by decide) _ _ (fun _ => ⊥) (fun _ => 0) (init0_at 3 0 (by omega) _ _ _ _) (init1_at 3 0 (by omega) _ _ _ _) false _
      (fun r j => scoreW_en arg4 arg5 x0 x1 3 384 rfl 0 (by omega) (by decide) (by decide) r j) r l)
  · exact fun r l => (cast_at _ _ r l).trans (accW_new arg6 x0 x1 x2 2 256 rfl 256 (by omega) (by decide) _ _ (fun _ => ⊥) (fun _ => 0) (init0_at 2 256 (by omega) _ _ _ _) (init1_at 2 256 (by omega) _ _ _ _) false _
      (fun r j => scoreW_en arg4 arg5 x0 x1 2 256 rfl 256 (by omega) (by decide) (by decide) r j) r l)
  · exact fun r l => (cast_at _ _ r l).trans (accW_new arg6 x0 x1 x2 2 256 rfl 0 (by omega) (by decide) _ _ (fun _ => ⊥) (fun _ => 0) (init0_at 2 0 (by omega) _ _ _ _) (init1_at 2 0 (by omega) _ _ _ _) false _
      (fun r j => scoreW_en arg4 arg5 x0 x1 2 256 rfl 0 (by omega) (by decide) (by decide) r j) r l)
  · exact fun r l => (cast_at _ _ r l).trans (accW_new arg6 x0 x1 x2 1 128 rfl 256 (by omega) (by decide) _ _ (fun _ => ⊥) (fun _ => 0) (init0_at 1 256 (by omega) _ _ _ _) (init1_at 1 256 (by omega) _ _ _ _) false _
      (fun r j => scoreW_en arg4 arg5 x0 x1 1 128 rfl 256 (by omega) (by decide) (by decide) r j) r l)
  · exact fun r l => (cast_at _ _ r l).trans (accW_new arg6 x0 x1 x2 1 128 rfl 0 (by omega) (by decide) _ _ (fun _ => ⊥) (fun _ => 0) (init0_at 1 0 (by omega) _ _ _ _) (init1_at 1 0 (by omega) _ _ _ _) false _
      (fun r j => scoreW_en arg4 arg5 x0 x1 1 128 rfl 0 (by omega) (by decide) (by decide) r j) r l)
  · exact fun r l => (cast_at _ _ r l).trans (accW_new arg6 x0 x1 x2 0 0 rfl 256 (by omega) (by decide) _ _ (fun _ => ⊥) (fun _ => 0) (init0_at 0 256 (by omega) _ _ _ _) (init1_at 0 256 (by omega) _ _ _ _) false _
      (fun r j => scoreW_en arg4 arg5 x0 x1 0 0 rfl 256 (by omega) (by decide) (by decide) r j) r l)
  · exact fun r l => (cast_at _ _ r l).trans (accW_new arg6 x0 x1 x2 0 0 rfl 0 (by omega) (by decide) _ _ (fun _ => ⊥) (fun _ => 0) (init0_at 0 0 (by omega) _ _ _ _) (init1_at 0 0 (by omega) _ _ _ _) false _
      (fun r j => scoreW_en arg4 arg5 x0 x1 0 0 rfl 0 (by omega) (by decide) (by decide) r j) r l)

end Cert.KernelIdeal.Attn

end
-- ==== Proof.FlashC.lean ====
/- What a diagonal step leaves that is not the first of its row of blocks. -/
module

public import proofs.«01_k».proof.Proof.FlashSplit

@[expose] public section

set_option maxRecDepth 16384

noncomputable section

namespace Cert.KernelIdeal.Attn

open Cert.KernelIdeal Cert.KernelIdeal.Gen
open Idealize.ShloMosaic Idealize.ShloMosaic.TcCoe Idealize.SL.Sem

set_option maxHeartbeats 4000000 in
theorem C_tops (c : Dev nD) (arg4 arg5 : Memref sig .tc .vmem S512x512 .bf16) (x0 x1 : S512x512.Idx → Elt Ideal .bf16) (xa0 : S4x512x128.Idx → Elt Ideal .f32) :
    View.canon (kernelRun0_C.sl.HS0_8 c arg4 arg5 x0 x1 xa0) = newTop true x0 x1 xa0 := by
  refine canon_scratch8 (newTop true x0 x1 xa0) _ _ _ _ _ _ _ _ _ _ _ _ _ _ _ _ _ ?_ ?_ ?_ ?_ ?_ ?_ ?_ ?_
  · exact fun r l => (cast_at _ _ r l).trans (topW_new x0 x1 3 256 (by omega) _ xa0 (prev0_at 3 256 (by omega) _ rfl _ _ xa0) true _
      (fun r j => maskW_en arg4 arg5 x0 x1 3 384 rfl (by decide) (by decide) r j) r l)
  · exact fun r l => (cast_at _ _ r l).trans (topH_new x0 x1 3 _ xa0 (prev0_at 3 0 (by omega) _ rfl _ _ xa0) _ (fun r j => maskH_en arg4 arg5 x0 x1 3 384 rfl (by decide) (by decide) r j) r l)
  · exact fun r l => (cast_at _ _ r l).trans (topW_new x0 x1 2 256 (by omega) _ xa0 (prev0_at 2 256 (by omega) _ rfl _ _ xa0) true _
      (fun r j => maskW_en arg4 arg5 x0 x1 2 256 rfl (by decide) (by decide) r j) r l)
  · exact fun r l => (cast_at _ _ r l).trans (topH_new x0 x1 2 _ xa0 (prev0_at 2 0 (by omega) _ rfl _ _ xa0) _ (fun r j => maskH_en arg4 arg5 x0 x1 2 256 rfl (by decide) (by decide) r j) r l)
  · exact fun r l => (cast_at _ _ r l).trans (topX_new x0 x1 1 256 (by omega) _ xa0 (prev0_at 1 256 (by omega) _ rfl _ _ xa0) true _
      (fun r j => maskW_en arg4 arg5 x0 x1 1 128 rfl (by decide) (by decide) r j) r l)
  · exact fun r l => (cast_at _ _ r l).trans (topH_new x0 x1 1 _ xa0 (prev0_at 1 0 (by omega) _ rfl _ _ xa0) _ (fun r j => maskH_en arg4 arg5 x0 x1 1 128 rfl (by decide) (by decide) r j) r l)
  · exact fun r l => (cast_at _ _ r l).trans (topW_new x0 x1 0 256 (by omega) _ xa0 (prev0_at 0 256 (by omega) _ rfl _ _ xa0) true _
      (fun r j => maskW_en arg4 arg5 x0 x1 0 0 rfl (by decide) (by decide) r j) r l)
  · exact fun r l => (cast_at _ _ r l).trans (topH_new x0 x1 0 _ xa0 (prev0_at 0 0 (by omega) _ rfl _ _ xa0) _ (fun r j => maskH_en arg4 arg5 x0 x1 0 0 rfl (by decide) (by decide) r j) r l)

set_option maxHeartbeats 4000000 in
theorem C_accs (c : Dev nD) (arg4 arg5 arg6 : Memref sig .tc .vmem S512x512 .bf16) (x0 x1 x2 : S512x512.Idx → Elt Ideal .bf16) (xa0 xa1 : S4x512x128.Idx → Elt Ideal .f32) :
    View.canon (kernelRun0_C.sl.HS1_8 c arg4 arg5 arg6 x0 x1 x2 xa0 xa1) = newAcc true x0 x1 x2 xa0 xa1 := by
  refine canon_scratch8 (newAcc true x0 x1 x2 xa0 xa1) _ _ _ _ _ _ _ _ _ _ _ _ _ _ _ _ _ ?_ ?_ ?_ ?_ ?_ ?_ ?_ ?_
  · exact fun r l => (cast_at _ _ r l).trans (accW_new arg6 x0 x1 x2 3 384 rfl 256 (by omega) (by decide) _ _ xa0 xa1 (prev0_at 3 256 (by omega) _ rfl _ _ xa0) (prev1_at 3 256 (by omega) _ rfl _ _ xa1) true _
      (fun r j => maskW_en arg4 arg5 x0 x1 3 384 rfl (by decide) (by decide) r j) r l)
  · exact fun r l => (cast_at _ _ r l).trans (accH_new arg6 x0 x1 x2 3 384 rfl (by decide) _ _ xa0 xa1 (prev0_at 3 0 (by omega) _ rfl _ _ xa0) (prev1_at 3 0 (by omega) _ rfl _ _ xa1) _
      (fun r j => maskH_en arg4 arg5 x0 x1 3 384 rfl (by decide) (by decide) r j) r l)
  · exact fun r l => (cast_at _ _ r l).trans (accW_new arg6 x0 x1 x2 2 256 rfl 256 (by omega) (by decide) _ _ xa0 xa1 (prev0_at 2 256 (by omega) _ rfl _ _ xa0) (prev1_at 2 256 (by omega) _ rfl _ _ xa1) true _
      (fun r j => maskW_en arg4 arg5 x0 x1 2 256 rfl (by decide) (by decide) r j) r l)
  · exact fun r l => (cast_at _ _ r l).trans (accH_new arg6 x0 x1 x2 2 256 rfl (by decide) _ _ xa0 xa1 (prev0_at 2 0 (by omega) _ rfl _ _ xa0) (prev1_at 2 0 (by omega) _ rfl _ _ xa1) _
      (fun r j => maskH_en arg4 arg5 x0 x1 2 256 rfl (by decide) (by decide) r j) r l)
  · exact fun r l => (cast_at _ _ r l).trans (accX_new arg6 x0 x1 x2 1 128 rfl 256 (by omega) (by decide) _ _ xa0 xa1 (prev0_at 1 256 (by omega) _ rfl _ _ xa0) (prev1_at 1 256 (by omega) _ rfl _ _ xa1) true _
      (fun r j => maskW_en arg4 arg5 x0 x1 1 128 rfl (by decide) (by decide) r j) r l)
  · exact fun r l => (cast_at _ _ r l).trans (accH_new arg6 x0 x1 x2 1 128 rfl (by decide) _ _ xa0 xa1 (prev0_at 1 0 (by omega) _ rfl _ _ xa0) (prev1_at 1 0 (by omega) _ rfl _ _ xa1) _
      (fun r j => maskH_en arg4 arg5 x0 x1 1 128 rfl (by decide) (by decide) r j) r l)
  · exact fun r l => (cast_at _ _ r l).trans (accW_new arg6 x0 x1 x2 0 0 rfl 256 (by omega) (by decide) _ _ xa0 xa1 (prev0_at 0 256 (by omega) _ rfl _ _ xa0) (prev1_at 0 256 (by omega) _ rfl _ _ xa1) true _
      (fun r j => maskW_en arg4 arg5 x0 x1 0 0 rfl (by decide) (by decide) r j) r l)
  · exact fun r l => (cast_at _ _ r l).trans (accH_new arg6 x0 x1 x2 0 0 rfl (by decide) _ _ xa0 xa1 (prev0_at 0 0 (by omega) _ rfl _ _ xa0) (prev1_at 0 0 (by omega) _ rfl _ _ xa1) _
      (fun r j => maskH_en arg4 arg5 x0 x1 0 0 rfl (by decide) (by decide) r j) r l)

set_option maxHeartbeats 4000000 in
theorem C_outs (c : Dev nD) (arg4 arg5 arg6 : Memref sig .tc .vmem S512x512 .bf16) (x0 x1 x2 : S512x512.Idx → Elt Ideal .bf16) (xa0 xa1 : S4x512x128.Idx → Elt Ideal .f32) :
    View.canon (kernelRun0_C.sl.HO3_8 c arg4 arg5 arg6 x0 x1 x2 xa0 xa1) = newOut (newAcc true x0 x1 x2 xa0 xa1) := by
  refine canon_out8 (newOut (newAcc true x0 x1 x2 xa0 xa1)) _ _ _ _ _ _ _ _ _ _ _ _ _ _ _ _ ?_ ?_ ?_ ?_ ?_ ?_ ?_ ?_
  · exact fun r d => out_new 3 256 (by omega) _ (newAcc true x0 x1 x2 xa0 xa1) (accW_new arg6 x0 x1 x2 3 384 rfl 256 (by omega) (by decide) _ _ xa0 xa1 (prev0_at 3 256 (by omega) _ rfl _ _ xa0) (prev1_at 3 256 (by omega) _ rfl _ _ xa1) true _
      (fun r j => maskW_en arg4 arg5 x0 x1 3 384 rfl (by decide) (by decide) r j)) r d
  · exact fun r d => out_new 3 0 (by omega) _ (newAcc true x0 x1 x2 xa0 xa1) (accH_new arg6 x0 x1 x2 3 384 rfl (by decide) _ _ xa0 xa1 (prev0_at 3 0 (by omega) _ rfl _ _ xa0) (prev1_at 3 0 (by omega) _ rfl _ _ xa1) _
      (fun r j => maskH_en arg4 arg5 x0 x1 3 384 rfl (by decide) (by decide) r j)) r d
  · exact fun r d => out_new 2 256 (by omega) _ (newAcc true x0 x1 x2 xa0 xa1) (accW_new arg6 x0 x1 x2 2 256 rfl 256 (by omega) (by decide) _ _ xa0 xa1 (prev0_at 2 256 (by omega) _ rfl _ _ xa0) (prev1_at 2 256 (by omega) _ rfl _ _ xa1) true _
      (fun r j => maskW_en arg4 arg5 x0 x1 2 256 rfl (by decide) (by decide) r j)) r d
  · exact fun r d => out_new 2 0 (by omega) _ (newAcc true x0 x1 x2 xa0 xa1) (accH_new arg6 x0 x1 x2 2 256 rfl (by decide) _ _ xa0 xa1 (prev0_at 2 0 (by omega) _ rfl _ _ xa0) (prev1_at 2 0 (by omega) _ rfl _ _ xa1) _
      (fun r j => maskH_en arg4 arg5 x0 x1 2 256 rfl (by decide) (by decide) r j)) r d
  · exact fun r d => out_new 1 256 (by omega) _ (newAcc true x0 x1 x2 xa0 xa1) (accX_new arg6 x0 x1 x2 1 128 rfl 256 (by omega) (by decide) _ _ xa0 xa1 (prev0_at 1 256 (by omega) _ rfl _ _ xa0) (prev1_at 1 256 (by omega) _ rfl _ _ xa1) true _
      (fun r j => maskW_en arg4 arg5 x0 x1 1 128 rfl (by decide) (by decide) r j)) r d
  · exact fun r d => out_new 1 0 (by omega) _ (newAcc true x0 x1 x2 xa0 xa1) (accH_new arg6 x0 x1 x2 1 128 rfl (by decide) _ _ xa0 xa1 (prev0_at 1 0 (by omega) _ rfl _ _ xa0) (prev1_at 1 0 (by omega) _ rfl _ _ xa1) _
      (fun r j => maskH_en arg4 arg5 x0 x1 1 128 rfl (by decide) (by decide) r j)) r d
  · exact fun r d => out_new 0 256 (by omega) _ (newAcc true x0 x1 x2 xa0 xa1) (accW_new arg6 x0 x1 x2 0 0 rfl 256 (by omega) (by decide) _ _ xa0 xa1 (prev0_at 0 256 (by omega) _ rfl _ _ xa0) (prev1_at 0 256 (by omega) _ rfl _ _ xa1) true _
      (fun r j => maskW_en arg4 arg5 x0 x1 0 0 rfl (by decide) (by decide) r j)) r d
  · exact fun r d => out_new 0 0 (by omega) _ (newAcc true x0 x1 x2 xa0 xa1) (accH_new arg6 x0 x1 x2 0 0 rfl (by decide) _ _ xa0 xa1 (prev0_at 0 0 (by omega) _ rfl _ _ xa0) (prev1_at 0 0 (by omega) _ rfl _ _ xa1) _
      (fun r j => maskH_en arg4 arg5 x0 x1 0 0 rfl (by decide) (by decide) r j)) r d

end Cert.KernelIdeal.Attn

end
-- ==== Proof.FlashD.lean ====
/- What a step that is neither the first nor on the diagonal leaves in the running maximum and the weighted sum. -/
module

public import proofs.«01_k».proof.Proof.FlashStep

@[expose] public section

set_option maxRecDepth 16384

noncomputable section

namespace Cert.KernelIdeal.Attn

open Cert.KernelIdeal Cert.KernelIdeal.Gen
open Idealize.ShloMosaic Idealize.ShloMosaic.TcCoe Idealize.SL.Sem

theorem D_tops (c : Dev nD) (arg4 arg5 : Memref sig .tc .vmem S512x512 .bf16) (x0 x1 : S512x512.Idx → Elt Ideal .bf16) (xa0 : S4x512x128.Idx → Elt Ideal .f32) :
    View.canon (kernelRun0_D.sl.HS0_8 c arg4 arg5 x0 x1 xa0) = newTop false x0 x1 xa0 := by
  refine canon_scratch8 (newTop false x0 x1 xa0) [] _ _ _ _ _ _ _ _ _ _ _ _ _ _ _ _ ?_ ?_ ?_ ?_ ?_ ?_ ?_ ?_
  · exact fun r l => (cast_at _ _ r l).trans (topW_new x0 x1 3 256 (by omega) _ xa0 (prev0_at 3 256 (by omega) _ rfl _ _ xa0) false _
      (fun r j => scoreW_en arg4 arg5 x0 x1 3 384 rfl 256 (by omega) (by decide) (by decide) r j) r l)
  · exact fun r l => (cast_at _ _ r l).trans (topW_new x0 x1 3 0 (by omega) _ xa0 (prev0_at 3 0 (by omega) _ rfl _ _ xa0) false _
      (fun r j => scoreW_en arg4 arg5 x0 x1 3 384 rfl 0 (by omega) (by decide) (by decide) r j) r l)
  · exact fun r l => (cast_at _ _ r l).trans (topW_new x0 x1 2 256 (by omega) _ xa0 (prev0_at 2 256 (by omega) _ rfl _ _ xa0) false _
      (fun r j => scoreW_en arg4 arg5 x0 x1 2 256 rfl 256 (by omega) (by decide) (by decide) r j) r l)
  · exact fun r l => (cast_at _ _ r l).trans (topW_new x0 x1 2 0 (by omega) _ xa0 (prev0_at 2 0 (by omega) _ rfl _ _ xa0) false _
      (fun r j => scoreW_en arg4 arg5 x0 x1 2 256 rfl 0 (by omega) (by decide) (by decide) r j) r l)
  · exact fun r l => (cast_at _ _ r l).trans (topW_new x0 x1 1 256 (by omega) _ xa0 (prev0_at 1 256 (by omega) _ rfl _ _ xa0) false _
      (fun r j => scoreW_en arg4 arg5 x0 x1 1 128 rfl 256 (by omega) (by decide) (by decide) r j) r l)
  · exact fun r l => (cast_at _ _ r l).trans (topW_new x0 x1 1 0 (by omega) _ xa0 (prev0_at 1 0 (by omega) _ rfl _ _ xa0) false _
      (fun r j => scoreW_en arg4 arg5 x0 x1 1 128 rfl 0 (by omega) (by decide) (by decide) r j) r l)
  · exact fun r l => (cast_at _ _ r l).trans (topW_new x0 x1 0 256 (by omega) _ xa0 (prev0_at 0 256 (by omega) _ rfl _ _ xa0) false _
      (fun r j => scoreW_en arg4 arg5 x0 x1 0 0 rfl 256 (by omega) (by decide) (by decide) r j) r l)
  · exact fun r l => (cast_at _ _ r l).trans (topW_new x0 x1 0 0 (by omega) _ xa0 (prev0_at 0 0 (by omega) _ rfl _ _ xa0) false _
      (fun r j => scoreW_en arg4 arg5 x0 x1 0 0 rfl 0 (by omega) (by decide) (by decide) r j) r l)

theorem D_accs (c : Dev nD) (arg4 arg5 arg6 : Memref sig .tc .vmem S512x512 .bf16) (x0 x1 x2 : S512x512.Idx → Elt Ideal .bf16) (xa0 xa1 : S4x512x128.Idx → Elt Ideal .f32) :
    View.canon (kernelRun0_D.sl.HS1_8 c arg4 arg5 arg6 x0 x1 x2 xa0 xa1) = newAcc false x0 x1 x2 xa0 xa1 := by
  refine canon_scratch8 (newAcc false x0 x1 x2 xa0 xa1) [] _ _ _ _ _ _ _ _ _ _ _ _ _ _ _ _ ?_ ?_ ?_ ?_ ?_ ?_ ?_ ?_
  · exact fun r l => (cast_at _ _ r l).trans (accW_new arg6 x0 x1 x2 3 384 rfl 256 (by omega) (by decide) _ _ xa0 xa1 (prev0_at 3 256 (by omega) _ rfl _ _ xa0)
      (prev1_at 3 256 (by omega) _ rfl _ _ xa1) false _ (fun r j => scoreW_en arg4 arg5 x0 x1 3 384 rfl 256 (by omega) (by decide) (by decide) r j) r l)
  · exact fun r l => (cast_at _ _ r l).trans (accW_new arg6 x0 x1 x2 3 384 rfl 0 (by omega) (by decide) _ _ xa0 xa1 (prev0_at 3 0 (by omega) _ rfl _ _ xa0)
      (prev1_at 3 0 (by omega) _ rfl _ _ xa1) false _ (fun r j => scoreW_en arg4 arg5 x0 x1 3 384 rfl 0 (by omega) (by decide) (by decide) r j) r l)
  · exact fun r l => (cast_at _ _ r l).trans (accW_new arg6 x0 x1 x2 2 256 rfl 256 (by omega) (by decide) _ _ xa0 xa1 (prev0_at 2 256 (by omega) _ rfl _ _ xa0)
      (prev1_at 2 256 (by omega) _ rfl _ _ xa1) false _ (fun r j => scoreW_en arg4 arg5 x0 x1 2 256 rfl 256 (by omega) (by decide) (by decide) r j) r l)
  · exact fun r l => (cast_at _ _ r l).trans (accW_new arg6 x0 x1 x2 2 256 rfl 0 (by omega) (by decide) _ _ xa0 xa1 (prev0_at 2 0 (by omega) _ rfl _ _ xa0)
      (prev1_at 2 0 (by omega) _ rfl _ _ xa1) false _ (fun r j => scoreW_en arg4 arg5 x0 x1 2 256 rfl 0 (by omega) (by decide) (by decide) r j) r l)
  · exact fun r l => (cast_at _ _ r l).trans (accW_new arg6 x0 x1 x2 1 128 rfl 256 (by omega) (by decide) _ _ xa0 xa1 (prev0_at 1 256 (by omega) _ rfl _ _ xa0)
      (prev1_at 1 256 (by omega) _ rfl _ _ xa1) false _ (fun r j => scoreW_en arg4 arg5 x0 x1 1 128 rfl 256 (by omega) (by decide) (by decide) r j) r l)
  · exact fun r l => (cast_at _ _ r l).trans (accW_new arg6 x0 x1 x2 1 128 rfl 0 (by omega) (by decide) _ _ xa0 xa1 (prev0_at 1 0 (by omega) _ rfl _ _ xa0)
      (prev1_at 1 0 (by omega) _ rfl _ _ xa1) false _ (fun r j => scoreW_en arg4 arg5 x0 x1 1 128 rfl 0 (by omega) (by decide) (by decide) r j) r l)
  · exact fun r l => (cast_at _ _ r l).trans (accW_new arg6 x0 x1 x2 0 0 rfl 256 (by omega) (by decide) _ _ xa0 xa1 (prev0_at 0 256 (by omega) _ rfl _ _ xa0)
      (prev1_at 0 256 (by omega) _ rfl _ _ xa1) false _ (fun r j => scoreW_en arg4 arg5 x0 x1 0 0 rfl 256 (by omega) (by decide) (by decide) r j) r l)
  · exact fun r l => (cast_at _ _ r l).trans (accW_new arg6 x0 x1 x2 0 0 rfl 0 (by omega) (by decide) _ _ xa0 xa1 (prev0_at 0 0 (by omega) _ rfl _ _ xa0)
      (prev1_at 0 0 (by omega) _ rfl _ _ xa1) false _ (fun r j => scoreW_en arg4 arg5 x0 x1 0 0 rfl 0 (by omega) (by decide) (by decide) r j) r l)

end Cert.KernelIdeal.Attn

end
-- ==== Proof.FlashPts.lean ====
/- The grid of the attention: which tiles a point works on, which of the four ways it goes, and its blocks. -/
module

public import proofs.«01_k».proof.Proof.Gen.KernelIdeal.Flash
public import Idealize.ShloMosaic.Lib.Pointwise
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem

/-- The sequence of a point. -/
abbrev seqOf (t : ℕ) : ℕ := t / 136

/-- The query tile of a point, within its sequence. -/
abbrev qOf (t : ℕ) : ℕ := (pinT_0 0 (ix1 (⟨t % 136, Nat.mod_lt _ (by omega)⟩ : Fin 136))).toNat

/-- The key tile of a point, within its sequence. -/
abbrev kOf (t : ℕ) : ℕ := (pinT_1 0 (ix1 (⟨t % 136, Nat.mod_lt _ (by omega)⟩ : Fin 136))).toNat

/-- What is decided of a point. -/
abbrev PtAt (t : Fin (cfgA 0).N) : Prop :=
  (P0_0 0 t ↔ kOf t.val = 0) ∧ (P0_1 0 t ↔ kOf t.val < qOf t.val) ∧ kOf t.val ≤ qOf t.val ∧ qOf t.val < 16 ∧ t.val < 272
    ∧ (kOf t.val ≠ 0 → t.val ≠ 0 ∧ kOf (t.val - 1) + 1 = kOf t.val ∧ qOf (t.val - 1) = qOf t.val ∧ seqOf (t.val - 1) = seqOf t.val)
    ∧ (((cfgA 0).win 0).index t 0 = 16 * seqOf t.val + qOf t.val ∧ ((cfgA 0).win 0).index t 1 = 0)
    ∧ (((cfgA 0).win 1).index t 0 = 16 * seqOf t.val + kOf t.val ∧ ((cfgA 0).win 1).index t 1 = 0)
    ∧ (((cfgA 0).win 2).index t 0 = 16 * seqOf t.val + kOf t.val ∧ ((cfgA 0).win 2).index t 1 = 0)
    ∧ (((cfgA 0).win 3).index t 0 = 16 * seqOf t.val + qOf t.val ∧ ((cfgA 0).win 3).index t 1 = 0)

theorem pts : ∀ t : Fin (cfgA 0).N, PtAt t := by decide +kernel

theorem flush_diag : ∀ t : Fin (cfgA 0).N, ((cfgA 0).win 3).flush t = true → ¬P0_1 0 t := by decide +kernel

end Cert.KernelIdeal.Attn

end
-- ==== Proof.FlashWalk.lean ====
/- What each point of the grid leaves in the running maximum and the weighted sum, and what a diagonal point leaves in the result. -/
module

public import proofs.«01_k».proof.Proof.FlashA
public import proofs.«01_k».proof.Proof.FlashB
public import proofs.«01_k».proof.Proof.FlashC
public import proofs.«01_k».proof.Proof.FlashD
public import proofs.«01_k».proof.Proof.FlashPts

@[expose] public section

set_option maxRecDepth 16384

noncomputable section

namespace Cert.KernelIdeal.Attn

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD) (t : Fin (cfgA 0).N)

/-- The point's block of queries. -/
abbrev Xq : S512x512.Idx → Elt Ideal .bf16 := iblk 0 m ρ c (0 : Fin 4) t
/-- The point's block of keys. -/
abbrev Xk : S512x512.Idx → Elt Ideal .bf16 := iblk 0 m ρ c (1 : Fin 4) t
/-- The point's block of values. -/
abbrev Xv : S512x512.Idx → Elt Ideal .bf16 := iblk 0 m ρ c (2 : Fin 4) t

/-- The running maximum after a point. -/
abbrev tops : S4x512x128.Idx → EReal := (traj0 0 m ρ c t.val t.isLt).2.1
/-- The weighted sum after a point. -/
abbrev accs : S4x512x128.Idx → EReal := (traj0 0 m ρ c t.val t.isLt).2.2
/-- The result's block after a point. -/
abbrev outs : S512x256.Idx → EReal := (traj0 0 m ρ c t.val t.isLt).1

/-- The running maximum before a point. -/
abbrev topsB : S4x512x128.Idx → EReal := (prev0 0 m ρ c t).2.1
/-- The weighted sum before a point. -/
abbrev accsB : S4x512x128.Idx → EReal := (prev0 0 m ρ c t).2.2

theorem walk_D (q0 : ¬P0_0 0 t) (q1 : P0_1 0 t) :
    tops m ρ c t = newTop false (Xq m ρ c t) (Xk m ρ c t) (topsB m ρ c t)
      ∧ accs m ρ c t = newAcc false (Xq m ρ c t) (Xk m ρ c t) (Xv m ρ c t) (topsB m ρ c t) (accsB m ρ c t) := by
  have h := (traj0_eq 0 m ρ c t).trans (step0_D 0 m ρ c t (prev0 0 m ρ c t) q0 q1)
  have h2 := congrArg (fun x => x.2) h
  exact ⟨(congrArg (fun x => x.1) h2).trans ((View.read_writes_junk_eq_canon (View.whole cc0_scratch0) _).trans (D_tops c _ _ _ _ _)),
    (congrArg (fun x => x.2) h2).trans ((View.read_writes_junk_eq_canon (View.whole cc0_scratch1) _).trans (D_accs c _ _ _ _ _ _ _ _))⟩

theorem walk_B (q0 : P0_0 0 t) (q1 : P0_1 0 t) :
    tops m ρ c t = newTop false (Xq m ρ c t) (Xk m ρ c t) (fun _ => ⊥)
      ∧ accs m ρ c t = newAcc false (Xq m ρ c t) (Xk m ρ c t) (Xv m ρ c t) (fun _ => ⊥) (fun _ => 0) := by
  have h := (traj0_eq 0 m ρ c t).trans (step0_B 0 m ρ c t (prev0 0 m ρ c t) q0 q1)
  have h2 := congrArg (fun x => x.2) h
  exact ⟨(congrArg (fun x => x.1) h2).trans ((View.read_writes_junk_eq_canon (View.whole cc0_scratch0) _).trans (B_tops _ _ _ _)),
    (congrArg (fun x => x.2) h2).trans ((View.read_writes_junk_eq_canon (View.whole cc0_scratch1) _).trans (B_accs _ _ _ _ _ _))⟩

theorem walk_A (q0 : P0_0 0 t) (q1 : ¬P0_1 0 t) :
    tops m ρ c t = newTop true (Xq m ρ c t) (Xk m ρ c t) (fun _ => ⊥)
      ∧ accs m ρ c t = newAcc true (Xq m ρ c t) (Xk m ρ c t) (Xv m ρ c t) (fun _ => ⊥) (fun _ => 0)
      ∧ outs m ρ c t = newOut (newAcc true (Xq m ρ c t) (Xk m ρ c t) (Xv m ρ c t) (fun _ => ⊥) (fun _ => 0)) := by
  have h := (traj0_eq 0 m ρ c t).trans (step0_A 0 m ρ c t (prev0 0 m ρ c t) q0 q1)
  have h2 := congrArg (fun x => x.2) h
  exact ⟨(congrArg (fun x => x.1) h2).trans ((View.read_writes_junk_eq_canon (View.whole cc0_scratch0) _).trans (A_tops _ _ _ _)),
    (congrArg (fun x => x.2) h2).trans ((View.read_writes_junk_eq_canon (View.whole cc0_scratch1) _).trans (A_accs _ _ _ _ _ _)),
    (congrArg (fun x => x.1) h).trans ((View.read_writes_junk_eq_canon VO0_3 _).trans (A_outs _ _ _ _ _ _))⟩

theorem walk_C (q0 : ¬P0_0 0 t) (q1 : ¬P0_1 0 t) :
    tops m ρ c t = newTop true (Xq m ρ c t) (Xk m ρ c t) (topsB m ρ c t)
      ∧ accs m ρ c t = newAcc true (Xq m ρ c t) (Xk m ρ c t) (Xv m ρ c t) (topsB m ρ c t) (accsB m ρ c t)
      ∧ outs m ρ c t = newOut (newAcc true (Xq m ρ c t) (Xk m ρ c t) (Xv m ρ c t) (topsB m ρ c t) (accsB m ρ c t)) := by
  have h := (traj0_eq 0 m ρ c t).trans (step0_C 0 m ρ c t (prev0 0 m ρ c t) q0 q1)
  have h2 := congrArg (fun x => x.2) h
  exact ⟨(congrArg (fun x => x.1) h2).trans ((View.read_writes_junk_eq_canon (View.whole cc0_scratch0) _).trans (C_tops c _ _ _ _ _)),
    (congrArg (fun x => x.2) h2).trans ((View.read_writes_junk_eq_canon (View.whole cc0_scratch1) _).trans (C_accs c _ _ _ _ _ _ _ _)),
    (congrArg (fun x => x.1) h).trans ((View.read_writes_junk_eq_canon VO0_3 _).trans (C_outs c _ _ _ _ _ _ _ _))⟩

end Cert.KernelIdeal.Attn

end
-- ==== Proof.FlashSoft.lean ====
/- The softmax computed block by block: the running maximum and the weighted sum carried from one block of keys to the next
   are those of all the keys seen so far, and dividing at the end is dividing every weight. -/
module

public import Idealize.ShloMosaic.Lib.Pointwise

@[expose] public section

set_option maxRecDepth 16384

noncomputable section

namespace Cert.KernelIdeal.Attn

open Idealize.ShloMosaic Idealize.ShloMosaic.TcCoe Idealize.SL.Sem

/-- The maximum of the first `n` scores. -/
def topN (e : ℕ → EReal) (n : ℕ) : EReal := (Finset.range n).sup e

/-- The weighted sum of the first `n` values, relative to the maximum of the first `n` scores. -/
def accN (e v : ℕ → EReal) (n : ℕ) : EReal := ∑ k ∈ Finset.range n, Ideal.exp (e k - topN e n) * v k

/-- A row of scores: none is `⊤`, and the first is finite. -/
structure Row (e : ℕ → EReal) : Prop where
  fin : ∀ k, e k = ⊥ ∨ ∃ x : ℝ, e k = x
  first : ∃ x : ℝ, e 0 = x

theorem topN_add (e : ℕ → EReal) (n b : ℕ) :
    topN e (n + b) = max (topN e n) (Finset.univ.sup fun j : Fin b => e (n + j)) := by
  apply le_antisymm
  · refine Finset.sup_le fun k hk => ?_
    have hk := Finset.mem_range.1 hk
    by_cases h : k < n
    · exact le_max_of_le_left (Finset.le_sup (f := e) (Finset.mem_range.2 h))
    · refine le_max_of_le_right ?_
      have := Finset.le_sup (f := fun j : Fin b => e (n + j)) (Finset.mem_univ (⟨k - n, by omega⟩ : Fin b))
      have e1 : n + (k - n) = k := by omega
      simpa only [e1] using this
  · refine max_le ?_ ?_
    · exact Finset.sup_mono (fun k hk => Finset.mem_range.2 (by have := Finset.mem_range.1 hk; omega))
    · exact Finset.sup_le fun j _ => Finset.le_sup (f := e) (Finset.mem_range.2 (by have := j.isLt; omega))

theorem topN_real (e : ℕ → EReal) (he : Row e) (n : ℕ) (hn : 0 < n) : ∃ x : ℝ, topN e n = x := by
  have h1 : topN e n ≠ ⊤ := by
    refine ne_of_lt ((Finset.sup_lt_iff (by exact bot_lt_top)).2 fun k _ => ?_)
    rcases he.fin k with h | ⟨x, h⟩
    · rw [h]; exact bot_lt_top
    · rw [h]; exact EReal.coe_lt_top x
  have h2 : topN e n ≠ ⊥ := by
    obtain ⟨x, hx⟩ := he.first
    have h3 : e 0 ≤ topN e n := Finset.le_sup (f := e) (Finset.mem_range.2 hn)
    intro h4
    rw [h4, hx] at h3
    exact absurd (le_bot_iff.1 h3) (EReal.coe_ne_bot x)
  exact ⟨(topN e n).toReal, (EReal.coe_toReal h1 h2).symm⟩

theorem exp_real (x : ℝ) : Ideal.exp (x : EReal) = (Real.exp x : ℝ) := rfl

theorem exp_sub_bot (m : EReal) : Ideal.exp ((⊥ : EReal) - m) = 0 := by
  rw [EReal.bot_sub]; rfl

/-- A weight is a nonnegative real. -/
theorem wt_real (e : ℕ → EReal) (he : Row e) (k : ℕ) (m : ℝ) : ∃ x : ℝ, 0 ≤ x ∧ Ideal.exp (e k - m) = x := by
  rcases he.fin k with h | ⟨x, h⟩
  · exact ⟨0, le_refl _, by rw [h, exp_sub_bot]; rfl⟩
  · exact ⟨Real.exp (x - m), (Real.exp_pos _).le, by rw [h, ← EReal.coe_sub, exp_real]⟩

theorem sum_mul_real (s : Finset ℕ) (f : ℕ → EReal) (b : ℝ) (hb : 0 ≤ b) : (∑ k ∈ s, f k) * (b : EReal) = ∑ k ∈ s, f k * b := by
  induction s using Finset.induction_on with
  | empty => simp
  | insert a s ha ih =>
    rw [Finset.sum_insert ha, Finset.sum_insert ha, ← ih]
    exact EReal.right_distrib_of_nonneg_of_ne_top (by exact_mod_cast hb) (EReal.coe_ne_top b) _ _

/-- The weighted sum after another block of keys. -/
theorem accN_add (e v : ℕ → EReal) (he : Row e) (n b : ℕ) (hb : 0 < b) :
    accN e v (n + b) = accN e v n * Ideal.exp (topN e n - topN e (n + b))
      + ∑ j : Fin b, Ideal.exp (e (n + j) - topN e (n + b)) * v (n + j) := by
  obtain ⟨m', hm'⟩ := topN_real e he (n + b) (by omega)
  unfold accN
  rw [Finset.sum_range_add, Finset.sum_range (fun x => Ideal.exp (e (n + x) - topN e (n + b)) * v (n + x))]
  refine congrArg₂ (fun a b : EReal => a + b) ?_ rfl
  rcases Nat.eq_zero_or_pos n with rfl | hn
  · simp
  · obtain ⟨m, hm⟩ := topN_real e he n hn
    rw [hm', hm, ← EReal.coe_sub, exp_real, sum_mul_real _ _ _ (Real.exp_pos _).le]
    refine Finset.sum_congr rfl fun k _ => ?_
    rw [mul_right_comm]
    refine congrArg (· * v k) ?_
    rcases he.fin k with h | ⟨x, h⟩
    · rw [h, exp_sub_bot, exp_sub_bot, zero_mul]
    · rw [h, ← EReal.coe_sub, ← EReal.coe_sub, exp_real, exp_real, ← EReal.coe_mul, ← Real.exp_add]
      congr 2; ring

theorem sum_real (s : Finset ℕ) (f : ℕ → EReal) (h : ∀ k, ∃ x : ℝ, 0 ≤ x ∧ f k = x) : ∃ x : ℝ, 0 ≤ x ∧ ∑ k ∈ s, f k = x := by
  induction s using Finset.induction_on with
  | empty => exact ⟨0, le_refl _, by simp⟩
  | insert a s ha ih =>
    obtain ⟨x, hx, ex⟩ := ih
    obtain ⟨y, hy, ey⟩ := h a
    exact ⟨y + x, by positivity, by rw [Finset.sum_insert ha, ex, ey, EReal.coe_add]⟩

theorem sum_fin (n : ℕ) (f : Fin n → EReal) (h : ∀ k, ∃ x : ℝ, f k = x) : ∃ x : ℝ, ∑ k : Fin n, f k = x := by
  induction n with
  | zero => exact ⟨0, by simp⟩
  | succ n ih =>
    obtain ⟨x, ex⟩ := ih (fun k => f k.castSucc) fun k => h _
    obtain ⟨y, ey⟩ := h (Fin.last n)
    exact ⟨x + y, by rw [Fin.sum_univ_castSucc, ex, ey, EReal.coe_add]⟩

/-- The sum of the weights is a positive real. -/
theorem wts_real (e : ℕ → EReal) (he : Row e) (n : ℕ) (hn : 0 < n) :
    ∃ L : ℝ, 0 < L ∧ ∑ k ∈ Finset.range n, Ideal.exp (e k - topN e n) = L := by
  obtain ⟨m, hm⟩ := topN_real e he n hn
  rw [hm]
  have h0 : (0 : ℕ) ∈ Finset.range n := Finset.mem_range.2 hn
  rw [← Finset.insert_erase h0, Finset.sum_insert (Finset.notMem_erase _ _)]
  obtain ⟨x, hx, ex⟩ := sum_real ((Finset.range n).erase 0) (fun k => Ideal.exp (e k - m)) (fun k => wt_real e he k m)
  obtain ⟨y, ey⟩ := he.first
  refine ⟨Real.exp (y - m) + x, by have := Real.exp_pos (y - m); linarith, ?_⟩
  rw [ex, ey, ← EReal.coe_sub, exp_real, EReal.coe_add]

theorem div_real (a : EReal) (L : ℝ) (hL : 0 < L) : Ideal.div a (L : EReal) = a * ((L⁻¹ : ℝ) : EReal) := by
  unfold Ideal.div
  rw [if_neg (by exact_mod_cast hL.ne'), EReal.coe_inv]

/-- The softmax over `N` keys of which those from `n` on are masked is the carried sum divided by the carried sum of weights. -/
theorem soft_eq (e v o : ℕ → EReal) (he : Row e) (n N : ℕ) (hn : 0 < n) (hN : n ≤ N) (hmask : ∀ k, n ≤ k → e k = ⊥) (ho : ∀ k, k < N → o k = 1) :
    Ideal.div (accN e v n) (accN e o n)
      = ∑ k : Fin N, Ideal.div (Ideal.exp (e k - topN e N)) (∑ j : Fin N, Ideal.exp (e j - topN e N)) * v k := by
  obtain ⟨d, rfl⟩ := Nat.exists_eq_add_of_le hN
  have ht : topN e (n + d) = topN e n := by
    rw [topN_add]
    refine max_eq_left ?_
    exact Finset.sup_le fun j _ => by rw [hmask _ (by omega)]; exact bot_le
  have hone : accN e o n = ∑ k ∈ Finset.range n, Ideal.exp (e k - topN e n) := by
    unfold accN
    exact Finset.sum_congr rfl fun k hk => by rw [ho k (by have := Finset.mem_range.1 hk; omega), mul_one]
  obtain ⟨L, hL, eL⟩ := wts_real e he n hn
  have hsum : (∑ j : Fin (n + d), Ideal.exp (e j - topN e (n + d))) = L := by
    rw [← Finset.sum_range (fun j => Ideal.exp (e j - topN e (n + d))), ht, Finset.sum_range_add, eL]
    rw [Finset.sum_eq_zero fun x _ => by rw [hmask _ (by omega), exp_sub_bot], add_zero]
  rw [hsum, hone, eL, ht]
  rw [← Finset.sum_range (fun k => Ideal.div (Ideal.exp (e k - topN e n)) (L : EReal) * v k), Finset.sum_range_add]
  rw [Finset.sum_eq_zero (s := Finset.range d) fun x _ => by
    rw [hmask _ (by omega), exp_sub_bot, div_real _ _ hL, zero_mul, zero_mul], add_zero]
  rw [div_real _ _ hL]
  unfold accN
  rw [sum_mul_real _ _ _ (by positivity)]
  refine Finset.sum_congr rfl fun k _ => ?_
  rw [div_real _ _ hL, mul_right_comm]

end Cert.KernelIdeal.Attn

end
-- ==== Proof.FlashFold.lean ====
/- The attention's result, from the points of its grid: a row of the result is the sum carried over the key blocks up to its own,
   divided by the sum of the weights. -/
module

public import proofs.«01_k».proof.Proof.FlashWalk
public import proofs.«01_k».proof.Proof.FlashSoft

@[expose] public section

set_option maxRecDepth 16384

noncomputable section

namespace Cert.KernelIdeal.Attn

open Cert.KernelIdeal Cert.KernelIdeal.Gen
open Idealize.ShloMosaic Idealize.ShloMosaic.TcCoe Idealize.SL.Sem

/-- The row of position `k` of sequence `s`. -/
abbrev rowIx (s k : ℕ) : Fin 16384 := ⟨(8192 * s + k) % 16384, Nat.mod_lt _ (by omega)⟩

/-- The score of query `Q` against key `k` of sequence `s`, head `h`; a key after the query is masked. -/
def eAt (q kk : S16384x512.Idx → EReal) (s Q : ℕ) (h : Fin 4) (k : ℕ) : EReal :=
  if k ≤ Q then ∑ d : Fin 128, q (ix2 (rowIx s Q) (⟨128 * h + d, by omega⟩ : Fin 512)) * kk (ix2 (rowIx s k) (⟨128 * h + d, by omega⟩ : Fin 512)) else ⊥

/-- Lane `l` of head `h` of the value at position `k` of sequence `s`. -/
def vAt (v : S16384x512.Idx → EReal) (s : ℕ) (h : Fin 4) (l : Fin 128) (k : ℕ) : EReal :=
  v (ix2 (rowIx s k) (⟨128 * h + l, by omega⟩ : Fin 512))

section

variable (m : (ℓ : Loc nD τ sig) → Buf (Elt Ideal) ℓ) (ρ : Dev nD → PrngReg) (c : Dev nD)

/-- The packed queries. -/
abbrev Aq : S16384x512.Idx → EReal := m ((c : Thread nD τ).loc main_arg2)
/-- The packed keys. -/
abbrev Ak : S16384x512.Idx → EReal := m ((c : Thread nD τ).loc main_arg3)
/-- The packed values. -/
abbrev Av : S16384x512.Idx → EReal := m ((c : Thread nD τ).loc main_arg4)

theorem Xq_at (t : Fin (cfgA 0).N) (r l : Fin 512) :
    Xq m ρ c t (ix2 r l) = Aq m c (ix2 (rowIx (seqOf t.val) (512 * qOf t.val + r)) l) := by
  obtain ⟨-, -, -, h1, h2, -, ⟨i0, i1⟩, -⟩ := pts t
  blk_ext [iblk, i0, i1]
  all_goals (have hs : seqOf t.val < 2 := (show t.val / 136 < 2 by omega); omega)

theorem Xk_at (t : Fin (cfgA 0).N) (r l : Fin 512) :
    Xk m ρ c t (ix2 r l) = Ak m c (ix2 (rowIx (seqOf t.val) (512 * kOf t.val + r)) l) := by
  obtain ⟨-, -, h0, h1, h2, -, -, ⟨i0, i1⟩, -⟩ := pts t
  blk_ext [iblk, i0, i1]
  all_goals (have hs : seqOf t.val < 2 := (show t.val / 136 < 2 by omega); omega)

theorem Xv_at (t : Fin (cfgA 0).N) (r l : Fin 512) :
    Xv m ρ c t (ix2 r l) = Av m c (ix2 (rowIx (seqOf t.val) (512 * kOf t.val + r)) l) := by
  obtain ⟨-, -, h0, h1, h2, -, -, -, ⟨i0, i1⟩, -⟩ := pts t
  blk_ext [iblk, i0, i1]
  all_goals (have hs : seqOf t.val < 2 := (show t.val / 136 < 2 by omega); omega)

/-- What the row of scores is: the masked score within the sequence. -/
theorem eAt_row (hq : ∀ x, ∃ r : ℝ, Aq m c x = r) (hk : ∀ x, ∃ r : ℝ, Ak m c x = r) (s Q : ℕ) (h : Fin 4) : Row (eAt (Aq m c) (Ak m c) s Q h) := by
  have key : ∀ k, ∃ x : ℝ, (∑ d : Fin 128, Aq m c (ix2 (rowIx s Q) (⟨128 * h + d, by omega⟩ : Fin 512)) * Ak m c (ix2 (rowIx s k) (⟨128 * h + d, by omega⟩ : Fin 512))) = x := by
    intro k
    refine sum_fin _ _ fun d => ?_
    obtain ⟨a, ea⟩ := hq (ix2 (rowIx s Q) (⟨128 * h + d, by omega⟩ : Fin 512))
    obtain ⟨b, eb⟩ := hk (ix2 (rowIx s k) (⟨128 * h + d, by omega⟩ : Fin 512))
    exact ⟨a * b, by rw [ea, eb, EReal.coe_mul]⟩
  constructor
  · intro k
    unfold eAt
    by_cases hkQ : k ≤ Q
    · rw [if_pos hkQ]; exact Or.inr (key k)
    · rw [if_neg hkQ]; exact Or.inl rfl
  · unfold eAt
    rw [if_pos (Nat.zero_le _)]; exact key 0

/-- The score of a point's blocks is the score within the sequence. -/
theorem en_eq (t : Fin (cfgA 0).N) (b : Bool) (hb : if b then kOf t.val = qOf t.val else kOf t.val < qOf t.val) (h : Fin 4) (r j : Fin 512) :
    en b (Xq m ρ c t) (Xk m ρ c t) h r j = eAt (Aq m c) (Ak m c) (seqOf t.val) (512 * qOf t.val + r) h (512 * kOf t.val + j) := by
  have e : (b = false ∨ (j : ℕ) ≤ r) ↔ 512 * kOf t.val + j ≤ 512 * qOf t.val + r := by
    cases b
    · simp only [Bool.false_eq_true, if_false] at hb
      simp only [true_or, true_iff]; omega
    · simp only [if_true] at hb
      simp only [Bool.true_eq_false, false_or]; omega
  unfold en eAt sc
  simp only [e, Xq_at, Xk_at]

/-- What a point is handed: the maximum and the sum of the key blocks before its own. -/
def Before (t : Fin (cfgA 0).N) (M A : S4x512x128.Idx → EReal) : Prop :=
  (∀ h r l, M (ix3 h r l) = topN (eAt (Aq m c) (Ak m c) (seqOf t.val) (512 * qOf t.val + (r : Fin 512)) h) (512 * kOf t.val))
    ∧ ∀ h r l, A (ix3 h r l) = accN (eAt (Aq m c) (Ak m c) (seqOf t.val) (512 * qOf t.val + (r : Fin 512)) h) (vAt (Av m c) (seqOf t.val) h l) (512 * kOf t.val)

/-- What a point leaves: those with its own. -/
def After (t : Fin (cfgA 0).N) (M A : S4x512x128.Idx → EReal) : Prop :=
  (∀ h r l, M (ix3 h r l) = topN (eAt (Aq m c) (Ak m c) (seqOf t.val) (512 * qOf t.val + (r : Fin 512)) h) (512 * kOf t.val + 512))
    ∧ ∀ h r l, A (ix3 h r l) = accN (eAt (Aq m c) (Ak m c) (seqOf t.val) (512 * qOf t.val + (r : Fin 512)) h) (vAt (Av m c) (seqOf t.val) h l) (512 * kOf t.val + 512)

theorem after_new (hq : ∀ x, ∃ r : ℝ, Aq m c x = r) (hk : ∀ x, ∃ r : ℝ, Ak m c x = r) (t : Fin (cfgA 0).N) (b : Bool)
    (hb : if b then kOf t.val = qOf t.val else kOf t.val < qOf t.val) (M A : S4x512x128.Idx → EReal) (hB : Before m c t M A) :
    After m c t (newTop b (Xq m ρ c t) (Xk m ρ c t) M) (newAcc b (Xq m ρ c t) (Xk m ρ c t) (Xv m ρ c t) M A) := by
  have h1 : ∀ (h : Fin 4) (r : Fin 512) (l : Fin 128), newTop b (Xq m ρ c t) (Xk m ρ c t) M (ix3 h r l)
      = topN (eAt (Aq m c) (Ak m c) (seqOf t.val) (512 * qOf t.val + r) h) (512 * kOf t.val + 512) := by
    intro h r l
    rw [topN_add]
    show max (M (ix3 h r l)) (Finset.univ.sup fun j : Fin 512 => en b (Xq m ρ c t) (Xk m ρ c t) h r j) = _
    rw [hB.1]
    simp only [en_eq m ρ c t b hb]
  refine ⟨h1, fun h r l => ?_⟩
  rw [accN_add _ _ (eAt_row m c hq hk _ _ h) _ _ (by omega)]
  show newAccAt b (Xq m ρ c t) (Xk m ρ c t) (Xv m ρ c t) M A h r l = _
  unfold newAccAt
  simp only [h1, hB.1, hB.2, en_eq m ρ c t b hb, Xv_at]
  rfl

theorem before_zero (t : Fin (cfgA 0).N) (h0 : kOf t.val = 0) : Before m c t (fun _ => ⊥) (fun _ => 0) := by
  unfold Before
  rw [h0]
  exact ⟨fun h r l => by simp [topN], fun h r l => by simp [accN]⟩

theorem before_succ (n : ℕ) (hn : n + 1 < (cfgA 0).N) (hk0 : kOf (n + 1) ≠ 0)
    (ih : After m c ⟨n, by omega⟩ (tops m ρ c ⟨n, by omega⟩) (accs m ρ c ⟨n, by omega⟩)) :
    Before m c ⟨n + 1, hn⟩ (topsB m ρ c ⟨n + 1, hn⟩) (accsB m ρ c ⟨n + 1, hn⟩) := by
  obtain ⟨-, -, -, -, -, h4, -⟩ := pts ⟨n + 1, hn⟩
  obtain ⟨-, e1, e2, e3⟩ := h4 hk0
  have e1 : kOf n + 1 = kOf (n + 1) := e1
  have e2 : qOf n = qOf (n + 1) := e2
  have e3 : seqOf n = seqOf (n + 1) := e3
  have e4 : 512 * kOf n + 512 = 512 * kOf (n + 1) := by omega
  have ep : prev0 0 m ρ c ⟨n + 1, hn⟩ = traj0 0 m ρ c n (by omega) := by
    unfold prev0; rw [dif_neg (Nat.succ_ne_zero n)]; rfl
  unfold After at ih
  rw [show 512 * kOf (⟨n, by omega⟩ : Fin (cfgA 0).N).val + 512 = 512 * kOf (n + 1) from e4, show qOf (⟨n, by omega⟩ : Fin (cfgA 0).N).val = qOf (n + 1) from e2,
    show seqOf (⟨n, by omega⟩ : Fin (cfgA 0).N).val = seqOf (n + 1) from e3] at ih
  unfold Before topsB accsB
  rw [ep]
  exact ih

/-- Every point leaves the maximum and the sum of the key blocks up to its own. -/
theorem after_all (hq : ∀ x, ∃ r : ℝ, Aq m c x = r) (hk : ∀ x, ∃ r : ℝ, Ak m c x = r) (n : ℕ) :
    ∀ hn : n < (cfgA 0).N, After m c ⟨n, hn⟩ (tops m ρ c ⟨n, hn⟩) (accs m ρ c ⟨n, hn⟩) := by
  induction n with
  | zero =>
    intro hn
    obtain ⟨p0, p1, h1, h2, h3, h4, -⟩ := pts ⟨0, hn⟩
    have hk0 : kOf 0 = 0 := by by_contra h; exact (h4 h).1 rfl
    have q0 := p0.2 hk0
    by_cases q1 : P0_1 0 ⟨0, hn⟩
    · obtain ⟨e1, e2⟩ := walk_B m ρ c ⟨0, hn⟩ q0 q1
      rw [e1, e2]
      exact after_new m ρ c hq hk _ false (by simpa using p1.1 q1) _ _ (before_zero m c _ hk0)
    · obtain ⟨e1, e2, -⟩ := walk_A m ρ c ⟨0, hn⟩ q0 q1
      rw [e1, e2]
      exact after_new m ρ c hq hk _ true (by have := mt p1.2 q1; simp at this ⊢; omega) _ _ (before_zero m c _ hk0)
  | succ n ih =>
    intro hn
    obtain ⟨p0, p1, h1, h2, h3, h4, -⟩ := pts ⟨n + 1, hn⟩
    have h1 : kOf (n + 1) ≤ qOf (n + 1) := h1
    by_cases hk0 : kOf (n + 1) = 0
    · have q0 := p0.2 hk0
      by_cases q1 : P0_1 0 ⟨n + 1, hn⟩
      · obtain ⟨e1, e2⟩ := walk_B m ρ c ⟨n + 1, hn⟩ q0 q1
        rw [e1, e2]
        exact after_new m ρ c hq hk _ false (by simpa using p1.1 q1) _ _ (before_zero m c _ hk0)
      · obtain ⟨e1, e2, -⟩ := walk_A m ρ c ⟨n + 1, hn⟩ q0 q1
        rw [e1, e2]
        exact after_new m ρ c hq hk _ true (by have := mt p1.2 q1; simp at this ⊢; omega) _ _ (before_zero m c _ hk0)
    · have q0 : ¬P0_0 0 ⟨n + 1, hn⟩ := mt p0.1 hk0
      have hB : Before m c ⟨n + 1, hn⟩ (topsB m ρ c ⟨n + 1, hn⟩) (accsB m ρ c ⟨n + 1, hn⟩) := before_succ m ρ c n hn hk0 (ih (by omega))
      by_cases q1 : P0_1 0 ⟨n + 1, hn⟩
      · obtain ⟨e1, e2⟩ := walk_D m ρ c ⟨n + 1, hn⟩ q0 q1
        rw [e1, e2]
        exact after_new m ρ c hq hk _ false (by simpa using p1.1 q1) _ _ hB
      · obtain ⟨e1, e2, -⟩ := walk_C m ρ c ⟨n + 1, hn⟩ q0 q1
        rw [e1, e2]
        exact after_new m ρ c hq hk _ true (by have := mt p1.2 q1; simp at this ⊢; omega) _ _ hB

/-- What a diagonal point leaves in the result's block: the carried sum over the carried sum of weights, row by row. -/
theorem outs_at (hq : ∀ x, ∃ r : ℝ, Aq m c x = r) (hk : ∀ x, ∃ r : ℝ, Ak m c x = r) (t : Fin (cfgA 0).N) (q1 : ¬P0_1 0 t) (r : Fin 512) (d : Fin 256) :
    outs m ρ c t (ix2 r d)
      = Ideal.div (accN (eAt (Aq m c) (Ak m c) (seqOf t.val) (512 * qOf t.val + r) (⟨d / 64, by omega⟩ : Fin 4)) (vAt (Av m c) (seqOf t.val) (⟨d / 64, by omega⟩ : Fin 4) (⟨d % 64, by omega⟩ : Fin 128)) (512 * qOf t.val + 512))
        (accN (eAt (Aq m c) (Ak m c) (seqOf t.val) (512 * qOf t.val + r) (⟨d / 64, by omega⟩ : Fin 4)) (vAt (Av m c) (seqOf t.val) (⟨d / 64, by omega⟩ : Fin 4) (64 : Fin 128)) (512 * qOf t.val + 512)) := by
  obtain ⟨p0, p1, h1, h2, h3, h4, -⟩ := pts t
  have hd : kOf t.val = qOf t.val := by have := mt p1.2 q1; omega
  have ha := (after_all m ρ c hq hk t.val t.isLt).2
  rw [hd] at ha
  have ho : outs m ρ c t = newOut (accs m ρ c t) := by
    by_cases q0 : P0_0 0 t
    · obtain ⟨-, e2, e3⟩ := walk_A m ρ c t q0 q1
      rw [e3, e2]
    · obtain ⟨-, e2, e3⟩ := walk_C m ρ c t q0 q1
      rw [e3, e2]
  rw [ho]
  show newOutAt (accs m ρ c t) r d = _
  unfold newOutAt
  rw [ha, ha]

end

end Cert.KernelIdeal.Attn

end
-- ==== Proof.FlashRef.lean ====
/- The attention: the reference's result, entry by entry. -/
module

public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.ReferenceIdeal.Attn

open Cert.ReferenceIdeal Cert.ReferenceIdeal.Gen
open Idealize.ShloMosaic Idealize.ShloMosaic.TcCoe Idealize.SL.Sem

/-- A packed array by sequence, head, position and lane. -/
def Hd (A : FVec Ideal S16384x512 .bf16) : FVec Ideal S2x4x8192x128 .f32 :=
  transpose S2x4x8192x128 [0, 2, 1, 3] (shapeCast _ (extf .f32 A bitsLt_bf16_f32) shapeCasts_S16384x512_S2x8192x4x128) transposes_S2x8192x4x128_S2x4x8192x128_0_2_1_3

/-- The values: the first 64 lanes. -/
def Vl (V : FVec Ideal S2x4x8192x128 .f32) : FVec Ideal S2x4x8192x64 .f32 :=
  extractStridedSlice S2x4x8192x64 ![0, 0, 0, 0] V slices_S2x4x8192x128_S2x4x8192x64_0_0_0_0

/-- Which keys a query sees. -/
def Cz : IVec S8192x8192 1 :=
  cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))

/-- The scores. -/
def Sd (Q K : FVec Ideal S2x4x8192x128 .f32) : FVec Ideal S2x4x8192x8192 .f32 :=
  Host.dotGeneral (φ₁ := .f32) (φ₂ := .f32) dot_S2x4x8192x128_S2x4x8192x128_S2x4x8192x8192_3_3_2_2_01_01 none Q K

/-- The masked scores. -/
def Sm (C : IVec S8192x8192 1) (S : FVec Ideal S2x4x8192x8192 .f32) : FVec Ideal S2x4x8192x8192 .f32 :=
  select (broadcastInDim S2x4x8192x8192 ![2, 3] bcast_S8192x8192_S2x4x8192x8192_2_3 C) S (broadcastInDim S2x4x8192x8192 ![] bcast_S_S2x4x8192x8192 (id (constant (F := Ideal) S_ .f32 0xFF800000#32)))

/-- The greatest score of a query. -/
def Mr (S : FVec Ideal S2x4x8192x8192 .f32) : FVec Ideal S2x4x8192 .f32 :=
  Host.reduce FloatOps.maximumf S (constant (F := Ideal) S_ .f32 0xFF800000#32) reducesTo_S2x4x8192x8192_S2x4x8192_d3 h_S_

/-- The same, from −∞. -/
def Mx (R : FVec Ideal S2x4x8192 .f32) : FVec Ideal S2x4x8192 .f32 :=
  maximumf (broadcastInDim S2x4x8192 ![] bcast_S_S2x4x8192 (constant (F := Ideal) S_ .f32 0xFF800000#32)) R

/-- The exponentials. -/
def Ex (S : FVec Ideal S2x4x8192x8192 .f32) (M : FVec Ideal S2x4x8192 .f32) : FVec Ideal S2x4x8192x8192 .f32 :=
  Host.exp (subf S (broadcastInDim S2x4x8192x8192 ![0, 1, 2, 3] bcast_S2x4x8192x1_S2x4x8192x8192_0_1_2_3 (broadcastInDim S2x4x8192x1 ![0, 1, 2] bcast_S2x4x8192_S2x4x8192x1_0_1_2 M)))

/-- The weights. -/
def Wt (E : FVec Ideal S2x4x8192x8192 .f32) : FVec Ideal S2x4x8192x8192 .f32 :=
  Host.divf E (broadcastInDim S2x4x8192x8192 ![0, 1, 2, 3] bcast_S2x4x8192x1_S2x4x8192x8192_0_1_2_3 (broadcastInDim S2x4x8192x1 ![0, 1, 2] bcast_S2x4x8192_S2x4x8192x1_0_1_2 (Host.reduceAdd E (constant (F := Ideal) S_ .f32 0x00000000#32) reducesTo_S2x4x8192x8192_S2x4x8192_d3 h_S_)))

/-- The weighted sums of the values. -/
def Ot (W : FVec Ideal S2x4x8192x8192 .f32) (V : FVec Ideal S2x4x8192x64 .f32) : FVec Ideal S2x4x8192x64 .f32 :=
  Host.dotGeneral (φ₁ := .f32) (φ₂ := .f32) dot_S2x4x8192x8192_S2x4x8192x64_S2x4x8192x64_3_2_2_3_01_01 none W V

/-- The result, by row and column. -/
def Pk (O : FVec Ideal S2x4x8192x64 .f32) : FVec Ideal S16384x256 .f32 :=
  shapeCast S16384x256 (transpose S2x8192x4x64 [0, 2, 1, 3] O transposes_S2x4x8192x64_S2x8192x4x64_0_2_1_3) shapeCasts_S2x8192x4x64_S16384x256

/-- The masked scores of packed queries and keys. -/
def Sx (A2 A3 : FVec Ideal S16384x512 .bf16) : FVec Ideal S2x4x8192x8192 .f32 := Sm Cz (Sd (Hd A2) (Hd A3))

/-- The reference's function of the packed arrays. -/
def G (A2 A3 A4 : FVec Ideal S16384x512 .bf16) : FVec Ideal S16384x256 .f32 :=
  Pk (Ot (Wt (Ex (Sx A2 A3) (Mx (Mr (Sx A2 A3))))) (Vl (Hd A4)))

theorem res_eq (m : (ℓ : Loc nD τ sig) → Buf (Elt Ideal) ℓ) (c : Dev nD) (A2 A3 A4 : FVec Ideal S16384x512 .bf16)
    (h2 : m ((c.tc : Thread nD τ).loc main_arg2) = A2) (h3 : m ((c.tc : Thread nD τ).loc main_arg3) = A3) (h4 : m ((c.tc : Thread nD τ).loc main_arg4) = A4) :
    Cert.ReferenceIdeal.Value.res_main_v31 m c = G A2 A3 A4 := by
  subst h2 h3 h4
  rfl

theorem bot_word : Ideal.ofBits .f32 0xFF800000#32 = (⊥ : EReal) := by simp [Ideal.ofBits, Ideal.ieee]

theorem Hd_at (A : FVec Ideal S16384x512 .bf16) (s : Fin 2) (h : Fin 4) (k : Fin 8192) (d : Fin 128) :
    (Hd A (ix4 s h k d) : EReal) = A (ix2 (⟨8192 * s + k, by omega⟩ : Fin 16384) (⟨128 * h + d, by omega⟩ : Fin 512)) := by
  pointwise [Hd]
  refine congrArg A ?_
  congr 2 <;> omega

theorem Vl_at (V : FVec Ideal S2x4x8192x128 .f32) (s : Fin 2) (h : Fin 4) (k : Fin 8192) (d : Fin 64) :
    (Vl V (ix4 s h k d) : EReal) = V (ix4 s h k (⟨d, by omega⟩ : Fin 128)) := by
  pointwise [Vl]

theorem Cz_at (q k : Fin 8192) : Cz (ix2 q k) = if (k : ℕ) ≤ q then 1#1 else 0#1 := by
  pointwise [Cz]
  have hq : (BitVec.ofNat 32 (q : ℕ)).toInt = (q : ℕ) := by
    rw [BitVec.toInt_eq_toNat_of_lt] <;> simp <;> omega
  have hk : (BitVec.ofNat 32 (k : ℕ)).toInt = (k : ℕ) := by
    rw [BitVec.toInt_eq_toNat_of_lt] <;> simp <;> omega
  simp only [IntOp.cmpi, BitVec.sle, hq, hk, Nat.cast_le]
  by_cases h : (k : ℕ) ≤ q <;> simp [h]

theorem Sd_at (Q K : FVec Ideal S2x4x8192x128 .f32) (s : Fin 2) (h : Fin 4) (q k : Fin 8192) :
    (Sd Q K (ix4 s h q k) : EReal) = ∑ d : Fin 128, (Q (ix4 s h q d) : EReal) * K (ix4 s h k d) := by
  pointwise [Sd]

theorem Sm_at (C : IVec S8192x8192 1) (S : FVec Ideal S2x4x8192x8192 .f32) (s : Fin 2) (h : Fin 4) (q k : Fin 8192) :
    (Sm C S (ix4 s h q k) : EReal) = if C (ix2 q k) = 1#1 then S (ix4 s h q k) else (⊥ : EReal) := by
  pointwise [Sm]
  unfold Scalar.select
  refine if_congr Iff.rfl rfl ?_
  exact bot_word

theorem max_at {n0 n1 n2 n3 : ℕ} {t u : Shape} (S : (⟨4, ![n0, n1, n2, n3]⟩ : Shape).Idx → EReal) (init : u.Idx → EReal)
    (h : (⟨4, ![n0, n1, n2, n3]⟩ : Shape).ReducesTo [3] t) (hu : 0 < u.numel) (j : t.Idx) (a : Fin n0) (b : Fin n1) (q : Fin n2)
    (hi : init (Shape.Idx.first hu) = ⊥) (ha : (j ⟨0, h.lt_r4_a3_0⟩).val = a) (hb : (j ⟨1, h.lt_r4_a3_1⟩).val = b) (hq : (j ⟨2, h.lt_r4_a3_2⟩).val = q) :
    Host.reduce (FloatOps.maximumf (F := Ideal) (φ := .f32)) S init h hu j = Finset.univ.sup fun k : Fin n3 => S (ix4 a b q k) := by
  refine (Host.reduce_eq_fold _ S init h hu j).trans ?_
  refine (h.fold_fiber_r4_a3 j _ _ S).trans ?_
  rw [hi]
  show Finset.univ.fold max ⊥ _ = Finset.univ.fold max ⊥ _
  refine Finset.fold_congr fun k _ => ?_
  refine congrArg S ?_
  congr 1 <;> exact Fin.ext (by assumption)

theorem Mr_at (S : FVec Ideal S2x4x8192x8192 .f32) (s : Fin 2) (h : Fin 4) (q : Fin 8192) :
    (Mr S (ix3 s h q) : EReal) = Finset.univ.sup fun k : Fin 8192 => (S (ix4 s h q k) : EReal) :=
  max_at S (constant (F := Ideal) S_ .f32 0xFF800000#32) reducesTo_S2x4x8192x8192_S2x4x8192_d3 h_S_ (ix3 s h q) s h q bot_word rfl rfl rfl

theorem Mx_at (R : FVec Ideal S2x4x8192 .f32) (s : Fin 2) (h : Fin 4) (q : Fin 8192) :
    (Mx R (ix3 s h q) : EReal) = R (ix3 s h q) := by
  pointwise [Mx]
  rw [bot_word]
  exact max_eq_right bot_le

theorem Ex_at (S : FVec Ideal S2x4x8192x8192 .f32) (M : FVec Ideal S2x4x8192 .f32) (s : Fin 2) (h : Fin 4) (q k : Fin 8192) :
    (Ex S M (ix4 s h q k) : EReal) = Ideal.exp ((S (ix4 s h q k) : EReal) - M (ix3 s h q)) := by
  pointwise [Ex]

theorem Wt_at (E : FVec Ideal S2x4x8192x8192 .f32) (s : Fin 2) (h : Fin 4) (q k : Fin 8192) :
    (Wt E (ix4 s h q k) : EReal) = Ideal.div (E (ix4 s h q k)) (∑ j : Fin 8192, (E (ix4 s h q j) : EReal)) := by
  pointwise [Wt]

theorem Ot_at (W : FVec Ideal S2x4x8192x8192 .f32) (V : FVec Ideal S2x4x8192x64 .f32) (s : Fin 2) (h : Fin 4) (q : Fin 8192) (d : Fin 64) :
    (Ot W V (ix4 s h q d) : EReal) = ∑ k : Fin 8192, (W (ix4 s h q k) : EReal) * V (ix4 s h k d) := by
  pointwise [Ot]

theorem Pk_at (O : FVec Ideal S2x4x8192x64 .f32) (R : Fin 16384) (n : Fin 256) :
    (Pk O (ix2 R n) : EReal) = O (ix4 (⟨R / 8192, by omega⟩ : Fin 2) (⟨n / 64, by omega⟩ : Fin 4) (⟨R % 8192, by omega⟩ : Fin 8192) (⟨n % 64, by omega⟩ : Fin 64)) := by
  pointwise [Pk]

end Cert.ReferenceIdeal.Attn

end
-- ==== Proof.FlashFinal.lean ====
/- The attention: the kernel's result array is the reference's function of the packed arrays. -/
module

public import proofs.«01_k».proof.Proof.FlashFold
public import proofs.«01_k».proof.Proof.FlashRef

@[expose] public section

set_option maxRecDepth 16384

noncomputable section

namespace Cert.KernelIdeal.Attn

open Cert.KernelIdeal Cert.KernelIdeal.Gen
open Idealize.ShloMosaic Idealize.ShloMosaic.TcCoe Idealize.SL.Sem
open Cert.ReferenceIdeal.Attn (G Hd Vl Cz Sd Sm Mr Mx Ex Wt Ot Pk Sx Hd_at Vl_at Cz_at Sd_at Sm_at Mr_at Mx_at Ex_at Wt_at Ot_at Pk_at)

theorem topN_univ (e : ℕ → EReal) (n : ℕ) : topN e n = Finset.univ.sup fun j : Fin n => e j := by
  have h := topN_add e 0 n
  simp only [Nat.zero_add] at h
  rw [h]
  exact max_eq_right (by simp [topN])

theorem rowIx_eq (s : Fin 2) (k : Fin 8192) : (⟨8192 * s + k, by omega⟩ : Fin 16384) = rowIx s k :=
  Fin.ext (Nat.mod_eq_of_lt (by omega)).symm

theorem Sx_at (q kk : S16384x512.Idx → EReal) (s : Fin 2) (h : Fin 4) (Q k : Fin 8192) :
    (Sx q kk (ix4 s h Q k) : EReal) = eAt q kk s Q h k := by
  unfold Sx eAt
  rw [Sm_at, Cz_at, Sd_at]
  simp only [Hd_at, rowIx_eq]
  by_cases hk : (k : ℕ) ≤ Q
  · rw [if_pos hk, if_pos rfl, if_pos hk]
  · rw [if_neg hk, if_neg (by decide), if_neg hk]

theorem G_at (q kk v : S16384x512.Idx → EReal) (R : Fin 16384) (n : Fin 256) :
    (G q kk v (ix2 R n) : EReal)
      = ∑ k : Fin 8192, Ideal.div (Ideal.exp (eAt q kk (R / 8192) (R % 8192) (⟨n / 64, by omega⟩ : Fin 4) k - topN (eAt q kk (R / 8192) (R % 8192) (⟨n / 64, by omega⟩ : Fin 4)) 8192))
          (∑ j : Fin 8192, Ideal.exp (eAt q kk (R / 8192) (R % 8192) (⟨n / 64, by omega⟩ : Fin 4) j - topN (eAt q kk (R / 8192) (R % 8192) (⟨n / 64, by omega⟩ : Fin 4)) 8192))
        * vAt v (R / 8192) (⟨n / 64, by omega⟩ : Fin 4) (⟨n % 64, by omega⟩ : Fin 128) k := by
  unfold G
  rw [Pk_at, Ot_at]
  simp only [Wt_at, Ex_at, Mx_at, Mr_at, Vl_at, Hd_at, Sx_at, rowIx_eq, topN_univ]
  refine Finset.sum_congr rfl fun k _ => congrArg₂ (fun a b : EReal => a * b) rfl ?_
  unfold vAt
  exact congrArg v (congrArg₂ ix2 (rowIx_eq (⟨R / 8192, by omega⟩ : Fin 2) k) rfl)

variable (m : (ℓ : Loc nD τ sig) → Buf (Elt Ideal) ℓ) (ρ : Dev nD → PrngReg) (c : Dev nD)

/-- The kernel's result array is the reference's function of the argument arrays. -/
theorem final (hq : ∀ x, ∃ r : ℝ, Aq m c x = r) (hk : ∀ x, ∃ r : ℝ, Ak m c x = r)
    (hv : ∀ (r : Fin 16384) (h : Fin 4), Av m c (ix2 r (⟨128 * h + 64, by omega⟩ : Fin 512)) = 1) :
    (dats 0 m ρ 0 c).arrAt 3 (cfgA 0).N = G (Aq m c) (Ak m c) (Av m c) := by
  refine (dats 0 m ρ 0 c).arrAt_eq_of_covers 3 _ (by decide +kernel) fun t hf y => ?_
  have q1 := flush_diag t hf
  obtain ⟨-, -, h1, h2, h3, -, -, -, -, ⟨i0, i1⟩⟩ := pts t
  have hs : seqOf t.val < 2 := (show t.val / 136 < 2 by omega)
  blk_simp
  rw [after0_3]
  have key : ∀ (r : Fin 512) (n : Fin 256), (outs m ρ c t (ix2 r n) : EReal) = G (Aq m c) (Ak m c) (Av m c) (ix2 (⟨512 * (16 * seqOf t.val + qOf t.val) + r, by omega⟩ : Fin 16384) n) := by
    intro r n
    rw [outs_at m ρ c hq hk t q1, G_at]
    have es : (512 * (16 * seqOf t.val + qOf t.val) + r) / 8192 = seqOf t.val := by omega
    have eq : (512 * (16 * seqOf t.val + qOf t.val) + r) % 8192 = 512 * qOf t.val + r := by omega
    rw [show ((⟨512 * (16 * seqOf t.val + qOf t.val) + r, by omega⟩ : Fin 16384) : ℕ) = 512 * (16 * seqOf t.val + qOf t.val) + r from rfl, es, eq]
    refine soft_eq _ _ _ (eAt_row m c hq hk _ _ _) _ 8192 (by omega) (by omega) (fun k hk => ?_) (fun k _ => hv _ _)
    unfold eAt
    rw [if_neg (by omega)]
  obtain ⟨r, n, rfl⟩ : ∃ (r : Fin 512) (n : Fin 256), y = ix2 r n := ⟨y 0, y 1, by funext a; fin_cases a <;> rfl⟩
  refine (key r n).trans ?_
  blk_ext [i0, i1]

/-- Every execution of the kernel ends with that array, the arguments unchanged. -/
theorem run_value (hp : Pinned 0 m) (hq : ∀ c x, ∃ r : ℝ, Aq m c x = r) (hk : ∀ c x, ∃ r : ℝ, Ak m c x = r)
    (hv : ∀ c (r : Fin 16384) (h : Fin 4), Av m c (ix2 r (⟨128 * h + 64, by omega⟩ : Fin 512)) = 1) :
    θ_run (defs (F := Ideal)) (onTc (τ := τ) (main (F := Ideal))) ⟨m, fun _ => 0, ρ⟩ (fun r => ∀ c : Dev nD,
      r.2.mem ((c.tc : Thread nD τ).loc main_v0) = G (Aq m c) (Ak m c) (Av m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 (3 : Fin 4)).trans (final m ρ c (hq c) (hk c) (hv c)),
    ((h c).2 0).trans (hp.1 c).symm, ((h c).2 1).trans (hp.2 c).symm, ((h c).1 (0 : Fin 4)).trans ((dats 0 m ρ 0 c).arrAt_in (0 : Fin 4) rfl _), ((h c).1 (1 : Fin 4)).trans ((dats 0 m ρ 0 c).arrAt_in (1 : Fin 4) rfl _), ((h c).1 (2 : Fin 4)).trans ((dats 0 m ρ 0 c).arrAt_in (2 : Fin 4) rfl _)⟩) (run_main 0 m ρ hp)

end Cert.KernelIdeal.Attn

end
-- ==== Proof.FfnRef.lean ====
/- The output projection and the feed-forward: the reference's result at a position, and the equality with the kernel's
   result. -/
module

public import proofs.«01_k».proof.Proof.FfnValue
public import proofs.«01_k».proof.Proof.Gen.FfnReferenceIdeal.Run

@[expose] public section

set_option maxRecDepth 16384

noncomputable section

namespace Cert.FfnReferenceIdeal.Row

open Cert.FfnReferenceIdeal Cert.FfnReferenceIdeal.Gen
open Idealize.ShloMosaic Idealize.ShloMosaic.TcCoe Idealize.SL.Sem
open Cert.FfnIdeal.Row (act scale hidTerm mixRow x1Row normRow ffnRow)

/-- The residual stream after the output projection. -/
def X1 (A0 : FVec Ideal S16384x1024 .f32) (A1 A2 A3 A4 : FVec Ideal S16384x256 .f32) (A5 : FVec Ideal S1024x1024 .f32) : FVec Ideal S16384x1024 .f32 :=
  addf A0 (Host.dotGeneral (φ₁ := .f32) (φ₂ := .f32) dot_S16384x1024_S1024x1024_S16384x1024_1_0_0_1_n_n none ((concatenate S16384x1024 1 [⟨S16384x256, (A1 : (⟨S16384x256, .f32⟩ : BufTy).Contents (Elt Ideal))⟩, ⟨S16384x256, (A2 : (⟨S16384x256, .f32⟩ : BufTy).Contents (Elt Ideal))⟩, ⟨S16384x256, (A3 : (⟨S16384x256, .f32⟩ : BufTy).Contents (Elt Ideal))⟩, ⟨S16384x256, (A4 : (⟨S16384x256, .f32⟩ : BufTy).Contents (Elt Ideal))⟩] concatenates_S16384x256_S16384x256_S16384x256_S16384x256_S16384x1024_d1 : (⟨S16384x1024, .f32⟩ : BufTy).Contents (Elt Ideal))) A5)

/-- Its rows over their root mean squares, times the gains. -/
def Hn (X : FVec Ideal S16384x1024 .f32) (A6 : FVec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0 (Host.reduceAdd (mulf X X) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 A6))

/-- The gated hidden values. -/
def Hid (H : FVec Ideal S16384x1024 .f32) (A7 A8 : FVec Ideal S1024x2816 .f32) : FVec Ideal S16384x2816 .f32 :=
  mulf (mulf (Host.dotGeneral (φ₁ := .f32) (φ₂ := .f32) dot_S16384x1024_S1024x2816_S16384x2816_1_0_0_1_n_n none H A7) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (Host.dotGeneral (φ₁ := .f32) (φ₂ := .f32) dot_S16384x1024_S1024x2816_S16384x2816_1_0_0_1_n_n none H A7)))))) (Host.dotGeneral (φ₁ := .f32) (φ₂ := .f32) dot_S16384x1024_S1024x2816_S16384x2816_1_0_0_1_n_n none H A8)

/-- The result. -/
def Out (X : FVec Ideal S16384x1024 .f32) (Z : FVec Ideal S16384x2816 .f32) (A9 : FVec Ideal S2816x1024 .f32) : FVec Ideal S16384x1024 .f32 :=
  addf X (Host.dotGeneral (φ₁ := .f32) (φ₂ := .f32) dot_S16384x2816_S2816x1024_S16384x1024_1_0_0_1_n_n none Z A9)

theorem res_eq (m : (ℓ : Loc nD τ sig) → Buf (Elt Ideal) ℓ) (c : Dev nD) (A0 : FVec Ideal S16384x1024 .f32) (A1 A2 A3 A4 : FVec Ideal S16384x256 .f32) (A5 : FVec Ideal S1024x1024 .f32)
    (A6 : FVec Ideal S1024 .f32) (A7 A8 : FVec Ideal S1024x2816 .f32) (A9 : FVec Ideal S2816x1024 .f32)
    (h0 : m ((c.tc : Thread nD τ).loc main_arg0) = A0) (h1 : m ((c.tc : Thread nD τ).loc main_arg1) = A1) (h2 : m ((c.tc : Thread nD τ).loc main_arg2) = A2)
    (h3 : m ((c.tc : Thread nD τ).loc main_arg3) = A3) (h4 : m ((c.tc : Thread nD τ).loc main_arg4) = A4) (h5 : m ((c.tc : Thread nD τ).loc main_arg5) = A5)
    (h6 : m ((c.tc : Thread nD τ).loc main_arg6) = A6) (h7 : m ((c.tc : Thread nD τ).loc main_arg7) = A7) (h8 : m ((c.tc : Thread nD τ).loc main_arg8) = A8) (h9 : m ((c.tc : Thread nD τ).loc main_arg9) = A9) :
    Cert.FfnReferenceIdeal.Value.res_main_v21 m c = Out (X1 A0 A1 A2 A3 A4 A5) (Hid (Hn (X1 A0 A1 A2 A3 A4 A5) A6) A7 A8) A9 := by
  subst h0 h1 h2 h3 h4 h5 h6 h7 h8 h9
  rfl

theorem X1_at (A0 : FVec Ideal S16384x1024 .f32) (A1 A2 A3 A4 : FVec Ideal S16384x256 .f32) (A5 : FVec Ideal S1024x1024 .f32) (R : Fin 16384) (q : Fin 1024) :
    (X1 A0 A1 A2 A3 A4 A5 (ix2 R q) : EReal) = x1Row (fun k => A0 (ix2 R k)) (fun j => A1 (ix2 R j)) (fun j => A2 (ix2 R j)) (fun j => A3 (ix2 R j)) (fun j => A4 (ix2 R j)) A5 q := by
  pointwise [X1]
  rfl

theorem Hn_at (X : FVec Ideal S16384x1024 .f32) (A6 : FVec Ideal S1024 .f32) (R : Fin 16384) (k : Fin 1024) :
    (Hn X A6 (ix2 R k) : EReal) = normRow (fun k => X (ix2 R k)) (fun k => A6 (ix1 k)) k := by
  pointwise [Hn]
  rfl

theorem Hid_at (H : FVec Ideal S16384x1024 .f32) (A7 A8 : FVec Ideal S1024x2816 .f32) (R : Fin 16384) (f : Fin 2816) :
    (Hid H A7 A8 (ix2 R f) : EReal) = act (∑ k : Fin 1024, (H (ix2 R k) : EReal) * A7 (ix2 k f)) (∑ k : Fin 1024, (H (ix2 R k) : EReal) * A8 (ix2 k f)) := by
  pointwise [Hid]
  rfl

theorem Out_at (X : FVec Ideal S16384x1024 .f32) (Z : FVec Ideal S16384x2816 .f32) (A9 : FVec Ideal S2816x1024 .f32) (R : Fin 16384) (q : Fin 1024) :
    (Out X Z A9 (ix2 R q) : EReal) = (X (ix2 R q) : EReal) + ∑ f : Fin 2816, (Z (ix2 R f) : EReal) * A9 (ix2 f q) := by
  pointwise [Out]

theorem ref_at (A0 : FVec Ideal S16384x1024 .f32) (A1 A2 A3 A4 : FVec Ideal S16384x256 .f32) (A5 : FVec Ideal S1024x1024 .f32)
    (A6 : FVec Ideal S1024 .f32) (A7 A8 : FVec Ideal S1024x2816 .f32) (A9 : FVec Ideal S2816x1024 .f32) (R : Fin 16384) (q : Fin 1024) :
    (Out (X1 A0 A1 A2 A3 A4 A5) (Hid (Hn (X1 A0 A1 A2 A3 A4 A5) A6) A7 A8) A9 (ix2 R q) : EReal)
      = ffnRow (x1Row (fun k => A0 (ix2 R k)) (fun j => A1 (ix2 R j)) (fun j => A2 (ix2 R j)) (fun j => A3 (ix2 R j)) (fun j => A4 (ix2 R j)) A5) (fun k => A6 (ix1 k)) A7 A8 A9 q := by
  have ex : (fun k => (X1 A0 A1 A2 A3 A4 A5 (ix2 R k) : EReal)) = x1Row (fun k => A0 (ix2 R k)) (fun j => A1 (ix2 R j)) (fun j => A2 (ix2 R j)) (fun j => A3 (ix2 R j)) (fun j => A4 (ix2 R j)) A5 :=
    funext fun k => X1_at A0 A1 A2 A3 A4 A5 R k
  have eh : ∀ k : Fin 1024, (Hn (X1 A0 A1 A2 A3 A4 A5) A6 (ix2 R k) : EReal) = normRow (x1Row (fun k => A0 (ix2 R k)) (fun j => A1 (ix2 R j)) (fun j => A2 (ix2 R j)) (fun j => A3 (ix2 R j)) (fun j => A4 (ix2 R j)) A5) (fun k => A6 (ix1 k)) k := fun k =>
    (Hn_at _ A6 R k).trans (congrArg (fun x => normRow x (fun k => A6 (ix1 k)) k) ex)
  refine (Out_at _ _ A9 R q).trans (congrArg₂ (· + ·) (congrFun ex q) (Finset.sum_congr rfl fun f _ => ?_))
  refine congrArg (· * (A9 (ix2 f q) : EReal)) ((Hid_at _ A7 A8 R f).trans ?_)
  exact congrArg₂ act (Finset.sum_congr rfl fun k _ => congrArg (· * (A7 (ix2 k f) : EReal)) (eh k)) (Finset.sum_congr rfl fun k _ => congrArg (· * (A8 (ix2 k f) : EReal)) (eh k))

/-- The reference's result as one function of the argument arrays. -/
def G (A0 : FVec Ideal S16384x1024 .f32) (A1 A2 A3 A4 : FVec Ideal S16384x256 .f32) (A5 : FVec Ideal S1024x1024 .f32)
    (A6 : FVec Ideal S1024 .f32) (A7 A8 : FVec Ideal S1024x2816 .f32) (A9 : FVec Ideal S2816x1024 .f32) : FVec Ideal S16384x1024 .f32 :=
  Out (X1 A0 A1 A2 A3 A4 A5) (Hid (Hn (X1 A0 A1 A2 A3 A4 A5) A6) A7 A8) A9

end Cert.FfnReferenceIdeal.Row

namespace Cert.FfnIdeal.Row

open Cert.FfnIdeal Cert.FfnIdeal.Gen
open Idealize.ShloMosaic Idealize.ShloMosaic.TcCoe Idealize.SL.Sem
open Cert.FfnReferenceIdeal.Row (G ref_at)

variable (m : (ℓ : Loc nD τ sig) → Buf (Elt Ideal) ℓ)

theorem ffn_congr {f0 f0' : Fin 1024 → EReal} {f1 f1' f2 f2' f3 f3' f4 f4' : Fin 256 → EReal} {w5 w5' : S1024x1024.Idx → EReal} {g g' : Fin 1024 → EReal}
    {w7 w7' w8 w8' : S1024x2816.Idx → EReal} {w9 w9' : S2816x1024.Idx → EReal} (h0 : ∀ k, f0 k = f0' k) (h1 : ∀ k, f1 k = f1' k) (h2 : ∀ k, f2 k = f2' k) (h3 : ∀ k, f3 k = f3' k) (h4 : ∀ k, f4 k = f4' k)
    (h5 : w5 = w5') (h6 : ∀ k, g k = g' k) (h7 : w7 = w7') (h8 : w8 = w8') (h9 : w9 = w9') (q : Fin 1024) :
    ffnRow (x1Row f0 f1 f2 f3 f4 w5) g w7 w8 w9 q = ffnRow (x1Row f0' f1' f2' f3' f4' w5') g' w7' w8' w9' q := by
  rw [funext h0, funext h1, funext h2, funext h3, funext h4, h5, funext h6, h7, h8, h9]

theorem B5 (c : Dev nD) (t : Fin cfg0.N) : iblk m c 5 t = m ((c.tc : Thread nD τ).loc main_arg5) := by
  blk_ext! [iblk, V, idx t]

theorem B7 (c : Dev nD) (t : Fin cfg0.N) : iblk m c 7 t = m ((c.tc : Thread nD τ).loc main_arg7) := by
  blk_ext! [iblk, V, idx t]

theorem B8 (c : Dev nD) (t : Fin cfg0.N) : iblk m c 8 t = m ((c.tc : Thread nD τ).loc main_arg8) := by
  blk_ext! [iblk, V, idx t]

theorem B9 (c : Dev nD) (t : Fin cfg0.N) : iblk m c 9 t = m ((c.tc : Thread nD τ).loc main_arg9) := by
  blk_ext! [iblk, V, idx t]

/-- The kernel's result array is the reference's function of the argument arrays. -/
theorem final (c : Dev nD) : (dats m 0 c).arrAt 10 cfg0.N = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 10 _ (by decide +kernel) fun t hf y => ?_
  have ht : t.val < 32 := (idx t).2.2.2.2.2.2.2.2.2.2.2
  blk_simp
  rw [after0_10]
  have key : ∀ (r : Fin 512) (q : Fin 1024), (outsAt0 m c t (ix2 r q) : EReal) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (ix2 (⟨512 * t.val + r, by omega⟩ : Fin 16384) q) := by
    intro r q
    refine (out_row _ c _ _ _ _ _ _ _ _ _ _ _ _ _ _ _ _ _ _ _ _ _ _ _ _ _ _ _ _ _ _ _ _ r q).trans ?_
    refine Eq.trans ?_ (ref_at _ _ _ _ _ _ _ _ _ _ _ _).symm
    exact ffn_congr (b0 m c t ht r) (b1 m c t ht r) (b2 m c t ht r) (b3 m c t ht r) (b4 m c t ht r) (B5 m c t) (b6 m c t) (B7 m c t) (B8 m c t) (B9 m c t) q
  obtain ⟨r, q, rfl⟩ : ∃ (r : Fin 512) (q : Fin 1024), y = ix2 r q := ⟨y 0, y 1, by funext a; fin_cases a <;> rfl⟩
  refine (key r q).trans ?_
  blk_ext [idx t]

end Cert.FfnIdeal.Row

end
-- ==== Proof.lean ====
/- The claims of the five calls: the frames, what the ideal readings keep, and the values. -/
module

public import proofs.«01_k».proof.Proof.Gen.Dec
public import proofs.«01_k».proof.Proof.Gen.Dec.Skeleton
public import proofs.«01_k».proof.Proof.Gen.Dec.Launch
public import proofs.«01_k».proof.Proof.Gen.Dec.Points
public import proofs.«01_k».proof.Proof.Gen.Dec.Frame
public import proofs.«01_k».proof.Proof.Gen.DecIdeal
public import proofs.«01_k».proof.Proof.Gen.DecIdeal.Skeleton
public import proofs.«01_k».proof.Proof.Gen.DecIdeal.Launch
public import proofs.«01_k».proof.Proof.Gen.DecIdeal.Points
public import proofs.«01_k».proof.Proof.Gen.DecIdeal.Frame
public import proofs.«01_k».proof.Proof.Gen.DecReferenceIdeal
public import proofs.«01_k».proof.Proof.Gen.DecReferenceIdeal.Run
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepReferenceIdeal
public import proofs.«01_k».proof.Proof.Gen.PrepReferenceIdeal.Run
public import proofs.«01_k».proof.Proof.Gen.Pre_finite
public import proofs.«01_k».proof.Defs
public import proofs.«01_k».proof.Proof.ProjFinal
public import proofs.«01_k».proof.Proof.PrepOut
public import proofs.«01_k».proof.Proof.DecFinal
public import proofs.«01_k».proof.Proof.FlashFinal
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.FfnIdeal.Value
public import proofs.«01_k».proof.Proof.Gen.FfnReferenceIdeal.Run
public import proofs.«01_k».proof.Proof.Gen.ProjReferenceIdeal.Run
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.Pre_tables
public import proofs.«01_k».proof.Proof.Gen.Pre_packed
public import proofs.«01_k».proof.Proof.Tables
public import proofs.«01_k».proof.Proof.FfnRef
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem ref_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem ffn_ref_frame : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem proj_ref_frame : Cert.quiescent_ProjReferenceIdeal := fun m ρ _ =>
  (θ_run Cert.ProjReferenceIdeal.defs _ _).mono (fun r h => ⟨fun c => (h c).2.2, sem_eq_zero_of_no_sems (by decide) r.2⟩)
    (Cert.ProjReferenceIdeal.Value.run (F := Ideal) m ρ)

theorem prep_ref_frame : Cert.quiescent_PrepReferenceIdeal := fun m ρ _ =>
  (θ_run Cert.PrepReferenceIdeal.defs _ _).mono (fun r h => ⟨fun c => (h c).2.2.2.2.2, sem_eq_zero_of_no_sems (by decide) r.2⟩)
    (Cert.PrepReferenceIdeal.Value.run (F := Ideal) m ρ)

theorem dec_ref_frame : Cert.quiescent_DecReferenceIdeal := fun m ρ _ =>
  (θ_run Cert.DecReferenceIdeal.defs _ _).mono (fun r h => ⟨fun c => (h c).2.2.2.2, sem_eq_zero_of_no_sems (by decide) r.2⟩)
    (Cert.DecReferenceIdeal.Value.run (F := Ideal) m ρ)

/-- The output projection and the feed-forward: kernel and reference end with the same array. -/
theorem ffn_algebraic : algebraic_FfnIdeal_FfnReferenceIdeal :=
  fun m g m' g' _ hag =>
    ⟨fun c => Cert.FfnReferenceIdeal.Row.G (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)),
      (θ_run _ _ _).mono (fun _ h c => ⟨(h c).1.trans (Cert.FfnIdeal.Row.final m c), (h c).2⟩) (Cert.FfnIdeal.Value.run_blocks m g),
      (θ_run _ _ _).mono (fun _ h c => ⟨(h c).1.trans (Cert.FfnReferenceIdeal.Row.res_eq m' c _ _ _ _ _ _ _ _ _ _
        (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2),
        (h c).2⟩) (Cert.FfnReferenceIdeal.Value.run m' g')⟩

/-- The input projection: kernel and reference end with the same two arrays. -/
theorem proj_algebraic : algebraic_ProjIdeal_ProjReferenceIdeal :=
  fun m g m' g' _ hag =>
    ⟨fun c => Cert.ProjReferenceIdeal.Row.Pk (Cert.ProjIdeal.Row.Zm m c), fun c => Cert.ProjReferenceIdeal.Row.Conv (Cert.ProjIdeal.Row.Zm m c),
      Cert.ProjIdeal.Row.run_value m g,
      (θ_run _ _ _).mono (fun _ h c => ⟨(h c).1.trans (Cert.ProjReferenceIdeal.Row.res_eq m' c _ _ _ (hag c).1 (hag c).2.1 (hag c).2.2),
        (h c).2.1.trans (by rw [(hag c).1, (hag c).2.1, (hag c).2.2]; rfl), (h c).2.2⟩) (Cert.ProjReferenceIdeal.Value.run m' g')⟩

/-- The attention: kernel and reference end with the same array. -/
theorem flash_algebraic : algebraic_KernelIdeal_ReferenceIdeal_pre_packed :=
  fun m g m' g' hpre hag =>
    ⟨fun c => Cert.ReferenceIdeal.Attn.G (Cert.KernelIdeal.Attn.Aq m c) (Cert.KernelIdeal.Attn.Ak m c) (Cert.KernelIdeal.Attn.Av m c),
      Cert.KernelIdeal.Attn.run_value m g (Tables.pinned_packed m hpre) (fun c => (Tables.packed_say _ _ _ _ _ (hpre c)).2.1)
        (fun c => (Tables.packed_say _ _ _ _ _ (hpre c)).2.2.1) (fun c => (Tables.packed_say _ _ _ _ _ (hpre c)).2.2.2),
      (θ_run _ _ _).mono (fun _ h c => ⟨(h c).1.trans (Cert.ReferenceIdeal.Attn.res_eq m' c _ _ _ (hag c).2.2.1 (hag c).2.2.2.1 (hag c).2.2.2.2), (h c).2⟩) (Cert.ReferenceIdeal.Value.run m' g')⟩

/-- The preparation of the decoding rows' queries and keys: kernel and reference end with the same five arrays. -/
theorem prep_algebraic : algebraic_PrepIdeal_PrepReferenceIdeal_pre_finite :=
  fun m g m' g' hpre hag =>
    ⟨fun c => Cert.PrepReferenceIdeal.Row.Pk (Cert.PrepReferenceIdeal.Row.Eighth (Cert.PrepReferenceIdeal.Row.Nm (Cert.PrepReferenceIdeal.Row.Hd (m ((c.tc : Thread Cert.PrepIdeal.nD Cert.PrepIdeal.τ).loc Cert.PrepIdeal.main_arg0)) 0 Cert.PrepIdeal.Row.SL0) (m ((c.tc : Thread Cert.PrepIdeal.nD Cert.PrepIdeal.τ).loc Cert.PrepIdeal.main_arg1)))),
      fun c => Cert.PrepReferenceIdeal.Row.Pk (Cert.PrepReferenceIdeal.Row.Nm (Cert.PrepReferenceIdeal.Row.Hd (m ((c.tc : Thread Cert.PrepIdeal.nD Cert.PrepIdeal.τ).loc Cert.PrepIdeal.main_arg0)) 256 Cert.PrepIdeal.Row.SL256) (m ((c.tc : Thread Cert.PrepIdeal.nD Cert.PrepIdeal.τ).loc Cert.PrepIdeal.main_arg2))),
      fun c => Cert.PrepReferenceIdeal.Row.Ls (Cert.PrepReferenceIdeal.Row.Bs (m ((c.tc : Thread Cert.PrepIdeal.nD Cert.PrepIdeal.τ).loc Cert.PrepIdeal.main_arg0)) (m ((c.tc : Thread Cert.PrepIdeal.nD Cert.PrepIdeal.τ).loc Cert.PrepIdeal.main_arg5))),
      fun c => Cert.PrepReferenceIdeal.Row.Pk (Cert.PrepReferenceIdeal.Row.Eighth (Cert.PrepReferenceIdeal.Row.Rt (Cert.PrepReferenceIdeal.Row.Nm (Cert.PrepReferenceIdeal.Row.Hd (m ((c.tc : Thread Cert.PrepIdeal.nD Cert.PrepIdeal.τ).loc Cert.PrepIdeal.main_arg0)) 1792 Cert.PrepIdeal.Row.SL1792) (m ((c.tc : Thread Cert.PrepIdeal.nD Cert.PrepIdeal.τ).loc Cert.PrepIdeal.main_arg3))) (Host.cos (Cert.PrepReferenceIdeal.Row.Ang (m ((c.tc : Thread Cert.PrepIdeal.nD Cert.PrepIdeal.τ).loc Cert.PrepIdeal.main_arg6)))) (Host.sin (Cert.PrepReferenceIdeal.Row.Ang (m ((c.tc : Thread Cert.PrepIdeal.nD Cert.PrepIdeal.τ).loc Cert.PrepIdeal.main_arg6)))))),
      fun c => Cert.PrepReferenceIdeal.Row.Pk (Cert.PrepReferenceIdeal.Row.Rt (Cert.PrepReferenceIdeal.Row.Nm (Cert.PrepReferenceIdeal.Row.Hd (m ((c.tc : Thread Cert.PrepIdeal.nD Cert.PrepIdeal.τ).loc Cert.PrepIdeal.main_arg0)) 2048 Cert.PrepIdeal.Row.SL2048) (m ((c.tc : Thread Cert.PrepIdeal.nD Cert.PrepIdeal.τ).loc Cert.PrepIdeal.main_arg4))) (Host.cos (Cert.PrepReferenceIdeal.Row.Ang (m ((c.tc : Thread Cert.PrepIdeal.nD Cert.PrepIdeal.τ).loc Cert.PrepIdeal.main_arg6)))) (Host.sin (Cert.PrepReferenceIdeal.Row.Ang (m ((c.tc : Thread Cert.PrepIdeal.nD Cert.PrepIdeal.τ).loc Cert.PrepIdeal.main_arg6))))),
      (θ_run _ _ _).mono (fun _ h c =>
        have hA := Cert.PrepIdeal.Row.finite_say _ _ _ _ _ _ _ (hpre c)
        ⟨(h c).1.trans (Cert.PrepIdeal.Row.final13 m c hA), (h c).2.1.trans (Cert.PrepIdeal.Row.final14 m c hA), (h c).2.2.1.trans (Cert.PrepIdeal.Row.final15 m c),
          (h c).2.2.2.1.trans (Cert.PrepIdeal.Row.final16 m c hA), (h c).2.2.2.2.1.trans (Cert.PrepIdeal.Row.final17 m c hA), (h c).2.2.2.2.2⟩) (Cert.PrepIdeal.Value.run_blocks m g),
      (θ_run _ _ _).mono (fun _ h c => ⟨(h c).1.trans (by rw [(hag c).1, (hag c).2.1]; rfl), (h c).2.1.trans (by rw [(hag c).1, (hag c).2.2.1]; rfl), (h c).2.2.1.trans (by rw [(hag c).1, (hag c).2.2.2.2.2.1]; rfl),
        (h c).2.2.2.1.trans (Cert.PrepReferenceIdeal.Row.res3_eq m' c _ _ _ (hag c).1 (hag c).2.2.2.1 (hag c).2.2.2.2.2.2), (h c).2.2.2.2.1.trans (Cert.PrepReferenceIdeal.Row.res4_eq m' c _ _ _ (hag c).1 (hag c).2.2.2.2.1 (hag c).2.2.2.2.2.2),
        (h c).2.2.2.2.2⟩) (Cert.PrepReferenceIdeal.Value.run m' g')⟩

/-- The input projection of decoding: kernel and reference end with the same four arrays. -/
theorem dec_algebraic : algebraic_DecIdeal_DecReferenceIdeal :=
  fun m g m' g' _ hag =>
    ⟨fun c => Cert.DecReferenceIdeal.Row.Pk (Cert.DecIdeal.Row.Zm m c), fun c => Cert.DecReferenceIdeal.Row.Fv (Cert.DecIdeal.Row.Zm m c),
      fun c => Cert.DecReferenceIdeal.Row.Mv (Cert.DecIdeal.Row.Zm m c),
      fun c => Cert.DecReferenceIdeal.Row.Last (m ((c.tc : Thread Cert.DecIdeal.nD Cert.DecIdeal.τ).loc Cert.DecIdeal.main_arg3)) (Cert.DecReferenceIdeal.Row.Cq (Cert.DecIdeal.Row.Zm m c)),
      Cert.DecIdeal.Row.run_value m g,
      (θ_run _ _ _).mono (fun _ h c => ⟨(h c).1.trans (Cert.DecReferenceIdeal.Row.res_eq m' c _ _ _ (hag c).1 (hag c).2.1 (hag c).2.2.1),
        (h c).2.1.trans (by rw [(hag c).1, (hag c).2.1, (hag c).2.2.1]; rfl), (h c).2.2.1.trans (by rw [(hag c).1, (hag c).2.1, (hag c).2.2.1]; rfl),
        (h c).2.2.2.1.trans (by rw [(hag c).1, (hag c).2.1, (hag c).2.2.1, (hag c).2.2.2]; rfl), (h c).2.2.2.2⟩) (Cert.DecReferenceIdeal.Value.run m' g')⟩

theorem claim : Cert.Claim :=
  ⟨Cert.Kernel.Gen.facts, Cert.KernelIdeal.Gen.facts, Cert.ReferenceIdeal.Gen.facts, Cert.Ffn.Gen.facts, Cert.FfnIdeal.Gen.facts, Cert.FfnReferenceIdeal.Gen.facts, Cert.Proj.Gen.facts, Cert.ProjIdeal.Gen.facts, Cert.ProjReferenceIdeal.Gen.facts, Cert.Prep.Gen.facts, Cert.PrepIdeal.Gen.facts, Cert.PrepReferenceIdeal.Gen.facts, Cert.Dec.Gen.facts, Cert.DecIdeal.Gen.facts, Cert.DecReferenceIdeal.Gen.facts, Cert.Pre_tables.Gen.facts, Cert.Pre_packed.Gen.facts, Cert.Pre_finite.Gen.facts,
    fun m ρ h => Cert.Kernel.Gen.frame 0 m ρ (Tables.pinned_Kernel m h),
    fun m ρ h => Cert.KernelIdeal.Gen.frame 0 m ρ (Tables.pinned_KernelIdeal m h),
    fun m ρ h => Cert.KernelIdeal.Gen.frame 0 m ρ (Tables.pinned_packed m h),
    fun m ρ _ => ref_frame m ρ trivial,
    fun m ρ _ => ref_frame m ρ trivial,
    fun m ρ _ => Cert.Ffn.Gen.frame m ρ,
    fun m ρ _ => Cert.FfnIdeal.Gen.frame m ρ,
    fun m ρ _ => ffn_ref_frame m ρ trivial,
    fun m ρ _ => Cert.Proj.Gen.frame m ρ,
    fun m ρ _ => Cert.ProjIdeal.Gen.frame m ρ,
    fun m ρ _ => proj_ref_frame m ρ trivial,
    fun m ρ _ => Cert.Prep.Gen.frame m ρ,
    fun m ρ _ => Cert.PrepIdeal.Gen.frame m ρ,
    fun m ρ _ => Cert.PrepIdeal.Gen.frame m ρ,
    fun m ρ _ => prep_ref_frame m ρ trivial,
    fun m ρ _ => prep_ref_frame m ρ trivial,
    fun m ρ _ => Cert.Dec.Gen.frame m ρ,
    fun m ρ _ => Cert.DecIdeal.Gen.frame m ρ,
    fun m ρ _ => dec_ref_frame m ρ trivial,
    IdealRules.named_const.statement Cert.KernelIdeal.κ "mask" .f32 0xF149F2CA#32 ⊥ rfl,
    flash_algebraic,
    trivial,
    ffn_algebraic,
    trivial,
    proj_algebraic,
    trivial,
    prep_algebraic,
    trivial,
    dec_algebraic⟩

end Cert.Proof

end
